-- ==== Defs.lean ====
def Pre_Kernel [hPre_words_in_range : Cert.Pre_words_in_range.Facts] (m : (ℓ : Loc Cert.Kernel.nD Cert.Kernel.τ Cert.Kernel.sig) → Buf (Elt Bits) ℓ) : Prop :=
  ∀ c : Dev Cert.Kernel.nD,
    (Cert.Pre_words_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_words_in_range : Cert.Pre_words_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_symmetric_table [hPre_symmetric_table : Cert.Pre_symmetric_table.Facts] (m : (ℓ : Loc Cert.KernelIdeal.nD Cert.KernelIdeal.τ Cert.KernelIdeal.sig) → Buf (Elt Ideal) ℓ) : Prop :=
  ∀ c : Dev Cert.KernelIdeal.nD,
    (Cert.Pre_symmetric_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symmetric_table [hPre_symmetric_table : Cert.Pre_symmetric_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symmetric_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_words_in_range : Cert.Pre_words_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_symmetric_table [hKernelIdeal : Cert.KernelIdeal.Facts] [hPre_symmetric_table : Cert.Pre_symmetric_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symmetric_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_symmetric_table [hReferenceIdeal : Cert.ReferenceIdeal.Facts] [hPre_symmetric_table : Cert.Pre_symmetric_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symmetric_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_symmetric_table [hKernelIdeal : Cert.KernelIdeal.Facts] [hReferenceIdeal : Cert.ReferenceIdeal.Facts] [hPre_symmetric_table : Cert.Pre_symmetric_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symmetric_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_words_in_range : Cert.Pre_words_in_range.Facts) (hPre_symmetric_table : Cert.Pre_symmetric_table.Facts),
    quiescent_Kernel (hKernel := hKernel) (hPre_words_in_range := hPre_words_in_range)
    ∧ quiescent_KernelIdeal (hKernelIdeal := hKernelIdeal) (hPre_words_in_range := hPre_words_in_range)
    ∧ quiescent_KernelIdeal_pre_symmetric_table (hKernelIdeal := hKernelIdeal) (hPre_symmetric_table := hPre_symmetric_table)
    ∧ quiescent_ReferenceIdeal (hReferenceIdeal := hReferenceIdeal)
    ∧ quiescent_ReferenceIdeal_pre_symmetric_table (hReferenceIdeal := hReferenceIdeal) (hPre_symmetric_table := hPre_symmetric_table)
    ∧ preserves_Kernel_KernelIdeal
    ∧ algebraic_KernelIdeal_ReferenceIdeal_pre_symmetric_table (hKernelIdeal := hKernelIdeal) (hReferenceIdeal := hReferenceIdeal) (hPre_symmetric_table := hPre_symmetric_table)
-- ==== Pre_symmetric_table.lean ====
abbrev S1024x200 : Shape := ⟨2, ![1024, 200]⟩
abbrev S1024 : Shape := ⟨1, ![1024]⟩
abbrev S102x512x512 : Shape := ⟨3, ![102, 512, 512]⟩
abbrev S_ : Shape := ⟨0, ![]⟩
abbrev S1024x1 : Shape := ⟨2, ![1024, 1]⟩

class Facts : Prop where
  bcast_S_S102x512x512 : S_.BroadcastsInDim S102x512x512 (![] : Fin 0 → Fin S102x512x512.rank)
  transposes_S102x512x512_S102x512x512_0_2_1 : S102x512x512.Transposes [0, 2, 1] S102x512x512
  bcast_S_S1024x200 : S_.BroadcastsInDim S1024x200 (![] : Fin 0 → Fin S1024x200.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x200_0_1 : S1024x1.BroadcastsInDim S1024x200 (![0, 1] : Fin 2 → Fin S1024x200.rank)
  reducesTo_S102x512x512_S_d0_1_2 : S102x512x512.ReducesTo [0, 1, 2] S_
  h_S_ : 0 < S_.numel

variable [Facts]

def fn_part1 {F : FTy → Type} [FloatOps F] (main_arg2 : IVec S1024 32) (main_v7 : IVec S102x512x512 1) (main_v15 : IVec S1024x200 1) (main_v17 : IVec S1024x200 1) : IVec S1024x200 1 :=
  let main_v18 : IVec S1024x200 1 := andi main_v15 main_v17
  let main_c_4 : IVec S_ 32 := constantI S_ 32 0#32
  let main_v19 : IVec S1024 32 := broadcastInDim S1024 ![] bcast_S_S1024 main_c_4
  let main_v20 : IVec S1024 1 := cmpi .sge main_arg2 main_v19
  let main_c_5 : IVec S_ 32 := constantI S_ 32 102#32
  let main_v21 : IVec S1024 32 := broadcastInDim S1024 ![] bcast_S_S1024 main_c_5
  let main_v22 : IVec S1024 1 := cmpi .slt main_arg2 main_v21
  let main_v23 : IVec S1024 1 := andi main_v20 main_v22
  let main_v24 : IVec S1024x1 1 := broadcastInDim S1024x1 ![0] bcast_S1024_S1024x1_0 main_v23
  let main_v25 : IVec S1024x200 1 := broadcastInDim S1024x200 ![0, 1] bcast_S1024x1_S1024x200_0_1 main_v24
  let main_v26 : IVec S1024x200 1 := andi main_v18 main_v25
  let main_c_6 : IVec S_ 1 := constantI S_ 1 1#1
  let main_v27 : IVec S_ 1 := (fun x v => Host.reduce IntOp.andi x v reducesTo_S102x512x512_S_d0_1_2 h_S_) main_v7 main_c_6
  let main_v28 : IVec S1024x200 1 := broadcastInDim S1024x200 ![] bcast_S_S1024x200 main_v27
  let main_v29 : IVec S1024x200 1 := andi main_v26 main_v28
  main_v29

def fn {F : FTy → Type} [FloatOps F] (main_arg0 : IVec S1024x200 32) (main_arg1 : IVec S1024x200 32) (main_arg2 : IVec S1024 32) (main_arg3 : FVec F S102x512x512 .f32) : IVec S1024x200 1 :=
  let main_cst : FVec F S_ .f32 := constant S_ .f32 0x00000000#32
  let main_v0 : FVec F S102x512x512 .f32 := broadcastInDim S102x512x512 ![] bcast_S_S102x512x512 main_cst
  let main_v1 : IVec S102x512x512 1 := cmpf .oge main_arg3 main_v0
  let main_cst_0 : FVec F S_ .f32 := constant S_ .f32 0x7F800000#32
  let main_v2 : FVec F S102x512x512 .f32 := broadcastInDim S102x512x512 ![] bcast_S_S102x512x512 main_cst_0
  let main_v3 : IVec S102x512x512 1 := cmpf .olt main_arg3 main_v2
  let main_v4 : IVec S102x512x512 1 := andi main_v1 main_v3
  let main_v5 : FVec F S102x512x512 .f32 := (transpose S102x512x512 [0, 2, 1] · transposes_S102x512x512_S102x512x512_0_2_1) main_arg3
  let main_v6 : IVec S102x512x512 1 := cmpf .oeq main_arg3 main_v5
  let main_v7 : IVec S102x512x512 1 := andi main_v4 main_v6
  let main_c : IVec S_ 32 := constantI S_ 32 0#32
  let main_v8 : IVec S1024x200 32 := broadcastInDim S1024x200 ![] bcast_S_S1024x200 main_c
  let main_v9 : IVec S1024x200 1 := cmpi .sge main_arg0 main_v8
  let main_c_1 : IVec S_ 32 := constantI S_ 32 512#32
  let main_v10 : IVec S1024x200 32 := broadcastInDim S1024x200 ![] bcast_S_S1024x200 main_c_1
  let main_v11 : IVec S1024x200 1 := cmpi .slt main_arg0 main_v10
  let main_v12 : IVec S1024x200 1 := andi main_v9 main_v11
  let main_c_2 : IVec S_ 32 := constantI S_ 32 0#32
  let main_v13 : IVec S1024x200 32 := broadcastInDim S1024x200 ![] bcast_S_S1024x200 main_c_2
  let main_v14 : IVec S1024x200 1 := cmpi .sge main_arg1 main_v13
  let main_v15 : IVec S1024x200 1 := andi main_v12 main_v14
  let main_c_3 : IVec S_ 32 := constantI S_ 32 512#32
  let main_v16 : IVec S1024x200 32 := broadcastInDim S1024x200 ![] bcast_S_S1024x200 main_c_3
  let main_v17 : IVec S1024x200 1 := cmpi .slt main_arg1 main_v16
  fn_part1 (F := F) main_arg2 main_v7 main_v15 main_v17
-- ==== Pre_words_in_range.lean ====
abbrev S1024x200 : Shape := ⟨2, ![1024, 200]⟩
abbrev S1024 : Shape := ⟨1, ![1024]⟩
abbrev S102x512x512 : Shape := ⟨3, ![102, 512, 512]⟩
abbrev S_ : Shape := ⟨0, ![]⟩
abbrev S1024x1 : Shape := ⟨2, ![1024, 1]⟩

class Facts : Prop where
  bcast_S_S1024x200 : S_.BroadcastsInDim S1024x200 (![] : Fin 0 → Fin S1024x200.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x200_0_1 : S1024x1.BroadcastsInDim S1024x200 (![0, 1] : Fin 2 → Fin S1024x200.rank)

variable [Facts]

def fn_part1 {F : FTy → Type} [FloatOps F] (main_v10 : IVec S1024x200 1) (main_v17 : IVec S1024x200 1) : IVec S1024x200 1 :=
  let main_v18 : IVec S1024x200 1 := andi main_v10 main_v17
  main_v18

def fn {F : FTy → Type} [FloatOps F] (main_arg0 : IVec S1024x200 32) (main_arg1 : IVec S1024x200 32) (main_arg2 : IVec S1024 32) (main_arg3 : FVec F S102x512x512 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 512#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 32 := constantI S_ 32 0#32
  let main_v5 : IVec S1024x200 32 := broadcastInDim S1024x200 ![] bcast_S_S1024x200 main_c_1
  let main_v6 : IVec S1024x200 1 := cmpi .sge main_arg1 main_v5
  let main_v7 : IVec S1024x200 1 := andi main_v4 main_v6
  let main_c_2 : IVec S_ 32 := constantI S_ 32 512#32
  let main_v8 : IVec S1024x200 32 := broadcastInDim S1024x200 ![] bcast_S_S1024x200 main_c_2
  let main_v9 : IVec S1024x200 1 := cmpi .slt main_arg1 main_v8
  let main_v10 : IVec S1024x200 1 := andi main_v7 main_v9
  let main_c_3 : IVec S_ 32 := constantI S_ 32 0#32
  let main_v11 : IVec S1024 32 := broadcastInDim S1024 ![] bcast_S_S1024 main_c_3
  let main_v12 : IVec S1024 1 := cmpi .sge main_arg2 main_v11
  let main_c_4 : IVec S_ 32 := constantI S_ 32 102#32
  let main_v13 : IVec S1024 32 := broadcastInDim S1024 ![] bcast_S_S1024 main_c_4
  let main_v14 : IVec S1024 1 := cmpi .slt main_arg2 main_v13
  let main_v15 : IVec S1024 1 := andi main_v12 main_v14
  let main_v16 : IVec S1024x1 1 := broadcastInDim S1024x1 ![0] bcast_S1024_S1024x1_0 main_v15
  let main_v17 : IVec S1024x200 1 := broadcastInDim S1024x200 ![0, 1] bcast_S1024x1_S1024x200_0_1 main_v16
  fn_part1 (F := F) main_v10 main_v17
-- ==== Kernel.lean ====
abbrev S1024x200 : Shape := ⟨2, ![1024, 200]⟩
abbrev S1024 : Shape := ⟨1, ![1024]⟩
abbrev S102x512x512 : Shape := ⟨3, ![102, 512, 512]⟩
abbrev S_ : Shape := ⟨0, ![]⟩
abbrev S104857600 : Shape := ⟨1, ![104857600]⟩
abbrev S1024x200x512 : Shape := ⟨3, ![1024, 200, 512]⟩
abbrev S1024x1 : Shape := ⟨2, ![1024, 1]⟩
abbrev S1024x1x200 : Shape := ⟨3, ![1024, 1, 200]⟩
abbrev S1024x25x8 : Shape := ⟨3, ![1024, 25, 8]⟩
abbrev S1x512x512 : Shape := ⟨3, ![1, 512, 512]⟩
abbrev S1 : Shape := ⟨1, ![1]⟩
abbrev S1x1x200 : Shape := ⟨3, ![1, 1, 200]⟩
abbrev S1x200x512 : Shape := ⟨3, ![1, 200, 512]⟩
abbrev S1x25x8 : Shape := ⟨3, ![1, 25, 8]⟩
abbrev S1x1x1 : Shape := ⟨3, ![1, 1, 1]⟩
abbrev S1x1x512 : Shape := ⟨3, ![1, 1, 512]⟩
abbrev S1x512 : Shape := ⟨2, ![1, 512]⟩
abbrev S8x512 : Shape := ⟨2, ![8, 512]⟩
abbrev S1x8x512 : Shape := ⟨3, ![1, 8, 512]⟩
abbrev S8 : Shape := ⟨1, ![8]⟩
abbrev S8x1 : Shape := ⟨2, ![8, 1]⟩
abbrev S1x1x8 : Shape := ⟨3, ![1, 1, 8]⟩

abbrev nBuf : Space → Nat
  | .hbm => 272
  | .vmem => 8
  | .smem => 8
  | _ => 0

abbrev hbmTy0_0 (i : Nat) : BufTy := match i % 128 with
  | 0 => ⟨S1024x200, .i32⟩
  | 1 => ⟨S1024x200, .i32⟩
  | 2 => ⟨S1024, .i32⟩
  | 3 => ⟨S102x512x512, .f32⟩
  | 4 => ⟨S_, .i32⟩
  | 5 => ⟨S104857600, .i32⟩
  | 6 => ⟨S104857600, .i32⟩
  | 7 => ⟨S_, .i32⟩
  | 8 => ⟨S104857600, .i32⟩
  | 9 => ⟨S104857600, .i32⟩
  | 10 => ⟨S_, .i32⟩
  | 11 => ⟨S104857600, .i32⟩
  | 12 => ⟨S104857600, .i32⟩
  | 13 => ⟨S104857600, .i32⟩
  | 14 => ⟨S_, .i32⟩
  | 15 => ⟨S104857600, .i32⟩
  | 16 => ⟨S104857600, .i32⟩
  | 17 => ⟨S_, .i32⟩
  | 18 => ⟨S104857600, .i32⟩
  | 19 => ⟨S104857600, .i32⟩
  | 20 => ⟨S104857600, .i32⟩
  | 21 => ⟨S104857600, .i32⟩
  | 22 => ⟨S104857600, .i32⟩
  | 23 => ⟨S_, .i32⟩
  | 24 => ⟨S104857600, .i32⟩
  | 25 => ⟨S104857600, .i32⟩
  | 26 => ⟨S_, .i32⟩
  | 27 => ⟨S104857600, .i32⟩
  | 28 => ⟨S104857600, .i32⟩
  | 29 => ⟨S104857600, .i32⟩
  | 30 => ⟨S104857600, .i32⟩
  | 31 => ⟨S104857600, .i32⟩
  | 32 => ⟨S_, .i32⟩
  | 33 => ⟨S104857600, .i32⟩
  | 34 => ⟨S104857600, .i32⟩
  | 35 => ⟨S_, .i32⟩
  | 36 => ⟨S104857600, .i32⟩
  | 37 => ⟨S104857600, .i32⟩
  | 38 => ⟨S104857600, .i32⟩
  | 39 => ⟨S104857600, .i32⟩
  | 40 => ⟨S104857600, .i32⟩
  | 41 => ⟨S_, .i32⟩
  | 42 => ⟨S104857600, .i32⟩
  | 43 => ⟨S104857600, .i32⟩
  | 44 => ⟨S_, .i32⟩
  | 45 => ⟨S104857600, .i32⟩
  | 46 => ⟨S104857600, .i32⟩
  | 47 => ⟨S104857600, .i32⟩
  | 48 => ⟨S104857600, .i32⟩
  | 49 => ⟨S_, .i32⟩
  | 50 => ⟨S104857600, .i32⟩
  | 51 => ⟨S104857600, .i32⟩
  | 52 => ⟨S_, .i32⟩
  | 53 => ⟨S104857600, .i32⟩
  | 54 => ⟨S104857600, .i32⟩
  | 55 => ⟨S104857600, .i32⟩
  | 56 => ⟨S_, .i32⟩
  | 57 => ⟨S104857600, .i32⟩
  | 58 => ⟨S104857600, .i32⟩
  | 59 => ⟨S_, .i32⟩
  | 60 => ⟨S104857600, .i32⟩
  | 61 => ⟨S104857600, .i32⟩
  | 62 => ⟨S104857600, .i32⟩
  | 63 => ⟨S104857600, .i32⟩
  | 64 => ⟨S104857600, .i32⟩
  | 65 => ⟨S_, .i32⟩
  | 66 => ⟨S104857600, .i32⟩
  | 67 => ⟨S104857600, .i32⟩
  | 68 => ⟨S_, .i32⟩
  | 69 => ⟨S104857600, .i32⟩
  | 70 => ⟨S104857600, .i32⟩
  | 71 => ⟨S104857600, .i32⟩
  | 72 => ⟨S104857600, .i32⟩
  | 73 => ⟨S104857600, .i32⟩
  | 74 => ⟨S_, .i32⟩
  | 75 => ⟨S104857600, .i32⟩
  | 76 => ⟨S104857600, .i32⟩
  | 77 => ⟨S_, .i32⟩
  | 78 => ⟨S104857600, .i32⟩
  | 79 => ⟨S104857600, .i32⟩
  | 80 => ⟨S104857600, .i32⟩
  | 81 => ⟨S104857600, .i32⟩
  | 82 => ⟨S104857600, .i32⟩
  | 83 => ⟨S_, .i32⟩
  | 84 => ⟨S104857600, .i32⟩
  | 85 => ⟨S104857600, .i32⟩
  | 86 => ⟨S_, .i32⟩
  | 87 => ⟨S104857600, .i32⟩
  | 88 => ⟨S104857600, .i32⟩
  | 89 => ⟨S104857600, .i32⟩
  | 90 => ⟨S104857600, .i32⟩
  | 91 => ⟨S_, .i32⟩
  | 92 => ⟨S104857600, .i32⟩
  | 93 => ⟨S104857600, .i32⟩
  | 94 => ⟨S_, .i32⟩
  | 95 => ⟨S104857600, .i32⟩
  | 96 => ⟨S104857600, .i32⟩
  | 97 => ⟨S104857600, .i32⟩
  | 98 => ⟨S_, .i32⟩
  | 99 => ⟨S104857600, .i32⟩
  | 100 => ⟨S104857600, .i32⟩
  | 101 => ⟨S_, .i32⟩
  | 102 => ⟨S104857600, .i32⟩
  | 103 => ⟨S104857600, .i32⟩
  | 104 => ⟨S104857600, .i32⟩
  | 105 => ⟨S104857600, .i32⟩
  | 106 => ⟨S104857600, .i32⟩
  | 107 => ⟨S_, .i32⟩
  | 108 => ⟨S104857600, .i32⟩
  | 109 => ⟨S104857600, .i32⟩
  | 110 => ⟨S_, .i32⟩
  | 111 => ⟨S104857600, .i32⟩
  | 112 => ⟨S104857600, .i32⟩
  | 113 => ⟨S104857600, .i32⟩
  | 114 => ⟨S104857600, .i32⟩
  | 115 => ⟨S104857600, .i32⟩
  | 116 => ⟨S_, .i32⟩
  | 117 => ⟨S104857600, .i32⟩
  | 118 => ⟨S104857600, .i32⟩
  | 119 => ⟨S_, .i32⟩
  | 120 => ⟨S104857600, .i32⟩
  | 121 => ⟨S104857600, .i32⟩
  | 122 => ⟨S104857600, .i32⟩
  | 123 => ⟨S104857600, .i32⟩
  | 124 => ⟨S104857600, .i32⟩
  | 125 => ⟨S_, .i32⟩
  | 126 => ⟨S104857600, .i32⟩
  | 127 => ⟨S104857600, .i32⟩
  | _ => ⟨S1024x200, .i32⟩

abbrev hbmTy0_1 (i : Nat) : BufTy := match i % 128 with
  | 0 => ⟨S_, .i32⟩
  | 1 => ⟨S104857600, .i32⟩
  | 2 => ⟨S104857600, .i32⟩
  | 3 => ⟨S104857600, .i32⟩
  | 4 => ⟨S104857600, .i32⟩
  | 5 => ⟨S_, .i32⟩
  | 6 => ⟨S104857600, .i32⟩
  | 7 => ⟨S104857600, .i32⟩
  | 8 => ⟨S_, .i32⟩
  | 9 => ⟨S104857600, .i32⟩
  | 10 => ⟨S104857600, .i32⟩
  | 11 => ⟨S104857600, .i32⟩
  | 12 => ⟨S_, .i32⟩
  | 13 => ⟨S104857600, .i32⟩
  | 14 => ⟨S104857600, .i32⟩
  | 15 => ⟨S_, .i32⟩
  | 16 => ⟨S104857600, .i32⟩
  | 17 => ⟨S104857600, .i32⟩
  | 18 => ⟨S104857600, .i32⟩
  | 19 => ⟨S104857600, .i32⟩
  | 20 => ⟨S104857600, .i32⟩
  | 21 => ⟨S_, .i32⟩
  | 22 => ⟨S104857600, .i32⟩
  | 23 => ⟨S104857600, .i32⟩
  | 24 => ⟨S_, .i32⟩
  | 25 => ⟨S104857600, .i32⟩
  | 26 => ⟨S104857600, .i32⟩
  | 27 => ⟨S104857600, .i32⟩
  | 28 => ⟨S104857600, .i32⟩
  | 29 => ⟨S104857600, .i32⟩
  | 30 => ⟨S_, .i32⟩
  | 31 => ⟨S104857600, .i32⟩
  | 32 => ⟨S104857600, .i32⟩
  | 33 => ⟨S_, .i32⟩
  | 34 => ⟨S104857600, .i32⟩
  | 35 => ⟨S104857600, .i32⟩
  | 36 => ⟨S104857600, .i32⟩
  | 37 => ⟨S104857600, .i32⟩
  | 38 => ⟨S104857600, .i32⟩
  | 39 => ⟨S_, .i32⟩
  | 40 => ⟨S104857600, .i32⟩
  | 41 => ⟨S104857600, .i32⟩
  | 42 => ⟨S_, .i32⟩
  | 43 => ⟨S104857600, .i32⟩
  | 44 => ⟨S104857600, .i32⟩
  | 45 => ⟨S104857600, .i32⟩
  | 46 => ⟨S104857600, .i32⟩
  | 47 => ⟨S_, .i32⟩
  | 48 => ⟨S104857600, .i32⟩
  | 49 => ⟨S104857600, .i32⟩
  | 50 => ⟨S_, .i32⟩
  | 51 => ⟨S104857600, .i32⟩
  | 52 => ⟨S104857600, .i32⟩
  | 53 => ⟨S104857600, .i32⟩
  | 54 => ⟨S_, .i32⟩
  | 55 => ⟨S104857600, .i32⟩
  | 56 => ⟨S104857600, .i32⟩
  | 57 => ⟨S_, .i32⟩
  | 58 => ⟨S104857600, .i32⟩
  | 59 => ⟨S104857600, .i32⟩
  | 60 => ⟨S104857600, .i32⟩
  | 61 => ⟨S104857600, .i32⟩
  | 62 => ⟨S104857600, .i32⟩
  | 63 => ⟨S_, .i32⟩
  | 64 => ⟨S104857600, .i32⟩
  | 65 => ⟨S104857600, .i32⟩
  | 66 => ⟨S_, .i32⟩
  | 67 => ⟨S104857600, .i32⟩
  | 68 => ⟨S104857600, .i32⟩
  | 69 => ⟨S104857600, .i32⟩
  | 70 => ⟨S104857600, .i32⟩
  | 71 => ⟨S104857600, .i32⟩
  | 72 => ⟨S_, .i32⟩
  | 73 => ⟨S104857600, .i32⟩
  | 74 => ⟨S104857600, .i32⟩
  | 75 => ⟨S_, .i32⟩
  | 76 => ⟨S104857600, .i32⟩
  | 77 => ⟨S104857600, .i32⟩
  | 78 => ⟨S104857600, .i32⟩
  | 79 => ⟨S104857600, .i32⟩
  | 80 => ⟨S104857600, .i32⟩
  | 81 => ⟨S_, .i32⟩
  | 82 => ⟨S104857600, .i32⟩
  | 83 => ⟨S104857600, .i32⟩
  | 84 => ⟨S_, .i32⟩
  | 85 => ⟨S104857600, .i32⟩
  | 86 => ⟨S104857600, .i32⟩
  | 87 => ⟨S104857600, .i32⟩
  | 88 => ⟨S104857600, .i32⟩
  | 89 => ⟨S_, .i32⟩
  | 90 => ⟨S104857600, .i32⟩
  | 91 => ⟨S104857600, .i32⟩
  | 92 => ⟨S_, .i32⟩
  | 93 => ⟨S104857600, .i32⟩
  | 94 => ⟨S104857600, .i32⟩
  | 95 => ⟨S104857600, .i32⟩
  | 96 => ⟨S_, .i32⟩
  | 97 => ⟨S104857600, .i32⟩
  | 98 => ⟨S104857600, .i32⟩
  | 99 => ⟨S_, .i32⟩
  | 100 => ⟨S104857600, .i32⟩
  | 101 => ⟨S104857600, .i32⟩
  | 102 => ⟨S104857600, .f32⟩
  | 103 => ⟨S_, .f32⟩
  | 104 => ⟨S104857600, .f32⟩
  | 105 => ⟨S104857600, .f32⟩
  | 106 => ⟨S_, .f32⟩
  | 107 => ⟨S_, .f32⟩
  | 108 => ⟨S104857600, .f32⟩
  | 109 => ⟨S104857600, .f32⟩
  | 110 => ⟨S104857600, .f32⟩
  | 111 => ⟨S104857600, .f32⟩
  | 112 => ⟨S104857600, .f32⟩
  | 113 => ⟨S104857600, .f32⟩
  | 114 => ⟨S_, .f32⟩
  | 115 => ⟨S104857600, .f32⟩
  | 116 => ⟨S104857600, .f32⟩
  | 117 => ⟨S1024x200x512, .f32⟩
  | 118 => ⟨S_, .i32⟩
  | 119 => ⟨S_, .i32⟩
  | 120 => ⟨S_, .i32⟩
  | 121 => ⟨S1024, .i32⟩
  | 122 => ⟨S1024, .i32⟩
  | 123 => ⟨S_, .i32⟩
  | 124 => ⟨S1024, .i32⟩
  | 125 => ⟨S1024, .i1⟩
  | 126 => ⟨S_, .i32⟩
  | 127 => ⟨S1024, .i32⟩
  | _ => ⟨S1024x200, .i32⟩

abbrev hbmTy0_2 (i : Nat) : BufTy := match i % 128 with
  | 0 => ⟨S1024, .i32⟩
  | 1 => ⟨S1024, .i32⟩
  | 2 => ⟨S1024x1, .i32⟩
  | 3 => ⟨S_, .i32⟩
  | 4 => ⟨S1024, .i32⟩
  | 5 => ⟨S1024, .i32⟩
  | 6 => ⟨S1024x1x200, .i32⟩
  | 7 => ⟨S1024x1x200, .i32⟩
  | 8 => ⟨S1024x25x8, .i32⟩
  | 9 => ⟨S1024x200, .i32⟩
  | 10 => ⟨S_, .i32⟩
  | 11 => ⟨S1024, .i32⟩
  | 12 => ⟨S1024, .i1⟩
  | 13 => ⟨S1024x1, .i1⟩
  | 14 => ⟨S1024x200, .i1⟩
  | 15 => ⟨S1024x200, .i32⟩
  | _ => ⟨S1024x200, .i32⟩

abbrev hbmTy (i : Nat) : BufTy := match i / 128 with
  | 0 => hbmTy0_0 i
  | 1 => hbmTy0_1 i
  | 2 => hbmTy0_2 i
  | _ => ⟨S1024x200, .i32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x200x512, .f32⟩
  | .local _ .vmem, ⟨5, _⟩ => ⟨S1x200x512, .f32⟩
  | .local _ .vmem, ⟨6, _⟩ => ⟨S1x25x8, .i32⟩
  | .local _ .vmem, ⟨7, _⟩ => ⟨S1x25x8, .i32⟩
  | .local _ .smem, ⟨0, _⟩ => ⟨S1024, .i32⟩
  | .local _ .smem, ⟨1, _⟩ => ⟨S1024, .i32⟩
  | .local _ .smem, ⟨2, _⟩ => ⟨S1024, .i32⟩
  | .local _ .smem, ⟨3, _⟩ => ⟨S1024, .i32⟩
  | .local _ .smem, ⟨4, _⟩ => ⟨S1x1x200, .i32⟩
  | .local _ .smem, ⟨5, _⟩ => ⟨S1x1x200, .i32⟩
  | .local _ .smem, ⟨6, _⟩ => ⟨S1x1x200, .i32⟩
  | .local _ .smem, ⟨7, _⟩ => ⟨S1x1x200, .i32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_c_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_12 : Ref sig .tc := ⟨.hbm, 56, rfl⟩
abbrev main_v39 : Ref sig .tc := ⟨.hbm, 57, rfl⟩
abbrev main_v40 : Ref sig .tc := ⟨.hbm, 58, rfl⟩
abbrev main_c_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_14 : Ref sig .tc := ⟨.hbm, 65, rfl⟩
abbrev main_v46 : Ref sig .tc := ⟨.hbm, 66, rfl⟩
abbrev main_v47 : Ref sig .tc := ⟨.hbm, 67, rfl⟩
abbrev main_c_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_16 : Ref sig .tc := ⟨.hbm, 74, rfl⟩
abbrev main_v53 : Ref sig .tc := ⟨.hbm, 75, rfl⟩
abbrev main_v54 : Ref sig .tc := ⟨.hbm, 76, rfl⟩
abbrev main_c_17 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_18 : Ref sig .tc := ⟨.hbm, 83, rfl⟩
abbrev main_v60 : Ref sig .tc := ⟨.hbm, 84, rfl⟩
abbrev main_v61 : Ref sig .tc := ⟨.hbm, 85, rfl⟩
abbrev main_c_19 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_20 : Ref sig .tc := ⟨.hbm, 91, rfl⟩
abbrev main_v66 : Ref sig .tc := ⟨.hbm, 92, rfl⟩
abbrev main_v67 : Ref sig .tc := ⟨.hbm, 93, rfl⟩
abbrev main_c_21 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_22 : Ref sig .tc := ⟨.hbm, 98, rfl⟩
abbrev main_v71 : Ref sig .tc := ⟨.hbm, 99, rfl⟩
abbrev main_v72 : Ref sig .tc := ⟨.hbm, 100, rfl⟩
abbrev main_c_23 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_24 : Ref sig .tc := ⟨.hbm, 107, rfl⟩
abbrev main_v78 : Ref sig .tc := ⟨.hbm, 108, rfl⟩
abbrev main_v79 : Ref sig .tc := ⟨.hbm, 109, rfl⟩
abbrev main_c_25 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_26 : Ref sig .tc := ⟨.hbm, 116, rfl⟩
abbrev main_v85 : Ref sig .tc := ⟨.hbm, 117, rfl⟩
abbrev main_v86 : Ref sig .tc := ⟨.hbm, 118, rfl⟩
abbrev main_c_27 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_28 : Ref sig .tc := ⟨.hbm, 125, rfl⟩
abbrev main_v92 : Ref sig .tc := ⟨.hbm, 126, rfl⟩
abbrev main_v93 : Ref sig .tc := ⟨.hbm, 127, rfl⟩
abbrev main_c_29 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_30 : Ref sig .tc := ⟨.hbm, 133, rfl⟩
abbrev main_v98 : Ref sig .tc := ⟨.hbm, 134, rfl⟩
abbrev main_v99 : Ref sig .tc := ⟨.hbm, 135, rfl⟩
abbrev main_c_31 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_32 : Ref sig .tc := ⟨.hbm, 140, rfl⟩
abbrev main_v103 : Ref sig .tc := ⟨.hbm, 141, rfl⟩
abbrev main_v104 : Ref sig .tc := ⟨.hbm, 142, rfl⟩
abbrev main_c_33 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_34 : Ref sig .tc := ⟨.hbm, 149, rfl⟩
abbrev main_v110 : Ref sig .tc := ⟨.hbm, 150, rfl⟩
abbrev main_v111 : Ref sig .tc := ⟨.hbm, 151, rfl⟩
abbrev main_c_35 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_36 : Ref sig .tc := ⟨.hbm, 158, rfl⟩
abbrev main_v117 : Ref sig .tc := ⟨.hbm, 159, rfl⟩
abbrev main_v118 : Ref sig .tc := ⟨.hbm, 160, rfl⟩
abbrev main_c_37 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_38 : Ref sig .tc := ⟨.hbm, 167, rfl⟩
abbrev main_v124 : Ref sig .tc := ⟨.hbm, 168, rfl⟩
abbrev main_v125 : Ref sig .tc := ⟨.hbm, 169, rfl⟩
abbrev main_c_39 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_40 : Ref sig .tc := ⟨.hbm, 175, rfl⟩
abbrev main_v130 : Ref sig .tc := ⟨.hbm, 176, rfl⟩
abbrev main_v131 : Ref sig .tc := ⟨.hbm, 177, rfl⟩
abbrev main_c_41 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_c_42 : Ref sig .tc := ⟨.hbm, 182, rfl⟩
abbrev main_v135 : Ref sig .tc := ⟨.hbm, 183, rfl⟩
abbrev main_v136 : Ref sig .tc := ⟨.hbm, 184, rfl⟩
abbrev main_c_43 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_c_44 : Ref sig .tc := ⟨.hbm, 191, rfl⟩
abbrev main_v142 : Ref sig .tc := ⟨.hbm, 192, rfl⟩
abbrev main_v143 : Ref sig .tc := ⟨.hbm, 193, rfl⟩
abbrev main_c_45 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_c_46 : Ref sig .tc := ⟨.hbm, 200, rfl⟩
abbrev main_v149 : Ref sig .tc := ⟨.hbm, 201, rfl⟩
abbrev main_v150 : Ref sig .tc := ⟨.hbm, 202, rfl⟩
abbrev main_c_47 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_c_48 : Ref sig .tc := ⟨.hbm, 209, rfl⟩
abbrev main_v156 : Ref sig .tc := ⟨.hbm, 210, rfl⟩
abbrev main_v157 : Ref sig .tc := ⟨.hbm, 211, rfl⟩
abbrev main_c_49 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_c_50 : Ref sig .tc := ⟨.hbm, 217, rfl⟩
abbrev main_v162 : Ref sig .tc := ⟨.hbm, 218, rfl⟩
abbrev main_v163 : Ref sig .tc := ⟨.hbm, 219, rfl⟩
abbrev main_c_51 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_c_52 : Ref sig .tc := ⟨.hbm, 224, rfl⟩
abbrev main_v167 : Ref sig .tc := ⟨.hbm, 225, rfl⟩
abbrev main_v168 : Ref sig .tc := ⟨.hbm, 226, rfl⟩
abbrev main_c_53 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst : Ref sig .tc := ⟨.hbm, 231, rfl⟩
abbrev main_v172 : Ref sig .tc := ⟨.hbm, 232, rfl⟩
abbrev main_v173 : Ref sig .tc := ⟨.hbm, 233, rfl⟩
abbrev main_cst_54 : Ref sig .tc := ⟨.hbm, 234, rfl⟩
abbrev main_cst_55 : Ref sig .tc := ⟨.hbm, 235, rfl⟩
abbrev main_call0_v0 : Ref sig .tc := ⟨.hbm, 236, rfl⟩
abbrev main_call0_v1 : Ref sig .tc := ⟨.hbm, 237, rfl⟩
abbrev main_call0_v2 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_cst_56 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_c_57 : Ref sig .tc := ⟨.hbm, 246, rfl⟩
abbrev main_c_58 : Ref sig .tc := ⟨.hbm, 247, rfl⟩
abbrev main_v180 : Ref sig .tc := ⟨.hbm, 248, rfl⟩
abbrev main_call1_v0 : Ref sig .tc := ⟨.hbm, 249, rfl⟩
abbrev main_call1_v1_0 : Ref sig .tc := ⟨.hbm, 250, rfl⟩
abbrev main_c_59 : Ref sig .tc := ⟨.hbm, 251, rfl⟩
abbrev main_v182 : Ref sig .tc := ⟨.hbm, 252, rfl⟩
abbrev main_v183 : Ref sig .tc := ⟨.hbm, 253, rfl⟩
abbrev main_c_60 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_c_61 : Ref sig .tc := ⟨.hbm, 259, rfl⟩
abbrev main_v189 : Ref sig .tc := ⟨.hbm, 260, rfl⟩
abbrev main_v191 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_c_62 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_call2_v0 : Ref sig .tc := ⟨.hbm, 270, rfl⟩
abbrev main_v200 : Ref sig .tc := ⟨.hbm, 271, rfl⟩
abbrev main_v188 : Ref sig .tc := ⟨.smem, 0, rfl⟩
abbrev main_v190 : Ref sig .tc := ⟨.smem, 1, rfl⟩
abbrev main_v181 : Ref sig .tc := ⟨.smem, 2, rfl⟩
abbrev main_v192 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg2_0 : Ref sig .tc := ⟨.smem, 4, rfl⟩
abbrev cc0_stg2_1 : Ref sig .tc := ⟨.smem, 5, rfl⟩
abbrev cc0_stg3_0 : Ref sig .tc := ⟨.smem, 6, rfl⟩
abbrev cc0_stg3_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![1024], ![false]⟩

abbrev pre0 : Pipeline.Prefetch sig := ⟨4, ![main_v188.idx, main_v190.idx, main_v181.idx, main_v192.idx], fun | 0 => main_v188.names | 1 => main_v190.names | 2 => main_v181.names | 3 => main_v192.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v0 : BitVec 32) : Fin 3 → Nat :=
  let c0_2 : Index := 0#32
  let v1 : Index := Scalar.indexCast v0
  let c0_3 : Index := 0#32
  ![0, v1.toNat, 0]

def k0_chk1 (v0 : BitVec 32) : Prop :=
  (∀ a, (k0_off2 v0) a + S1x1x512.size a ≤ S1x512x512.size a)
theorem k0_off2_inb : ∀ (v0 : BitVec 32) (k0_hw1 : k0_chk1 v0), ∀ a, (k0_off2 v0) a + S1x1x512.size a ≤ S1x512x512.size a := fun v0 k0_hw1 => k0_hw1

def k0_off3 (v4 : BitVec 32) : Fin 3 → Nat :=
  let c0_6 : Index := 0#32
  let v5 : Index := Scalar.indexCast v4
  let c0_7 : Index := 0#32
  ![0, v5.toNat, 0]

def k0_chk2 (v4 : BitVec 32) : Prop :=
  (∀ a, (k0_off3 v4) a + S1x1x512.size a ≤ S1x512x512.size a)
theorem k0_off3_inb : ∀ (v4 : BitVec 32) (k0_hw2 : k0_chk2 v4), ∀ a, (k0_off3 v4) a + S1x1x512.size a ≤ S1x512x512.size a := fun v4 k0_hw2 => k0_hw2

def k0_off4 (v8 : BitVec 32) : Fin 3 → Nat :=
  let c0_10 : Index := 0#32
  let v9 : Index := Scalar.indexCast v8
  let c0_11 : Index := 0#32
  ![0, v9.toNat, 0]

def k0_chk3 (v8 : BitVec 32) : Prop :=
  (∀ a, (k0_off4 v8) a + S1x1x512.size a ≤ S1x512x512.size a)
theorem k0_off4_inb : ∀ (v8 : BitVec 32) (k0_hw3 : k0_chk3 v8), ∀ a, (k0_off4 v8) a + S1x1x512.size a ≤ S1x512x512.size a := fun v8 k0_hw3 => k0_hw3

def k0_off5 (v12 : BitVec 32) : Fin 3 → Nat :=
  let c0_14 : Index := 0#32
  let v13 : Index := Scalar.indexCast v12
  let c0_15 : Index := 0#32
  ![0, v13.toNat, 0]

def k0_chk4 (v12 : BitVec 32) : Prop :=
  (∀ a, (k0_off5 v12) a + S1x1x512.size a ≤ S1x512x512.size a)
theorem k0_off5_inb : ∀ (v12 : BitVec 32) (k0_hw4 : k0_chk4 v12), ∀ a, (k0_off5 v12) a + S1x1x512.size a ≤ S1x512x512.size a := fun v12 k0_hw4 => k0_hw4

def k0_off6 (v16 : BitVec 32) : Fin 3 → Nat :=
  let c0_18 : Index := 0#32
  let v17 : Index := Scalar.indexCast v16
  let c0_19 : Index := 0#32
  ![0, v17.toNat, 0]

def k0_chk5 (v16 : BitVec 32) : Prop :=
  (∀ a, (k0_off6 v16) a + S1x1x512.size a ≤ S1x512x512.size a)
theorem k0_off6_inb : ∀ (v16 : BitVec 32) (k0_hw5 : k0_chk5 v16), ∀ a, (k0_off6 v16) a + S1x1x512.size a ≤ S1x512x512.size a := fun v16 k0_hw5 => k0_hw5

def k0_off7 (v20 : BitVec 32) : Fin 3 → Nat :=
  let c0_22 : Index := 0#32
  let v21 : Index := Scalar.indexCast v20
  let c0_23 : Index := 0#32
  ![0, v21.toNat, 0]

def k0_chk6 (v20 : BitVec 32) : Prop :=
  (∀ a, (k0_off7 v20) a + S1x1x512.size a ≤ S1x512x512.size a)
theorem k0_off7_inb : ∀ (v20 : BitVec 32) (k0_hw6 : k0_chk6 v20), ∀ a, (k0_off7 v20) a + S1x1x512.size a ≤ S1x512x512.size a := fun v20 k0_hw6 => k0_hw6

def k0_off8 (v24 : BitVec 32) : Fin 3 → Nat :=
  let c0_26 : Index := 0#32
  let v25 : Index := Scalar.indexCast v24
  let c0_27 : Index := 0#32
  ![0, v25.toNat, 0]

def k0_chk7 (v24 : BitVec 32) : Prop :=
  (∀ a, (k0_off8 v24) a + S1x1x512.size a ≤ S1x512x512.size a)
theorem k0_off8_inb : ∀ (v24 : BitVec 32) (k0_hw7 : k0_chk7 v24), ∀ a, (k0_off8 v24) a + S1x1x512.size a ≤ S1x512x512.size a := fun v24 k0_hw7 => k0_hw7

def k0_off9 (v28 : BitVec 32) : Fin 3 → Nat :=
  let c0_30 : Index := 0#32
  let v29 : Index := Scalar.indexCast v28
  let c0_31 : Index := 0#32
  ![0, v29.toNat, 0]

def k0_chk8 (v28 : BitVec 32) : Prop :=
  (∀ a, (k0_off9 v28) a + S1x1x512.size a ≤ S1x512x512.size a)
theorem k0_off9_inb : ∀ (v28 : BitVec 32) (k0_hw8 : k0_chk8 v28), ∀ a, (k0_off9 v28) a + S1x1x512.size a ≤ S1x512x512.size a := fun v28 k0_hw8 => k0_hw8

def k0_off10 (v32 : BitVec 32) : Fin 3 → Nat :=
  let c0_35 : Index := 0#32
  let v33 : Index := Scalar.indexCast v32
  let c0_36 : Index := 0#32
  ![0, v33.toNat, 0]

def k0_chk9 (v32 : BitVec 32) : Prop :=
  (∀ a, (k0_off10 v32) a + S1x1x512.size a ≤ S1x512x512.size a)
theorem k0_off10_inb : ∀ (v32 : BitVec 32) (k0_hw9 : k0_chk9 v32), ∀ a, (k0_off10 v32) a + S1x1x512.size a ≤ S1x512x512.size a := fun v32 k0_hw9 => k0_hw9

def k0_off11 (v36 : BitVec 32) : Fin 3 → Nat :=
  let c0_40 : Index := 0#32
  let v37 : Index := Scalar.indexCast v36
  let c0_41 : Index := 0#32
  ![0, v37.toNat, 0]

def k0_chk10 (v36 : BitVec 32) : Prop :=
  (∀ a, (k0_off11 v36) a + S1x1x512.size a ≤ S1x512x512.size a)
theorem k0_off11_inb : ∀ (v36 : BitVec 32) (k0_hw10 : k0_chk10 v36), ∀ a, (k0_off11 v36) a + S1x1x512.size a ≤ S1x512x512.size a := fun v36 k0_hw10 => k0_hw10

def k0_off12 (v40 : BitVec 32) : Fin 3 → Nat :=
  let c0_45 : Index := 0#32
  let v41 : Index := Scalar.indexCast v40
  let c0_46 : Index := 0#32
  ![0, v41.toNat, 0]

def k0_chk11 (v40 : BitVec 32) : Prop :=
  (∀ a, (k0_off12 v40) a + S1x1x512.size a ≤ S1x512x512.size a)
theorem k0_off12_inb : ∀ (v40 : BitVec 32) (k0_hw11 : k0_chk11 v40), ∀ a, (k0_off12 v40) a + S1x1x512.size a ≤ S1x512x512.size a := fun v40 k0_hw11 => k0_hw11

def k0_off13 (v44 : BitVec 32) : Fin 3 → Nat :=
  let c0_50 : Index := 0#32
  let v45 : Index := Scalar.indexCast v44
  let c0_51 : Index := 0#32
  ![0, v45.toNat, 0]

def k0_chk12 (v44 : BitVec 32) : Prop :=
  (∀ a, (k0_off13 v44) a + S1x1x512.size a ≤ S1x512x512.size a)
theorem k0_off13_inb : ∀ (v44 : BitVec 32) (k0_hw12 : k0_chk12 v44), ∀ a, (k0_off13 v44) a + S1x1x512.size a ≤ S1x512x512.size a := fun v44 k0_hw12 => k0_hw12

def k0_off14 (v48 : BitVec 32) : Fin 3 → Nat :=
  let c0_55 : Index := 0#32
  let v49 : Index := Scalar.indexCast v48
  let c0_56 : Index := 0#32
  ![0, v49.toNat, 0]

def k0_chk13 (v48 : BitVec 32) : Prop :=
  (∀ a, (k0_off14 v48) a + S1x1x512.size a ≤ S1x512x512.size a)
theorem k0_off14_inb : ∀ (v48 : BitVec 32) (k0_hw13 : k0_chk13 v48), ∀ a, (k0_off14 v48) a + S1x1x512.size a ≤ S1x512x512.size a := fun v48 k0_hw13 => k0_hw13

def k0_off15 (v52 : BitVec 32) : Fin 3 → Nat :=
  let c0_60 : Index := 0#32
  let v53 : Index := Scalar.indexCast v52
  let c0_61 : Index := 0#32
  ![0, v53.toNat, 0]

def k0_chk14 (v52 : BitVec 32) : Prop :=
  (∀ a, (k0_off15 v52) a + S1x1x512.size a ≤ S1x512x512.size a)
theorem k0_off15_inb : ∀ (v52 : BitVec 32) (k0_hw14 : k0_chk14 v52), ∀ a, (k0_off15 v52) a + S1x1x512.size a ≤ S1x512x512.size a := fun v52 k0_hw14 => k0_hw14

def k0_off16 (v56 : BitVec 32) : Fin 3 → Nat :=
  let c0_65 : Index := 0#32
  let v57 : Index := Scalar.indexCast v56
  let c0_66 : Index := 0#32
  ![0, v57.toNat, 0]

def k0_chk15 (v56 : BitVec 32) : Prop :=
  (∀ a, (k0_off16 v56) a + S1x1x512.size a ≤ S1x512x512.size a)
theorem k0_off16_inb : ∀ (v56 : BitVec 32) (k0_hw15 : k0_chk15 v56), ∀ a, (k0_off16 v56) a + S1x1x512.size a ≤ S1x512x512.size a := fun v56 k0_hw15 => k0_hw15

def k0_off17 (v60 : BitVec 32) : Fin 3 → Nat :=
  let c0_70 : Index := 0#32
  let v61 : Index := Scalar.indexCast v60
  let c0_71 : Index := 0#32
  ![0, v61.toNat, 0]

def k0_chk16 (v60 : BitVec 32) : Prop :=
  (∀ a, (k0_off17 v60) a + S1x1x512.size a ≤ S1x512x512.size a)
theorem k0_off17_inb : ∀ (v60 : BitVec 32) (k0_hw16 : k0_chk16 v60), ∀ a, (k0_off17 v60) a + S1x1x512.size a ≤ S1x512x512.size a := fun v60 k0_hw16 => k0_hw16

def k0_off18 (v85 : BitVec 32) : Fin 3 → Nat :=
  let c0_83 : Index := 0#32
  let v86 : Index := Scalar.indexCast v85
  let c0_84 : Index := 0#32
  ![0, v86.toNat, 0]

def k0_chk17 (v85 : BitVec 32) : Prop :=
  (∀ a, (k0_off18 v85) a + S1x1x512.size a ≤ S1x512x512.size a)
theorem k0_off18_inb : ∀ (v85 : BitVec 32) (k0_hw17 : k0_chk17 v85), ∀ a, (k0_off18 v85) a + S1x1x512.size a ≤ S1x512x512.size a := fun v85 k0_hw17 => k0_hw17

def k0_off19 (v89 : BitVec 32) : Fin 3 → Nat :=
  let c0_87 : Index := 0#32
  let v90 : Index := Scalar.indexCast v89
  let c0_88 : Index := 0#32
  ![0, v90.toNat, 0]

def k0_chk18 (v89 : BitVec 32) : Prop :=
  (∀ a, (k0_off19 v89) a + S1x1x512.size a ≤ S1x512x512.size a)
theorem k0_off19_inb : ∀ (v89 : BitVec 32) (k0_hw18 : k0_chk18 v89), ∀ a, (k0_off19 v89) a + S1x1x512.size a ≤ S1x512x512.size a := fun v89 k0_hw18 => k0_hw18

def k0_off20 (v93 : BitVec 32) : Fin 3 → Nat :=
  let c0_91 : Index := 0#32
  let v94 : Index := Scalar.indexCast v93
  let c0_92 : Index := 0#32
  ![0, v94.toNat, 0]

def k0_chk19 (v93 : BitVec 32) : Prop :=
  (∀ a, (k0_off20 v93) a + S1x1x512.size a ≤ S1x512x512.size a)
theorem k0_off20_inb : ∀ (v93 : BitVec 32) (k0_hw19 : k0_chk19 v93), ∀ a, (k0_off20 v93) a + S1x1x512.size a ≤ S1x512x512.size a := fun v93 k0_hw19 => k0_hw19

def k0_off21 (v97 : BitVec 32) : Fin 3 → Nat :=
  let c0_95 : Index := 0#32
  let v98 : Index := Scalar.indexCast v97
  let c0_96 : Index := 0#32
  ![0, v98.toNat, 0]

def k0_chk20 (v97 : BitVec 32) : Prop :=
  (∀ a, (k0_off21 v97) a + S1x1x512.size a ≤ S1x512x512.size a)
theorem k0_off21_inb : ∀ (v97 : BitVec 32) (k0_hw20 : k0_chk20 v97), ∀ a, (k0_off21 v97) a + S1x1x512.size a ≤ S1x512x512.size a := fun v97 k0_hw20 => k0_hw20

def k0_off22 (v101 : BitVec 32) : Fin 3 → Nat :=
  let c0_99 : Index := 0#32
  let v102 : Index := Scalar.indexCast v101
  let c0_100 : Index := 0#32
  ![0, v102.toNat, 0]

def k0_chk21 (v101 : BitVec 32) : Prop :=
  (∀ a, (k0_off22 v101) a + S1x1x512.size a ≤ S1x512x512.size a)
theorem k0_off22_inb : ∀ (v101 : BitVec 32) (k0_hw21 : k0_chk21 v101), ∀ a, (k0_off22 v101) a + S1x1x512.size a ≤ S1x512x512.size a := fun v101 k0_hw21 => k0_hw21

def k0_off23 (v105 : BitVec 32) : Fin 3 → Nat :=
  let c0_103 : Index := 0#32
  let v106 : Index := Scalar.indexCast v105
  let c0_104 : Index := 0#32
  ![0, v106.toNat, 0]

def k0_chk22 (v105 : BitVec 32) : Prop :=
  (∀ a, (k0_off23 v105) a + S1x1x512.size a ≤ S1x512x512.size a)
theorem k0_off23_inb : ∀ (v105 : BitVec 32) (k0_hw22 : k0_chk22 v105), ∀ a, (k0_off23 v105) a + S1x1x512.size a ≤ S1x512x512.size a := fun v105 k0_hw22 => k0_hw22

def k0_off24 (v109 : BitVec 32) : Fin 3 → Nat :=
  let c0_107 : Index := 0#32
  let v110 : Index := Scalar.indexCast v109
  let c0_108 : Index := 0#32
  ![0, v110.toNat, 0]

def k0_chk23 (v109 : BitVec 32) : Prop :=
  (∀ a, (k0_off24 v109) a + S1x1x512.size a ≤ S1x512x512.size a)
theorem k0_off24_inb : ∀ (v109 : BitVec 32) (k0_hw23 : k0_chk23 v109), ∀ a, (k0_off24 v109) a + S1x1x512.size a ≤ S1x512x512.size a := fun v109 k0_hw23 => k0_hw23

def k0_off25 (v113 : BitVec 32) : Fin 3 → Nat :=
  let c0_111 : Index := 0#32
  let v114 : Index := Scalar.indexCast v113
  let c0_112 : Index := 0#32
  ![0, v114.toNat, 0]

def k0_chk24 (v113 : BitVec 32) : Prop :=
  (∀ a, (k0_off25 v113) a + S1x1x512.size a ≤ S1x512x512.size a)
theorem k0_off25_inb : ∀ (v113 : BitVec 32) (k0_hw24 : k0_chk24 v113), ∀ a, (k0_off25 v113) a + S1x1x512.size a ≤ S1x512x512.size a := fun v113 k0_hw24 => k0_hw24

def k0_off26 (v117 : BitVec 32) : Fin 3 → Nat :=
  let c0_116 : Index := 0#32
  let v118 : Index := Scalar.indexCast v117
  let c0_117 : Index := 0#32
  ![0, v118.toNat, 0]

def k0_chk25 (v117 : BitVec 32) : Prop :=
  (∀ a, (k0_off26 v117) a + S1x1x512.size a ≤ S1x512x512.size a)
theorem k0_off26_inb : ∀ (v117 : BitVec 32) (k0_hw25 : k0_chk25 v117), ∀ a, (k0_off26 v117) a + S1x1x512.size a ≤ S1x512x512.size a := fun v117 k0_hw25 => k0_hw25

def k0_off27 (v121 : BitVec 32) : Fin 3 → Nat :=
  let c0_121 : Index := 0#32
  let v122 : Index := Scalar.indexCast v121
  let c0_122 : Index := 0#32
  ![0, v122.toNat, 0]

def k0_chk26 (v121 : BitVec 32) : Prop :=
  (∀ a, (k0_off27 v121) a + S1x1x512.size a ≤ S1x512x512.size a)
theorem k0_off27_inb : ∀ (v121 : BitVec 32) (k0_hw26 : k0_chk26 v121), ∀ a, (k0_off27 v121) a + S1x1x512.size a ≤ S1x512x512.size a := fun v121 k0_hw26 => k0_hw26

def k0_off28 (v125 : BitVec 32) : Fin 3 → Nat :=
  let c0_126 : Index := 0#32
  let v126 : Index := Scalar.indexCast v125
  let c0_127 : Index := 0#32
  ![0, v126.toNat, 0]

def k0_chk27 (v125 : BitVec 32) : Prop :=
  (∀ a, (k0_off28 v125) a + S1x1x512.size a ≤ S1x512x512.size a)
theorem k0_off28_inb : ∀ (v125 : BitVec 32) (k0_hw27 : k0_chk27 v125), ∀ a, (k0_off28 v125) a + S1x1x512.size a ≤ S1x512x512.size a := fun v125 k0_hw27 => k0_hw27

def k0_off29 (v129 : BitVec 32) : Fin 3 → Nat :=
  let c0_131 : Index := 0#32
  let v130 : Index := Scalar.indexCast v129
  let c0_132 : Index := 0#32
  ![0, v130.toNat, 0]

def k0_chk28 (v129 : BitVec 32) : Prop :=
  (∀ a, (k0_off29 v129) a + S1x1x512.size a ≤ S1x512x512.size a)
theorem k0_off29_inb : ∀ (v129 : BitVec 32) (k0_hw28 : k0_chk28 v129), ∀ a, (k0_off29 v129) a + S1x1x512.size a ≤ S1x512x512.size a := fun v129 k0_hw28 => k0_hw28

def k0_off30 (v133 : BitVec 32) : Fin 3 → Nat :=
  let c0_136 : Index := 0#32
  let v134 : Index := Scalar.indexCast v133
  let c0_137 : Index := 0#32
  ![0, v134.toNat, 0]

def k0_chk29 (v133 : BitVec 32) : Prop :=
  (∀ a, (k0_off30 v133) a + S1x1x512.size a ≤ S1x512x512.size a)
theorem k0_off30_inb : ∀ (v133 : BitVec 32) (k0_hw29 : k0_chk29 v133), ∀ a, (k0_off30 v133) a + S1x1x512.size a ≤ S1x512x512.size a := fun v133 k0_hw29 => k0_hw29

def k0_off31 (v137 : BitVec 32) : Fin 3 → Nat :=
  let c0_141 : Index := 0#32
  let v138 : Index := Scalar.indexCast v137
  let c0_142 : Index := 0#32
  ![0, v138.toNat, 0]

def k0_chk30 (v137 : BitVec 32) : Prop :=
  (∀ a, (k0_off31 v137) a + S1x1x512.size a ≤ S1x512x512.size a)
theorem k0_off31_inb : ∀ (v137 : BitVec 32) (k0_hw30 : k0_chk30 v137), ∀ a, (k0_off31 v137) a + S1x1x512.size a ≤ S1x512x512.size a := fun v137 k0_hw30 => k0_hw30

def k0_off32 (v141 : BitVec 32) : Fin 3 → Nat :=
  let c0_146 : Index := 0#32
  let v142 : Index := Scalar.indexCast v141
  let c0_147 : Index := 0#32
  ![0, v142.toNat, 0]

def k0_chk31 (v141 : BitVec 32) : Prop :=
  (∀ a, (k0_off32 v141) a + S1x1x512.size a ≤ S1x512x512.size a)
theorem k0_off32_inb : ∀ (v141 : BitVec 32) (k0_hw31 : k0_chk31 v141), ∀ a, (k0_off32 v141) a + S1x1x512.size a ≤ S1x512x512.size a := fun v141 k0_hw31 => k0_hw31

def k0_off33 (v145 : BitVec 32) : Fin 3 → Nat :=
  let c0_151 : Index := 0#32
  let v146 : Index := Scalar.indexCast v145
  let c0_152 : Index := 0#32
  ![0, v146.toNat, 0]

def k0_chk32 (v145 : BitVec 32) : Prop :=
  (∀ a, (k0_off33 v145) a + S1x1x512.size a ≤ S1x512x512.size a)
theorem k0_off33_inb : ∀ (v145 : BitVec 32) (k0_hw32 : k0_chk32 v145), ∀ a, (k0_off33 v145) a + S1x1x512.size a ≤ S1x512x512.size a := fun v145 k0_hw32 => k0_hw32

def k0_off34 (v170 : BitVec 32) : Fin 3 → Nat :=
  let c0_166 : Index := 0#32
  let v171 : Index := Scalar.indexCast v170
  let c0_167 : Index := 0#32
  ![0, v171.toNat, 0]

def k0_chk33 (v170 : BitVec 32) : Prop :=
  (∀ a, (k0_off34 v170) a + S1x1x512.size a ≤ S1x512x512.size a)
theorem k0_off34_inb : ∀ (v170 : BitVec 32) (k0_hw33 : k0_chk33 v170), ∀ a, (k0_off34 v170) a + S1x1x512.size a ≤ S1x512x512.size a := fun v170 k0_hw33 => k0_hw33

def k0_off35 (v174 : BitVec 32) : Fin 3 → Nat :=
  let c0_170 : Index := 0#32
  let v175 : Index := Scalar.indexCast v174
  let c0_171 : Index := 0#32
  ![0, v175.toNat, 0]

def k0_chk34 (v174 : BitVec 32) : Prop :=
  (∀ a, (k0_off35 v174) a + S1x1x512.size a ≤ S1x512x512.size a)
theorem k0_off35_inb : ∀ (v174 : BitVec 32) (k0_hw34 : k0_chk34 v174), ∀ a, (k0_off35 v174) a + S1x1x512.size a ≤ S1x512x512.size a := fun v174 k0_hw34 => k0_hw34

def k0_off36 (v178 : BitVec 32) : Fin 3 → Nat :=
  let c0_174 : Index := 0#32
  let v179 : Index := Scalar.indexCast v178
  let c0_175 : Index := 0#32
  ![0, v179.toNat, 0]

def k0_chk35 (v178 : BitVec 32) : Prop :=
  (∀ a, (k0_off36 v178) a + S1x1x512.size a ≤ S1x512x512.size a)
theorem k0_off36_inb : ∀ (v178 : BitVec 32) (k0_hw35 : k0_chk35 v178), ∀ a, (k0_off36 v178) a + S1x1x512.size a ≤ S1x512x512.size a := fun v178 k0_hw35 => k0_hw35

def k0_off37 (v182 : BitVec 32) : Fin 3 → Nat :=
  let c0_178 : Index := 0#32
  let v183 : Index := Scalar.indexCast v182
  let c0_179 : Index := 0#32
  ![0, v183.toNat, 0]

def k0_chk36 (v182 : BitVec 32) : Prop :=
  (∀ a, (k0_off37 v182) a + S1x1x512.size a ≤ S1x512x512.size a)
theorem k0_off37_inb : ∀ (v182 : BitVec 32) (k0_hw36 : k0_chk36 v182), ∀ a, (k0_off37 v182) a + S1x1x512.size a ≤ S1x512x512.size a := fun v182 k0_hw36 => k0_hw36

def k0_off38 (v186 : BitVec 32) : Fin 3 → Nat :=
  let c0_182 : Index := 0#32
  let v187 : Index := Scalar.indexCast v186
  let c0_183 : Index := 0#32
  ![0, v187.toNat, 0]

def k0_chk37 (v186 : BitVec 32) : Prop :=
  (∀ a, (k0_off38 v186) a + S1x1x512.size a ≤ S1x512x512.size a)
theorem k0_off38_inb : ∀ (v186 : BitVec 32) (k0_hw37 : k0_chk37 v186), ∀ a, (k0_off38 v186) a + S1x1x512.size a ≤ S1x512x512.size a := fun v186 k0_hw37 => k0_hw37

def k0_off39 (v190 : BitVec 32) : Fin 3 → Nat :=
  let c0_186 : Index := 0#32
  let v191 : Index := Scalar.indexCast v190
  let c0_187 : Index := 0#32
  ![0, v191.toNat, 0]

def k0_chk38 (v190 : BitVec 32) : Prop :=
  (∀ a, (k0_off39 v190) a + S1x1x512.size a ≤ S1x512x512.size a)
theorem k0_off39_inb : ∀ (v190 : BitVec 32) (k0_hw38 : k0_chk38 v190), ∀ a, (k0_off39 v190) a + S1x1x512.size a ≤ S1x512x512.size a := fun v190 k0_hw38 => k0_hw38

def k0_off40 (v194 : BitVec 32) : Fin 3 → Nat :=
  let c0_190 : Index := 0#32
  let v195 : Index := Scalar.indexCast v194
  let c0_191 : Index := 0#32
  ![0, v195.toNat, 0]

def k0_chk39 (v194 : BitVec 32) : Prop :=
  (∀ a, (k0_off40 v194) a + S1x1x512.size a ≤ S1x512x512.size a)
theorem k0_off40_inb : ∀ (v194 : BitVec 32) (k0_hw39 : k0_chk39 v194), ∀ a, (k0_off40 v194) a + S1x1x512.size a ≤ S1x512x512.size a := fun v194 k0_hw39 => k0_hw39

def k0_off41 (v198 : BitVec 32) : Fin 3 → Nat :=
  let c0_194 : Index := 0#32
  let v199 : Index := Scalar.indexCast v198
  let c0_195 : Index := 0#32
  ![0, v199.toNat, 0]

def k0_chk40 (v198 : BitVec 32) : Prop :=
  (∀ a, (k0_off41 v198) a + S1x1x512.size a ≤ S1x512x512.size a)
theorem k0_off41_inb : ∀ (v198 : BitVec 32) (k0_hw40 : k0_chk40 v198), ∀ a, (k0_off41 v198) a + S1x1x512.size a ≤ S1x512x512.size a := fun v198 k0_hw40 => k0_hw40

def k0_off42 (v202 : BitVec 32) : Fin 3 → Nat :=
  let c0_199 : Index := 0#32
  let v203 : Index := Scalar.indexCast v202
  let c0_200 : Index := 0#32
  ![0, v203.toNat, 0]

def k0_chk41 (v202 : BitVec 32) : Prop :=
  (∀ a, (k0_off42 v202) a + S1x1x512.size a ≤ S1x512x512.size a)
theorem k0_off42_inb : ∀ (v202 : BitVec 32) (k0_hw41 : k0_chk41 v202), ∀ a, (k0_off42 v202) a + S1x1x512.size a ≤ S1x512x512.size a := fun v202 k0_hw41 => k0_hw41

def k0_off43 (v206 : BitVec 32) : Fin 3 → Nat :=
  let c0_204 : Index := 0#32
  let v207 : Index := Scalar.indexCast v206
  let c0_205 : Index := 0#32
  ![0, v207.toNat, 0]

def k0_chk42 (v206 : BitVec 32) : Prop :=
  (∀ a, (k0_off43 v206) a + S1x1x512.size a ≤ S1x512x512.size a)
theorem k0_off43_inb : ∀ (v206 : BitVec 32) (k0_hw42 : k0_chk42 v206), ∀ a, (k0_off43 v206) a + S1x1x512.size a ≤ S1x512x512.size a := fun v206 k0_hw42 => k0_hw42

def k0_off44 (v210 : BitVec 32) : Fin 3 → Nat :=
  let c0_209 : Index := 0#32
  let v211 : Index := Scalar.indexCast v210
  let c0_210 : Index := 0#32
  ![0, v211.toNat, 0]

def k0_chk43 (v210 : BitVec 32) : Prop :=
  (∀ a, (k0_off44 v210) a + S1x1x512.size a ≤ S1x512x512.size a)
theorem k0_off44_inb : ∀ (v210 : BitVec 32) (k0_hw43 : k0_chk43 v210), ∀ a, (k0_off44 v210) a + S1x1x512.size a ≤ S1x512x512.size a := fun v210 k0_hw43 => k0_hw43

def k0_off45 (v214 : BitVec 32) : Fin 3 → Nat :=
  let c0_214 : Index := 0#32
  let v215 : Index := Scalar.indexCast v214
  let c0_215 : Index := 0#32
  ![0, v215.toNat, 0]

def k0_chk44 (v214 : BitVec 32) : Prop :=
  (∀ a, (k0_off45 v214) a + S1x1x512.size a ≤ S1x512x512.size a)
theorem k0_off45_inb : ∀ (v214 : BitVec 32) (k0_hw44 : k0_chk44 v214), ∀ a, (k0_off45 v214) a + S1x1x512.size a ≤ S1x512x512.size a := fun v214 k0_hw44 => k0_hw44

def k0_off46 (v218 : BitVec 32) : Fin 3 → Nat :=
  let c0_219 : Index := 0#32
  let v219 : Index := Scalar.indexCast v218
  let c0_220 : Index := 0#32
  ![0, v219.toNat, 0]

def k0_chk45 (v218 : BitVec 32) : Prop :=
  (∀ a, (k0_off46 v218) a + S1x1x512.size a ≤ S1x512x512.size a)
theorem k0_off46_inb : ∀ (v218 : BitVec 32) (k0_hw45 : k0_chk45 v218), ∀ a, (k0_off46 v218) a + S1x1x512.size a ≤ S1x512x512.size a := fun v218 k0_hw45 => k0_hw45

def k0_off47 (v222 : BitVec 32) : Fin 3 → Nat :=
  let c0_224 : Index := 0#32
  let v223 : Index := Scalar.indexCast v222
  let c0_225 : Index := 0#32
  ![0, v223.toNat, 0]

def k0_chk46 (v222 : BitVec 32) : Prop :=
  (∀ a, (k0_off47 v222) a + S1x1x512.size a ≤ S1x512x512.size a)
theorem k0_off47_inb : ∀ (v222 : BitVec 32) (k0_hw46 : k0_chk46 v222), ∀ a, (k0_off47 v222) a + S1x1x512.size a ≤ S1x512x512.size a := fun v222 k0_hw46 => k0_hw46

def k0_off48 (v226 : BitVec 32) : Fin 3 → Nat :=
  let c0_229 : Index := 0#32
  let v227 : Index := Scalar.indexCast v226
  let c0_230 : Index := 0#32
  ![0, v227.toNat, 0]

def k0_chk47 (v226 : BitVec 32) : Prop :=
  (∀ a, (k0_off48 v226) a + S1x1x512.size a ≤ S1x512x512.size a)
theorem k0_off48_inb : ∀ (v226 : BitVec 32) (k0_hw47 : k0_chk47 v226), ∀ a, (k0_off48 v226) a + S1x1x512.size a ≤ S1x512x512.size a := fun v226 k0_hw47 => k0_hw47

def k0_off49 (v230 : BitVec 32) : Fin 3 → Nat :=
  let c0_234 : Index := 0#32
  let v231 : Index := Scalar.indexCast v230
  let c0_235 : Index := 0#32
  ![0, v231.toNat, 0]

def k0_chk48 (v230 : BitVec 32) : Prop :=
  (∀ a, (k0_off49 v230) a + S1x1x512.size a ≤ S1x512x512.size a)
theorem k0_off49_inb : ∀ (v230 : BitVec 32) (k0_hw48 : k0_chk48 v230), ∀ a, (k0_off49 v230) a + S1x1x512.size a ≤ S1x512x512.size a := fun v230 k0_hw48 => k0_hw48

def k0_off50 (v255 : BitVec 32) : Fin 3 → Nat :=
  let c0_249 : Index := 0#32
  let v256 : Index := Scalar.indexCast v255
  let c0_250 : Index := 0#32
  ![0, v256.toNat, 0]

def k0_chk49 (v255 : BitVec 32) : Prop :=
  (∀ a, (k0_off50 v255) a + S1x1x512.size a ≤ S1x512x512.size a)
theorem k0_off50_inb : ∀ (v255 : BitVec 32) (k0_hw49 : k0_chk49 v255), ∀ a, (k0_off50 v255) a + S1x1x512.size a ≤ S1x512x512.size a := fun v255 k0_hw49 => k0_hw49

def k0_off51 (v259 : BitVec 32) : Fin 3 → Nat :=
  let c0_253 : Index := 0#32
  let v260 : Index := Scalar.indexCast v259
  let c0_254 : Index := 0#32
  ![0, v260.toNat, 0]

def k0_chk50 (v259 : BitVec 32) : Prop :=
  (∀ a, (k0_off51 v259) a + S1x1x512.size a ≤ S1x512x512.size a)
theorem k0_off51_inb : ∀ (v259 : BitVec 32) (k0_hw50 : k0_chk50 v259), ∀ a, (k0_off51 v259) a + S1x1x512.size a ≤ S1x512x512.size a := fun v259 k0_hw50 => k0_hw50

def k0_off52 (v263 : BitVec 32) : Fin 3 → Nat :=
  let c0_257 : Index := 0#32
  let v264 : Index := Scalar.indexCast v263
  let c0_258 : Index := 0#32
  ![0, v264.toNat, 0]

def k0_chk51 (v263 : BitVec 32) : Prop :=
  (∀ a, (k0_off52 v263) a + S1x1x512.size a ≤ S1x512x512.size a)
theorem k0_off52_inb : ∀ (v263 : BitVec 32) (k0_hw51 : k0_chk51 v263), ∀ a, (k0_off52 v263) a + S1x1x512.size a ≤ S1x512x512.size a := fun v263 k0_hw51 => k0_hw51

def k0_off53 (v267 : BitVec 32) : Fin 3 → Nat :=
  let c0_261 : Index := 0#32
  let v268 : Index := Scalar.indexCast v267
  let c0_262 : Index := 0#32
  ![0, v268.toNat, 0]

def k0_chk52 (v267 : BitVec 32) : Prop :=
  (∀ a, (k0_off53 v267) a + S1x1x512.size a ≤ S1x512x512.size a)
theorem k0_off53_inb : ∀ (v267 : BitVec 32) (k0_hw52 : k0_chk52 v267), ∀ a, (k0_off53 v267) a + S1x1x512.size a ≤ S1x512x512.size a := fun v267 k0_hw52 => k0_hw52

def k0_off54 (v271 : BitVec 32) : Fin 3 → Nat :=
  let c0_265 : Index := 0#32
  let v272 : Index := Scalar.indexCast v271
  let c0_266 : Index := 0#32
  ![0, v272.toNat, 0]

def k0_chk53 (v271 : BitVec 32) : Prop :=
  (∀ a, (k0_off54 v271) a + S1x1x512.size a ≤ S1x512x512.size a)
theorem k0_off54_inb : ∀ (v271 : BitVec 32) (k0_hw53 : k0_chk53 v271), ∀ a, (k0_off54 v271) a + S1x1x512.size a ≤ S1x512x512.size a := fun v271 k0_hw53 => k0_hw53

def k0_off55 (v275 : BitVec 32) : Fin 3 → Nat :=
  let c0_269 : Index := 0#32
  let v276 : Index := Scalar.indexCast v275
  let c0_270 : Index := 0#32
  ![0, v276.toNat, 0]

def k0_chk54 (v275 : BitVec 32) : Prop :=
  (∀ a, (k0_off55 v275) a + S1x1x512.size a ≤ S1x512x512.size a)
theorem k0_off55_inb : ∀ (v275 : BitVec 32) (k0_hw54 : k0_chk54 v275), ∀ a, (k0_off55 v275) a + S1x1x512.size a ≤ S1x512x512.size a := fun v275 k0_hw54 => k0_hw54

def k0_off56 (v279 : BitVec 32) : Fin 3 → Nat :=
  let c0_273 : Index := 0#32
  let v280 : Index := Scalar.indexCast v279
  let c0_274 : Index := 0#32
  ![0, v280.toNat, 0]

def k0_chk55 (v279 : BitVec 32) : Prop :=
  (∀ a, (k0_off56 v279) a + S1x1x512.size a ≤ S1x512x512.size a)
theorem k0_off56_inb : ∀ (v279 : BitVec 32) (k0_hw55 : k0_chk55 v279), ∀ a, (k0_off56 v279) a + S1x1x512.size a ≤ S1x512x512.size a := fun v279 k0_hw55 => k0_hw55

def k0_off57 (v283 : BitVec 32) : Fin 3 → Nat :=
  let c0_277 : Index := 0#32
  let v284 : Index := Scalar.indexCast v283
  let c0_278 : Index := 0#32
  ![0, v284.toNat, 0]

def k0_chk56 (v283 : BitVec 32) : Prop :=
  (∀ a, (k0_off57 v283) a + S1x1x512.size a ≤ S1x512x512.size a)
theorem k0_off57_inb : ∀ (v283 : BitVec 32) (k0_hw56 : k0_chk56 v283), ∀ a, (k0_off57 v283) a + S1x1x512.size a ≤ S1x512x512.size a := fun v283 k0_hw56 => k0_hw56

def k0_off58 (v287 : BitVec 32) : Fin 3 → Nat :=
  let c0_282 : Index := 0#32
  let v288 : Index := Scalar.indexCast v287
  let c0_283 : Index := 0#32
  ![0, v288.toNat, 0]

def k0_chk57 (v287 : BitVec 32) : Prop :=
  (∀ a, (k0_off58 v287) a + S1x1x512.size a ≤ S1x512x512.size a)
theorem k0_off58_inb : ∀ (v287 : BitVec 32) (k0_hw57 : k0_chk57 v287), ∀ a, (k0_off58 v287) a + S1x1x512.size a ≤ S1x512x512.size a := fun v287 k0_hw57 => k0_hw57

def k0_off59 (v291 : BitVec 32) : Fin 3 → Nat :=
  let c0_287 : Index := 0#32
  let v292 : Index := Scalar.indexCast v291
  let c0_288 : Index := 0#32
  ![0, v292.toNat, 0]

def k0_chk58 (v291 : BitVec 32) : Prop :=
  (∀ a, (k0_off59 v291) a + S1x1x512.size a ≤ S1x512x512.size a)
theorem k0_off59_inb : ∀ (v291 : BitVec 32) (k0_hw58 : k0_chk58 v291), ∀ a, (k0_off59 v291) a + S1x1x512.size a ≤ S1x512x512.size a := fun v291 k0_hw58 => k0_hw58

def k0_off60 (v295 : BitVec 32) : Fin 3 → Nat :=
  let c0_292 : Index := 0#32
  let v296 : Index := Scalar.indexCast v295
  let c0_293 : Index := 0#32
  ![0, v296.toNat, 0]

def k0_chk59 (v295 : BitVec 32) : Prop :=
  (∀ a, (k0_off60 v295) a + S1x1x512.size a ≤ S1x512x512.size a)
theorem k0_off60_inb : ∀ (v295 : BitVec 32) (k0_hw59 : k0_chk59 v295), ∀ a, (k0_off60 v295) a + S1x1x512.size a ≤ S1x512x512.size a := fun v295 k0_hw59 => k0_hw59

def k0_off61 (v299 : BitVec 32) : Fin 3 → Nat :=
  let c0_297 : Index := 0#32
  let v300 : Index := Scalar.indexCast v299
  let c0_298 : Index := 0#32
  ![0, v300.toNat, 0]

def k0_chk60 (v299 : BitVec 32) : Prop :=
  (∀ a, (k0_off61 v299) a + S1x1x512.size a ≤ S1x512x512.size a)
theorem k0_off61_inb : ∀ (v299 : BitVec 32) (k0_hw60 : k0_chk60 v299), ∀ a, (k0_off61 v299) a + S1x1x512.size a ≤ S1x512x512.size a := fun v299 k0_hw60 => k0_hw60

def k0_off62 (v303 : BitVec 32) : Fin 3 → Nat :=
  let c0_302 : Index := 0#32
  let v304 : Index := Scalar.indexCast v303
  let c0_303 : Index := 0#32
  ![0, v304.toNat, 0]

def k0_chk61 (v303 : BitVec 32) : Prop :=
  (∀ a, (k0_off62 v303) a + S1x1x512.size a ≤ S1x512x512.size a)
theorem k0_off62_inb : ∀ (v303 : BitVec 32) (k0_hw61 : k0_chk61 v303), ∀ a, (k0_off62 v303) a + S1x1x512.size a ≤ S1x512x512.size a := fun v303 k0_hw61 => k0_hw61

def k0_off63 (v307 : BitVec 32) : Fin 3 → Nat :=
  let c0_307 : Index := 0#32
  let v308 : Index := Scalar.indexCast v307
  let c0_308 : Index := 0#32
  ![0, v308.toNat, 0]

def k0_chk62 (v307 : BitVec 32) : Prop :=
  (∀ a, (k0_off63 v307) a + S1x1x512.size a ≤ S1x512x512.size a)
theorem k0_off63_inb : ∀ (v307 : BitVec 32) (k0_hw62 : k0_chk62 v307), ∀ a, (k0_off63 v307) a + S1x1x512.size a ≤ S1x512x512.size a := fun v307 k0_hw62 => k0_hw62

def k0_off64 (v311 : BitVec 32) : Fin 3 → Nat :=
  let c0_312 : Index := 0#32
  let v312 : Index := Scalar.indexCast v311
  let c0_313 : Index := 0#32
  ![0, v312.toNat, 0]

def k0_chk63 (v311 : BitVec 32) : Prop :=
  (∀ a, (k0_off64 v311) a + S1x1x512.size a ≤ S1x512x512.size a)
theorem k0_off64_inb : ∀ (v311 : BitVec 32) (k0_hw63 : k0_chk63 v311), ∀ a, (k0_off64 v311) a + S1x1x512.size a ≤ S1x512x512.size a := fun v311 k0_hw63 => k0_hw63

def k0_off65 (v315 : BitVec 32) : Fin 3 → Nat :=
  let c0_317 : Index := 0#32
  let v316 : Index := Scalar.indexCast v315
  let c0_318 : Index := 0#32
  ![0, v316.toNat, 0]

def k0_chk64 (v315 : BitVec 32) : Prop :=
  (∀ a, (k0_off65 v315) a + S1x1x512.size a ≤ S1x512x512.size a)
theorem k0_off65_inb : ∀ (v315 : BitVec 32) (k0_hw64 : k0_chk64 v315), ∀ a, (k0_off65 v315) a + S1x1x512.size a ≤ S1x512x512.size a := fun v315 k0_hw64 => k0_hw64

def k0_off66 (v340 : BitVec 32) : Fin 3 → Nat :=
  let c0_332 : Index := 0#32
  let v341 : Index := Scalar.indexCast v340
  let c0_333 : Index := 0#32
  ![0, v341.toNat, 0]

def k0_chk65 (v340 : BitVec 32) : Prop :=
  (∀ a, (k0_off66 v340) a + S1x1x512.size a ≤ S1x512x512.size a)
theorem k0_off66_inb : ∀ (v340 : BitVec 32) (k0_hw65 : k0_chk65 v340), ∀ a, (k0_off66 v340) a + S1x1x512.size a ≤ S1x512x512.size a := fun v340 k0_hw65 => k0_hw65

def k0_off67 (v344 : BitVec 32) : Fin 3 → Nat :=
  let c0_336 : Index := 0#32
  let v345 : Index := Scalar.indexCast v344
  let c0_337 : Index := 0#32
  ![0, v345.toNat, 0]

def k0_chk66 (v344 : BitVec 32) : Prop :=
  (∀ a, (k0_off67 v344) a + S1x1x512.size a ≤ S1x512x512.size a)
theorem k0_off67_inb : ∀ (v344 : BitVec 32) (k0_hw66 : k0_chk66 v344), ∀ a, (k0_off67 v344) a + S1x1x512.size a ≤ S1x512x512.size a := fun v344 k0_hw66 => k0_hw66

def k0_off68 (v348 : BitVec 32) : Fin 3 → Nat :=
  let c0_340 : Index := 0#32
  let v349 : Index := Scalar.indexCast v348
  let c0_341 : Index := 0#32
  ![0, v349.toNat, 0]

def k0_chk67 (v348 : BitVec 32) : Prop :=
  (∀ a, (k0_off68 v348) a + S1x1x512.size a ≤ S1x512x512.size a)
theorem k0_off68_inb : ∀ (v348 : BitVec 32) (k0_hw67 : k0_chk67 v348), ∀ a, (k0_off68 v348) a + S1x1x512.size a ≤ S1x512x512.size a := fun v348 k0_hw67 => k0_hw67

def k0_off69 (v352 : BitVec 32) : Fin 3 → Nat :=
  let c0_344 : Index := 0#32
  let v353 : Index := Scalar.indexCast v352
  let c0_345 : Index := 0#32
  ![0, v353.toNat, 0]

def k0_chk68 (v352 : BitVec 32) : Prop :=
  (∀ a, (k0_off69 v352) a + S1x1x512.size a ≤ S1x512x512.size a)
theorem k0_off69_inb : ∀ (v352 : BitVec 32) (k0_hw68 : k0_chk68 v352), ∀ a, (k0_off69 v352) a + S1x1x512.size a ≤ S1x512x512.size a := fun v352 k0_hw68 => k0_hw68

def k0_off70 (v356 : BitVec 32) : Fin 3 → Nat :=
  let c0_348 : Index := 0#32
  let v357 : Index := Scalar.indexCast v356
  let c0_349 : Index := 0#32
  ![0, v357.toNat, 0]

def k0_chk69 (v356 : BitVec 32) : Prop :=
  (∀ a, (k0_off70 v356) a + S1x1x512.size a ≤ S1x512x512.size a)
theorem k0_off70_inb : ∀ (v356 : BitVec 32) (k0_hw69 : k0_chk69 v356), ∀ a, (k0_off70 v356) a + S1x1x512.size a ≤ S1x512x512.size a := fun v356 k0_hw69 => k0_hw69

def k0_off71 (v360 : BitVec 32) : Fin 3 → Nat :=
  let c0_352 : Index := 0#32
  let v361 : Index := Scalar.indexCast v360
  let c0_353 : Index := 0#32
  ![0, v361.toNat, 0]

def k0_chk70 (v360 : BitVec 32) : Prop :=
  (∀ a, (k0_off71 v360) a + S1x1x512.size a ≤ S1x512x512.size a)
theorem k0_off71_inb : ∀ (v360 : BitVec 32) (k0_hw70 : k0_chk70 v360), ∀ a, (k0_off71 v360) a + S1x1x512.size a ≤ S1x512x512.size a := fun v360 k0_hw70 => k0_hw70

def k0_off72 (v364 : BitVec 32) : Fin 3 → Nat :=
  let c0_356 : Index := 0#32
  let v365 : Index := Scalar.indexCast v364
  let c0_357 : Index := 0#32
  ![0, v365.toNat, 0]

def k0_chk71 (v364 : BitVec 32) : Prop :=
  (∀ a, (k0_off72 v364) a + S1x1x512.size a ≤ S1x512x512.size a)
theorem k0_off72_inb : ∀ (v364 : BitVec 32) (k0_hw71 : k0_chk71 v364), ∀ a, (k0_off72 v364) a + S1x1x512.size a ≤ S1x512x512.size a := fun v364 k0_hw71 => k0_hw71

def k0_off73 (v368 : BitVec 32) : Fin 3 → Nat :=
  let c0_360 : Index := 0#32
  let v369 : Index := Scalar.indexCast v368
  let c0_361 : Index := 0#32
  ![0, v369.toNat, 0]

def k0_chk72 (v368 : BitVec 32) : Prop :=
  (∀ a, (k0_off73 v368) a + S1x1x512.size a ≤ S1x512x512.size a)
theorem k0_off73_inb : ∀ (v368 : BitVec 32) (k0_hw72 : k0_chk72 v368), ∀ a, (k0_off73 v368) a + S1x1x512.size a ≤ S1x512x512.size a := fun v368 k0_hw72 => k0_hw72

def k0_off74 (v372 : BitVec 32) : Fin 3 → Nat :=
  let c0_365 : Index := 0#32
  let v373 : Index := Scalar.indexCast v372
  let c0_366 : Index := 0#32
  ![0, v373.toNat, 0]

def k0_chk73 (v372 : BitVec 32) : Prop :=
  (∀ a, (k0_off74 v372) a + S1x1x512.size a ≤ S1x512x512.size a)
theorem k0_off74_inb : ∀ (v372 : BitVec 32) (k0_hw73 : k0_chk73 v372), ∀ a, (k0_off74 v372) a + S1x1x512.size a ≤ S1x512x512.size a := fun v372 k0_hw73 => k0_hw73

def k0_off75 (v376 : BitVec 32) : Fin 3 → Nat :=
  let c0_370 : Index := 0#32
  let v377 : Index := Scalar.indexCast v376
  let c0_371 : Index := 0#32
  ![0, v377.toNat, 0]

def k0_chk74 (v376 : BitVec 32) : Prop :=
  (∀ a, (k0_off75 v376) a + S1x1x512.size a ≤ S1x512x512.size a)
theorem k0_off75_inb : ∀ (v376 : BitVec 32) (k0_hw74 : k0_chk74 v376), ∀ a, (k0_off75 v376) a + S1x1x512.size a ≤ S1x512x512.size a := fun v376 k0_hw74 => k0_hw74

def k0_off76 (v380 : BitVec 32) : Fin 3 → Nat :=
  let c0_375 : Index := 0#32
  let v381 : Index := Scalar.indexCast v380
  let c0_376 : Index := 0#32
  ![0, v381.toNat, 0]

def k0_chk75 (v380 : BitVec 32) : Prop :=
  (∀ a, (k0_off76 v380) a + S1x1x512.size a ≤ S1x512x512.size a)
theorem k0_off76_inb : ∀ (v380 : BitVec 32) (k0_hw75 : k0_chk75 v380), ∀ a, (k0_off76 v380) a + S1x1x512.size a ≤ S1x512x512.size a := fun v380 k0_hw75 => k0_hw75

def k0_off77 (v384 : BitVec 32) : Fin 3 → Nat :=
  let c0_380 : Index := 0#32
  let v385 : Index := Scalar.indexCast v384
  let c0_381 : Index := 0#32
  ![0, v385.toNat, 0]

def k0_chk76 (v384 : BitVec 32) : Prop :=
  (∀ a, (k0_off77 v384) a + S1x1x512.size a ≤ S1x512x512.size a)
theorem k0_off77_inb : ∀ (v384 : BitVec 32) (k0_hw76 : k0_chk76 v384), ∀ a, (k0_off77 v384) a + S1x1x512.size a ≤ S1x512x512.size a := fun v384 k0_hw76 => k0_hw76

def k0_off78 (v388 : BitVec 32) : Fin 3 → Nat :=
  let c0_385 : Index := 0#32
  let v389 : Index := Scalar.indexCast v388
  let c0_386 : Index := 0#32
  ![0, v389.toNat, 0]

def k0_chk77 (v388 : BitVec 32) : Prop :=
  (∀ a, (k0_off78 v388) a + S1x1x512.size a ≤ S1x512x512.size a)
theorem k0_off78_inb : ∀ (v388 : BitVec 32) (k0_hw77 : k0_chk77 v388), ∀ a, (k0_off78 v388) a + S1x1x512.size a ≤ S1x512x512.size a := fun v388 k0_hw77 => k0_hw77

def k0_off79 (v392 : BitVec 32) : Fin 3 → Nat :=
  let c0_390 : Index := 0#32
  let v393 : Index := Scalar.indexCast v392
  let c0_391 : Index := 0#32
  ![0, v393.toNat, 0]

def k0_chk78 (v392 : BitVec 32) : Prop :=
  (∀ a, (k0_off79 v392) a + S1x1x512.size a ≤ S1x512x512.size a)
theorem k0_off79_inb : ∀ (v392 : BitVec 32) (k0_hw78 : k0_chk78 v392), ∀ a, (k0_off79 v392) a + S1x1x512.size a ≤ S1x512x512.size a := fun v392 k0_hw78 => k0_hw78

def k0_off80 (v396 : BitVec 32) : Fin 3 → Nat :=
  let c0_395 : Index := 0#32
  let v397 : Index := Scalar.indexCast v396
  let c0_396 : Index := 0#32
  ![0, v397.toNat, 0]

def k0_chk79 (v396 : BitVec 32) : Prop :=
  (∀ a, (k0_off80 v396) a + S1x1x512.size a ≤ S1x512x512.size a)
theorem k0_off80_inb : ∀ (v396 : BitVec 32) (k0_hw79 : k0_chk79 v396), ∀ a, (k0_off80 v396) a + S1x1x512.size a ≤ S1x512x512.size a := fun v396 k0_hw79 => k0_hw79

def k0_off81 (v400 : BitVec 32) : Fin 3 → Nat :=
  let c0_400 : Index := 0#32
  let v401 : Index := Scalar.indexCast v400
  let c0_401 : Index := 0#32
  ![0, v401.toNat, 0]

def k0_chk80 (v400 : BitVec 32) : Prop :=
  (∀ a, (k0_off81 v400) a + S1x1x512.size a ≤ S1x512x512.size a)
theorem k0_off81_inb : ∀ (v400 : BitVec 32) (k0_hw80 : k0_chk80 v400), ∀ a, (k0_off81 v400) a + S1x1x512.size a ≤ S1x512x512.size a := fun v400 k0_hw80 => k0_hw80

def k0_off82 (v425 : BitVec 32) : Fin 3 → Nat :=
  let c0_415 : Index := 0#32
  let v426 : Index := Scalar.indexCast v425
  let c0_416 : Index := 0#32
  ![0, v426.toNat, 0]

def k0_chk81 (v425 : BitVec 32) : Prop :=
  (∀ a, (k0_off82 v425) a + S1x1x512.size a ≤ S1x512x512.size a)
theorem k0_off82_inb : ∀ (v425 : BitVec 32) (k0_hw81 : k0_chk81 v425), ∀ a, (k0_off82 v425) a + S1x1x512.size a ≤ S1x512x512.size a := fun v425 k0_hw81 => k0_hw81

def k0_off83 (v429 : BitVec 32) : Fin 3 → Nat :=
  let c0_419 : Index := 0#32
  let v430 : Index := Scalar.indexCast v429
  let c0_420 : Index := 0#32
  ![0, v430.toNat, 0]

def k0_chk82 (v429 : BitVec 32) : Prop :=
  (∀ a, (k0_off83 v429) a + S1x1x512.size a ≤ S1x512x512.size a)
theorem k0_off83_inb : ∀ (v429 : BitVec 32) (k0_hw82 : k0_chk82 v429), ∀ a, (k0_off83 v429) a + S1x1x512.size a ≤ S1x512x512.size a := fun v429 k0_hw82 => k0_hw82

def k0_off84 (v433 : BitVec 32) : Fin 3 → Nat :=
  let c0_423 : Index := 0#32
  let v434 : Index := Scalar.indexCast v433
  let c0_424 : Index := 0#32
  ![0, v434.toNat, 0]

def k0_chk83 (v433 : BitVec 32) : Prop :=
  (∀ a, (k0_off84 v433) a + S1x1x512.size a ≤ S1x512x512.size a)
theorem k0_off84_inb : ∀ (v433 : BitVec 32) (k0_hw83 : k0_chk83 v433), ∀ a, (k0_off84 v433) a + S1x1x512.size a ≤ S1x512x512.size a := fun v433 k0_hw83 => k0_hw83

def k0_off85 (v437 : BitVec 32) : Fin 3 → Nat :=
  let c0_427 : Index := 0#32
  let v438 : Index := Scalar.indexCast v437
  let c0_428 : Index := 0#32
  ![0, v438.toNat, 0]

def k0_chk84 (v437 : BitVec 32) : Prop :=
  (∀ a, (k0_off85 v437) a + S1x1x512.size a ≤ S1x512x512.size a)
theorem k0_off85_inb : ∀ (v437 : BitVec 32) (k0_hw84 : k0_chk84 v437), ∀ a, (k0_off85 v437) a + S1x1x512.size a ≤ S1x512x512.size a := fun v437 k0_hw84 => k0_hw84

def k0_off86 (v441 : BitVec 32) : Fin 3 → Nat :=
  let c0_431 : Index := 0#32
  let v442 : Index := Scalar.indexCast v441
  let c0_432 : Index := 0#32
  ![0, v442.toNat, 0]

def k0_chk85 (v441 : BitVec 32) : Prop :=
  (∀ a, (k0_off86 v441) a + S1x1x512.size a ≤ S1x512x512.size a)
theorem k0_off86_inb : ∀ (v441 : BitVec 32) (k0_hw85 : k0_chk85 v441), ∀ a, (k0_off86 v441) a + S1x1x512.size a ≤ S1x512x512.size a := fun v441 k0_hw85 => k0_hw85

def k0_off87 (v445 : BitVec 32) : Fin 3 → Nat :=
  let c0_435 : Index := 0#32
  let v446 : Index := Scalar.indexCast v445
  let c0_436 : Index := 0#32
  ![0, v446.toNat, 0]

def k0_chk86 (v445 : BitVec 32) : Prop :=
  (∀ a, (k0_off87 v445) a + S1x1x512.size a ≤ S1x512x512.size a)
theorem k0_off87_inb : ∀ (v445 : BitVec 32) (k0_hw86 : k0_chk86 v445), ∀ a, (k0_off87 v445) a + S1x1x512.size a ≤ S1x512x512.size a := fun v445 k0_hw86 => k0_hw86

def k0_off88 (v449 : BitVec 32) : Fin 3 → Nat :=
  let c0_439 : Index := 0#32
  let v450 : Index := Scalar.indexCast v449
  let c0_440 : Index := 0#32
  ![0, v450.toNat, 0]

def k0_chk87 (v449 : BitVec 32) : Prop :=
  (∀ a, (k0_off88 v449) a + S1x1x512.size a ≤ S1x512x512.size a)
theorem k0_off88_inb : ∀ (v449 : BitVec 32) (k0_hw87 : k0_chk87 v449), ∀ a, (k0_off88 v449) a + S1x1x512.size a ≤ S1x512x512.size a := fun v449 k0_hw87 => k0_hw87

def k0_off89 (v453 : BitVec 32) : Fin 3 → Nat :=
  let c0_443 : Index := 0#32
  let v454 : Index := Scalar.indexCast v453
  let c0_444 : Index := 0#32
  ![0, v454.toNat, 0]

def k0_chk88 (v453 : BitVec 32) : Prop :=
  (∀ a, (k0_off89 v453) a + S1x1x512.size a ≤ S1x512x512.size a)
theorem k0_off89_inb : ∀ (v453 : BitVec 32) (k0_hw88 : k0_chk88 v453), ∀ a, (k0_off89 v453) a + S1x1x512.size a ≤ S1x512x512.size a := fun v453 k0_hw88 => k0_hw88

def k0_off90 (v457 : BitVec 32) : Fin 3 → Nat :=
  let c0_448 : Index := 0#32
  let v458 : Index := Scalar.indexCast v457
  let c0_449 : Index := 0#32
  ![0, v458.toNat, 0]

def k0_chk89 (v457 : BitVec 32) : Prop :=
  (∀ a, (k0_off90 v457) a + S1x1x512.size a ≤ S1x512x512.size a)
theorem k0_off90_inb : ∀ (v457 : BitVec 32) (k0_hw89 : k0_chk89 v457), ∀ a, (k0_off90 v457) a + S1x1x512.size a ≤ S1x512x512.size a := fun v457 k0_hw89 => k0_hw89

def k0_off91 (v461 : BitVec 32) : Fin 3 → Nat :=
  let c0_453 : Index := 0#32
  let v462 : Index := Scalar.indexCast v461
  let c0_454 : Index := 0#32
  ![0, v462.toNat, 0]

def k0_chk90 (v461 : BitVec 32) : Prop :=
  (∀ a, (k0_off91 v461) a + S1x1x512.size a ≤ S1x512x512.size a)
theorem k0_off91_inb : ∀ (v461 : BitVec 32) (k0_hw90 : k0_chk90 v461), ∀ a, (k0_off91 v461) a + S1x1x512.size a ≤ S1x512x512.size a := fun v461 k0_hw90 => k0_hw90

def k0_off92 (v465 : BitVec 32) : Fin 3 → Nat :=
  let c0_458 : Index := 0#32
  let v466 : Index := Scalar.indexCast v465
  let c0_459 : Index := 0#32
  ![0, v466.toNat, 0]

def k0_chk91 (v465 : BitVec 32) : Prop :=
  (∀ a, (k0_off92 v465) a + S1x1x512.size a ≤ S1x512x512.size a)
theorem k0_off92_inb : ∀ (v465 : BitVec 32) (k0_hw91 : k0_chk91 v465), ∀ a, (k0_off92 v465) a + S1x1x512.size a ≤ S1x512x512.size a := fun v465 k0_hw91 => k0_hw91

def k0_off93 (v469 : BitVec 32) : Fin 3 → Nat :=
  let c0_463 : Index := 0#32
  let v470 : Index := Scalar.indexCast v469
  let c0_464 : Index := 0#32
  ![0, v470.toNat, 0]

def k0_chk92 (v469 : BitVec 32) : Prop :=
  (∀ a, (k0_off93 v469) a + S1x1x512.size a ≤ S1x512x512.size a)
theorem k0_off93_inb : ∀ (v469 : BitVec 32) (k0_hw92 : k0_chk92 v469), ∀ a, (k0_off93 v469) a + S1x1x512.size a ≤ S1x512x512.size a := fun v469 k0_hw92 => k0_hw92

def k0_off94 (v473 : BitVec 32) : Fin 3 → Nat :=
  let c0_468 : Index := 0#32
  let v474 : Index := Scalar.indexCast v473
  let c0_469 : Index := 0#32
  ![0, v474.toNat, 0]

def k0_chk93 (v473 : BitVec 32) : Prop :=
  (∀ a, (k0_off94 v473) a + S1x1x512.size a ≤ S1x512x512.size a)
theorem k0_off94_inb : ∀ (v473 : BitVec 32) (k0_hw93 : k0_chk93 v473), ∀ a, (k0_off94 v473) a + S1x1x512.size a ≤ S1x512x512.size a := fun v473 k0_hw93 => k0_hw93

def k0_off95 (v477 : BitVec 32) : Fin 3 → Nat :=
  let c0_473 : Index := 0#32
  let v478 : Index := Scalar.indexCast v477
  let c0_474 : Index := 0#32
  ![0, v478.toNat, 0]

def k0_chk94 (v477 : BitVec 32) : Prop :=
  (∀ a, (k0_off95 v477) a + S1x1x512.size a ≤ S1x512x512.size a)
theorem k0_off95_inb : ∀ (v477 : BitVec 32) (k0_hw94 : k0_chk94 v477), ∀ a, (k0_off95 v477) a + S1x1x512.size a ≤ S1x512x512.size a := fun v477 k0_hw94 => k0_hw94

def k0_off96 (v481 : BitVec 32) : Fin 3 → Nat :=
  let c0_478 : Index := 0#32
  let v482 : Index := Scalar.indexCast v481
  let c0_479 : Index := 0#32
  ![0, v482.toNat, 0]

def k0_chk95 (v481 : BitVec 32) : Prop :=
  (∀ a, (k0_off96 v481) a + S1x1x512.size a ≤ S1x512x512.size a)
theorem k0_off96_inb : ∀ (v481 : BitVec 32) (k0_hw95 : k0_chk95 v481), ∀ a, (k0_off96 v481) a + S1x1x512.size a ≤ S1x512x512.size a := fun v481 k0_hw95 => k0_hw95

def k0_off97 (v485 : BitVec 32) : Fin 3 → Nat :=
  let c0_483 : Index := 0#32
  let v486 : Index := Scalar.indexCast v485
  let c0_484 : Index := 0#32
  ![0, v486.toNat, 0]

def k0_chk96 (v485 : BitVec 32) : Prop :=
  (∀ a, (k0_off97 v485) a + S1x1x512.size a ≤ S1x512x512.size a)
theorem k0_off97_inb : ∀ (v485 : BitVec 32) (k0_hw96 : k0_chk96 v485), ∀ a, (k0_off97 v485) a + S1x1x512.size a ≤ S1x512x512.size a := fun v485 k0_hw96 => k0_hw96

def k0_off98 (v510 : BitVec 32) : Fin 3 → Nat :=
  let c0_498 : Index := 0#32
  let v511 : Index := Scalar.indexCast v510
  let c0_499 : Index := 0#32
  ![0, v511.toNat, 0]

def k0_chk97 (v510 : BitVec 32) : Prop :=
  (∀ a, (k0_off98 v510) a + S1x1x512.size a ≤ S1x512x512.size a)
theorem k0_off98_inb : ∀ (v510 : BitVec 32) (k0_hw97 : k0_chk97 v510), ∀ a, (k0_off98 v510) a + S1x1x512.size a ≤ S1x512x512.size a := fun v510 k0_hw97 => k0_hw97

def k0_off99 (v514 : BitVec 32) : Fin 3 → Nat :=
  let c0_502 : Index := 0#32
  let v515 : Index := Scalar.indexCast v514
  let c0_503 : Index := 0#32
  ![0, v515.toNat, 0]

def k0_chk98 (v514 : BitVec 32) : Prop :=
  (∀ a, (k0_off99 v514) a + S1x1x512.size a ≤ S1x512x512.size a)
theorem k0_off99_inb : ∀ (v514 : BitVec 32) (k0_hw98 : k0_chk98 v514), ∀ a, (k0_off99 v514) a + S1x1x512.size a ≤ S1x512x512.size a := fun v514 k0_hw98 => k0_hw98

def k0_off100 (v518 : BitVec 32) : Fin 3 → Nat :=
  let c0_506 : Index := 0#32
  let v519 : Index := Scalar.indexCast v518
  let c0_507 : Index := 0#32
  ![0, v519.toNat, 0]

def k0_chk99 (v518 : BitVec 32) : Prop :=
  (∀ a, (k0_off100 v518) a + S1x1x512.size a ≤ S1x512x512.size a)
theorem k0_off100_inb : ∀ (v518 : BitVec 32) (k0_hw99 : k0_chk99 v518), ∀ a, (k0_off100 v518) a + S1x1x512.size a ≤ S1x512x512.size a := fun v518 k0_hw99 => k0_hw99

def k0_off101 (v522 : BitVec 32) : Fin 3 → Nat :=
  let c0_510 : Index := 0#32
  let v523 : Index := Scalar.indexCast v522
  let c0_511 : Index := 0#32
  ![0, v523.toNat, 0]

def k0_chk100 (v522 : BitVec 32) : Prop :=
  (∀ a, (k0_off101 v522) a + S1x1x512.size a ≤ S1x512x512.size a)
theorem k0_off101_inb : ∀ (v522 : BitVec 32) (k0_hw100 : k0_chk100 v522), ∀ a, (k0_off101 v522) a + S1x1x512.size a ≤ S1x512x512.size a := fun v522 k0_hw100 => k0_hw100

def k0_off102 (v526 : BitVec 32) : Fin 3 → Nat :=
  let c0_514 : Index := 0#32
  let v527 : Index := Scalar.indexCast v526
  let c0_515 : Index := 0#32
  ![0, v527.toNat, 0]

def k0_chk101 (v526 : BitVec 32) : Prop :=
  (∀ a, (k0_off102 v526) a + S1x1x512.size a ≤ S1x512x512.size a)
theorem k0_off102_inb : ∀ (v526 : BitVec 32) (k0_hw101 : k0_chk101 v526), ∀ a, (k0_off102 v526) a + S1x1x512.size a ≤ S1x512x512.size a := fun v526 k0_hw101 => k0_hw101

def k0_off103 (v530 : BitVec 32) : Fin 3 → Nat :=
  let c0_518 : Index := 0#32
  let v531 : Index := Scalar.indexCast v530
  let c0_519 : Index := 0#32
  ![0, v531.toNat, 0]

def k0_chk102 (v530 : BitVec 32) : Prop :=
  (∀ a, (k0_off103 v530) a + S1x1x512.size a ≤ S1x512x512.size a)
theorem k0_off103_inb : ∀ (v530 : BitVec 32) (k0_hw102 : k0_chk102 v530), ∀ a, (k0_off103 v530) a + S1x1x512.size a ≤ S1x512x512.size a := fun v530 k0_hw102 => k0_hw102

def k0_off104 (v534 : BitVec 32) : Fin 3 → Nat :=
  let c0_522 : Index := 0#32
  let v535 : Index := Scalar.indexCast v534
  let c0_523 : Index := 0#32
  ![0, v535.toNat, 0]

def k0_chk103 (v534 : BitVec 32) : Prop :=
  (∀ a, (k0_off104 v534) a + S1x1x512.size a ≤ S1x512x512.size a)
theorem k0_off104_inb : ∀ (v534 : BitVec 32) (k0_hw103 : k0_chk103 v534), ∀ a, (k0_off104 v534) a + S1x1x512.size a ≤ S1x512x512.size a := fun v534 k0_hw103 => k0_hw103

def k0_off105 (v538 : BitVec 32) : Fin 3 → Nat :=
  let c0_526 : Index := 0#32
  let v539 : Index := Scalar.indexCast v538
  let c0_527 : Index := 0#32
  ![0, v539.toNat, 0]

def k0_chk104 (v538 : BitVec 32) : Prop :=
  (∀ a, (k0_off105 v538) a + S1x1x512.size a ≤ S1x512x512.size a)
theorem k0_off105_inb : ∀ (v538 : BitVec 32) (k0_hw104 : k0_chk104 v538), ∀ a, (k0_off105 v538) a + S1x1x512.size a ≤ S1x512x512.size a := fun v538 k0_hw104 => k0_hw104

def k0_off106 (v542 : BitVec 32) : Fin 3 → Nat :=
  let c0_531 : Index := 0#32
  let v543 : Index := Scalar.indexCast v542
  let c0_532 : Index := 0#32
  ![0, v543.toNat, 0]

def k0_chk105 (v542 : BitVec 32) : Prop :=
  (∀ a, (k0_off106 v542) a + S1x1x512.size a ≤ S1x512x512.size a)
theorem k0_off106_inb : ∀ (v542 : BitVec 32) (k0_hw105 : k0_chk105 v542), ∀ a, (k0_off106 v542) a + S1x1x512.size a ≤ S1x512x512.size a := fun v542 k0_hw105 => k0_hw105

def k0_off107 (v546 : BitVec 32) : Fin 3 → Nat :=
  let c0_536 : Index := 0#32
  let v547 : Index := Scalar.indexCast v546
  let c0_537 : Index := 0#32
  ![0, v547.toNat, 0]

def k0_chk106 (v546 : BitVec 32) : Prop :=
  (∀ a, (k0_off107 v546) a + S1x1x512.size a ≤ S1x512x512.size a)
theorem k0_off107_inb : ∀ (v546 : BitVec 32) (k0_hw106 : k0_chk106 v546), ∀ a, (k0_off107 v546) a + S1x1x512.size a ≤ S1x512x512.size a := fun v546 k0_hw106 => k0_hw106

def k0_off108 (v550 : BitVec 32) : Fin 3 → Nat :=
  let c0_541 : Index := 0#32
  let v551 : Index := Scalar.indexCast v550
  let c0_542 : Index := 0#32
  ![0, v551.toNat, 0]

def k0_chk107 (v550 : BitVec 32) : Prop :=
  (∀ a, (k0_off108 v550) a + S1x1x512.size a ≤ S1x512x512.size a)
theorem k0_off108_inb : ∀ (v550 : BitVec 32) (k0_hw107 : k0_chk107 v550), ∀ a, (k0_off108 v550) a + S1x1x512.size a ≤ S1x512x512.size a := fun v550 k0_hw107 => k0_hw107

def k0_off109 (v554 : BitVec 32) : Fin 3 → Nat :=
  let c0_546 : Index := 0#32
  let v555 : Index := Scalar.indexCast v554
  let c0_547 : Index := 0#32
  ![0, v555.toNat, 0]

def k0_chk108 (v554 : BitVec 32) : Prop :=
  (∀ a, (k0_off109 v554) a + S1x1x512.size a ≤ S1x512x512.size a)
theorem k0_off109_inb : ∀ (v554 : BitVec 32) (k0_hw108 : k0_chk108 v554), ∀ a, (k0_off109 v554) a + S1x1x512.size a ≤ S1x512x512.size a := fun v554 k0_hw108 => k0_hw108

def k0_off110 (v558 : BitVec 32) : Fin 3 → Nat :=
  let c0_551 : Index := 0#32
  let v559 : Index := Scalar.indexCast v558
  let c0_552 : Index := 0#32
  ![0, v559.toNat, 0]

def k0_chk109 (v558 : BitVec 32) : Prop :=
  (∀ a, (k0_off110 v558) a + S1x1x512.size a ≤ S1x512x512.size a)
theorem k0_off110_inb : ∀ (v558 : BitVec 32) (k0_hw109 : k0_chk109 v558), ∀ a, (k0_off110 v558) a + S1x1x512.size a ≤ S1x512x512.size a := fun v558 k0_hw109 => k0_hw109

def k0_off111 (v562 : BitVec 32) : Fin 3 → Nat :=
  let c0_556 : Index := 0#32
  let v563 : Index := Scalar.indexCast v562
  let c0_557 : Index := 0#32
  ![0, v563.toNat, 0]

def k0_chk110 (v562 : BitVec 32) : Prop :=
  (∀ a, (k0_off111 v562) a + S1x1x512.size a ≤ S1x512x512.size a)
theorem k0_off111_inb : ∀ (v562 : BitVec 32) (k0_hw110 : k0_chk110 v562), ∀ a, (k0_off111 v562) a + S1x1x512.size a ≤ S1x512x512.size a := fun v562 k0_hw110 => k0_hw110

def k0_off112 (v566 : BitVec 32) : Fin 3 → Nat :=
  let c0_561 : Index := 0#32
  let v567 : Index := Scalar.indexCast v566
  let c0_562 : Index := 0#32
  ![0, v567.toNat, 0]

def k0_chk111 (v566 : BitVec 32) : Prop :=
  (∀ a, (k0_off112 v566) a + S1x1x512.size a ≤ S1x512x512.size a)
theorem k0_off112_inb : ∀ (v566 : BitVec 32) (k0_hw111 : k0_chk111 v566), ∀ a, (k0_off112 v566) a + S1x1x512.size a ≤ S1x512x512.size a := fun v566 k0_hw111 => k0_hw111

def k0_off113 (v570 : BitVec 32) : Fin 3 → Nat :=
  let c0_566 : Index := 0#32
  let v571 : Index := Scalar.indexCast v570
  let c0_567 : Index := 0#32
  ![0, v571.toNat, 0]

def k0_chk112 (v570 : BitVec 32) : Prop :=
  (∀ a, (k0_off113 v570) a + S1x1x512.size a ≤ S1x512x512.size a)
theorem k0_off113_inb : ∀ (v570 : BitVec 32) (k0_hw112 : k0_chk112 v570), ∀ a, (k0_off113 v570) a + S1x1x512.size a ≤ S1x512x512.size a := fun v570 k0_hw112 => k0_hw112

def k0_off114 (v595 : BitVec 32) : Fin 3 → Nat :=
  let c0_581 : Index := 0#32
  let v596 : Index := Scalar.indexCast v595
  let c0_582 : Index := 0#32
  ![0, v596.toNat, 0]

def k0_chk113 (v595 : BitVec 32) : Prop :=
  (∀ a, (k0_off114 v595) a + S1x1x512.size a ≤ S1x512x512.size a)
theorem k0_off114_inb : ∀ (v595 : BitVec 32) (k0_hw113 : k0_chk113 v595), ∀ a, (k0_off114 v595) a + S1x1x512.size a ≤ S1x512x512.size a := fun v595 k0_hw113 => k0_hw113

def k0_off115 (v599 : BitVec 32) : Fin 3 → Nat :=
  let c0_585 : Index := 0#32
  let v600 : Index := Scalar.indexCast v599
  let c0_586 : Index := 0#32
  ![0, v600.toNat, 0]

def k0_chk114 (v599 : BitVec 32) : Prop :=
  (∀ a, (k0_off115 v599) a + S1x1x512.size a ≤ S1x512x512.size a)
theorem k0_off115_inb : ∀ (v599 : BitVec 32) (k0_hw114 : k0_chk114 v599), ∀ a, (k0_off115 v599) a + S1x1x512.size a ≤ S1x512x512.size a := fun v599 k0_hw114 => k0_hw114

def k0_off116 (v603 : BitVec 32) : Fin 3 → Nat :=
  let c0_589 : Index := 0#32
  let v604 : Index := Scalar.indexCast v603
  let c0_590 : Index := 0#32
  ![0, v604.toNat, 0]

def k0_chk115 (v603 : BitVec 32) : Prop :=
  (∀ a, (k0_off116 v603) a + S1x1x512.size a ≤ S1x512x512.size a)
theorem k0_off116_inb : ∀ (v603 : BitVec 32) (k0_hw115 : k0_chk115 v603), ∀ a, (k0_off116 v603) a + S1x1x512.size a ≤ S1x512x512.size a := fun v603 k0_hw115 => k0_hw115

def k0_off117 (v607 : BitVec 32) : Fin 3 → Nat :=
  let c0_593 : Index := 0#32
  let v608 : Index := Scalar.indexCast v607
  let c0_594 : Index := 0#32
  ![0, v608.toNat, 0]

def k0_chk116 (v607 : BitVec 32) : Prop :=
  (∀ a, (k0_off117 v607) a + S1x1x512.size a ≤ S1x512x512.size a)
theorem k0_off117_inb : ∀ (v607 : BitVec 32) (k0_hw116 : k0_chk116 v607), ∀ a, (k0_off117 v607) a + S1x1x512.size a ≤ S1x512x512.size a := fun v607 k0_hw116 => k0_hw116

def k0_off118 (v611 : BitVec 32) : Fin 3 → Nat :=
  let c0_597 : Index := 0#32
  let v612 : Index := Scalar.indexCast v611
  let c0_598 : Index := 0#32
  ![0, v612.toNat, 0]

def k0_chk117 (v611 : BitVec 32) : Prop :=
  (∀ a, (k0_off118 v611) a + S1x1x512.size a ≤ S1x512x512.size a)
theorem k0_off118_inb : ∀ (v611 : BitVec 32) (k0_hw117 : k0_chk117 v611), ∀ a, (k0_off118 v611) a + S1x1x512.size a ≤ S1x512x512.size a := fun v611 k0_hw117 => k0_hw117

def k0_off119 (v615 : BitVec 32) : Fin 3 → Nat :=
  let c0_601 : Index := 0#32
  let v616 : Index := Scalar.indexCast v615
  let c0_602 : Index := 0#32
  ![0, v616.toNat, 0]

def k0_chk118 (v615 : BitVec 32) : Prop :=
  (∀ a, (k0_off119 v615) a + S1x1x512.size a ≤ S1x512x512.size a)
theorem k0_off119_inb : ∀ (v615 : BitVec 32) (k0_hw118 : k0_chk118 v615), ∀ a, (k0_off119 v615) a + S1x1x512.size a ≤ S1x512x512.size a := fun v615 k0_hw118 => k0_hw118

def k0_off120 (v619 : BitVec 32) : Fin 3 → Nat :=
  let c0_605 : Index := 0#32
  let v620 : Index := Scalar.indexCast v619
  let c0_606 : Index := 0#32
  ![0, v620.toNat, 0]

def k0_chk119 (v619 : BitVec 32) : Prop :=
  (∀ a, (k0_off120 v619) a + S1x1x512.size a ≤ S1x512x512.size a)
theorem k0_off120_inb : ∀ (v619 : BitVec 32) (k0_hw119 : k0_chk119 v619), ∀ a, (k0_off120 v619) a + S1x1x512.size a ≤ S1x512x512.size a := fun v619 k0_hw119 => k0_hw119

def k0_off121 (v623 : BitVec 32) : Fin 3 → Nat :=
  let c0_609 : Index := 0#32
  let v624 : Index := Scalar.indexCast v623
  let c0_610 : Index := 0#32
  ![0, v624.toNat, 0]

def k0_chk120 (v623 : BitVec 32) : Prop :=
  (∀ a, (k0_off121 v623) a + S1x1x512.size a ≤ S1x512x512.size a)
theorem k0_off121_inb : ∀ (v623 : BitVec 32) (k0_hw120 : k0_chk120 v623), ∀ a, (k0_off121 v623) a + S1x1x512.size a ≤ S1x512x512.size a := fun v623 k0_hw120 => k0_hw120

def k0_off122 (v627 : BitVec 32) : Fin 3 → Nat :=
  let c0_614 : Index := 0#32
  let v628 : Index := Scalar.indexCast v627
  let c0_615 : Index := 0#32
  ![0, v628.toNat, 0]

def k0_chk121 (v627 : BitVec 32) : Prop :=
  (∀ a, (k0_off122 v627) a + S1x1x512.size a ≤ S1x512x512.size a)
theorem k0_off122_inb : ∀ (v627 : BitVec 32) (k0_hw121 : k0_chk121 v627), ∀ a, (k0_off122 v627) a + S1x1x512.size a ≤ S1x512x512.size a := fun v627 k0_hw121 => k0_hw121

def k0_off123 (v631 : BitVec 32) : Fin 3 → Nat :=
  let c0_619 : Index := 0#32
  let v632 : Index := Scalar.indexCast v631
  let c0_620 : Index := 0#32
  ![0, v632.toNat, 0]

def k0_chk122 (v631 : BitVec 32) : Prop :=
  (∀ a, (k0_off123 v631) a + S1x1x512.size a ≤ S1x512x512.size a)
theorem k0_off123_inb : ∀ (v631 : BitVec 32) (k0_hw122 : k0_chk122 v631), ∀ a, (k0_off123 v631) a + S1x1x512.size a ≤ S1x512x512.size a := fun v631 k0_hw122 => k0_hw122

def k0_off124 (v635 : BitVec 32) : Fin 3 → Nat :=
  let c0_624 : Index := 0#32
  let v636 : Index := Scalar.indexCast v635
  let c0_625 : Index := 0#32
  ![0, v636.toNat, 0]

def k0_chk123 (v635 : BitVec 32) : Prop :=
  (∀ a, (k0_off124 v635) a + S1x1x512.size a ≤ S1x512x512.size a)
theorem k0_off124_inb : ∀ (v635 : BitVec 32) (k0_hw123 : k0_chk123 v635), ∀ a, (k0_off124 v635) a + S1x1x512.size a ≤ S1x512x512.size a := fun v635 k0_hw123 => k0_hw123

def k0_off125 (v639 : BitVec 32) : Fin 3 → Nat :=
  let c0_629 : Index := 0#32
  let v640 : Index := Scalar.indexCast v639
  let c0_630 : Index := 0#32
  ![0, v640.toNat, 0]

def k0_chk124 (v639 : BitVec 32) : Prop :=
  (∀ a, (k0_off125 v639) a + S1x1x512.size a ≤ S1x512x512.size a)
theorem k0_off125_inb : ∀ (v639 : BitVec 32) (k0_hw124 : k0_chk124 v639), ∀ a, (k0_off125 v639) a + S1x1x512.size a ≤ S1x512x512.size a := fun v639 k0_hw124 => k0_hw124

def k0_off126 (v643 : BitVec 32) : Fin 3 → Nat :=
  let c0_634 : Index := 0#32
  let v644 : Index := Scalar.indexCast v643
  let c0_635 : Index := 0#32
  ![0, v644.toNat, 0]

def k0_chk125 (v643 : BitVec 32) : Prop :=
  (∀ a, (k0_off126 v643) a + S1x1x512.size a ≤ S1x512x512.size a)
theorem k0_off126_inb : ∀ (v643 : BitVec 32) (k0_hw125 : k0_chk125 v643), ∀ a, (k0_off126 v643) a + S1x1x512.size a ≤ S1x512x512.size a := fun v643 k0_hw125 => k0_hw125

def k0_off127 (v647 : BitVec 32) : Fin 3 → Nat :=
  let c0_639 : Index := 0#32
  let v648 : Index := Scalar.indexCast v647
  let c0_640 : Index := 0#32
  ![0, v648.toNat, 0]

def k0_chk126 (v647 : BitVec 32) : Prop :=
  (∀ a, (k0_off127 v647) a + S1x1x512.size a ≤ S1x512x512.size a)
theorem k0_off127_inb : ∀ (v647 : BitVec 32) (k0_hw126 : k0_chk126 v647), ∀ a, (k0_off127 v647) a + S1x1x512.size a ≤ S1x512x512.size a := fun v647 k0_hw126 => k0_hw126

def k0_off128 (v651 : BitVec 32) : Fin 3 → Nat :=
  let c0_644 : Index := 0#32
  let v652 : Index := Scalar.indexCast v651
  let c0_645 : Index := 0#32
  ![0, v652.toNat, 0]

def k0_chk127 (v651 : BitVec 32) : Prop :=
  (∀ a, (k0_off128 v651) a + S1x1x512.size a ≤ S1x512x512.size a)
theorem k0_off128_inb : ∀ (v651 : BitVec 32) (k0_hw127 : k0_chk127 v651), ∀ a, (k0_off128 v651) a + S1x1x512.size a ≤ S1x512x512.size a := fun v651 k0_hw127 => k0_hw127

def k0_off129 (v655 : BitVec 32) : Fin 3 → Nat :=
  let c0_649 : Index := 0#32
  let v656 : Index := Scalar.indexCast v655
  let c0_650 : Index := 0#32
  ![0, v656.toNat, 0]

def k0_chk128 (v655 : BitVec 32) : Prop :=
  (∀ a, (k0_off129 v655) a + S1x1x512.size a ≤ S1x512x512.size a)
theorem k0_off129_inb : ∀ (v655 : BitVec 32) (k0_hw128 : k0_chk128 v655), ∀ a, (k0_off129 v655) a + S1x1x512.size a ≤ S1x512x512.size a := fun v655 k0_hw128 => k0_hw128

def k0_off130 (v680 : BitVec 32) : Fin 3 → Nat :=
  let c0_664 : Index := 0#32
  let v681 : Index := Scalar.indexCast v680
  let c0_665 : Index := 0#32
  ![0, v681.toNat, 0]

def k0_chk129 (v680 : BitVec 32) : Prop :=
  (∀ a, (k0_off130 v680) a + S1x1x512.size a ≤ S1x512x512.size a)
theorem k0_off130_inb : ∀ (v680 : BitVec 32) (k0_hw129 : k0_chk129 v680), ∀ a, (k0_off130 v680) a + S1x1x512.size a ≤ S1x512x512.size a := fun v680 k0_hw129 => k0_hw129

def k0_off131 (v684 : BitVec 32) : Fin 3 → Nat :=
  let c0_668 : Index := 0#32
  let v685 : Index := Scalar.indexCast v684
  let c0_669 : Index := 0#32
  ![0, v685.toNat, 0]

def k0_chk130 (v684 : BitVec 32) : Prop :=
  (∀ a, (k0_off131 v684) a + S1x1x512.size a ≤ S1x512x512.size a)
theorem k0_off131_inb : ∀ (v684 : BitVec 32) (k0_hw130 : k0_chk130 v684), ∀ a, (k0_off131 v684) a + S1x1x512.size a ≤ S1x512x512.size a := fun v684 k0_hw130 => k0_hw130

def k0_off132 (v688 : BitVec 32) : Fin 3 → Nat :=
  let c0_672 : Index := 0#32
  let v689 : Index := Scalar.indexCast v688
  let c0_673 : Index := 0#32
  ![0, v689.toNat, 0]

def k0_chk131 (v688 : BitVec 32) : Prop :=
  (∀ a, (k0_off132 v688) a + S1x1x512.size a ≤ S1x512x512.size a)
theorem k0_off132_inb : ∀ (v688 : BitVec 32) (k0_hw131 : k0_chk131 v688), ∀ a, (k0_off132 v688) a + S1x1x512.size a ≤ S1x512x512.size a := fun v688 k0_hw131 => k0_hw131

def k0_off133 (v692 : BitVec 32) : Fin 3 → Nat :=
  let c0_676 : Index := 0#32
  let v693 : Index := Scalar.indexCast v692
  let c0_677 : Index := 0#32
  ![0, v693.toNat, 0]

def k0_chk132 (v692 : BitVec 32) : Prop :=
  (∀ a, (k0_off133 v692) a + S1x1x512.size a ≤ S1x512x512.size a)
theorem k0_off133_inb : ∀ (v692 : BitVec 32) (k0_hw132 : k0_chk132 v692), ∀ a, (k0_off133 v692) a + S1x1x512.size a ≤ S1x512x512.size a := fun v692 k0_hw132 => k0_hw132

def k0_off134 (v696 : BitVec 32) : Fin 3 → Nat :=
  let c0_680 : Index := 0#32
  let v697 : Index := Scalar.indexCast v696
  let c0_681 : Index := 0#32
  ![0, v697.toNat, 0]

def k0_chk133 (v696 : BitVec 32) : Prop :=
  (∀ a, (k0_off134 v696) a + S1x1x512.size a ≤ S1x512x512.size a)
theorem k0_off134_inb : ∀ (v696 : BitVec 32) (k0_hw133 : k0_chk133 v696), ∀ a, (k0_off134 v696) a + S1x1x512.size a ≤ S1x512x512.size a := fun v696 k0_hw133 => k0_hw133

def k0_off135 (v700 : BitVec 32) : Fin 3 → Nat :=
  let c0_684 : Index := 0#32
  let v701 : Index := Scalar.indexCast v700
  let c0_685 : Index := 0#32
  ![0, v701.toNat, 0]

def k0_chk134 (v700 : BitVec 32) : Prop :=
  (∀ a, (k0_off135 v700) a + S1x1x512.size a ≤ S1x512x512.size a)
theorem k0_off135_inb : ∀ (v700 : BitVec 32) (k0_hw134 : k0_chk134 v700), ∀ a, (k0_off135 v700) a + S1x1x512.size a ≤ S1x512x512.size a := fun v700 k0_hw134 => k0_hw134

def k0_off136 (v704 : BitVec 32) : Fin 3 → Nat :=
  let c0_688 : Index := 0#32
  let v705 : Index := Scalar.indexCast v704
  let c0_689 : Index := 0#32
  ![0, v705.toNat, 0]

def k0_chk135 (v704 : BitVec 32) : Prop :=
  (∀ a, (k0_off136 v704) a + S1x1x512.size a ≤ S1x512x512.size a)
theorem k0_off136_inb : ∀ (v704 : BitVec 32) (k0_hw135 : k0_chk135 v704), ∀ a, (k0_off136 v704) a + S1x1x512.size a ≤ S1x512x512.size a := fun v704 k0_hw135 => k0_hw135

def k0_off137 (v708 : BitVec 32) : Fin 3 → Nat :=
  let c0_692 : Index := 0#32
  let v709 : Index := Scalar.indexCast v708
  let c0_693 : Index := 0#32
  ![0, v709.toNat, 0]

def k0_chk136 (v708 : BitVec 32) : Prop :=
  (∀ a, (k0_off137 v708) a + S1x1x512.size a ≤ S1x512x512.size a)
theorem k0_off137_inb : ∀ (v708 : BitVec 32) (k0_hw136 : k0_chk136 v708), ∀ a, (k0_off137 v708) a + S1x1x512.size a ≤ S1x512x512.size a := fun v708 k0_hw136 => k0_hw136

def k0_off138 (v712 : BitVec 32) : Fin 3 → Nat :=
  let c0_697 : Index := 0#32
  let v713 : Index := Scalar.indexCast v712
  let c0_698 : Index := 0#32
  ![0, v713.toNat, 0]

def k0_chk137 (v712 : BitVec 32) : Prop :=
  (∀ a, (k0_off138 v712) a + S1x1x512.size a ≤ S1x512x512.size a)
theorem k0_off138_inb : ∀ (v712 : BitVec 32) (k0_hw137 : k0_chk137 v712), ∀ a, (k0_off138 v712) a + S1x1x512.size a ≤ S1x512x512.size a := fun v712 k0_hw137 => k0_hw137

def k0_off139 (v716 : BitVec 32) : Fin 3 → Nat :=
  let c0_702 : Index := 0#32
  let v717 : Index := Scalar.indexCast v716
  let c0_703 : Index := 0#32
  ![0, v717.toNat, 0]

def k0_chk138 (v716 : BitVec 32) : Prop :=
  (∀ a, (k0_off139 v716) a + S1x1x512.size a ≤ S1x512x512.size a)
theorem k0_off139_inb : ∀ (v716 : BitVec 32) (k0_hw138 : k0_chk138 v716), ∀ a, (k0_off139 v716) a + S1x1x512.size a ≤ S1x512x512.size a := fun v716 k0_hw138 => k0_hw138

def k0_off140 (v720 : BitVec 32) : Fin 3 → Nat :=
  let c0_707 : Index := 0#32
  let v721 : Index := Scalar.indexCast v720
  let c0_708 : Index := 0#32
  ![0, v721.toNat, 0]

def k0_chk139 (v720 : BitVec 32) : Prop :=
  (∀ a, (k0_off140 v720) a + S1x1x512.size a ≤ S1x512x512.size a)
theorem k0_off140_inb : ∀ (v720 : BitVec 32) (k0_hw139 : k0_chk139 v720), ∀ a, (k0_off140 v720) a + S1x1x512.size a ≤ S1x512x512.size a := fun v720 k0_hw139 => k0_hw139

def k0_off141 (v724 : BitVec 32) : Fin 3 → Nat :=
  let c0_712 : Index := 0#32
  let v725 : Index := Scalar.indexCast v724
  let c0_713 : Index := 0#32
  ![0, v725.toNat, 0]

def k0_chk140 (v724 : BitVec 32) : Prop :=
  (∀ a, (k0_off141 v724) a + S1x1x512.size a ≤ S1x512x512.size a)
theorem k0_off141_inb : ∀ (v724 : BitVec 32) (k0_hw140 : k0_chk140 v724), ∀ a, (k0_off141 v724) a + S1x1x512.size a ≤ S1x512x512.size a := fun v724 k0_hw140 => k0_hw140

def k0_off142 (v728 : BitVec 32) : Fin 3 → Nat :=
  let c0_717 : Index := 0#32
  let v729 : Index := Scalar.indexCast v728
  let c0_718 : Index := 0#32
  ![0, v729.toNat, 0]

def k0_chk141 (v728 : BitVec 32) : Prop :=
  (∀ a, (k0_off142 v728) a + S1x1x512.size a ≤ S1x512x512.size a)
theorem k0_off142_inb : ∀ (v728 : BitVec 32) (k0_hw141 : k0_chk141 v728), ∀ a, (k0_off142 v728) a + S1x1x512.size a ≤ S1x512x512.size a := fun v728 k0_hw141 => k0_hw141

def k0_off143 (v732 : BitVec 32) : Fin 3 → Nat :=
  let c0_722 : Index := 0#32
  let v733 : Index := Scalar.indexCast v732
  let c0_723 : Index := 0#32
  ![0, v733.toNat, 0]

def k0_chk142 (v732 : BitVec 32) : Prop :=
  (∀ a, (k0_off143 v732) a + S1x1x512.size a ≤ S1x512x512.size a)
theorem k0_off143_inb : ∀ (v732 : BitVec 32) (k0_hw142 : k0_chk142 v732), ∀ a, (k0_off143 v732) a + S1x1x512.size a ≤ S1x512x512.size a := fun v732 k0_hw142 => k0_hw142

def k0_off144 (v736 : BitVec 32) : Fin 3 → Nat :=
  let c0_727 : Index := 0#32
  let v737 : Index := Scalar.indexCast v736
  let c0_728 : Index := 0#32
  ![0, v737.toNat, 0]

def k0_chk143 (v736 : BitVec 32) : Prop :=
  (∀ a, (k0_off144 v736) a + S1x1x512.size a ≤ S1x512x512.size a)
theorem k0_off144_inb : ∀ (v736 : BitVec 32) (k0_hw143 : k0_chk143 v736), ∀ a, (k0_off144 v736) a + S1x1x512.size a ≤ S1x512x512.size a := fun v736 k0_hw143 => k0_hw143

def k0_off145 (v740 : BitVec 32) : Fin 3 → Nat :=
  let c0_732 : Index := 0#32
  let v741 : Index := Scalar.indexCast v740
  let c0_733 : Index := 0#32
  ![0, v741.toNat, 0]

def k0_chk144 (v740 : BitVec 32) : Prop :=
  (∀ a, (k0_off145 v740) a + S1x1x512.size a ≤ S1x512x512.size a)
theorem k0_off145_inb : ∀ (v740 : BitVec 32) (k0_hw144 : k0_chk144 v740), ∀ a, (k0_off145 v740) a + S1x1x512.size a ≤ S1x512x512.size a := fun v740 k0_hw144 => k0_hw144

def k0_off146 (v765 : BitVec 32) : Fin 3 → Nat :=
  let c0_747 : Index := 0#32
  let v766 : Index := Scalar.indexCast v765
  let c0_748 : Index := 0#32
  ![0, v766.toNat, 0]

def k0_chk145 (v765 : BitVec 32) : Prop :=
  (∀ a, (k0_off146 v765) a + S1x1x512.size a ≤ S1x512x512.size a)
theorem k0_off146_inb : ∀ (v765 : BitVec 32) (k0_hw145 : k0_chk145 v765), ∀ a, (k0_off146 v765) a + S1x1x512.size a ≤ S1x512x512.size a := fun v765 k0_hw145 => k0_hw145

def k0_off147 (v769 : BitVec 32) : Fin 3 → Nat :=
  let c0_751 : Index := 0#32
  let v770 : Index := Scalar.indexCast v769
  let c0_752 : Index := 0#32
  ![0, v770.toNat, 0]

def k0_chk146 (v769 : BitVec 32) : Prop :=
  (∀ a, (k0_off147 v769) a + S1x1x512.size a ≤ S1x512x512.size a)
theorem k0_off147_inb : ∀ (v769 : BitVec 32) (k0_hw146 : k0_chk146 v769), ∀ a, (k0_off147 v769) a + S1x1x512.size a ≤ S1x512x512.size a := fun v769 k0_hw146 => k0_hw146

def k0_off148 (v773 : BitVec 32) : Fin 3 → Nat :=
  let c0_755 : Index := 0#32
  let v774 : Index := Scalar.indexCast v773
  let c0_756 : Index := 0#32
  ![0, v774.toNat, 0]

def k0_chk147 (v773 : BitVec 32) : Prop :=
  (∀ a, (k0_off148 v773) a + S1x1x512.size a ≤ S1x512x512.size a)
theorem k0_off148_inb : ∀ (v773 : BitVec 32) (k0_hw147 : k0_chk147 v773), ∀ a, (k0_off148 v773) a + S1x1x512.size a ≤ S1x512x512.size a := fun v773 k0_hw147 => k0_hw147

def k0_off149 (v777 : BitVec 32) : Fin 3 → Nat :=
  let c0_759 : Index := 0#32
  let v778 : Index := Scalar.indexCast v777
  let c0_760 : Index := 0#32
  ![0, v778.toNat, 0]

def k0_chk148 (v777 : BitVec 32) : Prop :=
  (∀ a, (k0_off149 v777) a + S1x1x512.size a ≤ S1x512x512.size a)
theorem k0_off149_inb : ∀ (v777 : BitVec 32) (k0_hw148 : k0_chk148 v777), ∀ a, (k0_off149 v777) a + S1x1x512.size a ≤ S1x512x512.size a := fun v777 k0_hw148 => k0_hw148

def k0_off150 (v781 : BitVec 32) : Fin 3 → Nat :=
  let c0_763 : Index := 0#32
  let v782 : Index := Scalar.indexCast v781
  let c0_764 : Index := 0#32
  ![0, v782.toNat, 0]

def k0_chk149 (v781 : BitVec 32) : Prop :=
  (∀ a, (k0_off150 v781) a + S1x1x512.size a ≤ S1x512x512.size a)
theorem k0_off150_inb : ∀ (v781 : BitVec 32) (k0_hw149 : k0_chk149 v781), ∀ a, (k0_off150 v781) a + S1x1x512.size a ≤ S1x512x512.size a := fun v781 k0_hw149 => k0_hw149

def k0_off151 (v785 : BitVec 32) : Fin 3 → Nat :=
  let c0_767 : Index := 0#32
  let v786 : Index := Scalar.indexCast v785
  let c0_768 : Index := 0#32
  ![0, v786.toNat, 0]

def k0_chk150 (v785 : BitVec 32) : Prop :=
  (∀ a, (k0_off151 v785) a + S1x1x512.size a ≤ S1x512x512.size a)
theorem k0_off151_inb : ∀ (v785 : BitVec 32) (k0_hw150 : k0_chk150 v785), ∀ a, (k0_off151 v785) a + S1x1x512.size a ≤ S1x512x512.size a := fun v785 k0_hw150 => k0_hw150

def k0_off152 (v789 : BitVec 32) : Fin 3 → Nat :=
  let c0_771 : Index := 0#32
  let v790 : Index := Scalar.indexCast v789
  let c0_772 : Index := 0#32
  ![0, v790.toNat, 0]

def k0_chk151 (v789 : BitVec 32) : Prop :=
  (∀ a, (k0_off152 v789) a + S1x1x512.size a ≤ S1x512x512.size a)
theorem k0_off152_inb : ∀ (v789 : BitVec 32) (k0_hw151 : k0_chk151 v789), ∀ a, (k0_off152 v789) a + S1x1x512.size a ≤ S1x512x512.size a := fun v789 k0_hw151 => k0_hw151

def k0_off153 (v793 : BitVec 32) : Fin 3 → Nat :=
  let c0_775 : Index := 0#32
  let v794 : Index := Scalar.indexCast v793
  let c0_776 : Index := 0#32
  ![0, v794.toNat, 0]

def k0_chk152 (v793 : BitVec 32) : Prop :=
  (∀ a, (k0_off153 v793) a + S1x1x512.size a ≤ S1x512x512.size a)
theorem k0_off153_inb : ∀ (v793 : BitVec 32) (k0_hw152 : k0_chk152 v793), ∀ a, (k0_off153 v793) a + S1x1x512.size a ≤ S1x512x512.size a := fun v793 k0_hw152 => k0_hw152

def k0_off154 (v797 : BitVec 32) : Fin 3 → Nat :=
  let c0_780 : Index := 0#32
  let v798 : Index := Scalar.indexCast v797
  let c0_781 : Index := 0#32
  ![0, v798.toNat, 0]

def k0_chk153 (v797 : BitVec 32) : Prop :=
  (∀ a, (k0_off154 v797) a + S1x1x512.size a ≤ S1x512x512.size a)
theorem k0_off154_inb : ∀ (v797 : BitVec 32) (k0_hw153 : k0_chk153 v797), ∀ a, (k0_off154 v797) a + S1x1x512.size a ≤ S1x512x512.size a := fun v797 k0_hw153 => k0_hw153

def k0_off155 (v801 : BitVec 32) : Fin 3 → Nat :=
  let c0_785 : Index := 0#32
  let v802 : Index := Scalar.indexCast v801
  let c0_786 : Index := 0#32
  ![0, v802.toNat, 0]

def k0_chk154 (v801 : BitVec 32) : Prop :=
  (∀ a, (k0_off155 v801) a + S1x1x512.size a ≤ S1x512x512.size a)
theorem k0_off155_inb : ∀ (v801 : BitVec 32) (k0_hw154 : k0_chk154 v801), ∀ a, (k0_off155 v801) a + S1x1x512.size a ≤ S1x512x512.size a := fun v801 k0_hw154 => k0_hw154

def k0_off156 (v805 : BitVec 32) : Fin 3 → Nat :=
  let c0_790 : Index := 0#32
  let v806 : Index := Scalar.indexCast v805
  let c0_791 : Index := 0#32
  ![0, v806.toNat, 0]

def k0_chk155 (v805 : BitVec 32) : Prop :=
  (∀ a, (k0_off156 v805) a + S1x1x512.size a ≤ S1x512x512.size a)
theorem k0_off156_inb : ∀ (v805 : BitVec 32) (k0_hw155 : k0_chk155 v805), ∀ a, (k0_off156 v805) a + S1x1x512.size a ≤ S1x512x512.size a := fun v805 k0_hw155 => k0_hw155

def k0_off157 (v809 : BitVec 32) : Fin 3 → Nat :=
  let c0_795 : Index := 0#32
  let v810 : Index := Scalar.indexCast v809
  let c0_796 : Index := 0#32
  ![0, v810.toNat, 0]

def k0_chk156 (v809 : BitVec 32) : Prop :=
  (∀ a, (k0_off157 v809) a + S1x1x512.size a ≤ S1x512x512.size a)
theorem k0_off157_inb : ∀ (v809 : BitVec 32) (k0_hw156 : k0_chk156 v809), ∀ a, (k0_off157 v809) a + S1x1x512.size a ≤ S1x512x512.size a := fun v809 k0_hw156 => k0_hw156

def k0_off158 (v813 : BitVec 32) : Fin 3 → Nat :=
  let c0_800 : Index := 0#32
  let v814 : Index := Scalar.indexCast v813
  let c0_801 : Index := 0#32
  ![0, v814.toNat, 0]

def k0_chk157 (v813 : BitVec 32) : Prop :=
  (∀ a, (k0_off158 v813) a + S1x1x512.size a ≤ S1x512x512.size a)
theorem k0_off158_inb : ∀ (v813 : BitVec 32) (k0_hw157 : k0_chk157 v813), ∀ a, (k0_off158 v813) a + S1x1x512.size a ≤ S1x512x512.size a := fun v813 k0_hw157 => k0_hw157

def k0_off159 (v817 : BitVec 32) : Fin 3 → Nat :=
  let c0_805 : Index := 0#32
  let v818 : Index := Scalar.indexCast v817
  let c0_806 : Index := 0#32
  ![0, v818.toNat, 0]

def k0_chk158 (v817 : BitVec 32) : Prop :=
  (∀ a, (k0_off159 v817) a + S1x1x512.size a ≤ S1x512x512.size a)
theorem k0_off159_inb : ∀ (v817 : BitVec 32) (k0_hw158 : k0_chk158 v817), ∀ a, (k0_off159 v817) a + S1x1x512.size a ≤ S1x512x512.size a := fun v817 k0_hw158 => k0_hw158

def k0_off160 (v821 : BitVec 32) : Fin 3 → Nat :=
  let c0_810 : Index := 0#32
  let v822 : Index := Scalar.indexCast v821
  let c0_811 : Index := 0#32
  ![0, v822.toNat, 0]

def k0_chk159 (v821 : BitVec 32) : Prop :=
  (∀ a, (k0_off160 v821) a + S1x1x512.size a ≤ S1x512x512.size a)
theorem k0_off160_inb : ∀ (v821 : BitVec 32) (k0_hw159 : k0_chk159 v821), ∀ a, (k0_off160 v821) a + S1x1x512.size a ≤ S1x512x512.size a := fun v821 k0_hw159 => k0_hw159

def k0_off161 (v825 : BitVec 32) : Fin 3 → Nat :=
  let c0_815 : Index := 0#32
  let v826 : Index := Scalar.indexCast v825
  let c0_816 : Index := 0#32
  ![0, v826.toNat, 0]

def k0_chk160 (v825 : BitVec 32) : Prop :=
  (∀ a, (k0_off161 v825) a + S1x1x512.size a ≤ S1x512x512.size a)
theorem k0_off161_inb : ∀ (v825 : BitVec 32) (k0_hw160 : k0_chk160 v825), ∀ a, (k0_off161 v825) a + S1x1x512.size a ≤ S1x512x512.size a := fun v825 k0_hw160 => k0_hw160

def k0_off162 (v850 : BitVec 32) : Fin 3 → Nat :=
  let c0_830 : Index := 0#32
  let v851 : Index := Scalar.indexCast v850
  let c0_831 : Index := 0#32
  ![0, v851.toNat, 0]

def k0_chk161 (v850 : BitVec 32) : Prop :=
  (∀ a, (k0_off162 v850) a + S1x1x512.size a ≤ S1x512x512.size a)
theorem k0_off162_inb : ∀ (v850 : BitVec 32) (k0_hw161 : k0_chk161 v850), ∀ a, (k0_off162 v850) a + S1x1x512.size a ≤ S1x512x512.size a := fun v850 k0_hw161 => k0_hw161

def k0_off163 (v854 : BitVec 32) : Fin 3 → Nat :=
  let c0_834 : Index := 0#32
  let v855 : Index := Scalar.indexCast v854
  let c0_835 : Index := 0#32
  ![0, v855.toNat, 0]

def k0_chk162 (v854 : BitVec 32) : Prop :=
  (∀ a, (k0_off163 v854) a + S1x1x512.size a ≤ S1x512x512.size a)
theorem k0_off163_inb : ∀ (v854 : BitVec 32) (k0_hw162 : k0_chk162 v854), ∀ a, (k0_off163 v854) a + S1x1x512.size a ≤ S1x512x512.size a := fun v854 k0_hw162 => k0_hw162

def k0_off164 (v858 : BitVec 32) : Fin 3 → Nat :=
  let c0_838 : Index := 0#32
  let v859 : Index := Scalar.indexCast v858
  let c0_839 : Index := 0#32
  ![0, v859.toNat, 0]

def k0_chk163 (v858 : BitVec 32) : Prop :=
  (∀ a, (k0_off164 v858) a + S1x1x512.size a ≤ S1x512x512.size a)
theorem k0_off164_inb : ∀ (v858 : BitVec 32) (k0_hw163 : k0_chk163 v858), ∀ a, (k0_off164 v858) a + S1x1x512.size a ≤ S1x512x512.size a := fun v858 k0_hw163 => k0_hw163

def k0_off165 (v862 : BitVec 32) : Fin 3 → Nat :=
  let c0_842 : Index := 0#32
  let v863 : Index := Scalar.indexCast v862
  let c0_843 : Index := 0#32
  ![0, v863.toNat, 0]

def k0_chk164 (v862 : BitVec 32) : Prop :=
  (∀ a, (k0_off165 v862) a + S1x1x512.size a ≤ S1x512x512.size a)
theorem k0_off165_inb : ∀ (v862 : BitVec 32) (k0_hw164 : k0_chk164 v862), ∀ a, (k0_off165 v862) a + S1x1x512.size a ≤ S1x512x512.size a := fun v862 k0_hw164 => k0_hw164

def k0_off166 (v866 : BitVec 32) : Fin 3 → Nat :=
  let c0_846 : Index := 0#32
  let v867 : Index := Scalar.indexCast v866
  let c0_847 : Index := 0#32
  ![0, v867.toNat, 0]

def k0_chk165 (v866 : BitVec 32) : Prop :=
  (∀ a, (k0_off166 v866) a + S1x1x512.size a ≤ S1x512x512.size a)
theorem k0_off166_inb : ∀ (v866 : BitVec 32) (k0_hw165 : k0_chk165 v866), ∀ a, (k0_off166 v866) a + S1x1x512.size a ≤ S1x512x512.size a := fun v866 k0_hw165 => k0_hw165

def k0_off167 (v870 : BitVec 32) : Fin 3 → Nat :=
  let c0_850 : Index := 0#32
  let v871 : Index := Scalar.indexCast v870
  let c0_851 : Index := 0#32
  ![0, v871.toNat, 0]

def k0_chk166 (v870 : BitVec 32) : Prop :=
  (∀ a, (k0_off167 v870) a + S1x1x512.size a ≤ S1x512x512.size a)
theorem k0_off167_inb : ∀ (v870 : BitVec 32) (k0_hw166 : k0_chk166 v870), ∀ a, (k0_off167 v870) a + S1x1x512.size a ≤ S1x512x512.size a := fun v870 k0_hw166 => k0_hw166

def k0_off168 (v874 : BitVec 32) : Fin 3 → Nat :=
  let c0_854 : Index := 0#32
  let v875 : Index := Scalar.indexCast v874
  let c0_855 : Index := 0#32
  ![0, v875.toNat, 0]

def k0_chk167 (v874 : BitVec 32) : Prop :=
  (∀ a, (k0_off168 v874) a + S1x1x512.size a ≤ S1x512x512.size a)
theorem k0_off168_inb : ∀ (v874 : BitVec 32) (k0_hw167 : k0_chk167 v874), ∀ a, (k0_off168 v874) a + S1x1x512.size a ≤ S1x512x512.size a := fun v874 k0_hw167 => k0_hw167

def k0_off169 (v878 : BitVec 32) : Fin 3 → Nat :=
  let c0_858 : Index := 0#32
  let v879 : Index := Scalar.indexCast v878
  let c0_859 : Index := 0#32
  ![0, v879.toNat, 0]

def k0_chk168 (v878 : BitVec 32) : Prop :=
  (∀ a, (k0_off169 v878) a + S1x1x512.size a ≤ S1x512x512.size a)
theorem k0_off169_inb : ∀ (v878 : BitVec 32) (k0_hw168 : k0_chk168 v878), ∀ a, (k0_off169 v878) a + S1x1x512.size a ≤ S1x512x512.size a := fun v878 k0_hw168 => k0_hw168

def k0_off170 (v882 : BitVec 32) : Fin 3 → Nat :=
  let c0_863 : Index := 0#32
  let v883 : Index := Scalar.indexCast v882
  let c0_864 : Index := 0#32
  ![0, v883.toNat, 0]

def k0_chk169 (v882 : BitVec 32) : Prop :=
  (∀ a, (k0_off170 v882) a + S1x1x512.size a ≤ S1x512x512.size a)
theorem k0_off170_inb : ∀ (v882 : BitVec 32) (k0_hw169 : k0_chk169 v882), ∀ a, (k0_off170 v882) a + S1x1x512.size a ≤ S1x512x512.size a := fun v882 k0_hw169 => k0_hw169

def k0_off171 (v886 : BitVec 32) : Fin 3 → Nat :=
  let c0_868 : Index := 0#32
  let v887 : Index := Scalar.indexCast v886
  let c0_869 : Index := 0#32
  ![0, v887.toNat, 0]

def k0_chk170 (v886 : BitVec 32) : Prop :=
  (∀ a, (k0_off171 v886) a + S1x1x512.size a ≤ S1x512x512.size a)
theorem k0_off171_inb : ∀ (v886 : BitVec 32) (k0_hw170 : k0_chk170 v886), ∀ a, (k0_off171 v886) a + S1x1x512.size a ≤ S1x512x512.size a := fun v886 k0_hw170 => k0_hw170

def k0_off172 (v890 : BitVec 32) : Fin 3 → Nat :=
  let c0_873 : Index := 0#32
  let v891 : Index := Scalar.indexCast v890
  let c0_874 : Index := 0#32
  ![0, v891.toNat, 0]

def k0_chk171 (v890 : BitVec 32) : Prop :=
  (∀ a, (k0_off172 v890) a + S1x1x512.size a ≤ S1x512x512.size a)
theorem k0_off172_inb : ∀ (v890 : BitVec 32) (k0_hw171 : k0_chk171 v890), ∀ a, (k0_off172 v890) a + S1x1x512.size a ≤ S1x512x512.size a := fun v890 k0_hw171 => k0_hw171

def k0_off173 (v894 : BitVec 32) : Fin 3 → Nat :=
  let c0_878 : Index := 0#32
  let v895 : Index := Scalar.indexCast v894
  let c0_879 : Index := 0#32
  ![0, v895.toNat, 0]

def k0_chk172 (v894 : BitVec 32) : Prop :=
  (∀ a, (k0_off173 v894) a + S1x1x512.size a ≤ S1x512x512.size a)
theorem k0_off173_inb : ∀ (v894 : BitVec 32) (k0_hw172 : k0_chk172 v894), ∀ a, (k0_off173 v894) a + S1x1x512.size a ≤ S1x512x512.size a := fun v894 k0_hw172 => k0_hw172

def k0_off174 (v898 : BitVec 32) : Fin 3 → Nat :=
  let c0_883 : Index := 0#32
  let v899 : Index := Scalar.indexCast v898
  let c0_884 : Index := 0#32
  ![0, v899.toNat, 0]

def k0_chk173 (v898 : BitVec 32) : Prop :=
  (∀ a, (k0_off174 v898) a + S1x1x512.size a ≤ S1x512x512.size a)
theorem k0_off174_inb : ∀ (v898 : BitVec 32) (k0_hw173 : k0_chk173 v898), ∀ a, (k0_off174 v898) a + S1x1x512.size a ≤ S1x512x512.size a := fun v898 k0_hw173 => k0_hw173

def k0_off175 (v902 : BitVec 32) : Fin 3 → Nat :=
  let c0_888 : Index := 0#32
  let v903 : Index := Scalar.indexCast v902
  let c0_889 : Index := 0#32
  ![0, v903.toNat, 0]

def k0_chk174 (v902 : BitVec 32) : Prop :=
  (∀ a, (k0_off175 v902) a + S1x1x512.size a ≤ S1x512x512.size a)
theorem k0_off175_inb : ∀ (v902 : BitVec 32) (k0_hw174 : k0_chk174 v902), ∀ a, (k0_off175 v902) a + S1x1x512.size a ≤ S1x512x512.size a := fun v902 k0_hw174 => k0_hw174

def k0_off176 (v906 : BitVec 32) : Fin 3 → Nat :=
  let c0_893 : Index := 0#32
  let v907 : Index := Scalar.indexCast v906
  let c0_894 : Index := 0#32
  ![0, v907.toNat, 0]

def k0_chk175 (v906 : BitVec 32) : Prop :=
  (∀ a, (k0_off176 v906) a + S1x1x512.size a ≤ S1x512x512.size a)
theorem k0_off176_inb : ∀ (v906 : BitVec 32) (k0_hw175 : k0_chk175 v906), ∀ a, (k0_off176 v906) a + S1x1x512.size a ≤ S1x512x512.size a := fun v906 k0_hw175 => k0_hw175

def k0_off177 (v910 : BitVec 32) : Fin 3 → Nat :=
  let c0_898 : Index := 0#32
  let v911 : Index := Scalar.indexCast v910
  let c0_899 : Index := 0#32
  ![0, v911.toNat, 0]

def k0_chk176 (v910 : BitVec 32) : Prop :=
  (∀ a, (k0_off177 v910) a + S1x1x512.size a ≤ S1x512x512.size a)
theorem k0_off177_inb : ∀ (v910 : BitVec 32) (k0_hw176 : k0_chk176 v910), ∀ a, (k0_off177 v910) a + S1x1x512.size a ≤ S1x512x512.size a := fun v910 k0_hw176 => k0_hw176

def k0_off178 (v935 : BitVec 32) : Fin 3 → Nat :=
  let c0_913 : Index := 0#32
  let v936 : Index := Scalar.indexCast v935
  let c0_914 : Index := 0#32
  ![0, v936.toNat, 0]

def k0_chk177 (v935 : BitVec 32) : Prop :=
  (∀ a, (k0_off178 v935) a + S1x1x512.size a ≤ S1x512x512.size a)
theorem k0_off178_inb : ∀ (v935 : BitVec 32) (k0_hw177 : k0_chk177 v935), ∀ a, (k0_off178 v935) a + S1x1x512.size a ≤ S1x512x512.size a := fun v935 k0_hw177 => k0_hw177

def k0_off179 (v939 : BitVec 32) : Fin 3 → Nat :=
  let c0_917 : Index := 0#32
  let v940 : Index := Scalar.indexCast v939
  let c0_918 : Index := 0#32
  ![0, v940.toNat, 0]

def k0_chk178 (v939 : BitVec 32) : Prop :=
  (∀ a, (k0_off179 v939) a + S1x1x512.size a ≤ S1x512x512.size a)
theorem k0_off179_inb : ∀ (v939 : BitVec 32) (k0_hw178 : k0_chk178 v939), ∀ a, (k0_off179 v939) a + S1x1x512.size a ≤ S1x512x512.size a := fun v939 k0_hw178 => k0_hw178

def k0_off180 (v943 : BitVec 32) : Fin 3 → Nat :=
  let c0_921 : Index := 0#32
  let v944 : Index := Scalar.indexCast v943
  let c0_922 : Index := 0#32
  ![0, v944.toNat, 0]

def k0_chk179 (v943 : BitVec 32) : Prop :=
  (∀ a, (k0_off180 v943) a + S1x1x512.size a ≤ S1x512x512.size a)
theorem k0_off180_inb : ∀ (v943 : BitVec 32) (k0_hw179 : k0_chk179 v943), ∀ a, (k0_off180 v943) a + S1x1x512.size a ≤ S1x512x512.size a := fun v943 k0_hw179 => k0_hw179

def k0_off181 (v947 : BitVec 32) : Fin 3 → Nat :=
  let c0_925 : Index := 0#32
  let v948 : Index := Scalar.indexCast v947
  let c0_926 : Index := 0#32
  ![0, v948.toNat, 0]

def k0_chk180 (v947 : BitVec 32) : Prop :=
  (∀ a, (k0_off181 v947) a + S1x1x512.size a ≤ S1x512x512.size a)
theorem k0_off181_inb : ∀ (v947 : BitVec 32) (k0_hw180 : k0_chk180 v947), ∀ a, (k0_off181 v947) a + S1x1x512.size a ≤ S1x512x512.size a := fun v947 k0_hw180 => k0_hw180

def k0_off182 (v951 : BitVec 32) : Fin 3 → Nat :=
  let c0_929 : Index := 0#32
  let v952 : Index := Scalar.indexCast v951
  let c0_930 : Index := 0#32
  ![0, v952.toNat, 0]

def k0_chk181 (v951 : BitVec 32) : Prop :=
  (∀ a, (k0_off182 v951) a + S1x1x512.size a ≤ S1x512x512.size a)
theorem k0_off182_inb : ∀ (v951 : BitVec 32) (k0_hw181 : k0_chk181 v951), ∀ a, (k0_off182 v951) a + S1x1x512.size a ≤ S1x512x512.size a := fun v951 k0_hw181 => k0_hw181

def k0_off183 (v955 : BitVec 32) : Fin 3 → Nat :=
  let c0_933 : Index := 0#32
  let v956 : Index := Scalar.indexCast v955
  let c0_934 : Index := 0#32
  ![0, v956.toNat, 0]

def k0_chk182 (v955 : BitVec 32) : Prop :=
  (∀ a, (k0_off183 v955) a + S1x1x512.size a ≤ S1x512x512.size a)
theorem k0_off183_inb : ∀ (v955 : BitVec 32) (k0_hw182 : k0_chk182 v955), ∀ a, (k0_off183 v955) a + S1x1x512.size a ≤ S1x512x512.size a := fun v955 k0_hw182 => k0_hw182

def k0_off184 (v959 : BitVec 32) : Fin 3 → Nat :=
  let c0_937 : Index := 0#32
  let v960 : Index := Scalar.indexCast v959
  let c0_938 : Index := 0#32
  ![0, v960.toNat, 0]

def k0_chk183 (v959 : BitVec 32) : Prop :=
  (∀ a, (k0_off184 v959) a + S1x1x512.size a ≤ S1x512x512.size a)
theorem k0_off184_inb : ∀ (v959 : BitVec 32) (k0_hw183 : k0_chk183 v959), ∀ a, (k0_off184 v959) a + S1x1x512.size a ≤ S1x512x512.size a := fun v959 k0_hw183 => k0_hw183

def k0_off185 (v963 : BitVec 32) : Fin 3 → Nat :=
  let c0_941 : Index := 0#32
  let v964 : Index := Scalar.indexCast v963
  let c0_942 : Index := 0#32
  ![0, v964.toNat, 0]

def k0_chk184 (v963 : BitVec 32) : Prop :=
  (∀ a, (k0_off185 v963) a + S1x1x512.size a ≤ S1x512x512.size a)
theorem k0_off185_inb : ∀ (v963 : BitVec 32) (k0_hw184 : k0_chk184 v963), ∀ a, (k0_off185 v963) a + S1x1x512.size a ≤ S1x512x512.size a := fun v963 k0_hw184 => k0_hw184

def k0_off186 (v967 : BitVec 32) : Fin 3 → Nat :=
  let c0_946 : Index := 0#32
  let v968 : Index := Scalar.indexCast v967
  let c0_947 : Index := 0#32
  ![0, v968.toNat, 0]

def k0_chk185 (v967 : BitVec 32) : Prop :=
  (∀ a, (k0_off186 v967) a + S1x1x512.size a ≤ S1x512x512.size a)
theorem k0_off186_inb : ∀ (v967 : BitVec 32) (k0_hw185 : k0_chk185 v967), ∀ a, (k0_off186 v967) a + S1x1x512.size a ≤ S1x512x512.size a := fun v967 k0_hw185 => k0_hw185

def k0_off187 (v971 : BitVec 32) : Fin 3 → Nat :=
  let c0_951 : Index := 0#32
  let v972 : Index := Scalar.indexCast v971
  let c0_952 : Index := 0#32
  ![0, v972.toNat, 0]

def k0_chk186 (v971 : BitVec 32) : Prop :=
  (∀ a, (k0_off187 v971) a + S1x1x512.size a ≤ S1x512x512.size a)
theorem k0_off187_inb : ∀ (v971 : BitVec 32) (k0_hw186 : k0_chk186 v971), ∀ a, (k0_off187 v971) a + S1x1x512.size a ≤ S1x512x512.size a := fun v971 k0_hw186 => k0_hw186

def k0_off188 (v975 : BitVec 32) : Fin 3 → Nat :=
  let c0_956 : Index := 0#32
  let v976 : Index := Scalar.indexCast v975
  let c0_957 : Index := 0#32
  ![0, v976.toNat, 0]

def k0_chk187 (v975 : BitVec 32) : Prop :=
  (∀ a, (k0_off188 v975) a + S1x1x512.size a ≤ S1x512x512.size a)
theorem k0_off188_inb : ∀ (v975 : BitVec 32) (k0_hw187 : k0_chk187 v975), ∀ a, (k0_off188 v975) a + S1x1x512.size a ≤ S1x512x512.size a := fun v975 k0_hw187 => k0_hw187

def k0_off189 (v979 : BitVec 32) : Fin 3 → Nat :=
  let c0_961 : Index := 0#32
  let v980 : Index := Scalar.indexCast v979
  let c0_962 : Index := 0#32
  ![0, v980.toNat, 0]

def k0_chk188 (v979 : BitVec 32) : Prop :=
  (∀ a, (k0_off189 v979) a + S1x1x512.size a ≤ S1x512x512.size a)
theorem k0_off189_inb : ∀ (v979 : BitVec 32) (k0_hw188 : k0_chk188 v979), ∀ a, (k0_off189 v979) a + S1x1x512.size a ≤ S1x512x512.size a := fun v979 k0_hw188 => k0_hw188

def k0_off190 (v983 : BitVec 32) : Fin 3 → Nat :=
  let c0_966 : Index := 0#32
  let v984 : Index := Scalar.indexCast v983
  let c0_967 : Index := 0#32
  ![0, v984.toNat, 0]

def k0_chk189 (v983 : BitVec 32) : Prop :=
  (∀ a, (k0_off190 v983) a + S1x1x512.size a ≤ S1x512x512.size a)
theorem k0_off190_inb : ∀ (v983 : BitVec 32) (k0_hw189 : k0_chk189 v983), ∀ a, (k0_off190 v983) a + S1x1x512.size a ≤ S1x512x512.size a := fun v983 k0_hw189 => k0_hw189

def k0_off191 (v987 : BitVec 32) : Fin 3 → Nat :=
  let c0_971 : Index := 0#32
  let v988 : Index := Scalar.indexCast v987
  let c0_972 : Index := 0#32
  ![0, v988.toNat, 0]

def k0_chk190 (v987 : BitVec 32) : Prop :=
  (∀ a, (k0_off191 v987) a + S1x1x512.size a ≤ S1x512x512.size a)
theorem k0_off191_inb : ∀ (v987 : BitVec 32) (k0_hw190 : k0_chk190 v987), ∀ a, (k0_off191 v987) a + S1x1x512.size a ≤ S1x512x512.size a := fun v987 k0_hw190 => k0_hw190

def k0_off192 (v991 : BitVec 32) : Fin 3 → Nat :=
  let c0_976 : Index := 0#32
  let v992 : Index := Scalar.indexCast v991
  let c0_977 : Index := 0#32
  ![0, v992.toNat, 0]

def k0_chk191 (v991 : BitVec 32) : Prop :=
  (∀ a, (k0_off192 v991) a + S1x1x512.size a ≤ S1x512x512.size a)
theorem k0_off192_inb : ∀ (v991 : BitVec 32) (k0_hw191 : k0_chk191 v991), ∀ a, (k0_off192 v991) a + S1x1x512.size a ≤ S1x512x512.size a := fun v991 k0_hw191 => k0_hw191

def k0_off193 (v995 : BitVec 32) : Fin 3 → Nat :=
  let c0_981 : Index := 0#32
  let v996 : Index := Scalar.indexCast v995
  let c0_982 : Index := 0#32
  ![0, v996.toNat, 0]

def k0_chk192 (v995 : BitVec 32) : Prop :=
  (∀ a, (k0_off193 v995) a + S1x1x512.size a ≤ S1x512x512.size a)
theorem k0_off193_inb : ∀ (v995 : BitVec 32) (k0_hw192 : k0_chk192 v995), ∀ a, (k0_off193 v995) a + S1x1x512.size a ≤ S1x512x512.size a := fun v995 k0_hw192 => k0_hw192

def k0_off194 (v1020 : BitVec 32) : Fin 3 → Nat :=
  let c0_996 : Index := 0#32
  let v1021 : Index := Scalar.indexCast v1020
  let c0_997 : Index := 0#32
  ![0, v1021.toNat, 0]

def k0_chk193 (v1020 : BitVec 32) : Prop :=
  (∀ a, (k0_off194 v1020) a + S1x1x512.size a ≤ S1x512x512.size a)
theorem k0_off194_inb : ∀ (v1020 : BitVec 32) (k0_hw193 : k0_chk193 v1020), ∀ a, (k0_off194 v1020) a + S1x1x512.size a ≤ S1x512x512.size a := fun v1020 k0_hw193 => k0_hw193

def k0_off195 (v1024 : BitVec 32) : Fin 3 → Nat :=
  let c0_1000 : Index := 0#32
  let v1025 : Index := Scalar.indexCast v1024
  let c0_1001 : Index := 0#32
  ![0, v1025.toNat, 0]

def k0_chk194 (v1024 : BitVec 32) : Prop :=
  (∀ a, (k0_off195 v1024) a + S1x1x512.size a ≤ S1x512x512.size a)
theorem k0_off195_inb : ∀ (v1024 : BitVec 32) (k0_hw194 : k0_chk194 v1024), ∀ a, (k0_off195 v1024) a + S1x1x512.size a ≤ S1x512x512.size a := fun v1024 k0_hw194 => k0_hw194

def k0_off196 (v1028 : BitVec 32) : Fin 3 → Nat :=
  let c0_1004 : Index := 0#32
  let v1029 : Index := Scalar.indexCast v1028
  let c0_1005 : Index := 0#32
  ![0, v1029.toNat, 0]

def k0_chk195 (v1028 : BitVec 32) : Prop :=
  (∀ a, (k0_off196 v1028) a + S1x1x512.size a ≤ S1x512x512.size a)
theorem k0_off196_inb : ∀ (v1028 : BitVec 32) (k0_hw195 : k0_chk195 v1028), ∀ a, (k0_off196 v1028) a + S1x1x512.size a ≤ S1x512x512.size a := fun v1028 k0_hw195 => k0_hw195

def k0_off197 (v1032 : BitVec 32) : Fin 3 → Nat :=
  let c0_1008 : Index := 0#32
  let v1033 : Index := Scalar.indexCast v1032
  let c0_1009 : Index := 0#32
  ![0, v1033.toNat, 0]

def k0_chk196 (v1032 : BitVec 32) : Prop :=
  (∀ a, (k0_off197 v1032) a + S1x1x512.size a ≤ S1x512x512.size a)
theorem k0_off197_inb : ∀ (v1032 : BitVec 32) (k0_hw196 : k0_chk196 v1032), ∀ a, (k0_off197 v1032) a + S1x1x512.size a ≤ S1x512x512.size a := fun v1032 k0_hw196 => k0_hw196

def k0_off198 (v1036 : BitVec 32) : Fin 3 → Nat :=
  let c0_1012 : Index := 0#32
  let v1037 : Index := Scalar.indexCast v1036
  let c0_1013 : Index := 0#32
  ![0, v1037.toNat, 0]

def k0_chk197 (v1036 : BitVec 32) : Prop :=
  (∀ a, (k0_off198 v1036) a + S1x1x512.size a ≤ S1x512x512.size a)
theorem k0_off198_inb : ∀ (v1036 : BitVec 32) (k0_hw197 : k0_chk197 v1036), ∀ a, (k0_off198 v1036) a + S1x1x512.size a ≤ S1x512x512.size a := fun v1036 k0_hw197 => k0_hw197

def k0_off199 (v1040 : BitVec 32) : Fin 3 → Nat :=
  let c0_1016 : Index := 0#32
  let v1041 : Index := Scalar.indexCast v1040
  let c0_1017 : Index := 0#32
  ![0, v1041.toNat, 0]

def k0_chk198 (v1040 : BitVec 32) : Prop :=
  (∀ a, (k0_off199 v1040) a + S1x1x512.size a ≤ S1x512x512.size a)
theorem k0_off199_inb : ∀ (v1040 : BitVec 32) (k0_hw198 : k0_chk198 v1040), ∀ a, (k0_off199 v1040) a + S1x1x512.size a ≤ S1x512x512.size a := fun v1040 k0_hw198 => k0_hw198

def k0_off200 (v1044 : BitVec 32) : Fin 3 → Nat :=
  let c0_1020 : Index := 0#32
  let v1045 : Index := Scalar.indexCast v1044
  let c0_1021 : Index := 0#32
  ![0, v1045.toNat, 0]

def k0_chk199 (v1044 : BitVec 32) : Prop :=
  (∀ a, (k0_off200 v1044) a + S1x1x512.size a ≤ S1x512x512.size a)
theorem k0_off200_inb : ∀ (v1044 : BitVec 32) (k0_hw199 : k0_chk199 v1044), ∀ a, (k0_off200 v1044) a + S1x1x512.size a ≤ S1x512x512.size a := fun v1044 k0_hw199 => k0_hw199

def k0_off201 (v1048 : BitVec 32) : Fin 3 → Nat :=
  let c0_1024 : Index := 0#32
  let v1049 : Index := Scalar.indexCast v1048
  let c0_1025 : Index := 0#32
  ![0, v1049.toNat, 0]

def k0_chk200 (v1048 : BitVec 32) : Prop :=
  (∀ a, (k0_off201 v1048) a + S1x1x512.size a ≤ S1x512x512.size a)
theorem k0_off201_inb : ∀ (v1048 : BitVec 32) (k0_hw200 : k0_chk200 v1048), ∀ a, (k0_off201 v1048) a + S1x1x512.size a ≤ S1x512x512.size a := fun v1048 k0_hw200 => k0_hw200

def k0_off202 (v1052 : BitVec 32) : Fin 3 → Nat :=
  let c0_1029 : Index := 0#32
  let v1053 : Index := Scalar.indexCast v1052
  let c0_1030 : Index := 0#32
  ![0, v1053.toNat, 0]

def k0_chk201 (v1052 : BitVec 32) : Prop :=
  (∀ a, (k0_off202 v1052) a + S1x1x512.size a ≤ S1x512x512.size a)
theorem k0_off202_inb : ∀ (v1052 : BitVec 32) (k0_hw201 : k0_chk201 v1052), ∀ a, (k0_off202 v1052) a + S1x1x512.size a ≤ S1x512x512.size a := fun v1052 k0_hw201 => k0_hw201

def k0_off203 (v1056 : BitVec 32) : Fin 3 → Nat :=
  let c0_1034 : Index := 0#32
  let v1057 : Index := Scalar.indexCast v1056
  let c0_1035 : Index := 0#32
  ![0, v1057.toNat, 0]

def k0_chk202 (v1056 : BitVec 32) : Prop :=
  (∀ a, (k0_off203 v1056) a + S1x1x512.size a ≤ S1x512x512.size a)
theorem k0_off203_inb : ∀ (v1056 : BitVec 32) (k0_hw202 : k0_chk202 v1056), ∀ a, (k0_off203 v1056) a + S1x1x512.size a ≤ S1x512x512.size a := fun v1056 k0_hw202 => k0_hw202

def k0_off204 (v1060 : BitVec 32) : Fin 3 → Nat :=
  let c0_1039 : Index := 0#32
  let v1061 : Index := Scalar.indexCast v1060
  let c0_1040 : Index := 0#32
  ![0, v1061.toNat, 0]

def k0_chk203 (v1060 : BitVec 32) : Prop :=
  (∀ a, (k0_off204 v1060) a + S1x1x512.size a ≤ S1x512x512.size a)
theorem k0_off204_inb : ∀ (v1060 : BitVec 32) (k0_hw203 : k0_chk203 v1060), ∀ a, (k0_off204 v1060) a + S1x1x512.size a ≤ S1x512x512.size a := fun v1060 k0_hw203 => k0_hw203

def k0_off205 (v1064 : BitVec 32) : Fin 3 → Nat :=
  let c0_1044 : Index := 0#32
  let v1065 : Index := Scalar.indexCast v1064
  let c0_1045 : Index := 0#32
  ![0, v1065.toNat, 0]

def k0_chk204 (v1064 : BitVec 32) : Prop :=
  (∀ a, (k0_off205 v1064) a + S1x1x512.size a ≤ S1x512x512.size a)
theorem k0_off205_inb : ∀ (v1064 : BitVec 32) (k0_hw204 : k0_chk204 v1064), ∀ a, (k0_off205 v1064) a + S1x1x512.size a ≤ S1x512x512.size a := fun v1064 k0_hw204 => k0_hw204

def k0_off206 (v1068 : BitVec 32) : Fin 3 → Nat :=
  let c0_1049 : Index := 0#32
  let v1069 : Index := Scalar.indexCast v1068
  let c0_1050 : Index := 0#32
  ![0, v1069.toNat, 0]

def k0_chk205 (v1068 : BitVec 32) : Prop :=
  (∀ a, (k0_off206 v1068) a + S1x1x512.size a ≤ S1x512x512.size a)
theorem k0_off206_inb : ∀ (v1068 : BitVec 32) (k0_hw205 : k0_chk205 v1068), ∀ a, (k0_off206 v1068) a + S1x1x512.size a ≤ S1x512x512.size a := fun v1068 k0_hw205 => k0_hw205

def k0_off207 (v1072 : BitVec 32) : Fin 3 → Nat :=
  let c0_1054 : Index := 0#32
  let v1073 : Index := Scalar.indexCast v1072
  let c0_1055 : Index := 0#32
  ![0, v1073.toNat, 0]

def k0_chk206 (v1072 : BitVec 32) : Prop :=
  (∀ a, (k0_off207 v1072) a + S1x1x512.size a ≤ S1x512x512.size a)
theorem k0_off207_inb : ∀ (v1072 : BitVec 32) (k0_hw206 : k0_chk206 v1072), ∀ a, (k0_off207 v1072) a + S1x1x512.size a ≤ S1x512x512.size a := fun v1072 k0_hw206 => k0_hw206

def k0_off208 (v1076 : BitVec 32) : Fin 3 → Nat :=
  let c0_1059 : Index := 0#32
  let v1077 : Index := Scalar.indexCast v1076
  let c0_1060 : Index := 0#32
  ![0, v1077.toNat, 0]

def k0_chk207 (v1076 : BitVec 32) : Prop :=
  (∀ a, (k0_off208 v1076) a + S1x1x512.size a ≤ S1x512x512.size a)
theorem k0_off208_inb : ∀ (v1076 : BitVec 32) (k0_hw207 : k0_chk207 v1076), ∀ a, (k0_off208 v1076) a + S1x1x512.size a ≤ S1x512x512.size a := fun v1076 k0_hw207 => k0_hw207

def k0_off209 (v1080 : BitVec 32) : Fin 3 → Nat :=
  let c0_1064 : Index := 0#32
  let v1081 : Index := Scalar.indexCast v1080
  let c0_1065 : Index := 0#32
  ![0, v1081.toNat, 0]

def k0_chk208 (v1080 : BitVec 32) : Prop :=
  (∀ a, (k0_off209 v1080) a + S1x1x512.size a ≤ S1x512x512.size a)
theorem k0_off209_inb : ∀ (v1080 : BitVec 32) (k0_hw208 : k0_chk208 v1080), ∀ a, (k0_off209 v1080) a + S1x1x512.size a ≤ S1x512x512.size a := fun v1080 k0_hw208 => k0_hw208

def k0_off210 (v1105 : BitVec 32) : Fin 3 → Nat :=
  let c0_1079 : Index := 0#32
  let v1106 : Index := Scalar.indexCast v1105
  let c0_1080 : Index := 0#32
  ![0, v1106.toNat, 0]

def k0_chk209 (v1105 : BitVec 32) : Prop :=
  (∀ a, (k0_off210 v1105) a + S1x1x512.size a ≤ S1x512x512.size a)
theorem k0_off210_inb : ∀ (v1105 : BitVec 32) (k0_hw209 : k0_chk209 v1105), ∀ a, (k0_off210 v1105) a + S1x1x512.size a ≤ S1x512x512.size a := fun v1105 k0_hw209 => k0_hw209

def k0_off211 (v1109 : BitVec 32) : Fin 3 → Nat :=
  let c0_1083 : Index := 0#32
  let v1110 : Index := Scalar.indexCast v1109
  let c0_1084 : Index := 0#32
  ![0, v1110.toNat, 0]

def k0_chk210 (v1109 : BitVec 32) : Prop :=
  (∀ a, (k0_off211 v1109) a + S1x1x512.size a ≤ S1x512x512.size a)
theorem k0_off211_inb : ∀ (v1109 : BitVec 32) (k0_hw210 : k0_chk210 v1109), ∀ a, (k0_off211 v1109) a + S1x1x512.size a ≤ S1x512x512.size a := fun v1109 k0_hw210 => k0_hw210

def k0_off212 (v1113 : BitVec 32) : Fin 3 → Nat :=
  let c0_1087 : Index := 0#32
  let v1114 : Index := Scalar.indexCast v1113
  let c0_1088 : Index := 0#32
  ![0, v1114.toNat, 0]

def k0_chk211 (v1113 : BitVec 32) : Prop :=
  (∀ a, (k0_off212 v1113) a + S1x1x512.size a ≤ S1x512x512.size a)
theorem k0_off212_inb : ∀ (v1113 : BitVec 32) (k0_hw211 : k0_chk211 v1113), ∀ a, (k0_off212 v1113) a + S1x1x512.size a ≤ S1x512x512.size a := fun v1113 k0_hw211 => k0_hw211

def k0_off213 (v1117 : BitVec 32) : Fin 3 → Nat :=
  let c0_1091 : Index := 0#32
  let v1118 : Index := Scalar.indexCast v1117
  let c0_1092 : Index := 0#32
  ![0, v1118.toNat, 0]

def k0_chk212 (v1117 : BitVec 32) : Prop :=
  (∀ a, (k0_off213 v1117) a + S1x1x512.size a ≤ S1x512x512.size a)
theorem k0_off213_inb : ∀ (v1117 : BitVec 32) (k0_hw212 : k0_chk212 v1117), ∀ a, (k0_off213 v1117) a + S1x1x512.size a ≤ S1x512x512.size a := fun v1117 k0_hw212 => k0_hw212

def k0_off214 (v1121 : BitVec 32) : Fin 3 → Nat :=
  let c0_1095 : Index := 0#32
  let v1122 : Index := Scalar.indexCast v1121
  let c0_1096 : Index := 0#32
  ![0, v1122.toNat, 0]

def k0_chk213 (v1121 : BitVec 32) : Prop :=
  (∀ a, (k0_off214 v1121) a + S1x1x512.size a ≤ S1x512x512.size a)
theorem k0_off214_inb : ∀ (v1121 : BitVec 32) (k0_hw213 : k0_chk213 v1121), ∀ a, (k0_off214 v1121) a + S1x1x512.size a ≤ S1x512x512.size a := fun v1121 k0_hw213 => k0_hw213

def k0_off215 (v1125 : BitVec 32) : Fin 3 → Nat :=
  let c0_1099 : Index := 0#32
  let v1126 : Index := Scalar.indexCast v1125
  let c0_1100 : Index := 0#32
  ![0, v1126.toNat, 0]

def k0_chk214 (v1125 : BitVec 32) : Prop :=
  (∀ a, (k0_off215 v1125) a + S1x1x512.size a ≤ S1x512x512.size a)
theorem k0_off215_inb : ∀ (v1125 : BitVec 32) (k0_hw214 : k0_chk214 v1125), ∀ a, (k0_off215 v1125) a + S1x1x512.size a ≤ S1x512x512.size a := fun v1125 k0_hw214 => k0_hw214

def k0_off216 (v1129 : BitVec 32) : Fin 3 → Nat :=
  let c0_1103 : Index := 0#32
  let v1130 : Index := Scalar.indexCast v1129
  let c0_1104 : Index := 0#32
  ![0, v1130.toNat, 0]

def k0_chk215 (v1129 : BitVec 32) : Prop :=
  (∀ a, (k0_off216 v1129) a + S1x1x512.size a ≤ S1x512x512.size a)
theorem k0_off216_inb : ∀ (v1129 : BitVec 32) (k0_hw215 : k0_chk215 v1129), ∀ a, (k0_off216 v1129) a + S1x1x512.size a ≤ S1x512x512.size a := fun v1129 k0_hw215 => k0_hw215

def k0_off217 (v1133 : BitVec 32) : Fin 3 → Nat :=
  let c0_1107 : Index := 0#32
  let v1134 : Index := Scalar.indexCast v1133
  let c0_1108 : Index := 0#32
  ![0, v1134.toNat, 0]

def k0_chk216 (v1133 : BitVec 32) : Prop :=
  (∀ a, (k0_off217 v1133) a + S1x1x512.size a ≤ S1x512x512.size a)
theorem k0_off217_inb : ∀ (v1133 : BitVec 32) (k0_hw216 : k0_chk216 v1133), ∀ a, (k0_off217 v1133) a + S1x1x512.size a ≤ S1x512x512.size a := fun v1133 k0_hw216 => k0_hw216

def k0_off218 (v1137 : BitVec 32) : Fin 3 → Nat :=
  let c0_1112 : Index := 0#32
  let v1138 : Index := Scalar.indexCast v1137
  let c0_1113 : Index := 0#32
  ![0, v1138.toNat, 0]

def k0_chk217 (v1137 : BitVec 32) : Prop :=
  (∀ a, (k0_off218 v1137) a + S1x1x512.size a ≤ S1x512x512.size a)
theorem k0_off218_inb : ∀ (v1137 : BitVec 32) (k0_hw217 : k0_chk217 v1137), ∀ a, (k0_off218 v1137) a + S1x1x512.size a ≤ S1x512x512.size a := fun v1137 k0_hw217 => k0_hw217

def k0_off219 (v1141 : BitVec 32) : Fin 3 → Nat :=
  let c0_1117 : Index := 0#32
  let v1142 : Index := Scalar.indexCast v1141
  let c0_1118 : Index := 0#32
  ![0, v1142.toNat, 0]

def k0_chk218 (v1141 : BitVec 32) : Prop :=
  (∀ a, (k0_off219 v1141) a + S1x1x512.size a ≤ S1x512x512.size a)
theorem k0_off219_inb : ∀ (v1141 : BitVec 32) (k0_hw218 : k0_chk218 v1141), ∀ a, (k0_off219 v1141) a + S1x1x512.size a ≤ S1x512x512.size a := fun v1141 k0_hw218 => k0_hw218

def k0_off220 (v1145 : BitVec 32) : Fin 3 → Nat :=
  let c0_1122 : Index := 0#32
  let v1146 : Index := Scalar.indexCast v1145
  let c0_1123 : Index := 0#32
  ![0, v1146.toNat, 0]

def k0_chk219 (v1145 : BitVec 32) : Prop :=
  (∀ a, (k0_off220 v1145) a + S1x1x512.size a ≤ S1x512x512.size a)
theorem k0_off220_inb : ∀ (v1145 : BitVec 32) (k0_hw219 : k0_chk219 v1145), ∀ a, (k0_off220 v1145) a + S1x1x512.size a ≤ S1x512x512.size a := fun v1145 k0_hw219 => k0_hw219

def k0_off221 (v1149 : BitVec 32) : Fin 3 → Nat :=
  let c0_1127 : Index := 0#32
  let v1150 : Index := Scalar.indexCast v1149
  let c0_1128 : Index := 0#32
  ![0, v1150.toNat, 0]

def k0_chk220 (v1149 : BitVec 32) : Prop :=
  (∀ a, (k0_off221 v1149) a + S1x1x512.size a ≤ S1x512x512.size a)
theorem k0_off221_inb : ∀ (v1149 : BitVec 32) (k0_hw220 : k0_chk220 v1149), ∀ a, (k0_off221 v1149) a + S1x1x512.size a ≤ S1x512x512.size a := fun v1149 k0_hw220 => k0_hw220

def k0_off222 (v1153 : BitVec 32) : Fin 3 → Nat :=
  let c0_1132 : Index := 0#32
  let v1154 : Index := Scalar.indexCast v1153
  let c0_1133 : Index := 0#32
  ![0, v1154.toNat, 0]

def k0_chk221 (v1153 : BitVec 32) : Prop :=
  (∀ a, (k0_off222 v1153) a + S1x1x512.size a ≤ S1x512x512.size a)
theorem k0_off222_inb : ∀ (v1153 : BitVec 32) (k0_hw221 : k0_chk221 v1153), ∀ a, (k0_off222 v1153) a + S1x1x512.size a ≤ S1x512x512.size a := fun v1153 k0_hw221 => k0_hw221

def k0_off223 (v1157 : BitVec 32) : Fin 3 → Nat :=
  let c0_1137 : Index := 0#32
  let v1158 : Index := Scalar.indexCast v1157
  let c0_1138 : Index := 0#32
  ![0, v1158.toNat, 0]

def k0_chk222 (v1157 : BitVec 32) : Prop :=
  (∀ a, (k0_off223 v1157) a + S1x1x512.size a ≤ S1x512x512.size a)
theorem k0_off223_inb : ∀ (v1157 : BitVec 32) (k0_hw222 : k0_chk222 v1157), ∀ a, (k0_off223 v1157) a + S1x1x512.size a ≤ S1x512x512.size a := fun v1157 k0_hw222 => k0_hw222

def k0_off224 (v1161 : BitVec 32) : Fin 3 → Nat :=
  let c0_1142 : Index := 0#32
  let v1162 : Index := Scalar.indexCast v1161
  let c0_1143 : Index := 0#32
  ![0, v1162.toNat, 0]

def k0_chk223 (v1161 : BitVec 32) : Prop :=
  (∀ a, (k0_off224 v1161) a + S1x1x512.size a ≤ S1x512x512.size a)
theorem k0_off224_inb : ∀ (v1161 : BitVec 32) (k0_hw223 : k0_chk223 v1161), ∀ a, (k0_off224 v1161) a + S1x1x512.size a ≤ S1x512x512.size a := fun v1161 k0_hw223 => k0_hw223

def k0_off225 (v1165 : BitVec 32) : Fin 3 → Nat :=
  let c0_1147 : Index := 0#32
  let v1166 : Index := Scalar.indexCast v1165
  let c0_1148 : Index := 0#32
  ![0, v1166.toNat, 0]

def k0_chk224 (v1165 : BitVec 32) : Prop :=
  (∀ a, (k0_off225 v1165) a + S1x1x512.size a ≤ S1x512x512.size a)
theorem k0_off225_inb : ∀ (v1165 : BitVec 32) (k0_hw224 : k0_chk224 v1165), ∀ a, (k0_off225 v1165) a + S1x1x512.size a ≤ S1x512x512.size a := fun v1165 k0_hw224 => k0_hw224

def k0_off226 (v1190 : BitVec 32) : Fin 3 → Nat :=
  let c0_1162 : Index := 0#32
  let v1191 : Index := Scalar.indexCast v1190
  let c0_1163 : Index := 0#32
  ![0, v1191.toNat, 0]

def k0_chk225 (v1190 : BitVec 32) : Prop :=
  (∀ a, (k0_off226 v1190) a + S1x1x512.size a ≤ S1x512x512.size a)
theorem k0_off226_inb : ∀ (v1190 : BitVec 32) (k0_hw225 : k0_chk225 v1190), ∀ a, (k0_off226 v1190) a + S1x1x512.size a ≤ S1x512x512.size a := fun v1190 k0_hw225 => k0_hw225

def k0_off227 (v1194 : BitVec 32) : Fin 3 → Nat :=
  let c0_1166 : Index := 0#32
  let v1195 : Index := Scalar.indexCast v1194
  let c0_1167 : Index := 0#32
  ![0, v1195.toNat, 0]

def k0_chk226 (v1194 : BitVec 32) : Prop :=
  (∀ a, (k0_off227 v1194) a + S1x1x512.size a ≤ S1x512x512.size a)
theorem k0_off227_inb : ∀ (v1194 : BitVec 32) (k0_hw226 : k0_chk226 v1194), ∀ a, (k0_off227 v1194) a + S1x1x512.size a ≤ S1x512x512.size a := fun v1194 k0_hw226 => k0_hw226

def k0_off228 (v1198 : BitVec 32) : Fin 3 → Nat :=
  let c0_1170 : Index := 0#32
  let v1199 : Index := Scalar.indexCast v1198
  let c0_1171 : Index := 0#32
  ![0, v1199.toNat, 0]

def k0_chk227 (v1198 : BitVec 32) : Prop :=
  (∀ a, (k0_off228 v1198) a + S1x1x512.size a ≤ S1x512x512.size a)
theorem k0_off228_inb : ∀ (v1198 : BitVec 32) (k0_hw227 : k0_chk227 v1198), ∀ a, (k0_off228 v1198) a + S1x1x512.size a ≤ S1x512x512.size a := fun v1198 k0_hw227 => k0_hw227

def k0_off229 (v1202 : BitVec 32) : Fin 3 → Nat :=
  let c0_1174 : Index := 0#32
  let v1203 : Index := Scalar.indexCast v1202
  let c0_1175 : Index := 0#32
  ![0, v1203.toNat, 0]

def k0_chk228 (v1202 : BitVec 32) : Prop :=
  (∀ a, (k0_off229 v1202) a + S1x1x512.size a ≤ S1x512x512.size a)
theorem k0_off229_inb : ∀ (v1202 : BitVec 32) (k0_hw228 : k0_chk228 v1202), ∀ a, (k0_off229 v1202) a + S1x1x512.size a ≤ S1x512x512.size a := fun v1202 k0_hw228 => k0_hw228

def k0_off230 (v1206 : BitVec 32) : Fin 3 → Nat :=
  let c0_1178 : Index := 0#32
  let v1207 : Index := Scalar.indexCast v1206
  let c0_1179 : Index := 0#32
  ![0, v1207.toNat, 0]

def k0_chk229 (v1206 : BitVec 32) : Prop :=
  (∀ a, (k0_off230 v1206) a + S1x1x512.size a ≤ S1x512x512.size a)
theorem k0_off230_inb : ∀ (v1206 : BitVec 32) (k0_hw229 : k0_chk229 v1206), ∀ a, (k0_off230 v1206) a + S1x1x512.size a ≤ S1x512x512.size a := fun v1206 k0_hw229 => k0_hw229

def k0_off231 (v1210 : BitVec 32) : Fin 3 → Nat :=
  let c0_1182 : Index := 0#32
  let v1211 : Index := Scalar.indexCast v1210
  let c0_1183 : Index := 0#32
  ![0, v1211.toNat, 0]

def k0_chk230 (v1210 : BitVec 32) : Prop :=
  (∀ a, (k0_off231 v1210) a + S1x1x512.size a ≤ S1x512x512.size a)
theorem k0_off231_inb : ∀ (v1210 : BitVec 32) (k0_hw230 : k0_chk230 v1210), ∀ a, (k0_off231 v1210) a + S1x1x512.size a ≤ S1x512x512.size a := fun v1210 k0_hw230 => k0_hw230

def k0_off232 (v1214 : BitVec 32) : Fin 3 → Nat :=
  let c0_1186 : Index := 0#32
  let v1215 : Index := Scalar.indexCast v1214
  let c0_1187 : Index := 0#32
  ![0, v1215.toNat, 0]

def k0_chk231 (v1214 : BitVec 32) : Prop :=
  (∀ a, (k0_off232 v1214) a + S1x1x512.size a ≤ S1x512x512.size a)
theorem k0_off232_inb : ∀ (v1214 : BitVec 32) (k0_hw231 : k0_chk231 v1214), ∀ a, (k0_off232 v1214) a + S1x1x512.size a ≤ S1x512x512.size a := fun v1214 k0_hw231 => k0_hw231

def k0_off233 (v1218 : BitVec 32) : Fin 3 → Nat :=
  let c0_1190 : Index := 0#32
  let v1219 : Index := Scalar.indexCast v1218
  let c0_1191 : Index := 0#32
  ![0, v1219.toNat, 0]

def k0_chk232 (v1218 : BitVec 32) : Prop :=
  (∀ a, (k0_off233 v1218) a + S1x1x512.size a ≤ S1x512x512.size a)
theorem k0_off233_inb : ∀ (v1218 : BitVec 32) (k0_hw232 : k0_chk232 v1218), ∀ a, (k0_off233 v1218) a + S1x1x512.size a ≤ S1x512x512.size a := fun v1218 k0_hw232 => k0_hw232

def k0_off234 (v1222 : BitVec 32) : Fin 3 → Nat :=
  let c0_1195 : Index := 0#32
  let v1223 : Index := Scalar.indexCast v1222
  let c0_1196 : Index := 0#32
  ![0, v1223.toNat, 0]

def k0_chk233 (v1222 : BitVec 32) : Prop :=
  (∀ a, (k0_off234 v1222) a + S1x1x512.size a ≤ S1x512x512.size a)
theorem k0_off234_inb : ∀ (v1222 : BitVec 32) (k0_hw233 : k0_chk233 v1222), ∀ a, (k0_off234 v1222) a + S1x1x512.size a ≤ S1x512x512.size a := fun v1222 k0_hw233 => k0_hw233

def k0_off235 (v1226 : BitVec 32) : Fin 3 → Nat :=
  let c0_1200 : Index := 0#32
  let v1227 : Index := Scalar.indexCast v1226
  let c0_1201 : Index := 0#32
  ![0, v1227.toNat, 0]

def k0_chk234 (v1226 : BitVec 32) : Prop :=
  (∀ a, (k0_off235 v1226) a + S1x1x512.size a ≤ S1x512x512.size a)
theorem k0_off235_inb : ∀ (v1226 : BitVec 32) (k0_hw234 : k0_chk234 v1226), ∀ a, (k0_off235 v1226) a + S1x1x512.size a ≤ S1x512x512.size a := fun v1226 k0_hw234 => k0_hw234

def k0_off236 (v1230 : BitVec 32) : Fin 3 → Nat :=
  let c0_1205 : Index := 0#32
  let v1231 : Index := Scalar.indexCast v1230
  let c0_1206 : Index := 0#32
  ![0, v1231.toNat, 0]

def k0_chk235 (v1230 : BitVec 32) : Prop :=
  (∀ a, (k0_off236 v1230) a + S1x1x512.size a ≤ S1x512x512.size a)
theorem k0_off236_inb : ∀ (v1230 : BitVec 32) (k0_hw235 : k0_chk235 v1230), ∀ a, (k0_off236 v1230) a + S1x1x512.size a ≤ S1x512x512.size a := fun v1230 k0_hw235 => k0_hw235

def k0_off237 (v1234 : BitVec 32) : Fin 3 → Nat :=
  let c0_1210 : Index := 0#32
  let v1235 : Index := Scalar.indexCast v1234
  let c0_1211 : Index := 0#32
  ![0, v1235.toNat, 0]

def k0_chk236 (v1234 : BitVec 32) : Prop :=
  (∀ a, (k0_off237 v1234) a + S1x1x512.size a ≤ S1x512x512.size a)
theorem k0_off237_inb : ∀ (v1234 : BitVec 32) (k0_hw236 : k0_chk236 v1234), ∀ a, (k0_off237 v1234) a + S1x1x512.size a ≤ S1x512x512.size a := fun v1234 k0_hw236 => k0_hw236

def k0_off238 (v1238 : BitVec 32) : Fin 3 → Nat :=
  let c0_1215 : Index := 0#32
  let v1239 : Index := Scalar.indexCast v1238
  let c0_1216 : Index := 0#32
  ![0, v1239.toNat, 0]

def k0_chk237 (v1238 : BitVec 32) : Prop :=
  (∀ a, (k0_off238 v1238) a + S1x1x512.size a ≤ S1x512x512.size a)
theorem k0_off238_inb : ∀ (v1238 : BitVec 32) (k0_hw237 : k0_chk237 v1238), ∀ a, (k0_off238 v1238) a + S1x1x512.size a ≤ S1x512x512.size a := fun v1238 k0_hw237 => k0_hw237

def k0_off239 (v1242 : BitVec 32) : Fin 3 → Nat :=
  let c0_1220 : Index := 0#32
  let v1243 : Index := Scalar.indexCast v1242
  let c0_1221 : Index := 0#32
  ![0, v1243.toNat, 0]

def k0_chk238 (v1242 : BitVec 32) : Prop :=
  (∀ a, (k0_off239 v1242) a + S1x1x512.size a ≤ S1x512x512.size a)
theorem k0_off239_inb : ∀ (v1242 : BitVec 32) (k0_hw238 : k0_chk238 v1242), ∀ a, (k0_off239 v1242) a + S1x1x512.size a ≤ S1x512x512.size a := fun v1242 k0_hw238 => k0_hw238

def k0_off240 (v1246 : BitVec 32) : Fin 3 → Nat :=
  let c0_1225 : Index := 0#32
  let v1247 : Index := Scalar.indexCast v1246
  let c0_1226 : Index := 0#32
  ![0, v1247.toNat, 0]

def k0_chk239 (v1246 : BitVec 32) : Prop :=
  (∀ a, (k0_off240 v1246) a + S1x1x512.size a ≤ S1x512x512.size a)
theorem k0_off240_inb : ∀ (v1246 : BitVec 32) (k0_hw239 : k0_chk239 v1246), ∀ a, (k0_off240 v1246) a + S1x1x512.size a ≤ S1x512x512.size a := fun v1246 k0_hw239 => k0_hw239

def k0_off241 (v1250 : BitVec 32) : Fin 3 → Nat :=
  let c0_1230 : Index := 0#32
  let v1251 : Index := Scalar.indexCast v1250
  let c0_1231 : Index := 0#32
  ![0, v1251.toNat, 0]

def k0_chk240 (v1250 : BitVec 32) : Prop :=
  (∀ a, (k0_off241 v1250) a + S1x1x512.size a ≤ S1x512x512.size a)
theorem k0_off241_inb : ∀ (v1250 : BitVec 32) (k0_hw240 : k0_chk240 v1250), ∀ a, (k0_off241 v1250) a + S1x1x512.size a ≤ S1x512x512.size a := fun v1250 k0_hw240 => k0_hw240

def k0_off242 (v1275 : BitVec 32) : Fin 3 → Nat :=
  let c0_1245 : Index := 0#32
  let v1276 : Index := Scalar.indexCast v1275
  let c0_1246 : Index := 0#32
  ![0, v1276.toNat, 0]

def k0_chk241 (v1275 : BitVec 32) : Prop :=
  (∀ a, (k0_off242 v1275) a + S1x1x512.size a ≤ S1x512x512.size a)
theorem k0_off242_inb : ∀ (v1275 : BitVec 32) (k0_hw241 : k0_chk241 v1275), ∀ a, (k0_off242 v1275) a + S1x1x512.size a ≤ S1x512x512.size a := fun v1275 k0_hw241 => k0_hw241

def k0_off243 (v1279 : BitVec 32) : Fin 3 → Nat :=
  let c0_1249 : Index := 0#32
  let v1280 : Index := Scalar.indexCast v1279
  let c0_1250 : Index := 0#32
  ![0, v1280.toNat, 0]

def k0_chk242 (v1279 : BitVec 32) : Prop :=
  (∀ a, (k0_off243 v1279) a + S1x1x512.size a ≤ S1x512x512.size a)
theorem k0_off243_inb : ∀ (v1279 : BitVec 32) (k0_hw242 : k0_chk242 v1279), ∀ a, (k0_off243 v1279) a + S1x1x512.size a ≤ S1x512x512.size a := fun v1279 k0_hw242 => k0_hw242

def k0_off244 (v1283 : BitVec 32) : Fin 3 → Nat :=
  let c0_1253 : Index := 0#32
  let v1284 : Index := Scalar.indexCast v1283
  let c0_1254 : Index := 0#32
  ![0, v1284.toNat, 0]

def k0_chk243 (v1283 : BitVec 32) : Prop :=
  (∀ a, (k0_off244 v1283) a + S1x1x512.size a ≤ S1x512x512.size a)
theorem k0_off244_inb : ∀ (v1283 : BitVec 32) (k0_hw243 : k0_chk243 v1283), ∀ a, (k0_off244 v1283) a + S1x1x512.size a ≤ S1x512x512.size a := fun v1283 k0_hw243 => k0_hw243

def k0_off245 (v1287 : BitVec 32) : Fin 3 → Nat :=
  let c0_1257 : Index := 0#32
  let v1288 : Index := Scalar.indexCast v1287
  let c0_1258 : Index := 0#32
  ![0, v1288.toNat, 0]

def k0_chk244 (v1287 : BitVec 32) : Prop :=
  (∀ a, (k0_off245 v1287) a + S1x1x512.size a ≤ S1x512x512.size a)
theorem k0_off245_inb : ∀ (v1287 : BitVec 32) (k0_hw244 : k0_chk244 v1287), ∀ a, (k0_off245 v1287) a + S1x1x512.size a ≤ S1x512x512.size a := fun v1287 k0_hw244 => k0_hw244

def k0_off246 (v1291 : BitVec 32) : Fin 3 → Nat :=
  let c0_1261 : Index := 0#32
  let v1292 : Index := Scalar.indexCast v1291
  let c0_1262 : Index := 0#32
  ![0, v1292.toNat, 0]

def k0_chk245 (v1291 : BitVec 32) : Prop :=
  (∀ a, (k0_off246 v1291) a + S1x1x512.size a ≤ S1x512x512.size a)
theorem k0_off246_inb : ∀ (v1291 : BitVec 32) (k0_hw245 : k0_chk245 v1291), ∀ a, (k0_off246 v1291) a + S1x1x512.size a ≤ S1x512x512.size a := fun v1291 k0_hw245 => k0_hw245

def k0_off247 (v1295 : BitVec 32) : Fin 3 → Nat :=
  let c0_1265 : Index := 0#32
  let v1296 : Index := Scalar.indexCast v1295
  let c0_1266 : Index := 0#32
  ![0, v1296.toNat, 0]

def k0_chk246 (v1295 : BitVec 32) : Prop :=
  (∀ a, (k0_off247 v1295) a + S1x1x512.size a ≤ S1x512x512.size a)
theorem k0_off247_inb : ∀ (v1295 : BitVec 32) (k0_hw246 : k0_chk246 v1295), ∀ a, (k0_off247 v1295) a + S1x1x512.size a ≤ S1x512x512.size a := fun v1295 k0_hw246 => k0_hw246

def k0_off248 (v1299 : BitVec 32) : Fin 3 → Nat :=
  let c0_1269 : Index := 0#32
  let v1300 : Index := Scalar.indexCast v1299
  let c0_1270 : Index := 0#32
  ![0, v1300.toNat, 0]

def k0_chk247 (v1299 : BitVec 32) : Prop :=
  (∀ a, (k0_off248 v1299) a + S1x1x512.size a ≤ S1x512x512.size a)
theorem k0_off248_inb : ∀ (v1299 : BitVec 32) (k0_hw247 : k0_chk247 v1299), ∀ a, (k0_off248 v1299) a + S1x1x512.size a ≤ S1x512x512.size a := fun v1299 k0_hw247 => k0_hw247

def k0_off249 (v1303 : BitVec 32) : Fin 3 → Nat :=
  let c0_1273 : Index := 0#32
  let v1304 : Index := Scalar.indexCast v1303
  let c0_1274 : Index := 0#32
  ![0, v1304.toNat, 0]

def k0_chk248 (v1303 : BitVec 32) : Prop :=
  (∀ a, (k0_off249 v1303) a + S1x1x512.size a ≤ S1x512x512.size a)
theorem k0_off249_inb : ∀ (v1303 : BitVec 32) (k0_hw248 : k0_chk248 v1303), ∀ a, (k0_off249 v1303) a + S1x1x512.size a ≤ S1x512x512.size a := fun v1303 k0_hw248 => k0_hw248

def k0_off250 (v1307 : BitVec 32) : Fin 3 → Nat :=
  let c0_1278 : Index := 0#32
  let v1308 : Index := Scalar.indexCast v1307
  let c0_1279 : Index := 0#32
  ![0, v1308.toNat, 0]

def k0_chk249 (v1307 : BitVec 32) : Prop :=
  (∀ a, (k0_off250 v1307) a + S1x1x512.size a ≤ S1x512x512.size a)
theorem k0_off250_inb : ∀ (v1307 : BitVec 32) (k0_hw249 : k0_chk249 v1307), ∀ a, (k0_off250 v1307) a + S1x1x512.size a ≤ S1x512x512.size a := fun v1307 k0_hw249 => k0_hw249

def k0_off251 (v1311 : BitVec 32) : Fin 3 → Nat :=
  let c0_1283 : Index := 0#32
  let v1312 : Index := Scalar.indexCast v1311
  let c0_1284 : Index := 0#32
  ![0, v1312.toNat, 0]

def k0_chk250 (v1311 : BitVec 32) : Prop :=
  (∀ a, (k0_off251 v1311) a + S1x1x512.size a ≤ S1x512x512.size a)
theorem k0_off251_inb : ∀ (v1311 : BitVec 32) (k0_hw250 : k0_chk250 v1311), ∀ a, (k0_off251 v1311) a + S1x1x512.size a ≤ S1x512x512.size a := fun v1311 k0_hw250 => k0_hw250

def k0_off252 (v1315 : BitVec 32) : Fin 3 → Nat :=
  let c0_1288 : Index := 0#32
  let v1316 : Index := Scalar.indexCast v1315
  let c0_1289 : Index := 0#32
  ![0, v1316.toNat, 0]

def k0_chk251 (v1315 : BitVec 32) : Prop :=
  (∀ a, (k0_off252 v1315) a + S1x1x512.size a ≤ S1x512x512.size a)
theorem k0_off252_inb : ∀ (v1315 : BitVec 32) (k0_hw251 : k0_chk251 v1315), ∀ a, (k0_off252 v1315) a + S1x1x512.size a ≤ S1x512x512.size a := fun v1315 k0_hw251 => k0_hw251

def k0_off253 (v1319 : BitVec 32) : Fin 3 → Nat :=
  let c0_1293 : Index := 0#32
  let v1320 : Index := Scalar.indexCast v1319
  let c0_1294 : Index := 0#32
  ![0, v1320.toNat, 0]

def k0_chk252 (v1319 : BitVec 32) : Prop :=
  (∀ a, (k0_off253 v1319) a + S1x1x512.size a ≤ S1x512x512.size a)
theorem k0_off253_inb : ∀ (v1319 : BitVec 32) (k0_hw252 : k0_chk252 v1319), ∀ a, (k0_off253 v1319) a + S1x1x512.size a ≤ S1x512x512.size a := fun v1319 k0_hw252 => k0_hw252

def k0_off254 (v1323 : BitVec 32) : Fin 3 → Nat :=
  let c0_1298 : Index := 0#32
  let v1324 : Index := Scalar.indexCast v1323
  let c0_1299 : Index := 0#32
  ![0, v1324.toNat, 0]

def k0_chk253 (v1323 : BitVec 32) : Prop :=
  (∀ a, (k0_off254 v1323) a + S1x1x512.size a ≤ S1x512x512.size a)
theorem k0_off254_inb : ∀ (v1323 : BitVec 32) (k0_hw253 : k0_chk253 v1323), ∀ a, (k0_off254 v1323) a + S1x1x512.size a ≤ S1x512x512.size a := fun v1323 k0_hw253 => k0_hw253

def k0_off255 (v1327 : BitVec 32) : Fin 3 → Nat :=
  let c0_1303 : Index := 0#32
  let v1328 : Index := Scalar.indexCast v1327
  let c0_1304 : Index := 0#32
  ![0, v1328.toNat, 0]

def k0_chk254 (v1327 : BitVec 32) : Prop :=
  (∀ a, (k0_off255 v1327) a + S1x1x512.size a ≤ S1x512x512.size a)
theorem k0_off255_inb : ∀ (v1327 : BitVec 32) (k0_hw254 : k0_chk254 v1327), ∀ a, (k0_off255 v1327) a + S1x1x512.size a ≤ S1x512x512.size a := fun v1327 k0_hw254 => k0_hw254

def k0_off256 (v1331 : BitVec 32) : Fin 3 → Nat :=
  let c0_1308 : Index := 0#32
  let v1332 : Index := Scalar.indexCast v1331
  let c0_1309 : Index := 0#32
  ![0, v1332.toNat, 0]

def k0_chk255 (v1331 : BitVec 32) : Prop :=
  (∀ a, (k0_off256 v1331) a + S1x1x512.size a ≤ S1x512x512.size a)
theorem k0_off256_inb : ∀ (v1331 : BitVec 32) (k0_hw255 : k0_chk255 v1331), ∀ a, (k0_off256 v1331) a + S1x1x512.size a ≤ S1x512x512.size a := fun v1331 k0_hw255 => k0_hw255

def k0_off257 (v1335 : BitVec 32) : Fin 3 → Nat :=
  let c0_1313 : Index := 0#32
  let v1336 : Index := Scalar.indexCast v1335
  let c0_1314 : Index := 0#32
  ![0, v1336.toNat, 0]

def k0_chk256 (v1335 : BitVec 32) : Prop :=
  (∀ a, (k0_off257 v1335) a + S1x1x512.size a ≤ S1x512x512.size a)
theorem k0_off257_inb : ∀ (v1335 : BitVec 32) (k0_hw256 : k0_chk256 v1335), ∀ a, (k0_off257 v1335) a + S1x1x512.size a ≤ S1x512x512.size a := fun v1335 k0_hw256 => k0_hw256

def k0_off258 (v1360 : BitVec 32) : Fin 3 → Nat :=
  let c0_1328 : Index := 0#32
  let v1361 : Index := Scalar.indexCast v1360
  let c0_1329 : Index := 0#32
  ![0, v1361.toNat, 0]

def k0_chk257 (v1360 : BitVec 32) : Prop :=
  (∀ a, (k0_off258 v1360) a + S1x1x512.size a ≤ S1x512x512.size a)
theorem k0_off258_inb : ∀ (v1360 : BitVec 32) (k0_hw257 : k0_chk257 v1360), ∀ a, (k0_off258 v1360) a + S1x1x512.size a ≤ S1x512x512.size a := fun v1360 k0_hw257 => k0_hw257

def k0_off259 (v1364 : BitVec 32) : Fin 3 → Nat :=
  let c0_1332 : Index := 0#32
  let v1365 : Index := Scalar.indexCast v1364
  let c0_1333 : Index := 0#32
  ![0, v1365.toNat, 0]

def k0_chk258 (v1364 : BitVec 32) : Prop :=
  (∀ a, (k0_off259 v1364) a + S1x1x512.size a ≤ S1x512x512.size a)
theorem k0_off259_inb : ∀ (v1364 : BitVec 32) (k0_hw258 : k0_chk258 v1364), ∀ a, (k0_off259 v1364) a + S1x1x512.size a ≤ S1x512x512.size a := fun v1364 k0_hw258 => k0_hw258

def k0_off260 (v1368 : BitVec 32) : Fin 3 → Nat :=
  let c0_1336 : Index := 0#32
  let v1369 : Index := Scalar.indexCast v1368
  let c0_1337 : Index := 0#32
  ![0, v1369.toNat, 0]

def k0_chk259 (v1368 : BitVec 32) : Prop :=
  (∀ a, (k0_off260 v1368) a + S1x1x512.size a ≤ S1x512x512.size a)
theorem k0_off260_inb : ∀ (v1368 : BitVec 32) (k0_hw259 : k0_chk259 v1368), ∀ a, (k0_off260 v1368) a + S1x1x512.size a ≤ S1x512x512.size a := fun v1368 k0_hw259 => k0_hw259

def k0_off261 (v1372 : BitVec 32) : Fin 3 → Nat :=
  let c0_1340 : Index := 0#32
  let v1373 : Index := Scalar.indexCast v1372
  let c0_1341 : Index := 0#32
  ![0, v1373.toNat, 0]

def k0_chk260 (v1372 : BitVec 32) : Prop :=
  (∀ a, (k0_off261 v1372) a + S1x1x512.size a ≤ S1x512x512.size a)
theorem k0_off261_inb : ∀ (v1372 : BitVec 32) (k0_hw260 : k0_chk260 v1372), ∀ a, (k0_off261 v1372) a + S1x1x512.size a ≤ S1x512x512.size a := fun v1372 k0_hw260 => k0_hw260

def k0_off262 (v1376 : BitVec 32) : Fin 3 → Nat :=
  let c0_1344 : Index := 0#32
  let v1377 : Index := Scalar.indexCast v1376
  let c0_1345 : Index := 0#32
  ![0, v1377.toNat, 0]

def k0_chk261 (v1376 : BitVec 32) : Prop :=
  (∀ a, (k0_off262 v1376) a + S1x1x512.size a ≤ S1x512x512.size a)
theorem k0_off262_inb : ∀ (v1376 : BitVec 32) (k0_hw261 : k0_chk261 v1376), ∀ a, (k0_off262 v1376) a + S1x1x512.size a ≤ S1x512x512.size a := fun v1376 k0_hw261 => k0_hw261

def k0_off263 (v1380 : BitVec 32) : Fin 3 → Nat :=
  let c0_1348 : Index := 0#32
  let v1381 : Index := Scalar.indexCast v1380
  let c0_1349 : Index := 0#32
  ![0, v1381.toNat, 0]

def k0_chk262 (v1380 : BitVec 32) : Prop :=
  (∀ a, (k0_off263 v1380) a + S1x1x512.size a ≤ S1x512x512.size a)
theorem k0_off263_inb : ∀ (v1380 : BitVec 32) (k0_hw262 : k0_chk262 v1380), ∀ a, (k0_off263 v1380) a + S1x1x512.size a ≤ S1x512x512.size a := fun v1380 k0_hw262 => k0_hw262

def k0_off264 (v1384 : BitVec 32) : Fin 3 → Nat :=
  let c0_1352 : Index := 0#32
  let v1385 : Index := Scalar.indexCast v1384
  let c0_1353 : Index := 0#32
  ![0, v1385.toNat, 0]

def k0_chk263 (v1384 : BitVec 32) : Prop :=
  (∀ a, (k0_off264 v1384) a + S1x1x512.size a ≤ S1x512x512.size a)
theorem k0_off264_inb : ∀ (v1384 : BitVec 32) (k0_hw263 : k0_chk263 v1384), ∀ a, (k0_off264 v1384) a + S1x1x512.size a ≤ S1x512x512.size a := fun v1384 k0_hw263 => k0_hw263

def k0_off265 (v1388 : BitVec 32) : Fin 3 → Nat :=
  let c0_1356 : Index := 0#32
  let v1389 : Index := Scalar.indexCast v1388
  let c0_1357 : Index := 0#32
  ![0, v1389.toNat, 0]

def k0_chk264 (v1388 : BitVec 32) : Prop :=
  (∀ a, (k0_off265 v1388) a + S1x1x512.size a ≤ S1x512x512.size a)
theorem k0_off265_inb : ∀ (v1388 : BitVec 32) (k0_hw264 : k0_chk264 v1388), ∀ a, (k0_off265 v1388) a + S1x1x512.size a ≤ S1x512x512.size a := fun v1388 k0_hw264 => k0_hw264

def k0_off266 (v1392 : BitVec 32) : Fin 3 → Nat :=
  let c0_1361 : Index := 0#32
  let v1393 : Index := Scalar.indexCast v1392
  let c0_1362 : Index := 0#32
  ![0, v1393.toNat, 0]

def k0_chk265 (v1392 : BitVec 32) : Prop :=
  (∀ a, (k0_off266 v1392) a + S1x1x512.size a ≤ S1x512x512.size a)
theorem k0_off266_inb : ∀ (v1392 : BitVec 32) (k0_hw265 : k0_chk265 v1392), ∀ a, (k0_off266 v1392) a + S1x1x512.size a ≤ S1x512x512.size a := fun v1392 k0_hw265 => k0_hw265

def k0_off267 (v1396 : BitVec 32) : Fin 3 → Nat :=
  let c0_1366 : Index := 0#32
  let v1397 : Index := Scalar.indexCast v1396
  let c0_1367 : Index := 0#32
  ![0, v1397.toNat, 0]

def k0_chk266 (v1396 : BitVec 32) : Prop :=
  (∀ a, (k0_off267 v1396) a + S1x1x512.size a ≤ S1x512x512.size a)
theorem k0_off267_inb : ∀ (v1396 : BitVec 32) (k0_hw266 : k0_chk266 v1396), ∀ a, (k0_off267 v1396) a + S1x1x512.size a ≤ S1x512x512.size a := fun v1396 k0_hw266 => k0_hw266

def k0_off268 (v1400 : BitVec 32) : Fin 3 → Nat :=
  let c0_1371 : Index := 0#32
  let v1401 : Index := Scalar.indexCast v1400
  let c0_1372 : Index := 0#32
  ![0, v1401.toNat, 0]

def k0_chk267 (v1400 : BitVec 32) : Prop :=
  (∀ a, (k0_off268 v1400) a + S1x1x512.size a ≤ S1x512x512.size a)
theorem k0_off268_inb : ∀ (v1400 : BitVec 32) (k0_hw267 : k0_chk267 v1400), ∀ a, (k0_off268 v1400) a + S1x1x512.size a ≤ S1x512x512.size a := fun v1400 k0_hw267 => k0_hw267

def k0_off269 (v1404 : BitVec 32) : Fin 3 → Nat :=
  let c0_1376 : Index := 0#32
  let v1405 : Index := Scalar.indexCast v1404
  let c0_1377 : Index := 0#32
  ![0, v1405.toNat, 0]

def k0_chk268 (v1404 : BitVec 32) : Prop :=
  (∀ a, (k0_off269 v1404) a + S1x1x512.size a ≤ S1x512x512.size a)
theorem k0_off269_inb : ∀ (v1404 : BitVec 32) (k0_hw268 : k0_chk268 v1404), ∀ a, (k0_off269 v1404) a + S1x1x512.size a ≤ S1x512x512.size a := fun v1404 k0_hw268 => k0_hw268

def k0_off270 (v1408 : BitVec 32) : Fin 3 → Nat :=
  let c0_1381 : Index := 0#32
  let v1409 : Index := Scalar.indexCast v1408
  let c0_1382 : Index := 0#32
  ![0, v1409.toNat, 0]

def k0_chk269 (v1408 : BitVec 32) : Prop :=
  (∀ a, (k0_off270 v1408) a + S1x1x512.size a ≤ S1x512x512.size a)
theorem k0_off270_inb : ∀ (v1408 : BitVec 32) (k0_hw269 : k0_chk269 v1408), ∀ a, (k0_off270 v1408) a + S1x1x512.size a ≤ S1x512x512.size a := fun v1408 k0_hw269 => k0_hw269

def k0_off271 (v1412 : BitVec 32) : Fin 3 → Nat :=
  let c0_1386 : Index := 0#32
  let v1413 : Index := Scalar.indexCast v1412
  let c0_1387 : Index := 0#32
  ![0, v1413.toNat, 0]

def k0_chk270 (v1412 : BitVec 32) : Prop :=
  (∀ a, (k0_off271 v1412) a + S1x1x512.size a ≤ S1x512x512.size a)
theorem k0_off271_inb : ∀ (v1412 : BitVec 32) (k0_hw270 : k0_chk270 v1412), ∀ a, (k0_off271 v1412) a + S1x1x512.size a ≤ S1x512x512.size a := fun v1412 k0_hw270 => k0_hw270

def k0_off272 (v1416 : BitVec 32) : Fin 3 → Nat :=
  let c0_1391 : Index := 0#32
  let v1417 : Index := Scalar.indexCast v1416
  let c0_1392 : Index := 0#32
  ![0, v1417.toNat, 0]

def k0_chk271 (v1416 : BitVec 32) : Prop :=
  (∀ a, (k0_off272 v1416) a + S1x1x512.size a ≤ S1x512x512.size a)
theorem k0_off272_inb : ∀ (v1416 : BitVec 32) (k0_hw271 : k0_chk271 v1416), ∀ a, (k0_off272 v1416) a + S1x1x512.size a ≤ S1x512x512.size a := fun v1416 k0_hw271 => k0_hw271

def k0_off273 (v1420 : BitVec 32) : Fin 3 → Nat :=
  let c0_1396 : Index := 0#32
  let v1421 : Index := Scalar.indexCast v1420
  let c0_1397 : Index := 0#32
  ![0, v1421.toNat, 0]

def k0_chk272 (v1420 : BitVec 32) : Prop :=
  (∀ a, (k0_off273 v1420) a + S1x1x512.size a ≤ S1x512x512.size a)
theorem k0_off273_inb : ∀ (v1420 : BitVec 32) (k0_hw272 : k0_chk272 v1420), ∀ a, (k0_off273 v1420) a + S1x1x512.size a ≤ S1x512x512.size a := fun v1420 k0_hw272 => k0_hw272

def k0_off274 (v1445 : BitVec 32) : Fin 3 → Nat :=
  let c0_1411 : Index := 0#32
  let v1446 : Index := Scalar.indexCast v1445
  let c0_1412 : Index := 0#32
  ![0, v1446.toNat, 0]

def k0_chk273 (v1445 : BitVec 32) : Prop :=
  (∀ a, (k0_off274 v1445) a + S1x1x512.size a ≤ S1x512x512.size a)
theorem k0_off274_inb : ∀ (v1445 : BitVec 32) (k0_hw273 : k0_chk273 v1445), ∀ a, (k0_off274 v1445) a + S1x1x512.size a ≤ S1x512x512.size a := fun v1445 k0_hw273 => k0_hw273

def k0_off275 (v1449 : BitVec 32) : Fin 3 → Nat :=
  let c0_1415 : Index := 0#32
  let v1450 : Index := Scalar.indexCast v1449
  let c0_1416 : Index := 0#32
  ![0, v1450.toNat, 0]

def k0_chk274 (v1449 : BitVec 32) : Prop :=
  (∀ a, (k0_off275 v1449) a + S1x1x512.size a ≤ S1x512x512.size a)
theorem k0_off275_inb : ∀ (v1449 : BitVec 32) (k0_hw274 : k0_chk274 v1449), ∀ a, (k0_off275 v1449) a + S1x1x512.size a ≤ S1x512x512.size a := fun v1449 k0_hw274 => k0_hw274

def k0_off276 (v1453 : BitVec 32) : Fin 3 → Nat :=
  let c0_1419 : Index := 0#32
  let v1454 : Index := Scalar.indexCast v1453
  let c0_1420 : Index := 0#32
  ![0, v1454.toNat, 0]

def k0_chk275 (v1453 : BitVec 32) : Prop :=
  (∀ a, (k0_off276 v1453) a + S1x1x512.size a ≤ S1x512x512.size a)
theorem k0_off276_inb : ∀ (v1453 : BitVec 32) (k0_hw275 : k0_chk275 v1453), ∀ a, (k0_off276 v1453) a + S1x1x512.size a ≤ S1x512x512.size a := fun v1453 k0_hw275 => k0_hw275

def k0_off277 (v1457 : BitVec 32) : Fin 3 → Nat :=
  let c0_1423 : Index := 0#32
  let v1458 : Index := Scalar.indexCast v1457
  let c0_1424 : Index := 0#32
  ![0, v1458.toNat, 0]

def k0_chk276 (v1457 : BitVec 32) : Prop :=
  (∀ a, (k0_off277 v1457) a + S1x1x512.size a ≤ S1x512x512.size a)
theorem k0_off277_inb : ∀ (v1457 : BitVec 32) (k0_hw276 : k0_chk276 v1457), ∀ a, (k0_off277 v1457) a + S1x1x512.size a ≤ S1x512x512.size a := fun v1457 k0_hw276 => k0_hw276

def k0_off278 (v1461 : BitVec 32) : Fin 3 → Nat :=
  let c0_1427 : Index := 0#32
  let v1462 : Index := Scalar.indexCast v1461
  let c0_1428 : Index := 0#32
  ![0, v1462.toNat, 0]

def k0_chk277 (v1461 : BitVec 32) : Prop :=
  (∀ a, (k0_off278 v1461) a + S1x1x512.size a ≤ S1x512x512.size a)
theorem k0_off278_inb : ∀ (v1461 : BitVec 32) (k0_hw277 : k0_chk277 v1461), ∀ a, (k0_off278 v1461) a + S1x1x512.size a ≤ S1x512x512.size a := fun v1461 k0_hw277 => k0_hw277

def k0_off279 (v1465 : BitVec 32) : Fin 3 → Nat :=
  let c0_1431 : Index := 0#32
  let v1466 : Index := Scalar.indexCast v1465
  let c0_1432 : Index := 0#32
  ![0, v1466.toNat, 0]

def k0_chk278 (v1465 : BitVec 32) : Prop :=
  (∀ a, (k0_off279 v1465) a + S1x1x512.size a ≤ S1x512x512.size a)
theorem k0_off279_inb : ∀ (v1465 : BitVec 32) (k0_hw278 : k0_chk278 v1465), ∀ a, (k0_off279 v1465) a + S1x1x512.size a ≤ S1x512x512.size a := fun v1465 k0_hw278 => k0_hw278

def k0_off280 (v1469 : BitVec 32) : Fin 3 → Nat :=
  let c0_1435 : Index := 0#32
  let v1470 : Index := Scalar.indexCast v1469
  let c0_1436 : Index := 0#32
  ![0, v1470.toNat, 0]

def k0_chk279 (v1469 : BitVec 32) : Prop :=
  (∀ a, (k0_off280 v1469) a + S1x1x512.size a ≤ S1x512x512.size a)
theorem k0_off280_inb : ∀ (v1469 : BitVec 32) (k0_hw279 : k0_chk279 v1469), ∀ a, (k0_off280 v1469) a + S1x1x512.size a ≤ S1x512x512.size a := fun v1469 k0_hw279 => k0_hw279

def k0_off281 (v1473 : BitVec 32) : Fin 3 → Nat :=
  let c0_1439 : Index := 0#32
  let v1474 : Index := Scalar.indexCast v1473
  let c0_1440 : Index := 0#32
  ![0, v1474.toNat, 0]

def k0_chk280 (v1473 : BitVec 32) : Prop :=
  (∀ a, (k0_off281 v1473) a + S1x1x512.size a ≤ S1x512x512.size a)
theorem k0_off281_inb : ∀ (v1473 : BitVec 32) (k0_hw280 : k0_chk280 v1473), ∀ a, (k0_off281 v1473) a + S1x1x512.size a ≤ S1x512x512.size a := fun v1473 k0_hw280 => k0_hw280

def k0_off282 (v1477 : BitVec 32) : Fin 3 → Nat :=
  let c0_1444 : Index := 0#32
  let v1478 : Index := Scalar.indexCast v1477
  let c0_1445 : Index := 0#32
  ![0, v1478.toNat, 0]

def k0_chk281 (v1477 : BitVec 32) : Prop :=
  (∀ a, (k0_off282 v1477) a + S1x1x512.size a ≤ S1x512x512.size a)
theorem k0_off282_inb : ∀ (v1477 : BitVec 32) (k0_hw281 : k0_chk281 v1477), ∀ a, (k0_off282 v1477) a + S1x1x512.size a ≤ S1x512x512.size a := fun v1477 k0_hw281 => k0_hw281

def k0_off283 (v1481 : BitVec 32) : Fin 3 → Nat :=
  let c0_1449 : Index := 0#32
  let v1482 : Index := Scalar.indexCast v1481
  let c0_1450 : Index := 0#32
  ![0, v1482.toNat, 0]

def k0_chk282 (v1481 : BitVec 32) : Prop :=
  (∀ a, (k0_off283 v1481) a + S1x1x512.size a ≤ S1x512x512.size a)
theorem k0_off283_inb : ∀ (v1481 : BitVec 32) (k0_hw282 : k0_chk282 v1481), ∀ a, (k0_off283 v1481) a + S1x1x512.size a ≤ S1x512x512.size a := fun v1481 k0_hw282 => k0_hw282

def k0_off284 (v1485 : BitVec 32) : Fin 3 → Nat :=
  let c0_1454 : Index := 0#32
  let v1486 : Index := Scalar.indexCast v1485
  let c0_1455 : Index := 0#32
  ![0, v1486.toNat, 0]

def k0_chk283 (v1485 : BitVec 32) : Prop :=
  (∀ a, (k0_off284 v1485) a + S1x1x512.size a ≤ S1x512x512.size a)
theorem k0_off284_inb : ∀ (v1485 : BitVec 32) (k0_hw283 : k0_chk283 v1485), ∀ a, (k0_off284 v1485) a + S1x1x512.size a ≤ S1x512x512.size a := fun v1485 k0_hw283 => k0_hw283

def k0_off285 (v1489 : BitVec 32) : Fin 3 → Nat :=
  let c0_1459 : Index := 0#32
  let v1490 : Index := Scalar.indexCast v1489
  let c0_1460 : Index := 0#32
  ![0, v1490.toNat, 0]

def k0_chk284 (v1489 : BitVec 32) : Prop :=
  (∀ a, (k0_off285 v1489) a + S1x1x512.size a ≤ S1x512x512.size a)
theorem k0_off285_inb : ∀ (v1489 : BitVec 32) (k0_hw284 : k0_chk284 v1489), ∀ a, (k0_off285 v1489) a + S1x1x512.size a ≤ S1x512x512.size a := fun v1489 k0_hw284 => k0_hw284

def k0_off286 (v1493 : BitVec 32) : Fin 3 → Nat :=
  let c0_1464 : Index := 0#32
  let v1494 : Index := Scalar.indexCast v1493
  let c0_1465 : Index := 0#32
  ![0, v1494.toNat, 0]

def k0_chk285 (v1493 : BitVec 32) : Prop :=
  (∀ a, (k0_off286 v1493) a + S1x1x512.size a ≤ S1x512x512.size a)
theorem k0_off286_inb : ∀ (v1493 : BitVec 32) (k0_hw285 : k0_chk285 v1493), ∀ a, (k0_off286 v1493) a + S1x1x512.size a ≤ S1x512x512.size a := fun v1493 k0_hw285 => k0_hw285

def k0_off287 (v1497 : BitVec 32) : Fin 3 → Nat :=
  let c0_1469 : Index := 0#32
  let v1498 : Index := Scalar.indexCast v1497
  let c0_1470 : Index := 0#32
  ![0, v1498.toNat, 0]

def k0_chk286 (v1497 : BitVec 32) : Prop :=
  (∀ a, (k0_off287 v1497) a + S1x1x512.size a ≤ S1x512x512.size a)
theorem k0_off287_inb : ∀ (v1497 : BitVec 32) (k0_hw286 : k0_chk286 v1497), ∀ a, (k0_off287 v1497) a + S1x1x512.size a ≤ S1x512x512.size a := fun v1497 k0_hw286 => k0_hw286

def k0_off288 (v1501 : BitVec 32) : Fin 3 → Nat :=
  let c0_1474 : Index := 0#32
  let v1502 : Index := Scalar.indexCast v1501
  let c0_1475 : Index := 0#32
  ![0, v1502.toNat, 0]

def k0_chk287 (v1501 : BitVec 32) : Prop :=
  (∀ a, (k0_off288 v1501) a + S1x1x512.size a ≤ S1x512x512.size a)
theorem k0_off288_inb : ∀ (v1501 : BitVec 32) (k0_hw287 : k0_chk287 v1501), ∀ a, (k0_off288 v1501) a + S1x1x512.size a ≤ S1x512x512.size a := fun v1501 k0_hw287 => k0_hw287

def k0_off289 (v1505 : BitVec 32) : Fin 3 → Nat :=
  let c0_1479 : Index := 0#32
  let v1506 : Index := Scalar.indexCast v1505
  let c0_1480 : Index := 0#32
  ![0, v1506.toNat, 0]

def k0_chk288 (v1505 : BitVec 32) : Prop :=
  (∀ a, (k0_off289 v1505) a + S1x1x512.size a ≤ S1x512x512.size a)
theorem k0_off289_inb : ∀ (v1505 : BitVec 32) (k0_hw288 : k0_chk288 v1505), ∀ a, (k0_off289 v1505) a + S1x1x512.size a ≤ S1x512x512.size a := fun v1505 k0_hw288 => k0_hw288

def k0_off290 (v1530 : BitVec 32) : Fin 3 → Nat :=
  let c0_1494 : Index := 0#32
  let v1531 : Index := Scalar.indexCast v1530
  let c0_1495 : Index := 0#32
  ![0, v1531.toNat, 0]

def k0_chk289 (v1530 : BitVec 32) : Prop :=
  (∀ a, (k0_off290 v1530) a + S1x1x512.size a ≤ S1x512x512.size a)
theorem k0_off290_inb : ∀ (v1530 : BitVec 32) (k0_hw289 : k0_chk289 v1530), ∀ a, (k0_off290 v1530) a + S1x1x512.size a ≤ S1x512x512.size a := fun v1530 k0_hw289 => k0_hw289

def k0_off291 (v1534 : BitVec 32) : Fin 3 → Nat :=
  let c0_1498 : Index := 0#32
  let v1535 : Index := Scalar.indexCast v1534
  let c0_1499 : Index := 0#32
  ![0, v1535.toNat, 0]

def k0_chk290 (v1534 : BitVec 32) : Prop :=
  (∀ a, (k0_off291 v1534) a + S1x1x512.size a ≤ S1x512x512.size a)
theorem k0_off291_inb : ∀ (v1534 : BitVec 32) (k0_hw290 : k0_chk290 v1534), ∀ a, (k0_off291 v1534) a + S1x1x512.size a ≤ S1x512x512.size a := fun v1534 k0_hw290 => k0_hw290

def k0_off292 (v1538 : BitVec 32) : Fin 3 → Nat :=
  let c0_1502 : Index := 0#32
  let v1539 : Index := Scalar.indexCast v1538
  let c0_1503 : Index := 0#32
  ![0, v1539.toNat, 0]

def k0_chk291 (v1538 : BitVec 32) : Prop :=
  (∀ a, (k0_off292 v1538) a + S1x1x512.size a ≤ S1x512x512.size a)
theorem k0_off292_inb : ∀ (v1538 : BitVec 32) (k0_hw291 : k0_chk291 v1538), ∀ a, (k0_off292 v1538) a + S1x1x512.size a ≤ S1x512x512.size a := fun v1538 k0_hw291 => k0_hw291

def k0_off293 (v1542 : BitVec 32) : Fin 3 → Nat :=
  let c0_1506 : Index := 0#32
  let v1543 : Index := Scalar.indexCast v1542
  let c0_1507 : Index := 0#32
  ![0, v1543.toNat, 0]

def k0_chk292 (v1542 : BitVec 32) : Prop :=
  (∀ a, (k0_off293 v1542) a + S1x1x512.size a ≤ S1x512x512.size a)
theorem k0_off293_inb : ∀ (v1542 : BitVec 32) (k0_hw292 : k0_chk292 v1542), ∀ a, (k0_off293 v1542) a + S1x1x512.size a ≤ S1x512x512.size a := fun v1542 k0_hw292 => k0_hw292

def k0_off294 (v1546 : BitVec 32) : Fin 3 → Nat :=
  let c0_1510 : Index := 0#32
  let v1547 : Index := Scalar.indexCast v1546
  let c0_1511 : Index := 0#32
  ![0, v1547.toNat, 0]

def k0_chk293 (v1546 : BitVec 32) : Prop :=
  (∀ a, (k0_off294 v1546) a + S1x1x512.size a ≤ S1x512x512.size a)
theorem k0_off294_inb : ∀ (v1546 : BitVec 32) (k0_hw293 : k0_chk293 v1546), ∀ a, (k0_off294 v1546) a + S1x1x512.size a ≤ S1x512x512.size a := fun v1546 k0_hw293 => k0_hw293

def k0_off295 (v1550 : BitVec 32) : Fin 3 → Nat :=
  let c0_1514 : Index := 0#32
  let v1551 : Index := Scalar.indexCast v1550
  let c0_1515 : Index := 0#32
  ![0, v1551.toNat, 0]

def k0_chk294 (v1550 : BitVec 32) : Prop :=
  (∀ a, (k0_off295 v1550) a + S1x1x512.size a ≤ S1x512x512.size a)
theorem k0_off295_inb : ∀ (v1550 : BitVec 32) (k0_hw294 : k0_chk294 v1550), ∀ a, (k0_off295 v1550) a + S1x1x512.size a ≤ S1x512x512.size a := fun v1550 k0_hw294 => k0_hw294

def k0_off296 (v1554 : BitVec 32) : Fin 3 → Nat :=
  let c0_1518 : Index := 0#32
  let v1555 : Index := Scalar.indexCast v1554
  let c0_1519 : Index := 0#32
  ![0, v1555.toNat, 0]

def k0_chk295 (v1554 : BitVec 32) : Prop :=
  (∀ a, (k0_off296 v1554) a + S1x1x512.size a ≤ S1x512x512.size a)
theorem k0_off296_inb : ∀ (v1554 : BitVec 32) (k0_hw295 : k0_chk295 v1554), ∀ a, (k0_off296 v1554) a + S1x1x512.size a ≤ S1x512x512.size a := fun v1554 k0_hw295 => k0_hw295

def k0_off297 (v1558 : BitVec 32) : Fin 3 → Nat :=
  let c0_1522 : Index := 0#32
  let v1559 : Index := Scalar.indexCast v1558
  let c0_1523 : Index := 0#32
  ![0, v1559.toNat, 0]

def k0_chk296 (v1558 : BitVec 32) : Prop :=
  (∀ a, (k0_off297 v1558) a + S1x1x512.size a ≤ S1x512x512.size a)
theorem k0_off297_inb : ∀ (v1558 : BitVec 32) (k0_hw296 : k0_chk296 v1558), ∀ a, (k0_off297 v1558) a + S1x1x512.size a ≤ S1x512x512.size a := fun v1558 k0_hw296 => k0_hw296

def k0_off298 (v1562 : BitVec 32) : Fin 3 → Nat :=
  let c0_1527 : Index := 0#32
  let v1563 : Index := Scalar.indexCast v1562
  let c0_1528 : Index := 0#32
  ![0, v1563.toNat, 0]

def k0_chk297 (v1562 : BitVec 32) : Prop :=
  (∀ a, (k0_off298 v1562) a + S1x1x512.size a ≤ S1x512x512.size a)
theorem k0_off298_inb : ∀ (v1562 : BitVec 32) (k0_hw297 : k0_chk297 v1562), ∀ a, (k0_off298 v1562) a + S1x1x512.size a ≤ S1x512x512.size a := fun v1562 k0_hw297 => k0_hw297

def k0_off299 (v1566 : BitVec 32) : Fin 3 → Nat :=
  let c0_1532 : Index := 0#32
  let v1567 : Index := Scalar.indexCast v1566
  let c0_1533 : Index := 0#32
  ![0, v1567.toNat, 0]

def k0_chk298 (v1566 : BitVec 32) : Prop :=
  (∀ a, (k0_off299 v1566) a + S1x1x512.size a ≤ S1x512x512.size a)
theorem k0_off299_inb : ∀ (v1566 : BitVec 32) (k0_hw298 : k0_chk298 v1566), ∀ a, (k0_off299 v1566) a + S1x1x512.size a ≤ S1x512x512.size a := fun v1566 k0_hw298 => k0_hw298

def k0_off300 (v1570 : BitVec 32) : Fin 3 → Nat :=
  let c0_1537 : Index := 0#32
  let v1571 : Index := Scalar.indexCast v1570
  let c0_1538 : Index := 0#32
  ![0, v1571.toNat, 0]

def k0_chk299 (v1570 : BitVec 32) : Prop :=
  (∀ a, (k0_off300 v1570) a + S1x1x512.size a ≤ S1x512x512.size a)
theorem k0_off300_inb : ∀ (v1570 : BitVec 32) (k0_hw299 : k0_chk299 v1570), ∀ a, (k0_off300 v1570) a + S1x1x512.size a ≤ S1x512x512.size a := fun v1570 k0_hw299 => k0_hw299

def k0_off301 (v1574 : BitVec 32) : Fin 3 → Nat :=
  let c0_1542 : Index := 0#32
  let v1575 : Index := Scalar.indexCast v1574
  let c0_1543 : Index := 0#32
  ![0, v1575.toNat, 0]

def k0_chk300 (v1574 : BitVec 32) : Prop :=
  (∀ a, (k0_off301 v1574) a + S1x1x512.size a ≤ S1x512x512.size a)
theorem k0_off301_inb : ∀ (v1574 : BitVec 32) (k0_hw300 : k0_chk300 v1574), ∀ a, (k0_off301 v1574) a + S1x1x512.size a ≤ S1x512x512.size a := fun v1574 k0_hw300 => k0_hw300

def k0_off302 (v1578 : BitVec 32) : Fin 3 → Nat :=
  let c0_1547 : Index := 0#32
  let v1579 : Index := Scalar.indexCast v1578
  let c0_1548 : Index := 0#32
  ![0, v1579.toNat, 0]

def k0_chk301 (v1578 : BitVec 32) : Prop :=
  (∀ a, (k0_off302 v1578) a + S1x1x512.size a ≤ S1x512x512.size a)
theorem k0_off302_inb : ∀ (v1578 : BitVec 32) (k0_hw301 : k0_chk301 v1578), ∀ a, (k0_off302 v1578) a + S1x1x512.size a ≤ S1x512x512.size a := fun v1578 k0_hw301 => k0_hw301

def k0_off303 (v1582 : BitVec 32) : Fin 3 → Nat :=
  let c0_1552 : Index := 0#32
  let v1583 : Index := Scalar.indexCast v1582
  let c0_1553 : Index := 0#32
  ![0, v1583.toNat, 0]

def k0_chk302 (v1582 : BitVec 32) : Prop :=
  (∀ a, (k0_off303 v1582) a + S1x1x512.size a ≤ S1x512x512.size a)
theorem k0_off303_inb : ∀ (v1582 : BitVec 32) (k0_hw302 : k0_chk302 v1582), ∀ a, (k0_off303 v1582) a + S1x1x512.size a ≤ S1x512x512.size a := fun v1582 k0_hw302 => k0_hw302

def k0_off304 (v1586 : BitVec 32) : Fin 3 → Nat :=
  let c0_1557 : Index := 0#32
  let v1587 : Index := Scalar.indexCast v1586
  let c0_1558 : Index := 0#32
  ![0, v1587.toNat, 0]

def k0_chk303 (v1586 : BitVec 32) : Prop :=
  (∀ a, (k0_off304 v1586) a + S1x1x512.size a ≤ S1x512x512.size a)
theorem k0_off304_inb : ∀ (v1586 : BitVec 32) (k0_hw303 : k0_chk303 v1586), ∀ a, (k0_off304 v1586) a + S1x1x512.size a ≤ S1x512x512.size a := fun v1586 k0_hw303 => k0_hw303

def k0_off305 (v1590 : BitVec 32) : Fin 3 → Nat :=
  let c0_1562 : Index := 0#32
  let v1591 : Index := Scalar.indexCast v1590
  let c0_1563 : Index := 0#32
  ![0, v1591.toNat, 0]

def k0_chk304 (v1590 : BitVec 32) : Prop :=
  (∀ a, (k0_off305 v1590) a + S1x1x512.size a ≤ S1x512x512.size a)
theorem k0_off305_inb : ∀ (v1590 : BitVec 32) (k0_hw304 : k0_chk304 v1590), ∀ a, (k0_off305 v1590) a + S1x1x512.size a ≤ S1x512x512.size a := fun v1590 k0_hw304 => k0_hw304

def k0_off306 (v1615 : BitVec 32) : Fin 3 → Nat :=
  let c0_1577 : Index := 0#32
  let v1616 : Index := Scalar.indexCast v1615
  let c0_1578 : Index := 0#32
  ![0, v1616.toNat, 0]

def k0_chk305 (v1615 : BitVec 32) : Prop :=
  (∀ a, (k0_off306 v1615) a + S1x1x512.size a ≤ S1x512x512.size a)
theorem k0_off306_inb : ∀ (v1615 : BitVec 32) (k0_hw305 : k0_chk305 v1615), ∀ a, (k0_off306 v1615) a + S1x1x512.size a ≤ S1x512x512.size a := fun v1615 k0_hw305 => k0_hw305

def k0_off307 (v1619 : BitVec 32) : Fin 3 → Nat :=
  let c0_1581 : Index := 0#32
  let v1620 : Index := Scalar.indexCast v1619
  let c0_1582 : Index := 0#32
  ![0, v1620.toNat, 0]

def k0_chk306 (v1619 : BitVec 32) : Prop :=
  (∀ a, (k0_off307 v1619) a + S1x1x512.size a ≤ S1x512x512.size a)
theorem k0_off307_inb : ∀ (v1619 : BitVec 32) (k0_hw306 : k0_chk306 v1619), ∀ a, (k0_off307 v1619) a + S1x1x512.size a ≤ S1x512x512.size a := fun v1619 k0_hw306 => k0_hw306

def k0_off308 (v1623 : BitVec 32) : Fin 3 → Nat :=
  let c0_1585 : Index := 0#32
  let v1624 : Index := Scalar.indexCast v1623
  let c0_1586 : Index := 0#32
  ![0, v1624.toNat, 0]

def k0_chk307 (v1623 : BitVec 32) : Prop :=
  (∀ a, (k0_off308 v1623) a + S1x1x512.size a ≤ S1x512x512.size a)
theorem k0_off308_inb : ∀ (v1623 : BitVec 32) (k0_hw307 : k0_chk307 v1623), ∀ a, (k0_off308 v1623) a + S1x1x512.size a ≤ S1x512x512.size a := fun v1623 k0_hw307 => k0_hw307

def k0_off309 (v1627 : BitVec 32) : Fin 3 → Nat :=
  let c0_1589 : Index := 0#32
  let v1628 : Index := Scalar.indexCast v1627
  let c0_1590 : Index := 0#32
  ![0, v1628.toNat, 0]

def k0_chk308 (v1627 : BitVec 32) : Prop :=
  (∀ a, (k0_off309 v1627) a + S1x1x512.size a ≤ S1x512x512.size a)
theorem k0_off309_inb : ∀ (v1627 : BitVec 32) (k0_hw308 : k0_chk308 v1627), ∀ a, (k0_off309 v1627) a + S1x1x512.size a ≤ S1x512x512.size a := fun v1627 k0_hw308 => k0_hw308

def k0_off310 (v1631 : BitVec 32) : Fin 3 → Nat :=
  let c0_1593 : Index := 0#32
  let v1632 : Index := Scalar.indexCast v1631
  let c0_1594 : Index := 0#32
  ![0, v1632.toNat, 0]

def k0_chk309 (v1631 : BitVec 32) : Prop :=
  (∀ a, (k0_off310 v1631) a + S1x1x512.size a ≤ S1x512x512.size a)
theorem k0_off310_inb : ∀ (v1631 : BitVec 32) (k0_hw309 : k0_chk309 v1631), ∀ a, (k0_off310 v1631) a + S1x1x512.size a ≤ S1x512x512.size a := fun v1631 k0_hw309 => k0_hw309

def k0_off311 (v1635 : BitVec 32) : Fin 3 → Nat :=
  let c0_1597 : Index := 0#32
  let v1636 : Index := Scalar.indexCast v1635
  let c0_1598 : Index := 0#32
  ![0, v1636.toNat, 0]

def k0_chk310 (v1635 : BitVec 32) : Prop :=
  (∀ a, (k0_off311 v1635) a + S1x1x512.size a ≤ S1x512x512.size a)
theorem k0_off311_inb : ∀ (v1635 : BitVec 32) (k0_hw310 : k0_chk310 v1635), ∀ a, (k0_off311 v1635) a + S1x1x512.size a ≤ S1x512x512.size a := fun v1635 k0_hw310 => k0_hw310

def k0_off312 (v1639 : BitVec 32) : Fin 3 → Nat :=
  let c0_1601 : Index := 0#32
  let v1640 : Index := Scalar.indexCast v1639
  let c0_1602 : Index := 0#32
  ![0, v1640.toNat, 0]

def k0_chk311 (v1639 : BitVec 32) : Prop :=
  (∀ a, (k0_off312 v1639) a + S1x1x512.size a ≤ S1x512x512.size a)
theorem k0_off312_inb : ∀ (v1639 : BitVec 32) (k0_hw311 : k0_chk311 v1639), ∀ a, (k0_off312 v1639) a + S1x1x512.size a ≤ S1x512x512.size a := fun v1639 k0_hw311 => k0_hw311

def k0_off313 (v1643 : BitVec 32) : Fin 3 → Nat :=
  let c0_1605 : Index := 0#32
  let v1644 : Index := Scalar.indexCast v1643
  let c0_1606 : Index := 0#32
  ![0, v1644.toNat, 0]

def k0_chk312 (v1643 : BitVec 32) : Prop :=
  (∀ a, (k0_off313 v1643) a + S1x1x512.size a ≤ S1x512x512.size a)
theorem k0_off313_inb : ∀ (v1643 : BitVec 32) (k0_hw312 : k0_chk312 v1643), ∀ a, (k0_off313 v1643) a + S1x1x512.size a ≤ S1x512x512.size a := fun v1643 k0_hw312 => k0_hw312

def k0_off314 (v1647 : BitVec 32) : Fin 3 → Nat :=
  let c0_1610 : Index := 0#32
  let v1648 : Index := Scalar.indexCast v1647
  let c0_1611 : Index := 0#32
  ![0, v1648.toNat, 0]

def k0_chk313 (v1647 : BitVec 32) : Prop :=
  (∀ a, (k0_off314 v1647) a + S1x1x512.size a ≤ S1x512x512.size a)
theorem k0_off314_inb : ∀ (v1647 : BitVec 32) (k0_hw313 : k0_chk313 v1647), ∀ a, (k0_off314 v1647) a + S1x1x512.size a ≤ S1x512x512.size a := fun v1647 k0_hw313 => k0_hw313

def k0_off315 (v1651 : BitVec 32) : Fin 3 → Nat :=
  let c0_1615 : Index := 0#32
  let v1652 : Index := Scalar.indexCast v1651
  let c0_1616 : Index := 0#32
  ![0, v1652.toNat, 0]

def k0_chk314 (v1651 : BitVec 32) : Prop :=
  (∀ a, (k0_off315 v1651) a + S1x1x512.size a ≤ S1x512x512.size a)
theorem k0_off315_inb : ∀ (v1651 : BitVec 32) (k0_hw314 : k0_chk314 v1651), ∀ a, (k0_off315 v1651) a + S1x1x512.size a ≤ S1x512x512.size a := fun v1651 k0_hw314 => k0_hw314

def k0_off316 (v1655 : BitVec 32) : Fin 3 → Nat :=
  let c0_1620 : Index := 0#32
  let v1656 : Index := Scalar.indexCast v1655
  let c0_1621 : Index := 0#32
  ![0, v1656.toNat, 0]

def k0_chk315 (v1655 : BitVec 32) : Prop :=
  (∀ a, (k0_off316 v1655) a + S1x1x512.size a ≤ S1x512x512.size a)
theorem k0_off316_inb : ∀ (v1655 : BitVec 32) (k0_hw315 : k0_chk315 v1655), ∀ a, (k0_off316 v1655) a + S1x1x512.size a ≤ S1x512x512.size a := fun v1655 k0_hw315 => k0_hw315

def k0_off317 (v1659 : BitVec 32) : Fin 3 → Nat :=
  let c0_1625 : Index := 0#32
  let v1660 : Index := Scalar.indexCast v1659
  let c0_1626 : Index := 0#32
  ![0, v1660.toNat, 0]

def k0_chk316 (v1659 : BitVec 32) : Prop :=
  (∀ a, (k0_off317 v1659) a + S1x1x512.size a ≤ S1x512x512.size a)
theorem k0_off317_inb : ∀ (v1659 : BitVec 32) (k0_hw316 : k0_chk316 v1659), ∀ a, (k0_off317 v1659) a + S1x1x512.size a ≤ S1x512x512.size a := fun v1659 k0_hw316 => k0_hw316

def k0_off318 (v1663 : BitVec 32) : Fin 3 → Nat :=
  let c0_1630 : Index := 0#32
  let v1664 : Index := Scalar.indexCast v1663
  let c0_1631 : Index := 0#32
  ![0, v1664.toNat, 0]

def k0_chk317 (v1663 : BitVec 32) : Prop :=
  (∀ a, (k0_off318 v1663) a + S1x1x512.size a ≤ S1x512x512.size a)
theorem k0_off318_inb : ∀ (v1663 : BitVec 32) (k0_hw317 : k0_chk317 v1663), ∀ a, (k0_off318 v1663) a + S1x1x512.size a ≤ S1x512x512.size a := fun v1663 k0_hw317 => k0_hw317

def k0_off319 (v1667 : BitVec 32) : Fin 3 → Nat :=
  let c0_1635 : Index := 0#32
  let v1668 : Index := Scalar.indexCast v1667
  let c0_1636 : Index := 0#32
  ![0, v1668.toNat, 0]

def k0_chk318 (v1667 : BitVec 32) : Prop :=
  (∀ a, (k0_off319 v1667) a + S1x1x512.size a ≤ S1x512x512.size a)
theorem k0_off319_inb : ∀ (v1667 : BitVec 32) (k0_hw318 : k0_chk318 v1667), ∀ a, (k0_off319 v1667) a + S1x1x512.size a ≤ S1x512x512.size a := fun v1667 k0_hw318 => k0_hw318

def k0_off320 (v1671 : BitVec 32) : Fin 3 → Nat :=
  let c0_1640 : Index := 0#32
  let v1672 : Index := Scalar.indexCast v1671
  let c0_1641 : Index := 0#32
  ![0, v1672.toNat, 0]

def k0_chk319 (v1671 : BitVec 32) : Prop :=
  (∀ a, (k0_off320 v1671) a + S1x1x512.size a ≤ S1x512x512.size a)
theorem k0_off320_inb : ∀ (v1671 : BitVec 32) (k0_hw319 : k0_chk319 v1671), ∀ a, (k0_off320 v1671) a + S1x1x512.size a ≤ S1x512x512.size a := fun v1671 k0_hw319 => k0_hw319

def k0_off321 (v1675 : BitVec 32) : Fin 3 → Nat :=
  let c0_1645 : Index := 0#32
  let v1676 : Index := Scalar.indexCast v1675
  let c0_1646 : Index := 0#32
  ![0, v1676.toNat, 0]

def k0_chk320 (v1675 : BitVec 32) : Prop :=
  (∀ a, (k0_off321 v1675) a + S1x1x512.size a ≤ S1x512x512.size a)
theorem k0_off321_inb : ∀ (v1675 : BitVec 32) (k0_hw320 : k0_chk320 v1675), ∀ a, (k0_off321 v1675) a + S1x1x512.size a ≤ S1x512x512.size a := fun v1675 k0_hw320 => k0_hw320

def k0_off322 (v1700 : BitVec 32) : Fin 3 → Nat :=
  let c0_1660 : Index := 0#32
  let v1701 : Index := Scalar.indexCast v1700
  let c0_1661 : Index := 0#32
  ![0, v1701.toNat, 0]

def k0_chk321 (v1700 : BitVec 32) : Prop :=
  (∀ a, (k0_off322 v1700) a + S1x1x512.size a ≤ S1x512x512.size a)
theorem k0_off322_inb : ∀ (v1700 : BitVec 32) (k0_hw321 : k0_chk321 v1700), ∀ a, (k0_off322 v1700) a + S1x1x512.size a ≤ S1x512x512.size a := fun v1700 k0_hw321 => k0_hw321

def k0_off323 (v1704 : BitVec 32) : Fin 3 → Nat :=
  let c0_1664 : Index := 0#32
  let v1705 : Index := Scalar.indexCast v1704
  let c0_1665 : Index := 0#32
  ![0, v1705.toNat, 0]

def k0_chk322 (v1704 : BitVec 32) : Prop :=
  (∀ a, (k0_off323 v1704) a + S1x1x512.size a ≤ S1x512x512.size a)
theorem k0_off323_inb : ∀ (v1704 : BitVec 32) (k0_hw322 : k0_chk322 v1704), ∀ a, (k0_off323 v1704) a + S1x1x512.size a ≤ S1x512x512.size a := fun v1704 k0_hw322 => k0_hw322

def k0_off324 (v1708 : BitVec 32) : Fin 3 → Nat :=
  let c0_1668 : Index := 0#32
  let v1709 : Index := Scalar.indexCast v1708
  let c0_1669 : Index := 0#32
  ![0, v1709.toNat, 0]

def k0_chk323 (v1708 : BitVec 32) : Prop :=
  (∀ a, (k0_off324 v1708) a + S1x1x512.size a ≤ S1x512x512.size a)
theorem k0_off324_inb : ∀ (v1708 : BitVec 32) (k0_hw323 : k0_chk323 v1708), ∀ a, (k0_off324 v1708) a + S1x1x512.size a ≤ S1x512x512.size a := fun v1708 k0_hw323 => k0_hw323

def k0_off325 (v1712 : BitVec 32) : Fin 3 → Nat :=
  let c0_1672 : Index := 0#32
  let v1713 : Index := Scalar.indexCast v1712
  let c0_1673 : Index := 0#32
  ![0, v1713.toNat, 0]

def k0_chk324 (v1712 : BitVec 32) : Prop :=
  (∀ a, (k0_off325 v1712) a + S1x1x512.size a ≤ S1x512x512.size a)
theorem k0_off325_inb : ∀ (v1712 : BitVec 32) (k0_hw324 : k0_chk324 v1712), ∀ a, (k0_off325 v1712) a + S1x1x512.size a ≤ S1x512x512.size a := fun v1712 k0_hw324 => k0_hw324

def k0_off326 (v1716 : BitVec 32) : Fin 3 → Nat :=
  let c0_1676 : Index := 0#32
  let v1717 : Index := Scalar.indexCast v1716
  let c0_1677 : Index := 0#32
  ![0, v1717.toNat, 0]

def k0_chk325 (v1716 : BitVec 32) : Prop :=
  (∀ a, (k0_off326 v1716) a + S1x1x512.size a ≤ S1x512x512.size a)
theorem k0_off326_inb : ∀ (v1716 : BitVec 32) (k0_hw325 : k0_chk325 v1716), ∀ a, (k0_off326 v1716) a + S1x1x512.size a ≤ S1x512x512.size a := fun v1716 k0_hw325 => k0_hw325

def k0_off327 (v1720 : BitVec 32) : Fin 3 → Nat :=
  let c0_1680 : Index := 0#32
  let v1721 : Index := Scalar.indexCast v1720
  let c0_1681 : Index := 0#32
  ![0, v1721.toNat, 0]

def k0_chk326 (v1720 : BitVec 32) : Prop :=
  (∀ a, (k0_off327 v1720) a + S1x1x512.size a ≤ S1x512x512.size a)
theorem k0_off327_inb : ∀ (v1720 : BitVec 32) (k0_hw326 : k0_chk326 v1720), ∀ a, (k0_off327 v1720) a + S1x1x512.size a ≤ S1x512x512.size a := fun v1720 k0_hw326 => k0_hw326

def k0_off328 (v1724 : BitVec 32) : Fin 3 → Nat :=
  let c0_1684 : Index := 0#32
  let v1725 : Index := Scalar.indexCast v1724
  let c0_1685 : Index := 0#32
  ![0, v1725.toNat, 0]

def k0_chk327 (v1724 : BitVec 32) : Prop :=
  (∀ a, (k0_off328 v1724) a + S1x1x512.size a ≤ S1x512x512.size a)
theorem k0_off328_inb : ∀ (v1724 : BitVec 32) (k0_hw327 : k0_chk327 v1724), ∀ a, (k0_off328 v1724) a + S1x1x512.size a ≤ S1x512x512.size a := fun v1724 k0_hw327 => k0_hw327

def k0_off329 (v1728 : BitVec 32) : Fin 3 → Nat :=
  let c0_1688 : Index := 0#32
  let v1729 : Index := Scalar.indexCast v1728
  let c0_1689 : Index := 0#32
  ![0, v1729.toNat, 0]

def k0_chk328 (v1728 : BitVec 32) : Prop :=
  (∀ a, (k0_off329 v1728) a + S1x1x512.size a ≤ S1x512x512.size a)
theorem k0_off329_inb : ∀ (v1728 : BitVec 32) (k0_hw328 : k0_chk328 v1728), ∀ a, (k0_off329 v1728) a + S1x1x512.size a ≤ S1x512x512.size a := fun v1728 k0_hw328 => k0_hw328

def k0_off330 (v1732 : BitVec 32) : Fin 3 → Nat :=
  let c0_1693 : Index := 0#32
  let v1733 : Index := Scalar.indexCast v1732
  let c0_1694 : Index := 0#32
  ![0, v1733.toNat, 0]

def k0_chk329 (v1732 : BitVec 32) : Prop :=
  (∀ a, (k0_off330 v1732) a + S1x1x512.size a ≤ S1x512x512.size a)
theorem k0_off330_inb : ∀ (v1732 : BitVec 32) (k0_hw329 : k0_chk329 v1732), ∀ a, (k0_off330 v1732) a + S1x1x512.size a ≤ S1x512x512.size a := fun v1732 k0_hw329 => k0_hw329

def k0_off331 (v1736 : BitVec 32) : Fin 3 → Nat :=
  let c0_1698 : Index := 0#32
  let v1737 : Index := Scalar.indexCast v1736
  let c0_1699 : Index := 0#32
  ![0, v1737.toNat, 0]

def k0_chk330 (v1736 : BitVec 32) : Prop :=
  (∀ a, (k0_off331 v1736) a + S1x1x512.size a ≤ S1x512x512.size a)
theorem k0_off331_inb : ∀ (v1736 : BitVec 32) (k0_hw330 : k0_chk330 v1736), ∀ a, (k0_off331 v1736) a + S1x1x512.size a ≤ S1x512x512.size a := fun v1736 k0_hw330 => k0_hw330

def k0_off332 (v1740 : BitVec 32) : Fin 3 → Nat :=
  let c0_1703 : Index := 0#32
  let v1741 : Index := Scalar.indexCast v1740
  let c0_1704 : Index := 0#32
  ![0, v1741.toNat, 0]

def k0_chk331 (v1740 : BitVec 32) : Prop :=
  (∀ a, (k0_off332 v1740) a + S1x1x512.size a ≤ S1x512x512.size a)
theorem k0_off332_inb : ∀ (v1740 : BitVec 32) (k0_hw331 : k0_chk331 v1740), ∀ a, (k0_off332 v1740) a + S1x1x512.size a ≤ S1x512x512.size a := fun v1740 k0_hw331 => k0_hw331

def k0_off333 (v1744 : BitVec 32) : Fin 3 → Nat :=
  let c0_1708 : Index := 0#32
  let v1745 : Index := Scalar.indexCast v1744
  let c0_1709 : Index := 0#32
  ![0, v1745.toNat, 0]

def k0_chk332 (v1744 : BitVec 32) : Prop :=
  (∀ a, (k0_off333 v1744) a + S1x1x512.size a ≤ S1x512x512.size a)
theorem k0_off333_inb : ∀ (v1744 : BitVec 32) (k0_hw332 : k0_chk332 v1744), ∀ a, (k0_off333 v1744) a + S1x1x512.size a ≤ S1x512x512.size a := fun v1744 k0_hw332 => k0_hw332

def k0_off334 (v1748 : BitVec 32) : Fin 3 → Nat :=
  let c0_1713 : Index := 0#32
  let v1749 : Index := Scalar.indexCast v1748
  let c0_1714 : Index := 0#32
  ![0, v1749.toNat, 0]

def k0_chk333 (v1748 : BitVec 32) : Prop :=
  (∀ a, (k0_off334 v1748) a + S1x1x512.size a ≤ S1x512x512.size a)
theorem k0_off334_inb : ∀ (v1748 : BitVec 32) (k0_hw333 : k0_chk333 v1748), ∀ a, (k0_off334 v1748) a + S1x1x512.size a ≤ S1x512x512.size a := fun v1748 k0_hw333 => k0_hw333

def k0_off335 (v1752 : BitVec 32) : Fin 3 → Nat :=
  let c0_1718 : Index := 0#32
  let v1753 : Index := Scalar.indexCast v1752
  let c0_1719 : Index := 0#32
  ![0, v1753.toNat, 0]

def k0_chk334 (v1752 : BitVec 32) : Prop :=
  (∀ a, (k0_off335 v1752) a + S1x1x512.size a ≤ S1x512x512.size a)
theorem k0_off335_inb : ∀ (v1752 : BitVec 32) (k0_hw334 : k0_chk334 v1752), ∀ a, (k0_off335 v1752) a + S1x1x512.size a ≤ S1x512x512.size a := fun v1752 k0_hw334 => k0_hw334

def k0_off336 (v1756 : BitVec 32) : Fin 3 → Nat :=
  let c0_1723 : Index := 0#32
  let v1757 : Index := Scalar.indexCast v1756
  let c0_1724 : Index := 0#32
  ![0, v1757.toNat, 0]

def k0_chk335 (v1756 : BitVec 32) : Prop :=
  (∀ a, (k0_off336 v1756) a + S1x1x512.size a ≤ S1x512x512.size a)
theorem k0_off336_inb : ∀ (v1756 : BitVec 32) (k0_hw335 : k0_chk335 v1756), ∀ a, (k0_off336 v1756) a + S1x1x512.size a ≤ S1x512x512.size a := fun v1756 k0_hw335 => k0_hw335

def k0_off337 (v1760 : BitVec 32) : Fin 3 → Nat :=
  let c0_1728 : Index := 0#32
  let v1761 : Index := Scalar.indexCast v1760
  let c0_1729 : Index := 0#32
  ![0, v1761.toNat, 0]

def k0_chk336 (v1760 : BitVec 32) : Prop :=
  (∀ a, (k0_off337 v1760) a + S1x1x512.size a ≤ S1x512x512.size a)
theorem k0_off337_inb : ∀ (v1760 : BitVec 32) (k0_hw336 : k0_chk336 v1760), ∀ a, (k0_off337 v1760) a + S1x1x512.size a ≤ S1x512x512.size a := fun v1760 k0_hw336 => k0_hw336

def k0_off338 (v1785 : BitVec 32) : Fin 3 → Nat :=
  let c0_1743 : Index := 0#32
  let v1786 : Index := Scalar.indexCast v1785
  let c0_1744 : Index := 0#32
  ![0, v1786.toNat, 0]

def k0_chk337 (v1785 : BitVec 32) : Prop :=
  (∀ a, (k0_off338 v1785) a + S1x1x512.size a ≤ S1x512x512.size a)
theorem k0_off338_inb : ∀ (v1785 : BitVec 32) (k0_hw337 : k0_chk337 v1785), ∀ a, (k0_off338 v1785) a + S1x1x512.size a ≤ S1x512x512.size a := fun v1785 k0_hw337 => k0_hw337

def k0_off339 (v1789 : BitVec 32) : Fin 3 → Nat :=
  let c0_1747 : Index := 0#32
  let v1790 : Index := Scalar.indexCast v1789
  let c0_1748 : Index := 0#32
  ![0, v1790.toNat, 0]

def k0_chk338 (v1789 : BitVec 32) : Prop :=
  (∀ a, (k0_off339 v1789) a + S1x1x512.size a ≤ S1x512x512.size a)
theorem k0_off339_inb : ∀ (v1789 : BitVec 32) (k0_hw338 : k0_chk338 v1789), ∀ a, (k0_off339 v1789) a + S1x1x512.size a ≤ S1x512x512.size a := fun v1789 k0_hw338 => k0_hw338

def k0_off340 (v1793 : BitVec 32) : Fin 3 → Nat :=
  let c0_1751 : Index := 0#32
  let v1794 : Index := Scalar.indexCast v1793
  let c0_1752 : Index := 0#32
  ![0, v1794.toNat, 0]

def k0_chk339 (v1793 : BitVec 32) : Prop :=
  (∀ a, (k0_off340 v1793) a + S1x1x512.size a ≤ S1x512x512.size a)
theorem k0_off340_inb : ∀ (v1793 : BitVec 32) (k0_hw339 : k0_chk339 v1793), ∀ a, (k0_off340 v1793) a + S1x1x512.size a ≤ S1x512x512.size a := fun v1793 k0_hw339 => k0_hw339

def k0_off341 (v1797 : BitVec 32) : Fin 3 → Nat :=
  let c0_1755 : Index := 0#32
  let v1798 : Index := Scalar.indexCast v1797
  let c0_1756 : Index := 0#32
  ![0, v1798.toNat, 0]

def k0_chk340 (v1797 : BitVec 32) : Prop :=
  (∀ a, (k0_off341 v1797) a + S1x1x512.size a ≤ S1x512x512.size a)
theorem k0_off341_inb : ∀ (v1797 : BitVec 32) (k0_hw340 : k0_chk340 v1797), ∀ a, (k0_off341 v1797) a + S1x1x512.size a ≤ S1x512x512.size a := fun v1797 k0_hw340 => k0_hw340

def k0_off342 (v1801 : BitVec 32) : Fin 3 → Nat :=
  let c0_1759 : Index := 0#32
  let v1802 : Index := Scalar.indexCast v1801
  let c0_1760 : Index := 0#32
  ![0, v1802.toNat, 0]

def k0_chk341 (v1801 : BitVec 32) : Prop :=
  (∀ a, (k0_off342 v1801) a + S1x1x512.size a ≤ S1x512x512.size a)
theorem k0_off342_inb : ∀ (v1801 : BitVec 32) (k0_hw341 : k0_chk341 v1801), ∀ a, (k0_off342 v1801) a + S1x1x512.size a ≤ S1x512x512.size a := fun v1801 k0_hw341 => k0_hw341

def k0_off343 (v1805 : BitVec 32) : Fin 3 → Nat :=
  let c0_1763 : Index := 0#32
  let v1806 : Index := Scalar.indexCast v1805
  let c0_1764 : Index := 0#32
  ![0, v1806.toNat, 0]

def k0_chk342 (v1805 : BitVec 32) : Prop :=
  (∀ a, (k0_off343 v1805) a + S1x1x512.size a ≤ S1x512x512.size a)
theorem k0_off343_inb : ∀ (v1805 : BitVec 32) (k0_hw342 : k0_chk342 v1805), ∀ a, (k0_off343 v1805) a + S1x1x512.size a ≤ S1x512x512.size a := fun v1805 k0_hw342 => k0_hw342

def k0_off344 (v1809 : BitVec 32) : Fin 3 → Nat :=
  let c0_1767 : Index := 0#32
  let v1810 : Index := Scalar.indexCast v1809
  let c0_1768 : Index := 0#32
  ![0, v1810.toNat, 0]

def k0_chk343 (v1809 : BitVec 32) : Prop :=
  (∀ a, (k0_off344 v1809) a + S1x1x512.size a ≤ S1x512x512.size a)
theorem k0_off344_inb : ∀ (v1809 : BitVec 32) (k0_hw343 : k0_chk343 v1809), ∀ a, (k0_off344 v1809) a + S1x1x512.size a ≤ S1x512x512.size a := fun v1809 k0_hw343 => k0_hw343

def k0_off345 (v1813 : BitVec 32) : Fin 3 → Nat :=
  let c0_1771 : Index := 0#32
  let v1814 : Index := Scalar.indexCast v1813
  let c0_1772 : Index := 0#32
  ![0, v1814.toNat, 0]

def k0_chk344 (v1813 : BitVec 32) : Prop :=
  (∀ a, (k0_off345 v1813) a + S1x1x512.size a ≤ S1x512x512.size a)
theorem k0_off345_inb : ∀ (v1813 : BitVec 32) (k0_hw344 : k0_chk344 v1813), ∀ a, (k0_off345 v1813) a + S1x1x512.size a ≤ S1x512x512.size a := fun v1813 k0_hw344 => k0_hw344

def k0_off346 (v1817 : BitVec 32) : Fin 3 → Nat :=
  let c0_1776 : Index := 0#32
  let v1818 : Index := Scalar.indexCast v1817
  let c0_1777 : Index := 0#32
  ![0, v1818.toNat, 0]

def k0_chk345 (v1817 : BitVec 32) : Prop :=
  (∀ a, (k0_off346 v1817) a + S1x1x512.size a ≤ S1x512x512.size a)
theorem k0_off346_inb : ∀ (v1817 : BitVec 32) (k0_hw345 : k0_chk345 v1817), ∀ a, (k0_off346 v1817) a + S1x1x512.size a ≤ S1x512x512.size a := fun v1817 k0_hw345 => k0_hw345

def k0_off347 (v1821 : BitVec 32) : Fin 3 → Nat :=
  let c0_1781 : Index := 0#32
  let v1822 : Index := Scalar.indexCast v1821
  let c0_1782 : Index := 0#32
  ![0, v1822.toNat, 0]

def k0_chk346 (v1821 : BitVec 32) : Prop :=
  (∀ a, (k0_off347 v1821) a + S1x1x512.size a ≤ S1x512x512.size a)
theorem k0_off347_inb : ∀ (v1821 : BitVec 32) (k0_hw346 : k0_chk346 v1821), ∀ a, (k0_off347 v1821) a + S1x1x512.size a ≤ S1x512x512.size a := fun v1821 k0_hw346 => k0_hw346

def k0_off348 (v1825 : BitVec 32) : Fin 3 → Nat :=
  let c0_1786 : Index := 0#32
  let v1826 : Index := Scalar.indexCast v1825
  let c0_1787 : Index := 0#32
  ![0, v1826.toNat, 0]

def k0_chk347 (v1825 : BitVec 32) : Prop :=
  (∀ a, (k0_off348 v1825) a + S1x1x512.size a ≤ S1x512x512.size a)
theorem k0_off348_inb : ∀ (v1825 : BitVec 32) (k0_hw347 : k0_chk347 v1825), ∀ a, (k0_off348 v1825) a + S1x1x512.size a ≤ S1x512x512.size a := fun v1825 k0_hw347 => k0_hw347

def k0_off349 (v1829 : BitVec 32) : Fin 3 → Nat :=
  let c0_1791 : Index := 0#32
  let v1830 : Index := Scalar.indexCast v1829
  let c0_1792 : Index := 0#32
  ![0, v1830.toNat, 0]

def k0_chk348 (v1829 : BitVec 32) : Prop :=
  (∀ a, (k0_off349 v1829) a + S1x1x512.size a ≤ S1x512x512.size a)
theorem k0_off349_inb : ∀ (v1829 : BitVec 32) (k0_hw348 : k0_chk348 v1829), ∀ a, (k0_off349 v1829) a + S1x1x512.size a ≤ S1x512x512.size a := fun v1829 k0_hw348 => k0_hw348

def k0_off350 (v1833 : BitVec 32) : Fin 3 → Nat :=
  let c0_1796 : Index := 0#32
  let v1834 : Index := Scalar.indexCast v1833
  let c0_1797 : Index := 0#32
  ![0, v1834.toNat, 0]

def k0_chk349 (v1833 : BitVec 32) : Prop :=
  (∀ a, (k0_off350 v1833) a + S1x1x512.size a ≤ S1x512x512.size a)
theorem k0_off350_inb : ∀ (v1833 : BitVec 32) (k0_hw349 : k0_chk349 v1833), ∀ a, (k0_off350 v1833) a + S1x1x512.size a ≤ S1x512x512.size a := fun v1833 k0_hw349 => k0_hw349

def k0_off351 (v1837 : BitVec 32) : Fin 3 → Nat :=
  let c0_1801 : Index := 0#32
  let v1838 : Index := Scalar.indexCast v1837
  let c0_1802 : Index := 0#32
  ![0, v1838.toNat, 0]

def k0_chk350 (v1837 : BitVec 32) : Prop :=
  (∀ a, (k0_off351 v1837) a + S1x1x512.size a ≤ S1x512x512.size a)
theorem k0_off351_inb : ∀ (v1837 : BitVec 32) (k0_hw350 : k0_chk350 v1837), ∀ a, (k0_off351 v1837) a + S1x1x512.size a ≤ S1x512x512.size a := fun v1837 k0_hw350 => k0_hw350

def k0_off352 (v1841 : BitVec 32) : Fin 3 → Nat :=
  let c0_1806 : Index := 0#32
  let v1842 : Index := Scalar.indexCast v1841
  let c0_1807 : Index := 0#32
  ![0, v1842.toNat, 0]

def k0_chk351 (v1841 : BitVec 32) : Prop :=
  (∀ a, (k0_off352 v1841) a + S1x1x512.size a ≤ S1x512x512.size a)
theorem k0_off352_inb : ∀ (v1841 : BitVec 32) (k0_hw351 : k0_chk351 v1841), ∀ a, (k0_off352 v1841) a + S1x1x512.size a ≤ S1x512x512.size a := fun v1841 k0_hw351 => k0_hw351

def k0_off353 (v1845 : BitVec 32) : Fin 3 → Nat :=
  let c0_1811 : Index := 0#32
  let v1846 : Index := Scalar.indexCast v1845
  let c0_1812 : Index := 0#32
  ![0, v1846.toNat, 0]

def k0_chk352 (v1845 : BitVec 32) : Prop :=
  (∀ a, (k0_off353 v1845) a + S1x1x512.size a ≤ S1x512x512.size a)
theorem k0_off353_inb : ∀ (v1845 : BitVec 32) (k0_hw352 : k0_chk352 v1845), ∀ a, (k0_off353 v1845) a + S1x1x512.size a ≤ S1x512x512.size a := fun v1845 k0_hw352 => k0_hw352

def k0_off354 (v1870 : BitVec 32) : Fin 3 → Nat :=
  let c0_1826 : Index := 0#32
  let v1871 : Index := Scalar.indexCast v1870
  let c0_1827 : Index := 0#32
  ![0, v1871.toNat, 0]

def k0_chk353 (v1870 : BitVec 32) : Prop :=
  (∀ a, (k0_off354 v1870) a + S1x1x512.size a ≤ S1x512x512.size a)
theorem k0_off354_inb : ∀ (v1870 : BitVec 32) (k0_hw353 : k0_chk353 v1870), ∀ a, (k0_off354 v1870) a + S1x1x512.size a ≤ S1x512x512.size a := fun v1870 k0_hw353 => k0_hw353

def k0_off355 (v1874 : BitVec 32) : Fin 3 → Nat :=
  let c0_1830 : Index := 0#32
  let v1875 : Index := Scalar.indexCast v1874
  let c0_1831 : Index := 0#32
  ![0, v1875.toNat, 0]

def k0_chk354 (v1874 : BitVec 32) : Prop :=
  (∀ a, (k0_off355 v1874) a + S1x1x512.size a ≤ S1x512x512.size a)
theorem k0_off355_inb : ∀ (v1874 : BitVec 32) (k0_hw354 : k0_chk354 v1874), ∀ a, (k0_off355 v1874) a + S1x1x512.size a ≤ S1x512x512.size a := fun v1874 k0_hw354 => k0_hw354

def k0_off356 (v1878 : BitVec 32) : Fin 3 → Nat :=
  let c0_1834 : Index := 0#32
  let v1879 : Index := Scalar.indexCast v1878
  let c0_1835 : Index := 0#32
  ![0, v1879.toNat, 0]

def k0_chk355 (v1878 : BitVec 32) : Prop :=
  (∀ a, (k0_off356 v1878) a + S1x1x512.size a ≤ S1x512x512.size a)
theorem k0_off356_inb : ∀ (v1878 : BitVec 32) (k0_hw355 : k0_chk355 v1878), ∀ a, (k0_off356 v1878) a + S1x1x512.size a ≤ S1x512x512.size a := fun v1878 k0_hw355 => k0_hw355

def k0_off357 (v1882 : BitVec 32) : Fin 3 → Nat :=
  let c0_1838 : Index := 0#32
  let v1883 : Index := Scalar.indexCast v1882
  let c0_1839 : Index := 0#32
  ![0, v1883.toNat, 0]

def k0_chk356 (v1882 : BitVec 32) : Prop :=
  (∀ a, (k0_off357 v1882) a + S1x1x512.size a ≤ S1x512x512.size a)
theorem k0_off357_inb : ∀ (v1882 : BitVec 32) (k0_hw356 : k0_chk356 v1882), ∀ a, (k0_off357 v1882) a + S1x1x512.size a ≤ S1x512x512.size a := fun v1882 k0_hw356 => k0_hw356

def k0_off358 (v1886 : BitVec 32) : Fin 3 → Nat :=
  let c0_1842 : Index := 0#32
  let v1887 : Index := Scalar.indexCast v1886
  let c0_1843 : Index := 0#32
  ![0, v1887.toNat, 0]

def k0_chk357 (v1886 : BitVec 32) : Prop :=
  (∀ a, (k0_off358 v1886) a + S1x1x512.size a ≤ S1x512x512.size a)
theorem k0_off358_inb : ∀ (v1886 : BitVec 32) (k0_hw357 : k0_chk357 v1886), ∀ a, (k0_off358 v1886) a + S1x1x512.size a ≤ S1x512x512.size a := fun v1886 k0_hw357 => k0_hw357

def k0_off359 (v1890 : BitVec 32) : Fin 3 → Nat :=
  let c0_1846 : Index := 0#32
  let v1891 : Index := Scalar.indexCast v1890
  let c0_1847 : Index := 0#32
  ![0, v1891.toNat, 0]

def k0_chk358 (v1890 : BitVec 32) : Prop :=
  (∀ a, (k0_off359 v1890) a + S1x1x512.size a ≤ S1x512x512.size a)
theorem k0_off359_inb : ∀ (v1890 : BitVec 32) (k0_hw358 : k0_chk358 v1890), ∀ a, (k0_off359 v1890) a + S1x1x512.size a ≤ S1x512x512.size a := fun v1890 k0_hw358 => k0_hw358

def k0_off360 (v1894 : BitVec 32) : Fin 3 → Nat :=
  let c0_1850 : Index := 0#32
  let v1895 : Index := Scalar.indexCast v1894
  let c0_1851 : Index := 0#32
  ![0, v1895.toNat, 0]

def k0_chk359 (v1894 : BitVec 32) : Prop :=
  (∀ a, (k0_off360 v1894) a + S1x1x512.size a ≤ S1x512x512.size a)
theorem k0_off360_inb : ∀ (v1894 : BitVec 32) (k0_hw359 : k0_chk359 v1894), ∀ a, (k0_off360 v1894) a + S1x1x512.size a ≤ S1x512x512.size a := fun v1894 k0_hw359 => k0_hw359

def k0_off361 (v1898 : BitVec 32) : Fin 3 → Nat :=
  let c0_1854 : Index := 0#32
  let v1899 : Index := Scalar.indexCast v1898
  let c0_1855 : Index := 0#32
  ![0, v1899.toNat, 0]

def k0_chk360 (v1898 : BitVec 32) : Prop :=
  (∀ a, (k0_off361 v1898) a + S1x1x512.size a ≤ S1x512x512.size a)
theorem k0_off361_inb : ∀ (v1898 : BitVec 32) (k0_hw360 : k0_chk360 v1898), ∀ a, (k0_off361 v1898) a + S1x1x512.size a ≤ S1x512x512.size a := fun v1898 k0_hw360 => k0_hw360

def k0_off362 (v1902 : BitVec 32) : Fin 3 → Nat :=
  let c0_1859 : Index := 0#32
  let v1903 : Index := Scalar.indexCast v1902
  let c0_1860 : Index := 0#32
  ![0, v1903.toNat, 0]

def k0_chk361 (v1902 : BitVec 32) : Prop :=
  (∀ a, (k0_off362 v1902) a + S1x1x512.size a ≤ S1x512x512.size a)
theorem k0_off362_inb : ∀ (v1902 : BitVec 32) (k0_hw361 : k0_chk361 v1902), ∀ a, (k0_off362 v1902) a + S1x1x512.size a ≤ S1x512x512.size a := fun v1902 k0_hw361 => k0_hw361

def k0_off363 (v1906 : BitVec 32) : Fin 3 → Nat :=
  let c0_1864 : Index := 0#32
  let v1907 : Index := Scalar.indexCast v1906
  let c0_1865 : Index := 0#32
  ![0, v1907.toNat, 0]

def k0_chk362 (v1906 : BitVec 32) : Prop :=
  (∀ a, (k0_off363 v1906) a + S1x1x512.size a ≤ S1x512x512.size a)
theorem k0_off363_inb : ∀ (v1906 : BitVec 32) (k0_hw362 : k0_chk362 v1906), ∀ a, (k0_off363 v1906) a + S1x1x512.size a ≤ S1x512x512.size a := fun v1906 k0_hw362 => k0_hw362

def k0_off364 (v1910 : BitVec 32) : Fin 3 → Nat :=
  let c0_1869 : Index := 0#32
  let v1911 : Index := Scalar.indexCast v1910
  let c0_1870 : Index := 0#32
  ![0, v1911.toNat, 0]

def k0_chk363 (v1910 : BitVec 32) : Prop :=
  (∀ a, (k0_off364 v1910) a + S1x1x512.size a ≤ S1x512x512.size a)
theorem k0_off364_inb : ∀ (v1910 : BitVec 32) (k0_hw363 : k0_chk363 v1910), ∀ a, (k0_off364 v1910) a + S1x1x512.size a ≤ S1x512x512.size a := fun v1910 k0_hw363 => k0_hw363

def k0_off365 (v1914 : BitVec 32) : Fin 3 → Nat :=
  let c0_1874 : Index := 0#32
  let v1915 : Index := Scalar.indexCast v1914
  let c0_1875 : Index := 0#32
  ![0, v1915.toNat, 0]

def k0_chk364 (v1914 : BitVec 32) : Prop :=
  (∀ a, (k0_off365 v1914) a + S1x1x512.size a ≤ S1x512x512.size a)
theorem k0_off365_inb : ∀ (v1914 : BitVec 32) (k0_hw364 : k0_chk364 v1914), ∀ a, (k0_off365 v1914) a + S1x1x512.size a ≤ S1x512x512.size a := fun v1914 k0_hw364 => k0_hw364

def k0_off366 (v1918 : BitVec 32) : Fin 3 → Nat :=
  let c0_1879 : Index := 0#32
  let v1919 : Index := Scalar.indexCast v1918
  let c0_1880 : Index := 0#32
  ![0, v1919.toNat, 0]

def k0_chk365 (v1918 : BitVec 32) : Prop :=
  (∀ a, (k0_off366 v1918) a + S1x1x512.size a ≤ S1x512x512.size a)
theorem k0_off366_inb : ∀ (v1918 : BitVec 32) (k0_hw365 : k0_chk365 v1918), ∀ a, (k0_off366 v1918) a + S1x1x512.size a ≤ S1x512x512.size a := fun v1918 k0_hw365 => k0_hw365

def k0_off367 (v1922 : BitVec 32) : Fin 3 → Nat :=
  let c0_1884 : Index := 0#32
  let v1923 : Index := Scalar.indexCast v1922
  let c0_1885 : Index := 0#32
  ![0, v1923.toNat, 0]

def k0_chk366 (v1922 : BitVec 32) : Prop :=
  (∀ a, (k0_off367 v1922) a + S1x1x512.size a ≤ S1x512x512.size a)
theorem k0_off367_inb : ∀ (v1922 : BitVec 32) (k0_hw366 : k0_chk366 v1922), ∀ a, (k0_off367 v1922) a + S1x1x512.size a ≤ S1x512x512.size a := fun v1922 k0_hw366 => k0_hw366

def k0_off368 (v1926 : BitVec 32) : Fin 3 → Nat :=
  let c0_1889 : Index := 0#32
  let v1927 : Index := Scalar.indexCast v1926
  let c0_1890 : Index := 0#32
  ![0, v1927.toNat, 0]

def k0_chk367 (v1926 : BitVec 32) : Prop :=
  (∀ a, (k0_off368 v1926) a + S1x1x512.size a ≤ S1x512x512.size a)
theorem k0_off368_inb : ∀ (v1926 : BitVec 32) (k0_hw367 : k0_chk367 v1926), ∀ a, (k0_off368 v1926) a + S1x1x512.size a ≤ S1x512x512.size a := fun v1926 k0_hw367 => k0_hw367

def k0_off369 (v1930 : BitVec 32) : Fin 3 → Nat :=
  let c0_1894 : Index := 0#32
  let v1931 : Index := Scalar.indexCast v1930
  let c0_1895 : Index := 0#32
  ![0, v1931.toNat, 0]

def k0_chk368 (v1930 : BitVec 32) : Prop :=
  (∀ a, (k0_off369 v1930) a + S1x1x512.size a ≤ S1x512x512.size a)
theorem k0_off369_inb : ∀ (v1930 : BitVec 32) (k0_hw368 : k0_chk368 v1930), ∀ a, (k0_off369 v1930) a + S1x1x512.size a ≤ S1x512x512.size a := fun v1930 k0_hw368 => k0_hw368

def k0_off370 (v1955 : BitVec 32) : Fin 3 → Nat :=
  let c0_1909 : Index := 0#32
  let v1956 : Index := Scalar.indexCast v1955
  let c0_1910 : Index := 0#32
  ![0, v1956.toNat, 0]

def k0_chk369 (v1955 : BitVec 32) : Prop :=
  (∀ a, (k0_off370 v1955) a + S1x1x512.size a ≤ S1x512x512.size a)
theorem k0_off370_inb : ∀ (v1955 : BitVec 32) (k0_hw369 : k0_chk369 v1955), ∀ a, (k0_off370 v1955) a + S1x1x512.size a ≤ S1x512x512.size a := fun v1955 k0_hw369 => k0_hw369

def k0_off371 (v1959 : BitVec 32) : Fin 3 → Nat :=
  let c0_1913 : Index := 0#32
  let v1960 : Index := Scalar.indexCast v1959
  let c0_1914 : Index := 0#32
  ![0, v1960.toNat, 0]

def k0_chk370 (v1959 : BitVec 32) : Prop :=
  (∀ a, (k0_off371 v1959) a + S1x1x512.size a ≤ S1x512x512.size a)
theorem k0_off371_inb : ∀ (v1959 : BitVec 32) (k0_hw370 : k0_chk370 v1959), ∀ a, (k0_off371 v1959) a + S1x1x512.size a ≤ S1x512x512.size a := fun v1959 k0_hw370 => k0_hw370

def k0_off372 (v1963 : BitVec 32) : Fin 3 → Nat :=
  let c0_1917 : Index := 0#32
  let v1964 : Index := Scalar.indexCast v1963
  let c0_1918 : Index := 0#32
  ![0, v1964.toNat, 0]

def k0_chk371 (v1963 : BitVec 32) : Prop :=
  (∀ a, (k0_off372 v1963) a + S1x1x512.size a ≤ S1x512x512.size a)
theorem k0_off372_inb : ∀ (v1963 : BitVec 32) (k0_hw371 : k0_chk371 v1963), ∀ a, (k0_off372 v1963) a + S1x1x512.size a ≤ S1x512x512.size a := fun v1963 k0_hw371 => k0_hw371

def k0_off373 (v1967 : BitVec 32) : Fin 3 → Nat :=
  let c0_1921 : Index := 0#32
  let v1968 : Index := Scalar.indexCast v1967
  let c0_1922 : Index := 0#32
  ![0, v1968.toNat, 0]

def k0_chk372 (v1967 : BitVec 32) : Prop :=
  (∀ a, (k0_off373 v1967) a + S1x1x512.size a ≤ S1x512x512.size a)
theorem k0_off373_inb : ∀ (v1967 : BitVec 32) (k0_hw372 : k0_chk372 v1967), ∀ a, (k0_off373 v1967) a + S1x1x512.size a ≤ S1x512x512.size a := fun v1967 k0_hw372 => k0_hw372

def k0_off374 (v1971 : BitVec 32) : Fin 3 → Nat :=
  let c0_1925 : Index := 0#32
  let v1972 : Index := Scalar.indexCast v1971
  let c0_1926 : Index := 0#32
  ![0, v1972.toNat, 0]

def k0_chk373 (v1971 : BitVec 32) : Prop :=
  (∀ a, (k0_off374 v1971) a + S1x1x512.size a ≤ S1x512x512.size a)
theorem k0_off374_inb : ∀ (v1971 : BitVec 32) (k0_hw373 : k0_chk373 v1971), ∀ a, (k0_off374 v1971) a + S1x1x512.size a ≤ S1x512x512.size a := fun v1971 k0_hw373 => k0_hw373

def k0_off375 (v1975 : BitVec 32) : Fin 3 → Nat :=
  let c0_1929 : Index := 0#32
  let v1976 : Index := Scalar.indexCast v1975
  let c0_1930 : Index := 0#32
  ![0, v1976.toNat, 0]

def k0_chk374 (v1975 : BitVec 32) : Prop :=
  (∀ a, (k0_off375 v1975) a + S1x1x512.size a ≤ S1x512x512.size a)
theorem k0_off375_inb : ∀ (v1975 : BitVec 32) (k0_hw374 : k0_chk374 v1975), ∀ a, (k0_off375 v1975) a + S1x1x512.size a ≤ S1x512x512.size a := fun v1975 k0_hw374 => k0_hw374

def k0_off376 (v1979 : BitVec 32) : Fin 3 → Nat :=
  let c0_1933 : Index := 0#32
  let v1980 : Index := Scalar.indexCast v1979
  let c0_1934 : Index := 0#32
  ![0, v1980.toNat, 0]

def k0_chk375 (v1979 : BitVec 32) : Prop :=
  (∀ a, (k0_off376 v1979) a + S1x1x512.size a ≤ S1x512x512.size a)
theorem k0_off376_inb : ∀ (v1979 : BitVec 32) (k0_hw375 : k0_chk375 v1979), ∀ a, (k0_off376 v1979) a + S1x1x512.size a ≤ S1x512x512.size a := fun v1979 k0_hw375 => k0_hw375

def k0_off377 (v1983 : BitVec 32) : Fin 3 → Nat :=
  let c0_1937 : Index := 0#32
  let v1984 : Index := Scalar.indexCast v1983
  let c0_1938 : Index := 0#32
  ![0, v1984.toNat, 0]

def k0_chk376 (v1983 : BitVec 32) : Prop :=
  (∀ a, (k0_off377 v1983) a + S1x1x512.size a ≤ S1x512x512.size a)
theorem k0_off377_inb : ∀ (v1983 : BitVec 32) (k0_hw376 : k0_chk376 v1983), ∀ a, (k0_off377 v1983) a + S1x1x512.size a ≤ S1x512x512.size a := fun v1983 k0_hw376 => k0_hw376

def k0_off378 (v1987 : BitVec 32) : Fin 3 → Nat :=
  let c0_1942 : Index := 0#32
  let v1988 : Index := Scalar.indexCast v1987
  let c0_1943 : Index := 0#32
  ![0, v1988.toNat, 0]

def k0_chk377 (v1987 : BitVec 32) : Prop :=
  (∀ a, (k0_off378 v1987) a + S1x1x512.size a ≤ S1x512x512.size a)
theorem k0_off378_inb : ∀ (v1987 : BitVec 32) (k0_hw377 : k0_chk377 v1987), ∀ a, (k0_off378 v1987) a + S1x1x512.size a ≤ S1x512x512.size a := fun v1987 k0_hw377 => k0_hw377

def k0_off379 (v1991 : BitVec 32) : Fin 3 → Nat :=
  let c0_1947 : Index := 0#32
  let v1992 : Index := Scalar.indexCast v1991
  let c0_1948 : Index := 0#32
  ![0, v1992.toNat, 0]

def k0_chk378 (v1991 : BitVec 32) : Prop :=
  (∀ a, (k0_off379 v1991) a + S1x1x512.size a ≤ S1x512x512.size a)
theorem k0_off379_inb : ∀ (v1991 : BitVec 32) (k0_hw378 : k0_chk378 v1991), ∀ a, (k0_off379 v1991) a + S1x1x512.size a ≤ S1x512x512.size a := fun v1991 k0_hw378 => k0_hw378

def k0_off380 (v1995 : BitVec 32) : Fin 3 → Nat :=
  let c0_1952 : Index := 0#32
  let v1996 : Index := Scalar.indexCast v1995
  let c0_1953 : Index := 0#32
  ![0, v1996.toNat, 0]

def k0_chk379 (v1995 : BitVec 32) : Prop :=
  (∀ a, (k0_off380 v1995) a + S1x1x512.size a ≤ S1x512x512.size a)
theorem k0_off380_inb : ∀ (v1995 : BitVec 32) (k0_hw379 : k0_chk379 v1995), ∀ a, (k0_off380 v1995) a + S1x1x512.size a ≤ S1x512x512.size a := fun v1995 k0_hw379 => k0_hw379

def k0_off381 (v1999 : BitVec 32) : Fin 3 → Nat :=
  let c0_1957 : Index := 0#32
  let v2000 : Index := Scalar.indexCast v1999
  let c0_1958 : Index := 0#32
  ![0, v2000.toNat, 0]

def k0_chk380 (v1999 : BitVec 32) : Prop :=
  (∀ a, (k0_off381 v1999) a + S1x1x512.size a ≤ S1x512x512.size a)
theorem k0_off381_inb : ∀ (v1999 : BitVec 32) (k0_hw380 : k0_chk380 v1999), ∀ a, (k0_off381 v1999) a + S1x1x512.size a ≤ S1x512x512.size a := fun v1999 k0_hw380 => k0_hw380

def k0_off382 (v2003 : BitVec 32) : Fin 3 → Nat :=
  let c0_1962 : Index := 0#32
  let v2004 : Index := Scalar.indexCast v2003
  let c0_1963 : Index := 0#32
  ![0, v2004.toNat, 0]

def k0_chk381 (v2003 : BitVec 32) : Prop :=
  (∀ a, (k0_off382 v2003) a + S1x1x512.size a ≤ S1x512x512.size a)
theorem k0_off382_inb : ∀ (v2003 : BitVec 32) (k0_hw381 : k0_chk381 v2003), ∀ a, (k0_off382 v2003) a + S1x1x512.size a ≤ S1x512x512.size a := fun v2003 k0_hw381 => k0_hw381

def k0_off383 (v2007 : BitVec 32) : Fin 3 → Nat :=
  let c0_1967 : Index := 0#32
  let v2008 : Index := Scalar.indexCast v2007
  let c0_1968 : Index := 0#32
  ![0, v2008.toNat, 0]

def k0_chk382 (v2007 : BitVec 32) : Prop :=
  (∀ a, (k0_off383 v2007) a + S1x1x512.size a ≤ S1x512x512.size a)
theorem k0_off383_inb : ∀ (v2007 : BitVec 32) (k0_hw382 : k0_chk382 v2007), ∀ a, (k0_off383 v2007) a + S1x1x512.size a ≤ S1x512x512.size a := fun v2007 k0_hw382 => k0_hw382

def k0_off384 (v2011 : BitVec 32) : Fin 3 → Nat :=
  let c0_1972 : Index := 0#32
  let v2012 : Index := Scalar.indexCast v2011
  let c0_1973 : Index := 0#32
  ![0, v2012.toNat, 0]

def k0_chk383 (v2011 : BitVec 32) : Prop :=
  (∀ a, (k0_off384 v2011) a + S1x1x512.size a ≤ S1x512x512.size a)
theorem k0_off384_inb : ∀ (v2011 : BitVec 32) (k0_hw383 : k0_chk383 v2011), ∀ a, (k0_off384 v2011) a + S1x1x512.size a ≤ S1x512x512.size a := fun v2011 k0_hw383 => k0_hw383

def k0_off385 (v2015 : BitVec 32) : Fin 3 → Nat :=
  let c0_1977 : Index := 0#32
  let v2016 : Index := Scalar.indexCast v2015
  let c0_1978 : Index := 0#32
  ![0, v2016.toNat, 0]

def k0_chk384 (v2015 : BitVec 32) : Prop :=
  (∀ a, (k0_off385 v2015) a + S1x1x512.size a ≤ S1x512x512.size a)
theorem k0_off385_inb : ∀ (v2015 : BitVec 32) (k0_hw384 : k0_chk384 v2015), ∀ a, (k0_off385 v2015) a + S1x1x512.size a ≤ S1x512x512.size a := fun v2015 k0_hw384 => k0_hw384

def k0_off386 (v2040 : BitVec 32) : Fin 3 → Nat :=
  let c0_1992 : Index := 0#32
  let v2041 : Index := Scalar.indexCast v2040
  let c0_1993 : Index := 0#32
  ![0, v2041.toNat, 0]

def k0_chk385 (v2040 : BitVec 32) : Prop :=
  (∀ a, (k0_off386 v2040) a + S1x1x512.size a ≤ S1x512x512.size a)
theorem k0_off386_inb : ∀ (v2040 : BitVec 32) (k0_hw385 : k0_chk385 v2040), ∀ a, (k0_off386 v2040) a + S1x1x512.size a ≤ S1x512x512.size a := fun v2040 k0_hw385 => k0_hw385

def k0_off387 (v2044 : BitVec 32) : Fin 3 → Nat :=
  let c0_1996 : Index := 0#32
  let v2045 : Index := Scalar.indexCast v2044
  let c0_1997 : Index := 0#32
  ![0, v2045.toNat, 0]

def k0_chk386 (v2044 : BitVec 32) : Prop :=
  (∀ a, (k0_off387 v2044) a + S1x1x512.size a ≤ S1x512x512.size a)
theorem k0_off387_inb : ∀ (v2044 : BitVec 32) (k0_hw386 : k0_chk386 v2044), ∀ a, (k0_off387 v2044) a + S1x1x512.size a ≤ S1x512x512.size a := fun v2044 k0_hw386 => k0_hw386

def k0_off388 (v2048 : BitVec 32) : Fin 3 → Nat :=
  let c0_2000 : Index := 0#32
  let v2049 : Index := Scalar.indexCast v2048
  let c0_2001 : Index := 0#32
  ![0, v2049.toNat, 0]

def k0_chk387 (v2048 : BitVec 32) : Prop :=
  (∀ a, (k0_off388 v2048) a + S1x1x512.size a ≤ S1x512x512.size a)
theorem k0_off388_inb : ∀ (v2048 : BitVec 32) (k0_hw387 : k0_chk387 v2048), ∀ a, (k0_off388 v2048) a + S1x1x512.size a ≤ S1x512x512.size a := fun v2048 k0_hw387 => k0_hw387

def k0_off389 (v2052 : BitVec 32) : Fin 3 → Nat :=
  let c0_2004 : Index := 0#32
  let v2053 : Index := Scalar.indexCast v2052
  let c0_2005 : Index := 0#32
  ![0, v2053.toNat, 0]

def k0_chk388 (v2052 : BitVec 32) : Prop :=
  (∀ a, (k0_off389 v2052) a + S1x1x512.size a ≤ S1x512x512.size a)
theorem k0_off389_inb : ∀ (v2052 : BitVec 32) (k0_hw388 : k0_chk388 v2052), ∀ a, (k0_off389 v2052) a + S1x1x512.size a ≤ S1x512x512.size a := fun v2052 k0_hw388 => k0_hw388

def k0_off390 (v2056 : BitVec 32) : Fin 3 → Nat :=
  let c0_2008 : Index := 0#32
  let v2057 : Index := Scalar.indexCast v2056
  let c0_2009 : Index := 0#32
  ![0, v2057.toNat, 0]

def k0_chk389 (v2056 : BitVec 32) : Prop :=
  (∀ a, (k0_off390 v2056) a + S1x1x512.size a ≤ S1x512x512.size a)
theorem k0_off390_inb : ∀ (v2056 : BitVec 32) (k0_hw389 : k0_chk389 v2056), ∀ a, (k0_off390 v2056) a + S1x1x512.size a ≤ S1x512x512.size a := fun v2056 k0_hw389 => k0_hw389

def k0_off391 (v2060 : BitVec 32) : Fin 3 → Nat :=
  let c0_2012 : Index := 0#32
  let v2061 : Index := Scalar.indexCast v2060
  let c0_2013 : Index := 0#32
  ![0, v2061.toNat, 0]

def k0_chk390 (v2060 : BitVec 32) : Prop :=
  (∀ a, (k0_off391 v2060) a + S1x1x512.size a ≤ S1x512x512.size a)
theorem k0_off391_inb : ∀ (v2060 : BitVec 32) (k0_hw390 : k0_chk390 v2060), ∀ a, (k0_off391 v2060) a + S1x1x512.size a ≤ S1x512x512.size a := fun v2060 k0_hw390 => k0_hw390

def k0_off392 (v2064 : BitVec 32) : Fin 3 → Nat :=
  let c0_2016 : Index := 0#32
  let v2065 : Index := Scalar.indexCast v2064
  let c0_2017 : Index := 0#32
  ![0, v2065.toNat, 0]

def k0_chk391 (v2064 : BitVec 32) : Prop :=
  (∀ a, (k0_off392 v2064) a + S1x1x512.size a ≤ S1x512x512.size a)
theorem k0_off392_inb : ∀ (v2064 : BitVec 32) (k0_hw391 : k0_chk391 v2064), ∀ a, (k0_off392 v2064) a + S1x1x512.size a ≤ S1x512x512.size a := fun v2064 k0_hw391 => k0_hw391

def k0_off393 (v2068 : BitVec 32) : Fin 3 → Nat :=
  let c0_2020 : Index := 0#32
  let v2069 : Index := Scalar.indexCast v2068
  let c0_2021 : Index := 0#32
  ![0, v2069.toNat, 0]

def k0_chk392 (v2068 : BitVec 32) : Prop :=
  (∀ a, (k0_off393 v2068) a + S1x1x512.size a ≤ S1x512x512.size a)
theorem k0_off393_inb : ∀ (v2068 : BitVec 32) (k0_hw392 : k0_chk392 v2068), ∀ a, (k0_off393 v2068) a + S1x1x512.size a ≤ S1x512x512.size a := fun v2068 k0_hw392 => k0_hw392

def k0_off394 (v2072 : BitVec 32) : Fin 3 → Nat :=
  let c0_2025 : Index := 0#32
  let v2073 : Index := Scalar.indexCast v2072
  let c0_2026 : Index := 0#32
  ![0, v2073.toNat, 0]

def k0_chk393 (v2072 : BitVec 32) : Prop :=
  (∀ a, (k0_off394 v2072) a + S1x1x512.size a ≤ S1x512x512.size a)
theorem k0_off394_inb : ∀ (v2072 : BitVec 32) (k0_hw393 : k0_chk393 v2072), ∀ a, (k0_off394 v2072) a + S1x1x512.size a ≤ S1x512x512.size a := fun v2072 k0_hw393 => k0_hw393

def k0_off395 (v2076 : BitVec 32) : Fin 3 → Nat :=
  let c0_2030 : Index := 0#32
  let v2077 : Index := Scalar.indexCast v2076
  let c0_2031 : Index := 0#32
  ![0, v2077.toNat, 0]

def k0_chk394 (v2076 : BitVec 32) : Prop :=
  (∀ a, (k0_off395 v2076) a + S1x1x512.size a ≤ S1x512x512.size a)
theorem k0_off395_inb : ∀ (v2076 : BitVec 32) (k0_hw394 : k0_chk394 v2076), ∀ a, (k0_off395 v2076) a + S1x1x512.size a ≤ S1x512x512.size a := fun v2076 k0_hw394 => k0_hw394

def k0_off396 (v2080 : BitVec 32) : Fin 3 → Nat :=
  let c0_2035 : Index := 0#32
  let v2081 : Index := Scalar.indexCast v2080
  let c0_2036 : Index := 0#32
  ![0, v2081.toNat, 0]

def k0_chk395 (v2080 : BitVec 32) : Prop :=
  (∀ a, (k0_off396 v2080) a + S1x1x512.size a ≤ S1x512x512.size a)
theorem k0_off396_inb : ∀ (v2080 : BitVec 32) (k0_hw395 : k0_chk395 v2080), ∀ a, (k0_off396 v2080) a + S1x1x512.size a ≤ S1x512x512.size a := fun v2080 k0_hw395 => k0_hw395

def k0_off397 (v2084 : BitVec 32) : Fin 3 → Nat :=
  let c0_2040 : Index := 0#32
  let v2085 : Index := Scalar.indexCast v2084
  let c0_2041 : Index := 0#32
  ![0, v2085.toNat, 0]

def k0_chk396 (v2084 : BitVec 32) : Prop :=
  (∀ a, (k0_off397 v2084) a + S1x1x512.size a ≤ S1x512x512.size a)
theorem k0_off397_inb : ∀ (v2084 : BitVec 32) (k0_hw396 : k0_chk396 v2084), ∀ a, (k0_off397 v2084) a + S1x1x512.size a ≤ S1x512x512.size a := fun v2084 k0_hw396 => k0_hw396

def k0_off398 (v2088 : BitVec 32) : Fin 3 → Nat :=
  let c0_2045 : Index := 0#32
  let v2089 : Index := Scalar.indexCast v2088
  let c0_2046 : Index := 0#32
  ![0, v2089.toNat, 0]

def k0_chk397 (v2088 : BitVec 32) : Prop :=
  (∀ a, (k0_off398 v2088) a + S1x1x512.size a ≤ S1x512x512.size a)
theorem k0_off398_inb : ∀ (v2088 : BitVec 32) (k0_hw397 : k0_chk397 v2088), ∀ a, (k0_off398 v2088) a + S1x1x512.size a ≤ S1x512x512.size a := fun v2088 k0_hw397 => k0_hw397

def k0_off399 (v2092 : BitVec 32) : Fin 3 → Nat :=
  let c0_2050 : Index := 0#32
  let v2093 : Index := Scalar.indexCast v2092
  let c0_2051 : Index := 0#32
  ![0, v2093.toNat, 0]

def k0_chk398 (v2092 : BitVec 32) : Prop :=
  (∀ a, (k0_off399 v2092) a + S1x1x512.size a ≤ S1x512x512.size a)
theorem k0_off399_inb : ∀ (v2092 : BitVec 32) (k0_hw398 : k0_chk398 v2092), ∀ a, (k0_off399 v2092) a + S1x1x512.size a ≤ S1x512x512.size a := fun v2092 k0_hw398 => k0_hw398

def k0_off400 (v2096 : BitVec 32) : Fin 3 → Nat :=
  let c0_2055 : Index := 0#32
  let v2097 : Index := Scalar.indexCast v2096
  let c0_2056 : Index := 0#32
  ![0, v2097.toNat, 0]

def k0_chk399 (v2096 : BitVec 32) : Prop :=
  (∀ a, (k0_off400 v2096) a + S1x1x512.size a ≤ S1x512x512.size a)
theorem k0_off400_inb : ∀ (v2096 : BitVec 32) (k0_hw399 : k0_chk399 v2096), ∀ a, (k0_off400 v2096) a + S1x1x512.size a ≤ S1x512x512.size a := fun v2096 k0_hw399 => k0_hw399

def k0_off401 (v2100 : BitVec 32) : Fin 3 → Nat :=
  let c0_2060 : Index := 0#32
  let v2101 : Index := Scalar.indexCast v2100
  let c0_2061 : Index := 0#32
  ![0, v2101.toNat, 0]

def k0_chk400 (v2100 : BitVec 32) : Prop :=
  (∀ a, (k0_off401 v2100) a + S1x1x512.size a ≤ S1x512x512.size a)
theorem k0_off401_inb : ∀ (v2100 : BitVec 32) (k0_hw400 : k0_chk400 v2100), ∀ a, (k0_off401 v2100) a + S1x1x512.size a ≤ S1x512x512.size a := fun v2100 k0_hw400 => k0_hw400

def cc0_transform_0 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x200x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x25x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x200 : Shape := ⟨2, ![1024, 200]⟩
abbrev S1024 : Shape := ⟨1, ![1024]⟩
abbrev S102x512x512 : Shape := ⟨3, ![102, 512, 512]⟩
abbrev S1024x1 : Shape := ⟨2, ![1024, 1]⟩
abbrev S_ : Shape := ⟨0, ![]⟩
abbrev S1024x200x1 : Shape := ⟨3, ![1024, 200, 1]⟩
abbrev S1024x200x2 : Shape := ⟨3, ![1024, 200, 2]⟩
abbrev S1024x200x512 : Shape := ⟨3, ![1024, 200, 512]⟩
abbrev S1 : Shape := ⟨1, ![1]⟩
abbrev S2 : Shape := ⟨1, ![2]⟩
abbrev S1x1x1 : Shape := ⟨3, ![1, 1, 1]⟩

abbrev nBuf : Space → Nat
  | .hbm => 370
  | .vmem => 0
  | .smem => 0
  | _ => 0

abbrev hbmTy0_0 (i : Nat) : BufTy := match i % 128 with
  | 0 => ⟨S1024x200, .i32⟩
  | 1 => ⟨S1024x200, .i32⟩
  | 2 => ⟨S1024, .i32⟩
  | 3 => ⟨S102x512x512, .f32⟩
  | 4 => ⟨S1024x1, .i32⟩
  | 5 => ⟨S_, .i32⟩
  | 6 => ⟨S1024x1, .i32⟩
  | 7 => ⟨S1024x1, .i1⟩
  | 8 => ⟨S_, .i32⟩
  | 9 => ⟨S1024x1, .i32⟩
  | 10 => ⟨S1024x1, .i32⟩
  | 11 => ⟨S1024x1, .i32⟩
  | 12 => ⟨S_, .i32⟩
  | 13 => ⟨S1024x200, .i32⟩
  | 14 => ⟨S1024x200, .i1⟩
  | 15 => ⟨S_, .i32⟩
  | 16 => ⟨S1024x200, .i32⟩
  | 17 => ⟨S1024x200, .i32⟩
  | 18 => ⟨S1024x200, .i32⟩
  | 19 => ⟨S1024x200, .i32⟩
  | 20 => ⟨S1024x200x1, .i32⟩
  | 21 => ⟨S1024x200x1, .i32⟩
  | 22 => ⟨S1024x200x2, .i32⟩
  | 23 => ⟨S1024x200x512, .f32⟩
  | 24 => ⟨S_, .i32⟩
  | 25 => ⟨S1024, .i32⟩
  | 26 => ⟨S1024, .i32⟩
  | 27 => ⟨S1024x1, .i32⟩
  | 28 => ⟨S_, .i32⟩
  | 29 => ⟨S1024x1, .i32⟩
  | 30 => ⟨S1024x1, .i1⟩
  | 31 => ⟨S_, .i32⟩
  | 32 => ⟨S1024x1, .i32⟩
  | 33 => ⟨S1024x1, .i32⟩
  | 34 => ⟨S1024x1, .i32⟩
  | 35 => ⟨S_, .i32⟩
  | 36 => ⟨S1024x200, .i32⟩
  | 37 => ⟨S1024x200, .i1⟩
  | 38 => ⟨S_, .i32⟩
  | 39 => ⟨S1024x200, .i32⟩
  | 40 => ⟨S1024x200, .i32⟩
  | 41 => ⟨S1024x200, .i32⟩
  | 42 => ⟨S1024x200, .i32⟩
  | 43 => ⟨S1024x200x1, .i32⟩
  | 44 => ⟨S1024x200x1, .i32⟩
  | 45 => ⟨S1024x200x2, .i32⟩
  | 46 => ⟨S1024x200x512, .f32⟩
  | 47 => ⟨S_, .f32⟩
  | 48 => ⟨S1024x200x512, .f32⟩
  | 49 => ⟨S1024x200x512, .f32⟩
  | 50 => ⟨S1024x200x512, .f32⟩
  | 51 => ⟨S_, .f32⟩
  | 52 => ⟨S1024x200x512, .f32⟩
  | 53 => ⟨S1024x200x512, .f32⟩
  | 54 => ⟨S1024x200x512, .f32⟩
  | 55 => ⟨S1024x200x512, .f32⟩
  | 56 => ⟨S_, .f32⟩
  | 57 => ⟨S1024x200, .f32⟩
  | 58 => ⟨S1024x200x1, .f32⟩
  | 59 => ⟨S1024x200x512, .f32⟩
  | 60 => ⟨S1024x200x512, .f32⟩
  | 61 => ⟨S1024x200x512, .f32⟩
  | 62 => ⟨S_, .f32⟩
  | 63 => ⟨S1024x200, .f32⟩
  | 64 => ⟨S1024x200x1, .f32⟩
  | 65 => ⟨S1024x200x1, .f32⟩
  | 66 => ⟨S1024x200x1, .f32⟩
  | 67 => ⟨S1024x200x512, .f32⟩
  | 68 => ⟨S1024x200x512, .f32⟩
  | 69 => ⟨S_, .i32⟩
  | 70 => ⟨S_, .i32⟩
  | 71 => ⟨S_, .i32⟩
  | 72 => ⟨S_, .i32⟩
  | 73 => ⟨S1, .i32⟩
  | 74 => ⟨S_, .i32⟩
  | 75 => ⟨S_, .i32⟩
  | 76 => ⟨S_, .i32⟩
  | 77 => ⟨S1, .i32⟩
  | 78 => ⟨S2, .i32⟩
  | 79 => ⟨S_, .f32⟩
  | 80 => ⟨S_, .f32⟩
  | 81 => ⟨S_, .f32⟩
  | 82 => ⟨S_, .f32⟩
  | 83 => ⟨S1x1x1, .f32⟩
  | 84 => ⟨S1x1x1, .f32⟩
  | 85 => ⟨S1, .i32⟩
  | 86 => ⟨S_, .i32⟩
  | 87 => ⟨S1, .i32⟩
  | 88 => ⟨S_, .i32⟩
  | 89 => ⟨S1024x200x512, .i64⟩
  | 90 => ⟨S1024x200x512, .i64⟩
  | 91 => ⟨S1024x200x512, .i64⟩
  | 92 => ⟨S_, .i64⟩
  | 93 => ⟨S1024x200x512, .i64⟩
  | 94 => ⟨S1024x200x512, .i64⟩
  | 95 => ⟨S_, .i64⟩
  | 96 => ⟨S1024x200x512, .i64⟩
  | 97 => ⟨S1024x200x512, .i64⟩
  | 98 => ⟨S_, .i64⟩
  | 99 => ⟨S1024x200x512, .i64⟩
  | 100 => ⟨S1024x200x512, .i64⟩
  | 101 => ⟨S1024x200x512, .i64⟩
  | 102 => ⟨S1024x200x512, .i64⟩
  | 103 => ⟨S_, .i64⟩
  | 104 => ⟨S1024x200x512, .i64⟩
  | 105 => ⟨S1024x200x512, .i64⟩
  | 106 => ⟨S1024x200x512, .i32⟩
  | 107 => ⟨S1024x200x512, .i32⟩
  | 108 => ⟨S_, .i32⟩
  | 109 => ⟨S_, .i32⟩
  | 110 => ⟨S_, .i32⟩
  | 111 => ⟨S1024x200x512, .i32⟩
  | 112 => ⟨S1024x200x512, .i32⟩
  | 113 => ⟨S1024x200x512, .i32⟩
  | 114 => ⟨S1024x200x512, .i32⟩
  | 115 => ⟨S1024x200x512, .i32⟩
  | 116 => ⟨S_, .i32⟩
  | 117 => ⟨S1024x200x512, .i32⟩
  | 118 => ⟨S1024x200x512, .i32⟩
  | 119 => ⟨S_, .i32⟩
  | 120 => ⟨S1024x200x512, .i32⟩
  | 121 => ⟨S1024x200x512, .i32⟩
  | 122 => ⟨S1024x200x512, .i32⟩
  | 123 => ⟨S1024x200x512, .i32⟩
  | 124 => ⟨S1024x200x512, .i32⟩
  | 125 => ⟨S_, .i32⟩
  | 126 => ⟨S1024x200x512, .i32⟩
  | 127 => ⟨S1024x200x512, .i32⟩
  | _ => ⟨S1024x200, .i32⟩

abbrev hbmTy0_1 (i : Nat) : BufTy := match i % 128 with
  | 0 => ⟨S_, .i32⟩
  | 1 => ⟨S1024x200x512, .i32⟩
  | 2 => ⟨S1024x200x512, .i32⟩
  | 3 => ⟨S1024x200x512, .i32⟩
  | 4 => ⟨S1024x200x512, .i32⟩
  | 5 => ⟨S1024x200x512, .i32⟩
  | 6 => ⟨S_, .i32⟩
  | 7 => ⟨S1024x200x512, .i32⟩
  | 8 => ⟨S1024x200x512, .i32⟩
  | 9 => ⟨S_, .i32⟩
  | 10 => ⟨S1024x200x512, .i32⟩
  | 11 => ⟨S1024x200x512, .i32⟩
  | 12 => ⟨S1024x200x512, .i32⟩
  | 13 => ⟨S1024x200x512, .i32⟩
  | 14 => ⟨S1024x200x512, .i32⟩
  | 15 => ⟨S_, .i32⟩
  | 16 => ⟨S1024x200x512, .i32⟩
  | 17 => ⟨S1024x200x512, .i32⟩
  | 18 => ⟨S_, .i32⟩
  | 19 => ⟨S1024x200x512, .i32⟩
  | 20 => ⟨S1024x200x512, .i32⟩
  | 21 => ⟨S1024x200x512, .i32⟩
  | 22 => ⟨S1024x200x512, .i32⟩
  | 23 => ⟨S1024x200x512, .i32⟩
  | 24 => ⟨S1024x200x512, .i32⟩
  | 25 => ⟨S1024x200x512, .i32⟩
  | 26 => ⟨S1024x200x512, .i32⟩
  | 27 => ⟨S_, .i32⟩
  | 28 => ⟨S1024x200x512, .i32⟩
  | 29 => ⟨S1024x200x512, .i32⟩
  | 30 => ⟨S1024x200x512, .i32⟩
  | 31 => ⟨S_, .i32⟩
  | 32 => ⟨S1024x200x512, .i32⟩
  | 33 => ⟨S1024x200x512, .i32⟩
  | 34 => ⟨S_, .i32⟩
  | 35 => ⟨S1024x200x512, .i32⟩
  | 36 => ⟨S1024x200x512, .i32⟩
  | 37 => ⟨S1024x200x512, .i32⟩
  | 38 => ⟨S1024x200x512, .i32⟩
  | 39 => ⟨S1024x200x512, .i32⟩
  | 40 => ⟨S_, .i32⟩
  | 41 => ⟨S1024x200x512, .i32⟩
  | 42 => ⟨S1024x200x512, .i32⟩
  | 43 => ⟨S_, .i32⟩
  | 44 => ⟨S1024x200x512, .i32⟩
  | 45 => ⟨S1024x200x512, .i32⟩
  | 46 => ⟨S1024x200x512, .i32⟩
  | 47 => ⟨S1024x200x512, .i32⟩
  | 48 => ⟨S1024x200x512, .i32⟩
  | 49 => ⟨S_, .i32⟩
  | 50 => ⟨S1024x200x512, .i32⟩
  | 51 => ⟨S1024x200x512, .i32⟩
  | 52 => ⟨S_, .i32⟩
  | 53 => ⟨S1024x200x512, .i32⟩
  | 54 => ⟨S1024x200x512, .i32⟩
  | 55 => ⟨S1024x200x512, .i32⟩
  | 56 => ⟨S1024x200x512, .i32⟩
  | 57 => ⟨S1024x200x512, .i32⟩
  | 58 => ⟨S_, .i32⟩
  | 59 => ⟨S1024x200x512, .i32⟩
  | 60 => ⟨S1024x200x512, .i32⟩
  | 61 => ⟨S_, .i32⟩
  | 62 => ⟨S1024x200x512, .i32⟩
  | 63 => ⟨S1024x200x512, .i32⟩
  | 64 => ⟨S1024x200x512, .i32⟩
  | 65 => ⟨S1024x200x512, .i32⟩
  | 66 => ⟨S1024x200x512, .i32⟩
  | 67 => ⟨S1024x200x512, .i32⟩
  | 68 => ⟨S1024x200x512, .i32⟩
  | 69 => ⟨S1024x200x512, .i32⟩
  | 70 => ⟨S_, .i32⟩
  | 71 => ⟨S1024x200x512, .i32⟩
  | 72 => ⟨S1024x200x512, .i32⟩
  | 73 => ⟨S1024x200x512, .i32⟩
  | 74 => ⟨S_, .i32⟩
  | 75 => ⟨S1024x200x512, .i32⟩
  | 76 => ⟨S1024x200x512, .i32⟩
  | 77 => ⟨S_, .i32⟩
  | 78 => ⟨S1024x200x512, .i32⟩
  | 79 => ⟨S1024x200x512, .i32⟩
  | 80 => ⟨S1024x200x512, .i32⟩
  | 81 => ⟨S1024x200x512, .i32⟩
  | 82 => ⟨S1024x200x512, .i32⟩
  | 83 => ⟨S_, .i32⟩
  | 84 => ⟨S1024x200x512, .i32⟩
  | 85 => ⟨S1024x200x512, .i32⟩
  | 86 => ⟨S_, .i32⟩
  | 87 => ⟨S1024x200x512, .i32⟩
  | 88 => ⟨S1024x200x512, .i32⟩
  | 89 => ⟨S1024x200x512, .i32⟩
  | 90 => ⟨S1024x200x512, .i32⟩
  | 91 => ⟨S1024x200x512, .i32⟩
  | 92 => ⟨S_, .i32⟩
  | 93 => ⟨S1024x200x512, .i32⟩
  | 94 => ⟨S1024x200x512, .i32⟩
  | 95 => ⟨S_, .i32⟩
  | 96 => ⟨S1024x200x512, .i32⟩
  | 97 => ⟨S1024x200x512, .i32⟩
  | 98 => ⟨S1024x200x512, .i32⟩
  | 99 => ⟨S1024x200x512, .i32⟩
  | 100 => ⟨S1024x200x512, .i32⟩
  | 101 => ⟨S_, .i32⟩
  | 102 => ⟨S1024x200x512, .i32⟩
  | 103 => ⟨S1024x200x512, .i32⟩
  | 104 => ⟨S_, .i32⟩
  | 105 => ⟨S1024x200x512, .i32⟩
  | 106 => ⟨S1024x200x512, .i32⟩
  | 107 => ⟨S1024x200x512, .i32⟩
  | 108 => ⟨S1024x200x512, .i32⟩
  | 109 => ⟨S1024x200x512, .i32⟩
  | 110 => ⟨S1024x200x512, .i32⟩
  | 111 => ⟨S1024x200x512, .i32⟩
  | 112 => ⟨S1024x200x512, .i32⟩
  | 113 => ⟨S_, .i32⟩
  | 114 => ⟨S1024x200x512, .i32⟩
  | 115 => ⟨S1024x200x512, .i32⟩
  | 116 => ⟨S1024x200x512, .i32⟩
  | 117 => ⟨S_, .i32⟩
  | 118 => ⟨S1024x200x512, .i32⟩
  | 119 => ⟨S1024x200x512, .i32⟩
  | 120 => ⟨S_, .i32⟩
  | 121 => ⟨S1024x200x512, .i32⟩
  | 122 => ⟨S1024x200x512, .i32⟩
  | 123 => ⟨S1024x200x512, .i32⟩
  | 124 => ⟨S1024x200x512, .i32⟩
  | 125 => ⟨S1024x200x512, .i32⟩
  | 126 => ⟨S_, .i32⟩
  | 127 => ⟨S1024x200x512, .i32⟩
  | _ => ⟨S1024x200, .i32⟩

abbrev hbmTy0_2 (i : Nat) : BufTy := match i % 128 with
  | 0 => ⟨S1024x200x512, .i32⟩
  | 1 => ⟨S_, .i32⟩
  | 2 => ⟨S1024x200x512, .i32⟩
  | 3 => ⟨S1024x200x512, .i32⟩
  | 4 => ⟨S1024x200x512, .i32⟩
  | 5 => ⟨S1024x200x512, .i32⟩
  | 6 => ⟨S1024x200x512, .i32⟩
  | 7 => ⟨S_, .i32⟩
  | 8 => ⟨S1024x200x512, .i32⟩
  | 9 => ⟨S1024x200x512, .i32⟩
  | 10 => ⟨S_, .i32⟩
  | 11 => ⟨S1024x200x512, .i32⟩
  | 12 => ⟨S1024x200x512, .i32⟩
  | 13 => ⟨S1024x200x512, .i32⟩
  | 14 => ⟨S1024x200x512, .i32⟩
  | 15 => ⟨S1024x200x512, .i32⟩
  | 16 => ⟨S_, .i32⟩
  | 17 => ⟨S1024x200x512, .i32⟩
  | 18 => ⟨S1024x200x512, .i32⟩
  | 19 => ⟨S_, .i32⟩
  | 20 => ⟨S1024x200x512, .i32⟩
  | 21 => ⟨S1024x200x512, .i32⟩
  | 22 => ⟨S1024x200x512, .i32⟩
  | 23 => ⟨S1024x200x512, .i32⟩
  | 24 => ⟨S1024x200x512, .i32⟩
  | 25 => ⟨S1024x200x512, .i32⟩
  | 26 => ⟨S1024x200x512, .i32⟩
  | 27 => ⟨S1024x200x512, .i32⟩
  | 28 => ⟨S_, .i32⟩
  | 29 => ⟨S1024x200x512, .i32⟩
  | 30 => ⟨S1024x200x512, .i32⟩
  | 31 => ⟨S1024x200x512, .i32⟩
  | 32 => ⟨S_, .i32⟩
  | 33 => ⟨S1024x200x512, .i32⟩
  | 34 => ⟨S1024x200x512, .i32⟩
  | 35 => ⟨S_, .i32⟩
  | 36 => ⟨S1024x200x512, .i32⟩
  | 37 => ⟨S1024x200x512, .i32⟩
  | 38 => ⟨S1024x200x512, .i32⟩
  | 39 => ⟨S1024x200x512, .i32⟩
  | 40 => ⟨S1024x200x512, .i32⟩
  | 41 => ⟨S_, .i32⟩
  | 42 => ⟨S1024x200x512, .i32⟩
  | 43 => ⟨S1024x200x512, .i32⟩
  | 44 => ⟨S_, .i32⟩
  | 45 => ⟨S1024x200x512, .i32⟩
  | 46 => ⟨S1024x200x512, .i32⟩
  | 47 => ⟨S1024x200x512, .i32⟩
  | 48 => ⟨S1024x200x512, .i32⟩
  | 49 => ⟨S1024x200x512, .i32⟩
  | 50 => ⟨S_, .i32⟩
  | 51 => ⟨S1024x200x512, .i32⟩
  | 52 => ⟨S1024x200x512, .i32⟩
  | 53 => ⟨S_, .i32⟩
  | 54 => ⟨S1024x200x512, .i32⟩
  | 55 => ⟨S1024x200x512, .i32⟩
  | 56 => ⟨S1024x200x512, .i32⟩
  | 57 => ⟨S1024x200x512, .i32⟩
  | 58 => ⟨S1024x200x512, .i32⟩
  | 59 => ⟨S_, .i32⟩
  | 60 => ⟨S1024x200x512, .i32⟩
  | 61 => ⟨S1024x200x512, .i32⟩
  | 62 => ⟨S_, .i32⟩
  | 63 => ⟨S1024x200x512, .i32⟩
  | 64 => ⟨S1024x200x512, .i32⟩
  | 65 => ⟨S1024x200x512, .i32⟩
  | 66 => ⟨S1024x200x512, .i32⟩
  | 67 => ⟨S1024x200x512, .i32⟩
  | 68 => ⟨S1024x200x512, .i32⟩
  | 69 => ⟨S1024x200x512, .i32⟩
  | 70 => ⟨S1024x200x512, .i32⟩
  | 71 => ⟨S_, .i32⟩
  | 72 => ⟨S1024x200x512, .i32⟩
  | 73 => ⟨S1024x200x512, .i32⟩
  | 74 => ⟨S1024x200x512, .i32⟩
  | 75 => ⟨S_, .i32⟩
  | 76 => ⟨S1024x200x512, .i32⟩
  | 77 => ⟨S1024x200x512, .i32⟩
  | 78 => ⟨S_, .i32⟩
  | 79 => ⟨S1024x200x512, .i32⟩
  | 80 => ⟨S1024x200x512, .i32⟩
  | 81 => ⟨S1024x200x512, .f32⟩
  | 82 => ⟨S_, .f32⟩
  | 83 => ⟨S1024x200x512, .f32⟩
  | 84 => ⟨S1024x200x512, .f32⟩
  | 85 => ⟨S1x1x1, .f32⟩
  | 86 => ⟨S1024x200x512, .f32⟩
  | 87 => ⟨S1024x200x512, .f32⟩
  | 88 => ⟨S1024x200x512, .f32⟩
  | 89 => ⟨S1024x200x512, .f32⟩
  | 90 => ⟨S1024x200x512, .f32⟩
  | 91 => ⟨S1024x200x512, .f32⟩
  | 92 => ⟨S_, .f32⟩
  | 93 => ⟨S_, .f32⟩
  | 94 => ⟨S1024x200x512, .f32⟩
  | 95 => ⟨S1024x200x512, .f32⟩
  | 96 => ⟨S_, .f32⟩
  | 97 => ⟨S1024x200x512, .f32⟩
  | 98 => ⟨S1024x200x512, .f32⟩
  | 99 => ⟨S1024x200x512, .f32⟩
  | 100 => ⟨S1024x200x512, .f32⟩
  | 101 => ⟨S1024x200x512, .f32⟩
  | 102 => ⟨S1024x200x512, .f32⟩
  | 103 => ⟨S1024x200x512, .f32⟩
  | 104 => ⟨S1024x200x512, .i32⟩
  | 105 => ⟨S_, .f32⟩
  | 106 => ⟨S_, .i32⟩
  | 107 => ⟨S1024x200, .f32⟩
  | 108 => ⟨S1024x200, .i32⟩
  | 109 => ⟨S_, .i32⟩
  | 110 => ⟨S1024x1, .i32⟩
  | 111 => ⟨S1024x1, .i1⟩
  | 112 => ⟨S1024x200, .i1⟩
  | 113 => ⟨S1024x200, .i32⟩
  | _ => ⟨S1024x200, .i32⟩

abbrev hbmTy (i : Nat) : BufTy := match i / 128 with
  | 0 => hbmTy0_0 i
  | 1 => hbmTy0_1 i
  | 2 => hbmTy0_2 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_cst_15 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_c : Ref sig .tc := ⟨.hbm, 92, rfl⟩
abbrev main_call0_v11 : Ref sig .tc := ⟨.hbm, 93, rfl⟩
abbrev main_call0_v12 : Ref sig .tc := ⟨.hbm, 94, rfl⟩
abbrev main_call0_c_0 : Ref sig .tc := ⟨.hbm, 95, rfl⟩
abbrev main_call0_v13 : Ref sig .tc := ⟨.hbm, 96, rfl⟩
abbrev main_call0_v14 : Ref sig .tc := ⟨.hbm, 97, rfl⟩
abbrev main_call0_c_1 : Ref sig .tc := ⟨.hbm, 98, rfl⟩
abbrev main_call0_v15 : Ref sig .tc := ⟨.hbm, 99, rfl⟩
abbrev main_call0_v16 : Ref sig .tc := ⟨.hbm, 100, rfl⟩
abbrev main_call0_v17 : Ref sig .tc := ⟨.hbm, 101, rfl⟩
abbrev main_call0_v18 : Ref sig .tc := ⟨.hbm, 102, rfl⟩
abbrev main_call0_c_2 : Ref sig .tc := ⟨.hbm, 103, rfl⟩
abbrev main_call0_v19 : Ref sig .tc := ⟨.hbm, 104, rfl⟩
abbrev main_call0_v20 : Ref sig .tc := ⟨.hbm, 105, rfl⟩
abbrev main_call0_v21 : Ref sig .tc := ⟨.hbm, 106, rfl⟩
abbrev main_call0_v22 : Ref sig .tc := ⟨.hbm, 107, rfl⟩
abbrev main_call0_call0_v0 : Ref sig .tc := ⟨.hbm, 108, rfl⟩
abbrev main_call0_call0_c : Ref sig .tc := ⟨.hbm, 109, rfl⟩
abbrev main_call0_call0_v1 : Ref sig .tc := ⟨.hbm, 110, rfl⟩
abbrev main_call0_call0_v2 : Ref sig .tc := ⟨.hbm, 111, rfl⟩
abbrev main_call0_call0_v3 : Ref sig .tc := ⟨.hbm, 112, rfl⟩
abbrev main_call0_call0_v4 : Ref sig .tc := ⟨.hbm, 113, rfl⟩
abbrev main_call0_call0_v5 : Ref sig .tc := ⟨.hbm, 114, rfl⟩
abbrev main_call0_call0_v6 : Ref sig .tc := ⟨.hbm, 115, rfl⟩
abbrev main_call0_call0_c_0 : Ref sig .tc := ⟨.hbm, 116, rfl⟩
abbrev main_call0_call0_v7 : Ref sig .tc := ⟨.hbm, 117, rfl⟩
abbrev main_call0_call0_v8 : Ref sig .tc := ⟨.hbm, 118, rfl⟩
abbrev main_call0_call0_c_1 : Ref sig .tc := ⟨.hbm, 119, rfl⟩
abbrev main_call0_call0_v9 : Ref sig .tc := ⟨.hbm, 120, rfl⟩
abbrev main_call0_call0_v10 : Ref sig .tc := ⟨.hbm, 121, rfl⟩
abbrev main_call0_call0_v11 : Ref sig .tc := ⟨.hbm, 122, rfl⟩
abbrev main_call0_call0_v12 : Ref sig .tc := ⟨.hbm, 123, rfl⟩
abbrev main_call0_call0_v13 : Ref sig .tc := ⟨.hbm, 124, rfl⟩
abbrev main_call0_call0_c_2 : Ref sig .tc := ⟨.hbm, 125, rfl⟩
abbrev main_call0_call0_v14 : Ref sig .tc := ⟨.hbm, 126, rfl⟩
abbrev main_call0_call0_v15 : Ref sig .tc := ⟨.hbm, 127, rfl⟩
abbrev main_call0_call0_c_3 : Ref sig .tc := ⟨.hbm, 128, rfl⟩
abbrev main_call0_call0_v16 : Ref sig .tc := ⟨.hbm, 129, rfl⟩
abbrev main_call0_call0_v17 : Ref sig .tc := ⟨.hbm, 130, rfl⟩
abbrev main_call0_call0_v18 : Ref sig .tc := ⟨.hbm, 131, rfl⟩
abbrev main_call0_call0_v19 : Ref sig .tc := ⟨.hbm, 132, rfl⟩
abbrev main_call0_call0_v20 : Ref sig .tc := ⟨.hbm, 133, rfl⟩
abbrev main_call0_call0_c_4 : Ref sig .tc := ⟨.hbm, 134, rfl⟩
abbrev main_call0_call0_v21 : Ref sig .tc := ⟨.hbm, 135, rfl⟩
abbrev main_call0_call0_v22 : Ref sig .tc := ⟨.hbm, 136, rfl⟩
abbrev main_call0_call0_c_5 : Ref sig .tc := ⟨.hbm, 137, rfl⟩
abbrev main_call0_call0_v23 : Ref sig .tc := ⟨.hbm, 138, rfl⟩
abbrev main_call0_call0_v24 : Ref sig .tc := ⟨.hbm, 139, rfl⟩
abbrev main_call0_call0_v25 : Ref sig .tc := ⟨.hbm, 140, rfl⟩
abbrev main_call0_call0_v26 : Ref sig .tc := ⟨.hbm, 141, rfl⟩
abbrev main_call0_call0_v27 : Ref sig .tc := ⟨.hbm, 142, rfl⟩
abbrev main_call0_call0_c_6 : Ref sig .tc := ⟨.hbm, 143, rfl⟩
abbrev main_call0_call0_v28 : Ref sig .tc := ⟨.hbm, 144, rfl⟩
abbrev main_call0_call0_v29 : Ref sig .tc := ⟨.hbm, 145, rfl⟩
abbrev main_call0_call0_c_7 : Ref sig .tc := ⟨.hbm, 146, rfl⟩
abbrev main_call0_call0_v30 : Ref sig .tc := ⟨.hbm, 147, rfl⟩
abbrev main_call0_call0_v31 : Ref sig .tc := ⟨.hbm, 148, rfl⟩
abbrev main_call0_call0_v32 : Ref sig .tc := ⟨.hbm, 149, rfl⟩
abbrev main_call0_call0_v33 : Ref sig .tc := ⟨.hbm, 150, rfl⟩
abbrev main_call0_call0_v34 : Ref sig .tc := ⟨.hbm, 151, rfl⟩
abbrev main_call0_call0_v35 : Ref sig .tc := ⟨.hbm, 152, rfl⟩
abbrev main_call0_call0_v36 : Ref sig .tc := ⟨.hbm, 153, rfl⟩
abbrev main_call0_call0_v37 : Ref sig .tc := ⟨.hbm, 154, rfl⟩
abbrev main_call0_call0_c_8 : Ref sig .tc := ⟨.hbm, 155, rfl⟩
abbrev main_call0_call0_v38 : Ref sig .tc := ⟨.hbm, 156, rfl⟩
abbrev main_call0_call0_v39 : Ref sig .tc := ⟨.hbm, 157, rfl⟩
abbrev main_call0_call0_v40 : Ref sig .tc := ⟨.hbm, 158, rfl⟩
abbrev main_call0_call0_c_9 : Ref sig .tc := ⟨.hbm, 159, rfl⟩
abbrev main_call0_call0_v41 : Ref sig .tc := ⟨.hbm, 160, rfl⟩
abbrev main_call0_call0_v42 : Ref sig .tc := ⟨.hbm, 161, rfl⟩
abbrev main_call0_call0_c_10 : Ref sig .tc := ⟨.hbm, 162, rfl⟩
abbrev main_call0_call0_v43 : Ref sig .tc := ⟨.hbm, 163, rfl⟩
abbrev main_call0_call0_v44 : Ref sig .tc := ⟨.hbm, 164, rfl⟩
abbrev main_call0_call0_v45 : Ref sig .tc := ⟨.hbm, 165, rfl⟩
abbrev main_call0_call0_v46 : Ref sig .tc := ⟨.hbm, 166, rfl⟩
abbrev main_call0_call0_v47 : Ref sig .tc := ⟨.hbm, 167, rfl⟩
abbrev main_call0_call0_c_11 : Ref sig .tc := ⟨.hbm, 168, rfl⟩
abbrev main_call0_call0_v48 : Ref sig .tc := ⟨.hbm, 169, rfl⟩
abbrev main_call0_call0_v49 : Ref sig .tc := ⟨.hbm, 170, rfl⟩
abbrev main_call0_call0_c_12 : Ref sig .tc := ⟨.hbm, 171, rfl⟩
abbrev main_call0_call0_v50 : Ref sig .tc := ⟨.hbm, 172, rfl⟩
abbrev main_call0_call0_v51 : Ref sig .tc := ⟨.hbm, 173, rfl⟩
abbrev main_call0_call0_v52 : Ref sig .tc := ⟨.hbm, 174, rfl⟩
abbrev main_call0_call0_v53 : Ref sig .tc := ⟨.hbm, 175, rfl⟩
abbrev main_call0_call0_v54 : Ref sig .tc := ⟨.hbm, 176, rfl⟩
abbrev main_call0_call0_c_13 : Ref sig .tc := ⟨.hbm, 177, rfl⟩
abbrev main_call0_call0_v55 : Ref sig .tc := ⟨.hbm, 178, rfl⟩
abbrev main_call0_call0_v56 : Ref sig .tc := ⟨.hbm, 179, rfl⟩
abbrev main_call0_call0_c_14 : Ref sig .tc := ⟨.hbm, 180, rfl⟩
abbrev main_call0_call0_v57 : Ref sig .tc := ⟨.hbm, 181, rfl⟩
abbrev main_call0_call0_v58 : Ref sig .tc := ⟨.hbm, 182, rfl⟩
abbrev main_call0_call0_v59 : Ref sig .tc := ⟨.hbm, 183, rfl⟩
abbrev main_call0_call0_v60 : Ref sig .tc := ⟨.hbm, 184, rfl⟩
abbrev main_call0_call0_v61 : Ref sig .tc := ⟨.hbm, 185, rfl⟩
abbrev main_call0_call0_c_15 : Ref sig .tc := ⟨.hbm, 186, rfl⟩
abbrev main_call0_call0_v62 : Ref sig .tc := ⟨.hbm, 187, rfl⟩
abbrev main_call0_call0_v63 : Ref sig .tc := ⟨.hbm, 188, rfl⟩
abbrev main_call0_call0_c_16 : Ref sig .tc := ⟨.hbm, 189, rfl⟩
abbrev main_call0_call0_v64 : Ref sig .tc := ⟨.hbm, 190, rfl⟩
abbrev main_call0_call0_v65 : Ref sig .tc := ⟨.hbm, 191, rfl⟩
abbrev main_call0_call0_v66 : Ref sig .tc := ⟨.hbm, 192, rfl⟩
abbrev main_call0_call0_v67 : Ref sig .tc := ⟨.hbm, 193, rfl⟩
abbrev main_call0_call0_v68 : Ref sig .tc := ⟨.hbm, 194, rfl⟩
abbrev main_call0_call0_v69 : Ref sig .tc := ⟨.hbm, 195, rfl⟩
abbrev main_call0_call0_v70 : Ref sig .tc := ⟨.hbm, 196, rfl⟩
abbrev main_call0_call0_v71 : Ref sig .tc := ⟨.hbm, 197, rfl⟩
abbrev main_call0_call0_c_17 : Ref sig .tc := ⟨.hbm, 198, rfl⟩
abbrev main_call0_call0_v72 : Ref sig .tc := ⟨.hbm, 199, rfl⟩
abbrev main_call0_call0_v73 : Ref sig .tc := ⟨.hbm, 200, rfl⟩
abbrev main_call0_call0_v74 : Ref sig .tc := ⟨.hbm, 201, rfl⟩
abbrev main_call0_call0_c_18 : Ref sig .tc := ⟨.hbm, 202, rfl⟩
abbrev main_call0_call0_v75 : Ref sig .tc := ⟨.hbm, 203, rfl⟩
abbrev main_call0_call0_v76 : Ref sig .tc := ⟨.hbm, 204, rfl⟩
abbrev main_call0_call0_c_19 : Ref sig .tc := ⟨.hbm, 205, rfl⟩
abbrev main_call0_call0_v77 : Ref sig .tc := ⟨.hbm, 206, rfl⟩
abbrev main_call0_call0_v78 : Ref sig .tc := ⟨.hbm, 207, rfl⟩
abbrev main_call0_call0_v79 : Ref sig .tc := ⟨.hbm, 208, rfl⟩
abbrev main_call0_call0_v80 : Ref sig .tc := ⟨.hbm, 209, rfl⟩
abbrev main_call0_call0_v81 : Ref sig .tc := ⟨.hbm, 210, rfl⟩
abbrev main_call0_call0_c_20 : Ref sig .tc := ⟨.hbm, 211, rfl⟩
abbrev main_call0_call0_v82 : Ref sig .tc := ⟨.hbm, 212, rfl⟩
abbrev main_call0_call0_v83 : Ref sig .tc := ⟨.hbm, 213, rfl⟩
abbrev main_call0_call0_c_21 : Ref sig .tc := ⟨.hbm, 214, rfl⟩
abbrev main_call0_call0_v84 : Ref sig .tc := ⟨.hbm, 215, rfl⟩
abbrev main_call0_call0_v85 : Ref sig .tc := ⟨.hbm, 216, rfl⟩
abbrev main_call0_call0_v86 : Ref sig .tc := ⟨.hbm, 217, rfl⟩
abbrev main_call0_call0_v87 : Ref sig .tc := ⟨.hbm, 218, rfl⟩
abbrev main_call0_call0_v88 : Ref sig .tc := ⟨.hbm, 219, rfl⟩
abbrev main_call0_call0_c_22 : Ref sig .tc := ⟨.hbm, 220, rfl⟩
abbrev main_call0_call0_v89 : Ref sig .tc := ⟨.hbm, 221, rfl⟩
abbrev main_call0_call0_v90 : Ref sig .tc := ⟨.hbm, 222, rfl⟩
abbrev main_call0_call0_c_23 : Ref sig .tc := ⟨.hbm, 223, rfl⟩
abbrev main_call0_call0_v91 : Ref sig .tc := ⟨.hbm, 224, rfl⟩
abbrev main_call0_call0_v92 : Ref sig .tc := ⟨.hbm, 225, rfl⟩
abbrev main_call0_call0_v93 : Ref sig .tc := ⟨.hbm, 226, rfl⟩
abbrev main_call0_call0_v94 : Ref sig .tc := ⟨.hbm, 227, rfl⟩
abbrev main_call0_call0_v95 : Ref sig .tc := ⟨.hbm, 228, rfl⟩
abbrev main_call0_call0_c_24 : Ref sig .tc := ⟨.hbm, 229, rfl⟩
abbrev main_call0_call0_v96 : Ref sig .tc := ⟨.hbm, 230, rfl⟩
abbrev main_call0_call0_v97 : Ref sig .tc := ⟨.hbm, 231, rfl⟩
abbrev main_call0_call0_c_25 : Ref sig .tc := ⟨.hbm, 232, rfl⟩
abbrev main_call0_call0_v98 : Ref sig .tc := ⟨.hbm, 233, rfl⟩
abbrev main_call0_call0_v99 : Ref sig .tc := ⟨.hbm, 234, rfl⟩
abbrev main_call0_call0_v100 : Ref sig .tc := ⟨.hbm, 235, rfl⟩
abbrev main_call0_call0_v101 : Ref sig .tc := ⟨.hbm, 236, rfl⟩
abbrev main_call0_call0_v102 : Ref sig .tc := ⟨.hbm, 237, rfl⟩
abbrev main_call0_call0_v103 : Ref sig .tc := ⟨.hbm, 238, rfl⟩
abbrev main_call0_call0_v104 : Ref sig .tc := ⟨.hbm, 239, rfl⟩
abbrev main_call0_call0_v105 : Ref sig .tc := ⟨.hbm, 240, rfl⟩
abbrev main_call0_call0_c_26 : Ref sig .tc := ⟨.hbm, 241, rfl⟩
abbrev main_call0_call0_v106 : Ref sig .tc := ⟨.hbm, 242, rfl⟩
abbrev main_call0_call0_v107 : Ref sig .tc := ⟨.hbm, 243, rfl⟩
abbrev main_call0_call0_v108 : Ref sig .tc := ⟨.hbm, 244, rfl⟩
abbrev main_call0_call0_c_27 : Ref sig .tc := ⟨.hbm, 245, rfl⟩
abbrev main_call0_call0_v109 : Ref sig .tc := ⟨.hbm, 246, rfl⟩
abbrev main_call0_call0_v110 : Ref sig .tc := ⟨.hbm, 247, rfl⟩
abbrev main_call0_call0_c_28 : Ref sig .tc := ⟨.hbm, 248, rfl⟩
abbrev main_call0_call0_v111 : Ref sig .tc := ⟨.hbm, 249, rfl⟩
abbrev main_call0_call0_v112 : Ref sig .tc := ⟨.hbm, 250, rfl⟩
abbrev main_call0_call0_v113 : Ref sig .tc := ⟨.hbm, 251, rfl⟩
abbrev main_call0_call0_v114 : Ref sig .tc := ⟨.hbm, 252, rfl⟩
abbrev main_call0_call0_v115 : Ref sig .tc := ⟨.hbm, 253, rfl⟩
abbrev main_call0_call0_c_29 : Ref sig .tc := ⟨.hbm, 254, rfl⟩
abbrev main_call0_call0_v116 : Ref sig .tc := ⟨.hbm, 255, rfl⟩
abbrev main_call0_call0_v117 : Ref sig .tc := ⟨.hbm, 256, rfl⟩
abbrev main_call0_call0_c_30 : Ref sig .tc := ⟨.hbm, 257, rfl⟩
abbrev main_call0_call0_v118 : Ref sig .tc := ⟨.hbm, 258, rfl⟩
abbrev main_call0_call0_v119 : Ref sig .tc := ⟨.hbm, 259, rfl⟩
abbrev main_call0_call0_v120 : Ref sig .tc := ⟨.hbm, 260, rfl⟩
abbrev main_call0_call0_v121 : Ref sig .tc := ⟨.hbm, 261, rfl⟩
abbrev main_call0_call0_v122 : Ref sig .tc := ⟨.hbm, 262, rfl⟩
abbrev main_call0_call0_c_31 : Ref sig .tc := ⟨.hbm, 263, rfl⟩
abbrev main_call0_call0_v123 : Ref sig .tc := ⟨.hbm, 264, rfl⟩
abbrev main_call0_call0_v124 : Ref sig .tc := ⟨.hbm, 265, rfl⟩
abbrev main_call0_call0_c_32 : Ref sig .tc := ⟨.hbm, 266, rfl⟩
abbrev main_call0_call0_v125 : Ref sig .tc := ⟨.hbm, 267, rfl⟩
abbrev main_call0_call0_v126 : Ref sig .tc := ⟨.hbm, 268, rfl⟩
abbrev main_call0_call0_v127 : Ref sig .tc := ⟨.hbm, 269, rfl⟩
abbrev main_call0_call0_v128 : Ref sig .tc := ⟨.hbm, 270, rfl⟩
abbrev main_call0_call0_v129 : Ref sig .tc := ⟨.hbm, 271, rfl⟩
abbrev main_call0_call0_c_33 : Ref sig .tc := ⟨.hbm, 272, rfl⟩
abbrev main_call0_call0_v130 : Ref sig .tc := ⟨.hbm, 273, rfl⟩
abbrev main_call0_call0_v131 : Ref sig .tc := ⟨.hbm, 274, rfl⟩
abbrev main_call0_call0_c_34 : Ref sig .tc := ⟨.hbm, 275, rfl⟩
abbrev main_call0_call0_v132 : Ref sig .tc := ⟨.hbm, 276, rfl⟩
abbrev main_call0_call0_v133 : Ref sig .tc := ⟨.hbm, 277, rfl⟩
abbrev main_call0_call0_v134 : Ref sig .tc := ⟨.hbm, 278, rfl⟩
abbrev main_call0_call0_v135 : Ref sig .tc := ⟨.hbm, 279, rfl⟩
abbrev main_call0_call0_v136 : Ref sig .tc := ⟨.hbm, 280, rfl⟩
abbrev main_call0_call0_v137 : Ref sig .tc := ⟨.hbm, 281, rfl⟩
abbrev main_call0_call0_v138 : Ref sig .tc := ⟨.hbm, 282, rfl⟩
abbrev main_call0_call0_v139 : Ref sig .tc := ⟨.hbm, 283, rfl⟩
abbrev main_call0_call0_c_35 : Ref sig .tc := ⟨.hbm, 284, rfl⟩
abbrev main_call0_call0_v140 : Ref sig .tc := ⟨.hbm, 285, rfl⟩
abbrev main_call0_call0_v141 : Ref sig .tc := ⟨.hbm, 286, rfl⟩
abbrev main_call0_call0_v142 : Ref sig .tc := ⟨.hbm, 287, rfl⟩
abbrev main_call0_call0_c_36 : Ref sig .tc := ⟨.hbm, 288, rfl⟩
abbrev main_call0_call0_v143 : Ref sig .tc := ⟨.hbm, 289, rfl⟩
abbrev main_call0_call0_v144 : Ref sig .tc := ⟨.hbm, 290, rfl⟩
abbrev main_call0_call0_c_37 : Ref sig .tc := ⟨.hbm, 291, rfl⟩
abbrev main_call0_call0_v145 : Ref sig .tc := ⟨.hbm, 292, rfl⟩
abbrev main_call0_call0_v146 : Ref sig .tc := ⟨.hbm, 293, rfl⟩
abbrev main_call0_call0_v147 : Ref sig .tc := ⟨.hbm, 294, rfl⟩
abbrev main_call0_call0_v148 : Ref sig .tc := ⟨.hbm, 295, rfl⟩
abbrev main_call0_call0_v149 : Ref sig .tc := ⟨.hbm, 296, rfl⟩
abbrev main_call0_call0_c_38 : Ref sig .tc := ⟨.hbm, 297, rfl⟩
abbrev main_call0_call0_v150 : Ref sig .tc := ⟨.hbm, 298, rfl⟩
abbrev main_call0_call0_v151 : Ref sig .tc := ⟨.hbm, 299, rfl⟩
abbrev main_call0_call0_c_39 : Ref sig .tc := ⟨.hbm, 300, rfl⟩
abbrev main_call0_call0_v152 : Ref sig .tc := ⟨.hbm, 301, rfl⟩
abbrev main_call0_call0_v153 : Ref sig .tc := ⟨.hbm, 302, rfl⟩
abbrev main_call0_call0_v154 : Ref sig .tc := ⟨.hbm, 303, rfl⟩
abbrev main_call0_call0_v155 : Ref sig .tc := ⟨.hbm, 304, rfl⟩
abbrev main_call0_call0_v156 : Ref sig .tc := ⟨.hbm, 305, rfl⟩
abbrev main_call0_call0_c_40 : Ref sig .tc := ⟨.hbm, 306, rfl⟩
abbrev main_call0_call0_v157 : Ref sig .tc := ⟨.hbm, 307, rfl⟩
abbrev main_call0_call0_v158 : Ref sig .tc := ⟨.hbm, 308, rfl⟩
abbrev main_call0_call0_c_41 : Ref sig .tc := ⟨.hbm, 309, rfl⟩
abbrev main_call0_call0_v159 : Ref sig .tc := ⟨.hbm, 310, rfl⟩
abbrev main_call0_call0_v160 : Ref sig .tc := ⟨.hbm, 311, rfl⟩
abbrev main_call0_call0_v161 : Ref sig .tc := ⟨.hbm, 312, rfl⟩
abbrev main_call0_call0_v162 : Ref sig .tc := ⟨.hbm, 313, rfl⟩
abbrev main_call0_call0_v163 : Ref sig .tc := ⟨.hbm, 314, rfl⟩
abbrev main_call0_call0_c_42 : Ref sig .tc := ⟨.hbm, 315, rfl⟩
abbrev main_call0_call0_v164 : Ref sig .tc := ⟨.hbm, 316, rfl⟩
abbrev main_call0_call0_v165 : Ref sig .tc := ⟨.hbm, 317, rfl⟩
abbrev main_call0_call0_c_43 : Ref sig .tc := ⟨.hbm, 318, rfl⟩
abbrev main_call0_call0_v166 : Ref sig .tc := ⟨.hbm, 319, rfl⟩
abbrev main_call0_call0_v167 : Ref sig .tc := ⟨.hbm, 320, rfl⟩
abbrev main_call0_call0_v168 : Ref sig .tc := ⟨.hbm, 321, rfl⟩
abbrev main_call0_call0_v169 : Ref sig .tc := ⟨.hbm, 322, rfl⟩
abbrev main_call0_call0_v170 : Ref sig .tc := ⟨.hbm, 323, rfl⟩
abbrev main_call0_v23_0 : Ref sig .tc := ⟨.hbm, 324, rfl⟩
abbrev main_call0_call0_v172 : Ref sig .tc := ⟨.hbm, 325, rfl⟩
abbrev main_call0_call0_v173 : Ref sig .tc := ⟨.hbm, 326, rfl⟩
abbrev main_call0_call0_c_44 : Ref sig .tc := ⟨.hbm, 327, rfl⟩
abbrev main_call0_call0_v174 : Ref sig .tc := ⟨.hbm, 328, rfl⟩
abbrev main_call0_v23_1 : Ref sig .tc := ⟨.hbm, 329, rfl⟩
abbrev main_call0_v24 : Ref sig .tc := ⟨.hbm, 330, rfl⟩
abbrev main_call0_c_3 : Ref sig .tc := ⟨.hbm, 331, rfl⟩
abbrev main_call0_v25 : Ref sig .tc := ⟨.hbm, 332, rfl⟩
abbrev main_call0_v26 : Ref sig .tc := ⟨.hbm, 333, rfl⟩
abbrev main_call0_c_4 : Ref sig .tc := ⟨.hbm, 334, rfl⟩
abbrev main_call0_v27 : Ref sig .tc := ⟨.hbm, 335, rfl⟩
abbrev main_call0_v28 : Ref sig .tc := ⟨.hbm, 336, rfl⟩
abbrev main_call0_v29 : Ref sig .tc := ⟨.hbm, 337, rfl⟩
abbrev main_call0_cst : Ref sig .tc := ⟨.hbm, 338, rfl⟩
abbrev main_call0_v30 : Ref sig .tc := ⟨.hbm, 339, rfl⟩
abbrev main_call0_v31 : Ref sig .tc := ⟨.hbm, 340, rfl⟩
abbrev main_call0_v32 : Ref sig .tc := ⟨.hbm, 341, rfl⟩
abbrev main_call0_v33 : Ref sig .tc := ⟨.hbm, 342, rfl⟩
abbrev main_call0_v34 : Ref sig .tc := ⟨.hbm, 343, rfl⟩
abbrev main_call0_v35 : Ref sig .tc := ⟨.hbm, 344, rfl⟩
abbrev main_call0_v36 : Ref sig .tc := ⟨.hbm, 345, rfl⟩
abbrev main_call0_v37 : Ref sig .tc := ⟨.hbm, 346, rfl⟩
abbrev main_v59 : Ref sig .tc := ⟨.hbm, 347, rfl⟩
abbrev main_cst_16 : Ref sig .tc := ⟨.hbm, 348, rfl⟩
abbrev main_cst_17 : Ref sig .tc := ⟨.hbm, 349, rfl⟩
abbrev main_call1_v0 : Ref sig .tc := ⟨.hbm, 350, rfl⟩
abbrev main_call1_v1 : Ref sig .tc := ⟨.hbm, 351, rfl⟩
abbrev main_call1_v2 : Ref sig .tc := ⟨.hbm, 352, rfl⟩
abbrev main_call1_v3 : Ref sig .tc := ⟨.hbm, 353, rfl⟩
abbrev main_v60 : Ref sig .tc := ⟨.hbm, 354, rfl⟩
abbrev main_v61 : Ref sig .tc := ⟨.hbm, 355, rfl⟩
abbrev main_v62 : Ref sig .tc := ⟨.hbm, 356, rfl⟩
abbrev main_v63 : Ref sig .tc := ⟨.hbm, 357, rfl⟩
abbrev main_v64 : Ref sig .tc := ⟨.hbm, 358, rfl⟩
abbrev main_v65 : Ref sig .tc := ⟨.hbm, 359, rfl⟩
abbrev main_call2_v0 : Ref sig .tc := ⟨.hbm, 360, rfl⟩
abbrev main_call2_cst : Ref sig .tc := ⟨.hbm, 361, rfl⟩
abbrev main_call2_c : Ref sig .tc := ⟨.hbm, 362, rfl⟩
abbrev main_call2_v1_0 : Ref sig .tc := ⟨.hbm, 363, rfl⟩
abbrev main_v66 : Ref sig .tc := ⟨.hbm, 364, rfl⟩
abbrev main_c_18 : Ref sig .tc := ⟨.hbm, 365, rfl⟩
abbrev main_v67 : Ref sig .tc := ⟨.hbm, 366, rfl⟩
abbrev main_v68 : Ref sig .tc := ⟨.hbm, 367, rfl⟩
abbrev main_call3_v0 : Ref sig .tc := ⟨.hbm, 368, rfl⟩
abbrev main_v69 : Ref sig .tc := ⟨.hbm, 369, rfl⟩

abbrev nD : Nat := 1
abbrev τ : Topo := Topo.v7x

variable {F : FTy → Type} [FloatOps F]
-- ==== Proof.Body.lean ====
/- The kernel's body at one grid point as a sequence of 25 equal rounds. -/
module

public import proofs.«01_k».proof.Proof.Gen.KernelIdeal

@[expose] public section

noncomputable section

namespace Cert.KernelIdeal.Rounds

open Idealize.ShloMosaic Idealize.SL.Sem
open Cert.KernelIdeal Cert.KernelIdeal.Facts₀ Cert.KernelIdeal.Facts

variable {F : FTy → Type} [FloatOps F] [Facts]

theorem inbWord (n : Fin 200) : ∀ a, (![0, 0, n.val] : Fin 3 → Nat) a + S1x1x1.size a ≤ S1x1x200.size a := by
  intro a; have := n.isLt; fin_cases a <;> simp <;> omega

theorem inbTile (k : Fin 25) : ∀ a, (![0, 8 * k.val, 0] : Fin 3 → Nat) a + S1x8x512.size a ≤ S1x200x512.size a := by
  intro a; have := k.isLt; fin_cases a <;> simp <;> omega

theorem inbOut (k : Fin 25) : ∀ a, (![0, k.val, 0] : Fin 3 → Nat) a + S1x1x8.size a ≤ S1x25x8.size a := by
  intro a; have := k.isLt; fin_cases a <;> simp <;> omega

/-- Read word `n` of an index table and then the row of the matrix it names. -/
def row (tab : Memref sig .tc .smem S1x1x200 .i32) (mat : Memref sig .tc .vmem S1x512x512 .f32) (n : Fin 200) :
    Prog (TpuEff nD τ sig (Elt F) Λ₀ .tc) (Vec F S1x1x512 .f32) := do
  let v : Elt F .i32 ← smemLoad tab (Rect.unit (s := S1x1x200) ![0, 0, n.val] S1x1x1.size (inbWord n)) numel1_S1x1x1 rfl
  let hv ← Prog.lift (TpuEff.assume (k0_chk1 v) (k0_chk1.dec v))
  Prog.lift (.load mat (Rect.unit (s := S1x512x512) (k0_off2 v) S1x1x512.size (k0_off2_inb v hv.down)).toLoadRect (View.loadsAt_vmem h_S1x1x512))

/-- Eight rows stacked. -/
def stack (r : Fin 8 → Vec F S1x1x512 .f32) : FVec F S8x512 .f32 :=
  concatenate S8x512 0 [⟨S1x512, shapeCast S1x512 (r 0) shapeCasts_S1x1x512_S1x512⟩, ⟨S1x512, shapeCast S1x512 (r 1) shapeCasts_S1x1x512_S1x512⟩, ⟨S1x512, shapeCast S1x512 (r 2) shapeCasts_S1x1x512_S1x512⟩, ⟨S1x512, shapeCast S1x512 (r 3) shapeCasts_S1x1x512_S1x512⟩, ⟨S1x512, shapeCast S1x512 (r 4) shapeCasts_S1x1x512_S1x512⟩, ⟨S1x512, shapeCast S1x512 (r 5) shapeCasts_S1x1x512_S1x512⟩, ⟨S1x512, shapeCast S1x512 (r 6) shapeCasts_S1x1x512_S1x512⟩, ⟨S1x512, shapeCast S1x512 (r 7) shapeCasts_S1x1x512_S1x512⟩] concatenates_S1x512_S1x512_S1x512_S1x512_S1x512_S1x512_S1x512_S1x512_S8x512_d0

/-- The scores of eight tokens: `(a + ε)(b + ε) w`. -/
def score (a b : FVec F S8x512 .f32) (w : Vec F S1x8x512 .f32) : FVec F S8x512 .f32 :=
  mulf (mulf (addf a (broadcast S8x512 (Scalar.ofBits .f32 0x1E3CE508#32))) (addf b (broadcast S8x512 (Scalar.ofBits .f32 0x1E3CE508#32))))
    (shapeCast S8x512 w shapeCasts_S1x8x512_S8x512)

/-- The classes picked from the scores: in each row the least column at which the row's maximum stands. -/
def pick (s : FVec F S8x512 .f32) : IVec S1x1x8 32 :=
  shapeCast S1x1x8
    (multiReductionI .minsi [1] S8
      (select (cmpf .oeq s (broadcastTo S8x512 (shapeCast S8x1 (multiReduction .maximumf [1] S8 s 0xFF800000#32 reduces_S8x512_S8 (.inl rfl) rfl) shapeCasts_S8_S8x1) broadcasts_S8x1_S8x512))
        (iota .tc S8x512 32 [1] iota_S8x512_d1_w32) (broadcast S8x512 512#32))
      2147483647#32 reduces_S8x512_S8 rfl)
    shapeCasts_S8_S1x1x8

/-- Token `j` of round `k`. -/
abbrev tok (k : Fin 25) (j : Fin 8) : Fin 200 := ⟨8 * k.val + j.val, by omega⟩

/-- One round: eight rows by the start classes, eight by the end classes, the tile of weights, the picks stored. -/
def round (ts te : Memref sig .tc .smem S1x1x200 .i32) (ma mb : Memref sig .tc .vmem S1x512x512 .f32)
    (mw : Memref sig .tc .vmem S1x200x512 .f32) (mo : Memref sig .tc .vmem S1x25x8 .i32) (k : Fin 25) :
    Prog (TpuEff nD τ sig (Elt F) Λ₀ .tc) PUnit := do
  let a0 ← row ts ma (tok k 0)
  let a1 ← row ts ma (tok k 1)
  let a2 ← row ts ma (tok k 2)
  let a3 ← row ts ma (tok k 3)
  let a4 ← row ts ma (tok k 4)
  let a5 ← row ts ma (tok k 5)
  let a6 ← row ts ma (tok k 6)
  let a7 ← row ts ma (tok k 7)
  let b0 ← row te mb (tok k 0)
  let b1 ← row te mb (tok k 1)
  let b2 ← row te mb (tok k 2)
  let b3 ← row te mb (tok k 3)
  let b4 ← row te mb (tok k 4)
  let b5 ← row te mb (tok k 5)
  let b6 ← row te mb (tok k 6)
  let b7 ← row te mb (tok k 7)
  let w : Vec F S1x8x512 .f32 ← Prog.lift (.load mw (Rect.unit (s := S1x200x512) ![0, 8 * k.val, 0] S1x8x512.size (inbTile k)).toLoadRect (View.loadsAt_vmem h_S1x8x512))
  let _o : Vec F S1x1x8 .i32 ← Prog.lift (.load mo (Rect.unit (s := S1x25x8) ![0, k.val, 0] S1x1x8.size (inbOut k)).toLoadRect (View.loadsAt_vmem h_S1x1x8))
  Prog.lift (.store mo (Rect.unit (s := S1x25x8) ![0, k.val, 0] S1x1x8.size (inbOut k)) (pick (score (stack ![a0, a1, a2, a3, a4, a5, a6, a7]) (stack ![b0, b1, b2, b3, b4, b5, b6, b7]) w)) Finset.univ (View.stores_vmem_bits_univ h_S1x1x8 rfl) (.inl rfl))

/-- The rounds of a list, in order. -/
def rounds (ts te : Memref sig .tc .smem S1x1x200 .i32) (ma mb : Memref sig .tc .vmem S1x512x512 .f32)
    (mw : Memref sig .tc .vmem S1x200x512 .f32) (mo : Memref sig .tc .vmem S1x25x8 .i32) :
    List (Fin 25) → Prog (TpuEff nD τ sig (Elt F) Λ₀ .tc) PUnit
  | [] => pure ⟨⟩
  | [k] => round ts te ma mb mw mo k
  | k :: l => do round ts te ma mb mw mo k; rounds ts te ma mb mw mo l

set_option maxRecDepth 1000000 in
set_option maxHeartbeats 0 in
/-- The printed body is the 25 rounds in order. -/
theorem body_eq (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S1x512x512 .f32) (harg5 : arg5.IsWhole) (arg6 : Memref sig .tc .vmem S1x512x512 .f32) (harg6 : arg6.IsWhole) (arg7 : Memref sig .tc .smem S1x1x200 .i32) (harg7 : arg7.IsWhole) (arg8 : Memref sig .tc .smem S1x1x200 .i32) (harg8 : arg8.IsWhole) (arg9 : Memref sig .tc .vmem S1x200x512 .f32) (harg9 : arg9.IsWhole) (arg10 : Memref sig .tc .vmem S1x25x8 .i32) (harg10 : arg10.IsWhole) :
    cc0__body (F := F) i arg1 harg1 arg2 harg2 arg3 harg3 arg4 harg4 arg5 harg5 arg6 harg6 arg7 harg7 arg8 harg8 arg9 harg9 arg10 harg10
      = rounds arg7 arg8 arg5 arg6 arg9 arg10 [0, 1, 2, 3, 4, 5, 6, 7, 8, 9, 10, 11, 12, 13, 14, 15, 16, 17, 18, 19, 20, 21, 22, 23, 24] := by
  with_unfolding_all rfl

end Cert.KernelIdeal.Rounds

end
-- ==== Proof.Round.lean ====
/- What one round of the body does to the memory it holds, and what the 25 of them leave in the output block. -/
module

public import proofs.«01_k».proof.Proof.Body
public import proofs.«01_k».proof.Proof.Gen.KernelIdeal.Launch
public import Idealize.ShloMosaic.Lib.Pipeline.FrameSuffix
public import Idealize.ShloMosaic.Lib.Tactic
public import Idealize.ShloMosaic.Lib.VecWindow
public import Idealize.ShloMosaic.Lib.ValueIdxCore

@[expose] public section

noncomputable section

namespace Cert.KernelIdeal.Rounds

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] [Facts]

local notation "𝕄" => MT nD τ sig Unit (Elt F) ℕ (UR sig nD τ) ℕ

/-! ## What is read -/

/-- Word `n` of an index table. -/
def wordAt (X : IVec S1x1x200 32) (n : Fin 200) : BitVec 32 := X (ix3 0 0 n)

/-- The row of a matrix that word `n` of a table names. -/
def rowAt (X : IVec S1x1x200 32) (Y : FVec F S1x512x512 .f32) (n : Fin 200) : FVec F S1x1x512 .f32 :=
  fun y => Y (ix3 0 ⟨(wordAt X n).toNat % 512, Nat.mod_lt _ (by decide)⟩ (y 2))

/-- Rows `8k … 8k+7` of the weights. -/
def tileAt (W : FVec F S1x200x512 .f32) (k : Fin 25) : FVec F S1x8x512 .f32 :=
  fun y => W (ix3 0 (tok k (y 1)) (y 2))

/-- The classes round `k` picks. -/
def picked (Xs Xe : IVec S1x1x200 32) (Ya Yb : FVec F S1x512x512 .f32) (W : FVec F S1x200x512 .f32) (k : Fin 25) : IVec S1x1x8 32 :=
  pick (score (stack fun j => rowAt Xs Ya (tok k j)) (stack fun j => rowAt Xe Yb (tok k j)) (tileAt W k))

/-- The output block after the rounds of a list over contents `Z`. -/
def leaves (Xs Xe : IVec S1x1x200 32) (Ya Yb : FVec F S1x512x512 .f32) (W : FVec F S1x200x512 .f32) (L : List (Fin 25)) (Z : IVec S1x25x8 32) :
    IVec S1x25x8 32 :=
  L.foldl (fun Z k => VecWindow.put Z ![0, k.val, 0] S1x1x8.size (picked Xs Xe Ya Yb W k)) Z

/-- The round that an entry of the output block belongs to. -/
def grp (y : S1x25x8.Idx) : Fin 25 := y 1

/-- The block the kernel computes at one grid point: entry `(k, j)` is what round `k` picks for its token `j`. -/
def block (Xs Xe : IVec S1x1x200 32) (Ya Yb : FVec F S1x512x512 .f32) (W : FVec F S1x200x512 .f32) : IVec S1x25x8 32 :=
  fun y => picked Xs Xe Ya Yb W (grp y) (ix3 0 0 (y 2))

/-! ## The rules -/

section rules

variable (𝒱 : Variants) (c : Dev nD) (bd : Option 𝒱.V) (E : Set ℕ)

/-- A load through a memref held at any share, read as `X`, continues at the elements of `X` the rectangle names. -/
theorem load_owns {α : Type} {Q : α → sProp 𝕄} {cs : CoreSpace} {s : Shape} {e : EltTy} {m : Memref sig .tc cs s e} {r : LoadRect s} {hl : m.view.LoadsAt r}
    {k : (r.shape.Idx → Elt F e) → Prog (TpuEff nD τ sig (Elt F) Λ₀ .tc) α} {q : PosShare TreeShare} {X : s.Idx → Elt F e} :
    owns (c : Thread nD τ) m q X
      ⊢ iprop((owns (c : Thread nD τ) m q X -∗ wp (M := 𝕄) frame (wpE (defs₀ (F := F)) 𝒱 (c : Thread nD τ) bd) E (k fun x => X (r.idx x)) Q)
        -∗ wp (M := 𝕄) frame (wpE (defs₀ (F := F)) 𝒱 (c : Thread nD τ) bd) E (.op (.load m r hl) k) Q) := by
  unfold owns
  iintro ⟨%f, %hf, H⟩ Hk
  subst hf
  iapply (wp_load 𝒱 (c : Thread nD τ) bd E (m.view.setOn_subset_set r.set)) $$ H
  iintro H
  iapply Hk
  iexists f
  isplitr
  · ipureintro; rfl
  · iexact H

/-- A store of a unit rectangle through a memref held whole, read as `X`, leaves it read as `X` with the payload put over the rectangle. -/
theorem store_owns {α : Type} {Q : α → sProp 𝕄} {cs : CoreSpace} {s : Shape} {e : EltTy} {m : Memref sig .tc cs s e} {off size : Fin s.rank → ℕ} {inb : ∀ a, off a + size a ≤ s.size a}
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {X : s.Idx → Elt F e} :
    owns (c : Thread nD τ) m fullShare X
      ⊢ iprop((owns (c : Thread nD τ) m fullShare (VecWindow.put X off size w) -∗ wp (M := 𝕄) frame (wpE (defs₀ (F := F)) 𝒱 (c : Thread nD τ) bd) E (k ⟨⟩) Q)
        -∗ wp (M := 𝕄) frame (wpE (defs₀ (F := F)) 𝒱 (c : Thread nD τ) bd) E (.op (.store m (Rect.unit off size inb) w Finset.univ hx hm) k) Q) := by
  unfold owns
  iintro ⟨%f, %hf, H⟩ Hk
  subst hf
  have key : (m.view.loc (c : Thread nD τ) ↦[m.view.set]{fullShare} f : sProp 𝕄)
      ⊢ iprop(((m.view.loc (c : Thread nD τ) ↦[m.view.set]{fullShare} (m.access (Rect.unit off size inb)).write (Elt F) f w Finset.univ)
            -∗ wp (M := 𝕄) frame (wpE (defs₀ (F := F)) 𝒱 (c : Thread nD τ) bd) E (k ⟨⟩) Q)
          -∗ wp (M := 𝕄) frame (wpE (defs₀ (F := F)) 𝒱 (c : Thread nD τ) bd) E (.op (.store m (Rect.unit off size inb) w Finset.univ hx hm) k) Q) :=
    wp_store 𝒱 (c : Thread nD τ) bd E (m := m) (r := Rect.unit off size inb) (S := m.view.set) (m.view.set_slice_subset _)
  iapply key $$ H
  iintro H
  iapply Hk
  iexists _
  isplitr
  swap
  · iexact H
  · ipureintro
    exact View.read_writes_cons_put m.view f inb w [] rfl

/-- The side condition of a row's load, from its word being a class. -/
theorem chk_of_lt {v : BitVec 32} (h : v.toNat < 512) : k0_chk1 v := by
  intro a; fin_cases a <;> simp [k0_off2, Scalar.indexCast] <;> omega

/-- Reading the row that word `n` of a table names, the word being a class. -/
theorem row_wp {α : Type} {Q : α → sProp 𝕄} {tab : Memref sig .tc .smem S1x1x200 .i32} {mat : Memref sig .tc .vmem S1x512x512 .f32} {n : Fin 200}
    {k : FVec F S1x1x512 .f32 → Prog (TpuEff nD τ sig (Elt F) Λ₀ .tc) α} {q q' : PosShare TreeShare} {X : IVec S1x1x200 32} {Y : FVec F S1x512x512 .f32}
    (h : (wordAt X n).toNat < 512) :
    iprop(owns (c : Thread nD τ) tab q X ∗ owns (c : Thread nD τ) mat q' Y)
      ⊢ iprop((iprop(owns (c : Thread nD τ) tab q X ∗ owns (c : Thread nD τ) mat q' Y)
            -∗ wp (M := 𝕄) frame (wpE (defs₀ (F := F)) 𝒱 (c : Thread nD τ) bd) E (k (rowAt X Y n)) Q)
        -∗ wp (M := 𝕄) frame (wpE (defs₀ (F := F)) 𝒱 (c : Thread nD τ) bd) E (row tab mat n >>= k) Q) := by
  have e1 : ∀ x, (Rect.unit (s := S1x1x200) ![0, 0, n.val] S1x1x1.size (inbWord n)).toLoadRect.idx x = ix3 0 0 n := by
    intro x; funext a; apply Fin.ext
    have := (x a).isLt
    fin_cases a <;> simp [ix3] <;> omega
  have e2 : ∀ (v : BitVec 32) (hv : v = wordAt X n) (hc : k0_chk1 v),
      (fun x => Y ((Rect.unit (s := S1x512x512) (k0_off2 v) S1x1x512.size (k0_off2_inb v hc)).toLoadRect.idx x)) = rowAt X Y n := by
    intro v hv hc
    subst hv
    funext x
    refine congrArg Y (funext fun a => Fin.ext ?_)
    have h0 : (x 0).val < 1 := (x 0).isLt
    have h1 : (x 1).val < 1 := (x 1).isLt
    match a with
    | ⟨0, _⟩ => show 0 + 1 * (x 0).val = 0; omega
    | ⟨1, _⟩ =>
      show (wordAt X n).toNat + 1 * (x 1).val = (wordAt X n).toNat % 512
      rw [Nat.mod_eq_of_lt h]; omega
    | ⟨2, _⟩ => show 0 + 1 * (x 2).val = (x 2).val; omega
  have hw := congrArg X (e1 (Shape.Idx.first (s := (Rect.unit (s := S1x1x200) ![0, 0, n.val] S1x1x1.size (inbWord n)).shape) (numel1_S1x1x1.symm ▸ Nat.one_pos)))
  have hc := chk_of_lt (v := X _) (lt_of_eq_of_lt (congrArg BitVec.toNat hw) h)
  have e3 := e2 _ hw hc
  unfold row
  iintro ⟨HX, HY⟩ Hk
  iapply (load_owns 𝒱 c bd E) $$ HX
  iintro HX
  iapply (wp_assume 𝒱 (c : Thread nD τ) bd E hc)
  iapply (load_owns 𝒱 c bd E) $$ HY
  iintro HY
  rw [← e3]
  iapply Hk
  isplitl [HX]
  · iexact HX
  · iexact HY

/-- Eight rows read one after the other. -/
theorem rows_wp {α : Type} {Q : α → sProp 𝕄} {tab : Memref sig .tc .smem S1x1x200 .i32} {mat : Memref sig .tc .vmem S1x512x512 .f32} {k : Fin 25}
    {K : FVec F S1x1x512 .f32 → FVec F S1x1x512 .f32 → FVec F S1x1x512 .f32 → FVec F S1x1x512 .f32 → FVec F S1x1x512 .f32 → FVec F S1x1x512 .f32
      → FVec F S1x1x512 .f32 → FVec F S1x1x512 .f32 → Prog (TpuEff nD τ sig (Elt F) Λ₀ .tc) α} {q q' : PosShare TreeShare} {X : IVec S1x1x200 32} {Y : FVec F S1x512x512 .f32}
    (h : ∀ n, (wordAt X n).toNat < 512) :
    iprop(owns (c : Thread nD τ) tab q X ∗ owns (c : Thread nD τ) mat q' Y)
      ⊢ iprop((iprop(owns (c : Thread nD τ) tab q X ∗ owns (c : Thread nD τ) mat q' Y)
            -∗ wp (M := 𝕄) frame (wpE (defs₀ (F := F)) 𝒱 (c : Thread nD τ) bd) E (K (rowAt X Y (tok k 0)) (rowAt X Y (tok k 1)) (rowAt X Y (tok k 2)) (rowAt X Y (tok k 3))
              (rowAt X Y (tok k 4)) (rowAt X Y (tok k 5)) (rowAt X Y (tok k 6)) (rowAt X Y (tok k 7))) Q)
        -∗ wp (M := 𝕄) frame (wpE (defs₀ (F := F)) 𝒱 (c : Thread nD τ) bd) E (do
            let a0 ← row tab mat (tok k 0)
            let a1 ← row tab mat (tok k 1)
            let a2 ← row tab mat (tok k 2)
            let a3 ← row tab mat (tok k 3)
            let a4 ← row tab mat (tok k 4)
            let a5 ← row tab mat (tok k 5)
            let a6 ← row tab mat (tok k 6)
            let a7 ← row tab mat (tok k 7)
            K a0 a1 a2 a3 a4 a5 a6 a7) Q) := by
  iintro H Hk
  iapply (row_wp 𝒱 c bd E (h _)) $$ H
  iintro H
  iapply (row_wp 𝒱 c bd E (h _)) $$ H
  iintro H
  iapply (row_wp 𝒱 c bd E (h _)) $$ H
  iintro H
  iapply (row_wp 𝒱 c bd E (h _)) $$ H
  iintro H
  iapply (row_wp 𝒱 c bd E (h _)) $$ H
  iintro H
  iapply (row_wp 𝒱 c bd E (h _)) $$ H
  iintro H
  iapply (row_wp 𝒱 c bd E (h _)) $$ H
  iintro H
  iapply (row_wp 𝒱 c bd E (h _)) $$ H
  iintro H
  iapply Hk
  iexact H

/-- What a round holds: the two index tables, the two matrices and the weights at some share, the output block whole. -/
def held (ts te : Memref sig .tc .smem S1x1x200 .i32) (ma mb : Memref sig .tc .vmem S1x512x512 .f32)
    (mw : Memref sig .tc .vmem S1x200x512 .f32) (mo : Memref sig .tc .vmem S1x25x8 .i32) (q : Fin 5 → PosShare TreeShare)
    (Xs Xe : IVec S1x1x200 32) (Ya Yb : FVec F S1x512x512 .f32) (W : FVec F S1x200x512 .f32) (Z : IVec S1x25x8 32) : sProp 𝕄 :=
  iprop(owns (c : Thread nD τ) ma (q 0) Ya ∗ owns (c : Thread nD τ) mb (q 1) Yb ∗ owns (c : Thread nD τ) ts (q 2) Xs
    ∗ owns (c : Thread nD τ) te (q 3) Xe ∗ owns (c : Thread nD τ) mw (q 4) W ∗ owns (c : Thread nD τ) mo fullShare Z)

/-- One round, continued by any program: the output block has the round's picks put into it, all else is as it was. -/
theorem round_wp {ts te : Memref sig .tc .smem S1x1x200 .i32} {ma mb : Memref sig .tc .vmem S1x512x512 .f32}
    {mw : Memref sig .tc .vmem S1x200x512 .f32} {mo : Memref sig .tc .vmem S1x25x8 .i32} {q : Fin 5 → PosShare TreeShare}
    {Xs Xe : IVec S1x1x200 32} {Ya Yb : FVec F S1x512x512 .f32} {W : FVec F S1x200x512 .f32} {Z : IVec S1x25x8 32}
    (hs : ∀ n, (wordAt Xs n).toNat < 512) (he : ∀ n, (wordAt Xe n).toNat < 512) (k : Fin 25)
    {α : Type} {Q : α → sProp 𝕄} {K : PUnit → Prog (TpuEff nD τ sig (Elt F) Λ₀ .tc) α} :
    held c ts te ma mb mw mo q Xs Xe Ya Yb W Z
      ⊢ iprop((held c ts te ma mb mw mo q Xs Xe Ya Yb W (leaves Xs Xe Ya Yb W [k] Z)
            -∗ wp (M := 𝕄) frame (wpE (defs₀ (F := F)) 𝒱 (c : Thread nD τ) bd) E (K ⟨⟩) Q)
        -∗ wp (M := 𝕄) frame (wpE (defs₀ (F := F)) 𝒱 (c : Thread nD τ) bd) E (round ts te ma mb mw mo k >>= K) Q) := by
  have e1 : (fun x => W ((Rect.unit (s := S1x200x512) ![0, 8 * k.val, 0] S1x8x512.size (inbTile k)).toLoadRect.idx x)) = tileAt W k := by
    funext x
    refine congrArg W (funext fun a => Fin.ext ?_)
    have h0 : (x 0).val < 1 := (x 0).isLt
    match a with
    | ⟨0, _⟩ => show 0 + 1 * (x 0).val = 0; omega
    | ⟨1, _⟩ => show 8 * k.val + 1 * (x 1).val = 8 * k.val + (x 1).val; omega
    | ⟨2, _⟩ => show 0 + 1 * (x 2).val = (x 2).val; omega
  unfold held
  iintro ⟨Ha, Hb, Hs, He, Hw, Ho⟩ Hk
  iapply (rows_wp 𝒱 c bd E hs) $$ [Hs Ha]
  · isplitl [Hs]
    · iexact Hs
    · iexact Ha
  iintro ⟨Hs, Ha⟩
  iapply (rows_wp 𝒱 c bd E he) $$ [He Hb]
  · isplitl [He]
    · iexact He
    · iexact Hb
  iintro ⟨He, Hb⟩
  iapply (load_owns 𝒱 c bd E) $$ Hw
  iintro Hw
  iapply (load_owns 𝒱 c bd E) $$ Ho
  iintro Ho
  iapply (store_owns 𝒱 c bd E) $$ Ho
  iintro Ho
  iapply Hk
  isplitl [Ha]; · iexact Ha
  isplitl [Hb]; · iexact Hb
  isplitl [Hs]; · iexact Hs
  isplitl [He]; · iexact He
  isplitl [Hw]; · iexact Hw
  rw [e1]
  iexact Ho

/-- The rounds of a list, ending the program: the output block has each round's picks put into it in turn. -/
theorem rounds_wp {ts te : Memref sig .tc .smem S1x1x200 .i32} {ma mb : Memref sig .tc .vmem S1x512x512 .f32}
    {mw : Memref sig .tc .vmem S1x200x512 .f32} {mo : Memref sig .tc .vmem S1x25x8 .i32} {q : Fin 5 → PosShare TreeShare}
    {Xs Xe : IVec S1x1x200 32} {Ya Yb : FVec F S1x512x512 .f32} {W : FVec F S1x200x512 .f32}
    (hs : ∀ n, (wordAt Xs n).toNat < 512) (he : ∀ n, (wordAt Xe n).toNat < 512) {Q : PUnit → sProp 𝕄} (L : List (Fin 25)) :
    ∀ {Z : IVec S1x25x8 32},
    held c ts te ma mb mw mo q Xs Xe Ya Yb W Z
      ⊢ iprop((held c ts te ma mb mw mo q Xs Xe Ya Yb W (leaves Xs Xe Ya Yb W L Z) -∗ Q ⟨⟩)
        -∗ wp (M := 𝕄) frame (wpE (defs₀ (F := F)) 𝒱 (c : Thread nD τ) bd) E (rounds ts te ma mb mw mo L) Q) := by
  have done_ : ∀ {Z : IVec S1x25x8 32}, held c ts te ma mb mw mo q Xs Xe Ya Yb W Z
      ⊢ iprop((held c ts te ma mb mw mo q Xs Xe Ya Yb W Z -∗ Q ⟨⟩)
        -∗ wp (M := 𝕄) frame (wpE (defs₀ (F := F)) 𝒱 (c : Thread nD τ) bd) E (pure ⟨⟩) Q) := by
    intro Z
    iintro H Hk
    sl_step
    iapply Hk
    iexact H
  induction L with
  | nil => exact done_
  | cons k L ih =>
    intro Z
    have step : wp (M := 𝕄) frame (wpE (defs₀ (F := F)) 𝒱 (c : Thread nD τ) bd) E (round ts te ma mb mw mo k >>= fun _ => rounds ts te ma mb mw mo L) Q
        ⊢ wp (M := 𝕄) frame (wpE (defs₀ (F := F)) 𝒱 (c : Thread nD τ) bd) E (rounds ts te ma mb mw mo (k :: L)) Q := by
      cases L with
      | nil => exact .rfl
      | cons k' L => exact .rfl
    iintro H Hk
    iapply step
    iapply (round_wp 𝒱 c bd E hs he k) $$ H
    iintro H
    iapply ih $$ H
    iexact Hk

/-- The 25 rounds put every entry of the output block, whatever was there. -/
theorem leaves_all (Xs Xe : IVec S1x1x200 32) (Ya Yb : FVec F S1x512x512 .f32) (W : FVec F S1x200x512 .f32) (Z : IVec S1x25x8 32) :
    leaves Xs Xe Ya Yb W [0, 1, 2, 3, 4, 5, 6, 7, 8, 9, 10, 11, 12, 13, 14, 15, 16, 17, 18, 19, 20, 21, 22, 23, 24] Z = block Xs Xe Ya Yb W := by
  have put_at : ∀ (Z : IVec S1x25x8 32) (k : Fin 25) (w : IVec S1x1x8 32) (y : S1x25x8.Idx),
      VecWindow.put Z ![0, k.val, 0] S1x1x8.size w y = if grp y = k then w (ix3 0 0 (y 2)) else Z y := by
    intro Z k w y
    unfold VecWindow.put
    have h0 : (y 0).val < 1 := (y 0).isLt
    have h2 : (y 2).val < 8 := (y 2).isLt
    by_cases hk : grp y = k
    · rw [if_pos hk, dif_pos]
      · refine congrArg w (funext fun a => Fin.ext ?_)
        match a with
        | ⟨0, _⟩ => show (y 0).val - 0 = 0; omega
        | ⟨1, _⟩ => show (grp y).val - k.val = 0; rw [hk]; omega
        | ⟨2, _⟩ => show (y 2).val - 0 = (y 2).val; omega
      · intro a
        match a with
        | ⟨0, _⟩ => exact ⟨Nat.zero_le _, h0⟩
        | ⟨1, _⟩ => show k.val ≤ (grp y).val ∧ (grp y).val < k.val + 1; rw [hk]; omega
        | ⟨2, _⟩ => exact ⟨Nat.zero_le _, by show (y 2).val < 0 + 8; omega⟩
    · rw [if_neg hk, dif_neg]
      intro h
      have := h 1
      refine hk (Fin.ext ?_)
      have h1 : k.val ≤ (grp y).val ∧ (grp y).val < k.val + 1 := this
      omega
  have fold_at : ∀ (L : List (Fin 25)) (Z : IVec S1x25x8 32) (y : S1x25x8.Idx),
      leaves Xs Xe Ya Yb W L Z y = if grp y ∈ L then picked Xs Xe Ya Yb W (grp y) (ix3 0 0 (y 2)) else Z y := by
    intro L
    induction L with
    | nil => intro Z y; simp [leaves]
    | cons k L ih =>
      intro Z y
      have e : leaves Xs Xe Ya Yb W (k :: L) Z = leaves Xs Xe Ya Yb W L (VecWindow.put Z ![0, k.val, 0] S1x1x8.size (picked Xs Xe Ya Yb W k)) := rfl
      rw [e, ih, put_at]
      by_cases hL : grp y ∈ L
      · rw [if_pos hL, if_pos (List.mem_cons_of_mem _ hL)]
      · rw [if_neg hL]
        by_cases hk : grp y = k
        · rw [if_pos hk, if_pos (by rw [hk]; exact List.mem_cons_self), hk]
        · rw [if_neg hk, if_neg (by rw [List.mem_cons]; tauto)]
  have every : ∀ k : Fin 25, k ∈ ([0, 1, 2, 3, 4, 5, 6, 7, 8, 9, 10, 11, 12, 13, 14, 15, 16, 17, 18, 19, 20, 21, 22, 23, 24] : List (Fin 25)) := by decide
  funext y
  rw [fold_at, if_pos (every (grp y))]
  rfl

end rules

end Cert.KernelIdeal.Rounds

end
-- ==== Proof.Setup.lean ====
/- The launch's set-up: @main as host lines, the region and host lines, and the memory the host lines before the region leave. -/
module

public import proofs.«01_k».proof.Proof.Gen.KernelIdeal
public import proofs.«01_k».proof.Proof.Gen.KernelIdeal.Launch
public import Idealize.ShloMosaic.Lib.Pipeline.FrameSuffix
public import Idealize.ShloMosaic.Lib.StableHlo.Run

@[expose] public section

set_option maxRecDepth 4000

noncomputable section

namespace Cert.KernelIdeal.Rounds

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- What core `c`'s buffers hold after the host lines that compute the noise words. -/
abbrev V1 (c : Dev nD) : Valuation τ sig (Elt F) := StableHlo.after hostOps0 (fun b => m (c, b))
/-- The same after the clip. -/
abbrev V2 (c : Dev nD) : Valuation τ sig (Elt F) := StableHlo.after hostOps0_1 (V1 m c)
/-- The same after the weights. -/
abbrev V3 (c : Dev nD) : Valuation τ sig (Elt F) := StableHlo.after hostOps0_2 (V2 m c)
/-- The same after the sort. -/
abbrev V4 (c : Dev nD) : Valuation τ sig (Elt F) := StableHlo.after hostOps0_3 (V3 m c)
/-- The same at the region's entry. -/
abbrev V5 (c : Dev nD) : Valuation τ sig (Elt F) := StableHlo.after hostOps0_4 (V4 m c)

theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l₁ ih => exact ih _

/-- The host lines before the region run as one list. -/
theorem V5_flat (c : Dev nD) :
    StableHlo.after (List.flatten [hostOps0, hostOps0_1, hostOps0_2, hostOps0_3, hostOps0_4]) (fun b => m (c, b)) = V5 m c := by
  simp only [List.flatten_cons, List.flatten_nil, List.append_nil, after_two]

set_option maxHeartbeats 40000000 in
theorem fresh0 : (hostOps0 : List (HloOp τ sig (Elt F))).Forall fun op => op.fresh = ∅ := by
  simp only [List.Forall]; repeat' first | exact rfl | constructor
theorem fresh0_1 : (hostOps0_1 : List (HloOp τ sig (Elt F))).Forall fun op => op.fresh = ∅ := by
  simp only [List.Forall]; repeat' first | exact rfl | constructor
theorem fresh0_2 : (hostOps0_2 : List (HloOp τ sig (Elt F))).Forall fun op => op.fresh = ∅ := by
  simp only [List.Forall]; repeat' first | exact rfl | constructor
theorem fresh0_3 : (hostOps0_3 : List (HloOp τ sig (Elt F))).Forall fun op => op.fresh = ∅ := by
  simp only [List.Forall]; repeat' first | exact rfl | constructor
theorem fresh0_4 : (hostOps0_4 : List (HloOp τ sig (Elt F))).Forall fun op => op.fresh = ∅ := by
  simp only [List.Forall]; repeat' first | exact rfl | constructor
theorem fresh1 : (hostOps1 : List (HloOp τ sig (Elt F))).Forall fun op => op.fresh = ∅ := by
  simp only [List.Forall]; repeat' first | exact rfl | constructor
theorem fresh1_1 : (hostOps1_1 : List (HloOp τ sig (Elt F))).Forall fun op => op.fresh = ∅ := by
  simp only [List.Forall]; repeat' first | exact rfl | constructor

/-- The host lines after the region. -/
abbrev tail : List (List (HloOp τ sig (Elt F))) := [hostOps1, hostOps1_1]

/-- @main reduces to the region, entered at `V5`, followed by the tail. -/
theorem hmain (𝒱₀ : Variants) :
    Pipeline.HMainPK (Ix := Unit) (Name := ℕ) (U := UR sig nD τ) (Lvl := ℕ) pcfgs 0 defs₀ 𝒱₀ m (main (F := F))
      (fun c b => V5 m c (Proc.devRef .tc b)) (fun _ => Pipeline.chain (tail.map StableHlo.seq)) := by
  have h := Pipeline.hmainP_around (Ix := Unit) (Name := ℕ) (U := UR sig nD τ) (Lvl := ℕ) pcfgs 0 defs₀ 𝒱₀ m (main (F := F))
    [hostOps0, hostOps0_1, hostOps0_2, hostOps0_3, hostOps0_4] tail
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain
  simp only [V5_flat] at h
  exact h

/-- The tail touches no staging buffer and no table. -/
theorem tail_sub : ∀ ops ∈ (tail : List (List (HloOp τ sig (Elt F)))), ∀ op ∈ ops, op.bufs ⊆ Pipeline.tailRefs sig pre0 spec0 := by
  intro ops hops op hop
  simp only [tail, List.mem_cons, List.not_mem_nil, or_false] at hops
  rcases hops with rfl | rfl
  · refine Pipeline.sub_tailRefs pre0 spec0 op ((List.forall_iff_forall_mem.mp hostOps1_sub) op hop) ?_
    simp only [hostOps1, List.mem_cons, List.not_mem_nil, or_false] at hop
    rcases hop with rfl | rfl | rfl | rfl | rfl
    all_goals
      intro j
      fin_cases j <;> simp only [StableHlo.reshape_bufs, StableHlo.nullary_bufs, StableHlo.unary_bufs, StableHlo.binary_bufs, Finset.mem_insert, Finset.mem_singleton, not_or] <;> and_intros <;>
        exact StableHlo.devRef_ne_of_ne (by decide)
  · refine Pipeline.sub_tailRefs pre0 spec0 op ((List.forall_iff_forall_mem.mp hostOps1_1_sub) op hop) ?_
    simp only [hostOps1_1, List.mem_cons, List.not_mem_nil, or_false] at hop
    rcases hop with rfl | rfl
    all_goals
      intro j
      fin_cases j <;> simp only [StableHlo.unary_bufs, StableHlo.ternary_bufs, Finset.mem_insert, Finset.mem_singleton, not_or] <;> and_intros <;>
        exact StableHlo.devRef_ne_of_ne (by decide)

theorem tail_fresh : ∀ ops ∈ (tail : List (List (HloOp τ sig (Elt F)))), ∀ op ∈ ops, op.fresh = ∅ := by
  intro ops hops op hop
  simp only [tail, List.mem_cons, List.not_mem_nil, or_false] at hops
  rcases hops with rfl | rfl
  · exact (List.forall_iff_forall_mem.mp fresh1) op hop
  · exact (List.forall_iff_forall_mem.mp fresh1_1) op hop

/-- The tail writes no window's array. -/
theorem tail_keeps : ∀ ops ∈ (tail : List (List (HloOp τ sig (Elt F)))), ∀ op ∈ ops, ∀ w, Proc.devRef .tc (Pipeline.arrRef spec0 w) ∉ op.writes := by
  intro ops hops op hop
  simp only [tail, List.mem_cons, List.not_mem_nil, or_false] at hops
  rcases hops with rfl | rfl
  · simp only [hostOps1, List.mem_cons, List.not_mem_nil, or_false] at hop
    rcases hop with rfl | rfl | rfl | rfl | rfl
    all_goals
      intro w
      fin_cases w <;> simp only [StableHlo.reshape_writes, StableHlo.nullary_writes, StableHlo.unary_writes, StableHlo.binary_writes, Finset.mem_singleton] <;>
        exact StableHlo.devRef_ne_of_ne (by decide)
  · simp only [hostOps1_1, List.mem_cons, List.not_mem_nil, or_false] at hop
    rcases hop with rfl | rfl
    all_goals
      intro w
      fin_cases w <;> simp only [StableHlo.unary_writes, StableHlo.ternary_writes, Finset.mem_singleton] <;>
        exact StableHlo.devRef_ne_of_ne (by decide)

end Cert.KernelIdeal.Rounds

end
-- ==== Proof.Launch.lean ====
/- The proof data of the launch, the body's obligation at a grid point, and the run from any launch memory whose tables are admissible. -/
module

public import proofs.«01_k».proof.Proof.Round
public import proofs.«01_k».proof.Proof.Setup

@[expose] public section

set_option maxRecDepth 4000

noncomputable section

namespace Cert.KernelIdeal.Rounds

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat BodyObligation)

variable {F : FTy → Type} [FloatOps F]

local notation "𝕄" => MT nD τ sig Unit (Elt F) ℕ (UR sig nD τ) ℕ

variable (a : (p : Fin 1) → (pcfgs (F := F) p).Adm) (V : Dev nD → Valuation τ sig (Elt F))

/-- The block of input window `w`'s array at a grid point. -/
abbrev blockAt (p : Fin 1) (c : Dev nD) (w : Fin 6) (t : Fin (cfg0 (a p)).N) : ((win0 (a p) w).xblock ((cfg0 (a p)).grid.coords t)).Idx → Elt F (win0 (a p) w).elt :=
  ((win0 (a p) w).blk t).view.read (Elt F) (V c (Proc.devRef .tc (Pipeline.arrRef spec0 w)))

/-- What the body leaves in each window's buffer: the inputs as fetched, the output the picked classes. -/
def afterAt (p : Fin 1) (c : Dev nD) (t : Fin (cfg0 (a p)).N) : (w : Fin 6) → (win0 (a p) w).block.Idx → Elt F (win0 (a p) w).elt
  | 0 => blockAt a V p c 0 t
  | 1 => blockAt a V p c 1 t
  | 2 => blockAt a V p c 2 t
  | 3 => blockAt a V p c 3 t
  | 4 => blockAt a V p c 4 t
  | 5 => block (blockAt a V p c 2 t) (blockAt a V p c 3 t) (blockAt a V p c 0 t) (blockAt a V p c 1 t) (blockAt a V p c 4 t)
  | ⟨_ + 6, h⟩ => absurd h (Nat.not_lt.2 (Nat.le_add_left _ _))

/-- The proof data on core `c`. -/
def dats (p : Fin 1) (c : Dev nD) : Dat τ (Elt F) Unit ℕ (UR sig nD τ) ℕ (Pipeline.pin (pcfgs (F := F)) a p) c where
  A w := V c (Proc.devRef .tc (Pipeline.arrRef spec0 w))
  after w t := afterAt a V p c t w
  Φ _ := iprop(Pipeline.ΦA spec0 c ∗ Pipeline.ΦT pre0 (a p).1 c)
  q w := Pipeline.shareOf spec0 w
  owed _ := 0

/-- Every word of the two index blocks is a class. -/
def ClassWords (p : Fin 1) (c : Dev nD) : Prop :=
  ∀ (t : Fin (cfg0 (a p)).N) n, (wordAt (blockAt a V p c 2 t) n).toNat < 512 ∧ (wordAt (blockAt a V p c 3 t) n).toNat < 512

/-- An input's buffer holds the block of its array when the body runs. -/
theorem before_0 (p : Fin 1) (c : Dev nD) (t : Fin (cfg0 (a p)).N) (d) : (dats a V p c).before (0 : Fin 6) t d = blockAt a V p c 0 t := by
  refine ((dats a V p c).before_in_eq_fetched (0 : Fin 6) rfl (fun _ => rfl) (fun _ _ _ => rfl) (fun t => ?_) t d).trans ?_
  · unfold Dat.blockOf; dsimp only [dats, afterAt]
  · unfold Dat.fetched Dat.blockOf; dsimp only [dats]; rfl

theorem before_1 (p : Fin 1) (c : Dev nD) (t : Fin (cfg0 (a p)).N) (d) : (dats a V p c).before (1 : Fin 6) t d = blockAt a V p c 1 t := by
  refine ((dats a V p c).before_in_eq_fetched (1 : Fin 6) rfl (fun _ => rfl) (fun _ _ _ => rfl) (fun t => ?_) t d).trans ?_
  · unfold Dat.blockOf; dsimp only [dats, afterAt]
  · unfold Dat.fetched Dat.blockOf; dsimp only [dats]; rfl

theorem before_2 (p : Fin 1) (c : Dev nD) (t : Fin (cfg0 (a p)).N) (d) : (dats a V p c).before (2 : Fin 6) t d = blockAt a V p c 2 t := by
  refine ((dats a V p c).before_in_eq_fetched (2 : Fin 6) rfl (fun _ => rfl) (fun _ _ _ => rfl) (fun t => ?_) t d).trans ?_
  · unfold Dat.blockOf; dsimp only [dats, afterAt]
  · unfold Dat.fetched Dat.blockOf; dsimp only [dats]; rfl

theorem before_3 (p : Fin 1) (c : Dev nD) (t : Fin (cfg0 (a p)).N) (d) : (dats a V p c).before (3 : Fin 6) t d = blockAt a V p c 3 t := by
  refine ((dats a V p c).before_in_eq_fetched (3 : Fin 6) rfl (fun _ => rfl) (fun _ _ _ => rfl) (fun t => ?_) t d).trans ?_
  · unfold Dat.blockOf; dsimp only [dats, afterAt]
  · unfold Dat.fetched Dat.blockOf; dsimp only [dats]; rfl

theorem before_4 (p : Fin 1) (c : Dev nD) (t : Fin (cfg0 (a p)).N) (d) : (dats a V p c).before (4 : Fin 6) t d = blockAt a V p c 4 t := by
  refine ((dats a V p c).before_in_eq_fetched (4 : Fin 6) rfl (fun _ => rfl) (fun _ _ _ => rfl) (fun t => ?_) t d).trans ?_
  · unfold Dat.blockOf; dsimp only [dats, afterAt]
  · unfold Dat.fetched Dat.blockOf; dsimp only [dats]; rfl

/-- The order of the rounds. -/
abbrev all25 : List (Fin 25) := [0, 1, 2, 3, 4, 5, 6, 7, 8, 9, 10, 11, 12, 13, 14, 15, 16, 17, 18, 19, 20, 21, 22, 23, 24]

/-- The rounds over the buffers of a grid point. -/
abbrev roundsAt (p : Fin 1) (t : Fin (cfg0 (a p)).N) : Prog (TpuEff nD τ sig (Elt F) Λ₀ .tc) PUnit :=
  rounds (spec0_2.stage ((cfg0 (a p)).slots t 2)) (spec0_3.stage ((cfg0 (a p)).slots t 3)) (spec0_0.stage ((cfg0 (a p)).slots t 0)) (spec0_1.stage ((cfg0 (a p)).slots t 1))
    (spec0_4.stage ((cfg0 (a p)).slots t 4)) (spec0_5.stage ((cfg0 (a p)).slots t 5)) all25

/-- The body's row of the table at a grid point is the rounds. -/
theorem defs₀_row (p : Fin 1) (t : Fin (cfg0 (a p)).N) :
    defs₀ (F := F) .tc (cfg0 (a p)).body ((cfg0 (a p)).bodyArgs t ((cfg0 (a p)).slots t)) = roundsAt a p t := by
  unfold defs₀; rw [Defs.onTc_tc]
  exact body_eq ..

/-- What the body is called with at a grid point and what it returns. -/
def bodyPre (p : Fin 1) (c : Dev nD) (t : Fin (cfg0 (a p)).N) : sProp 𝕄 :=
  iprop((dats a V p c).Φ t.castSucc ∗ (dats a V p c).owesAt () t.castSucc
    ∗ (∃ d, owns (c : Thread nD τ) (spec0_0.stage ((cfg0 (a p)).slots t 0)) fullShare ((dats a V p c).before (0 : Fin 6) t d))
    ∗ (∃ d, owns (c : Thread nD τ) (spec0_1.stage ((cfg0 (a p)).slots t 1)) fullShare ((dats a V p c).before (1 : Fin 6) t d))
    ∗ (∃ d, owns (c : Thread nD τ) (spec0_2.stage ((cfg0 (a p)).slots t 2)) fullShare ((dats a V p c).before (2 : Fin 6) t d))
    ∗ (∃ d, owns (c : Thread nD τ) (spec0_3.stage ((cfg0 (a p)).slots t 3)) fullShare ((dats a V p c).before (3 : Fin 6) t d))
    ∗ (∃ d, owns (c : Thread nD τ) (spec0_4.stage ((cfg0 (a p)).slots t 4)) fullShare ((dats a V p c).before (4 : Fin 6) t d))
    ∗ (∃ d, owns (c : Thread nD τ) (spec0_5.stage ((cfg0 (a p)).slots t 5)) fullShare ((dats a V p c).before (5 : Fin 6) t d)))
def bodyPost (p : Fin 1) (c : Dev nD) (t : Fin (cfg0 (a p)).N) : sProp 𝕄 :=
  iprop((dats a V p c).Φ t.succ ∗ (dats a V p c).owesAt () t.succ
    ∗ owns (c : Thread nD τ) (spec0_0.stage ((cfg0 (a p)).slots t 0)) fullShare (blockAt a V p c 0 t)
    ∗ owns (c : Thread nD τ) (spec0_1.stage ((cfg0 (a p)).slots t 1)) fullShare (blockAt a V p c 1 t)
    ∗ owns (c : Thread nD τ) (spec0_2.stage ((cfg0 (a p)).slots t 2)) fullShare (blockAt a V p c 2 t)
    ∗ owns (c : Thread nD τ) (spec0_3.stage ((cfg0 (a p)).slots t 3)) fullShare (blockAt a V p c 3 t)
    ∗ owns (c : Thread nD τ) (spec0_4.stage ((cfg0 (a p)).slots t 4)) fullShare (blockAt a V p c 4 t)
    ∗ owns (c : Thread nD τ) (spec0_5.stage ((cfg0 (a p)).slots t 5)) fullShare
        (block (blockAt a V p c 2 t) (blockAt a V p c 3 t) (blockAt a V p c 0 t) (blockAt a V p c 1 t) (blockAt a V p c 4 t)))

theorem sound_body (p : Fin 1) (c : Dev nD) (h : ClassWords a V p c) (t : Fin (cfg0 (a p)).N) :
    bodyPre a V p c t ⊢ wp (M := 𝕄) frame (wpE (defs₀ (F := F)) Variants.none (c : Thread nD τ) none) Set.univ (roundsAt a p t) (fun _ => bodyPost a V p c t) := by
  unfold bodyPre bodyPost
  rw [show (dats a V p c).Φ t.succ = (dats a V p c).Φ t.castSucc from rfl,
    show (dats a V p c).owesAt () t.succ = (dats a V p c).owesAt () t.castSucc from rfl]
  simp only [before_0, before_1, before_2, before_3, before_4]
  iintro ⟨HΦ, HO, ⟨%d0, H0⟩, ⟨%d1, H1⟩, ⟨%d2, H2⟩, ⟨%d3, H3⟩, ⟨%d4, H4⟩, ⟨%d5, H5⟩⟩
  iapply (rounds_wp Variants.none c none Set.univ (q := fun _ => fullShare) (fun n => (h t n).1) (fun n => (h t n).2) all25) $$ [H0 H1 H2 H3 H4 H5]
  · unfold held
    isplitl [H0]; · iexact H0
    isplitl [H1]; · iexact H1
    isplitl [H2]; · iexact H2
    isplitl [H3]; · iexact H3
    isplitl [H4]; · iexact H4
    iexact H5
  rw [leaves_all]
  unfold held
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

set_option maxRecDepth 100000 in
/-- The body's obligation at every grid point, where the index words are classes. -/
theorem body_obligation (p : Fin 1) (c : Dev nD) (h : ClassWords a V p c) :
    BodyObligation (dats (F := F) a V p c) (defs₀ (F := F)) Variants.none () Set.univ := fun t => by
  rw [bigSep_W0, bigSep_W0, defs₀_row]
  exact triple_restated (sound_body a V p c h t) rfl .rfl fun _ => .rfl

/-- The run from a launch memory whose tables at the region's entry are the admissible contents `a` and whose index words are classes. -/
theorem run_main (m : (ℓ : Loc nD τ sig) → Buf (Elt F) ℓ) (g : Dev nD → PrngReg)
    (hpf : ∀ (c : Dev nD) k, V5 m c (Proc.devRef .tc (pre0.ref k)) = (a 0).1 k) (h : ∀ c, ClassWords a (V5 m) 0 c) :
    θ_run defs (onTc (τ := τ) (main (F := F))) ⟨m, fun _ => 0, g⟩
      (fun r => Pipeline.FramePost (Pipeline.pin pcfgs a) (dats a (V5 m)) 0 (Pipeline.afterTail pcfgs a (dats a (V5 m)) 0 (V5 m) tail) r ∧ r.2.sem = fun _ => 0) :=
  Pipeline.θ_run_frameP_around_shared pcfgs a (dats a (V5 m)) (0 : Fin 1) launch₀0 defs₀ Variants.none m g main
    (fun c => (body_obligation a (V5 m) 0 c (h c)).loose) (fun c w _ => by dsimp only [dats]) (fun _ _ => rfl) (V5 m) tail tail_sub tail_fresh tail_keeps (hmain m Variants.none)
    (fun _ _ => rfl) hpf (fun _ _ => rfl) _ (fun _ h => h)

end Cert.KernelIdeal.Rounds

end
-- ==== Proof.Tables.lean ====
/- What the host lines before the region leave in the buffers the region reads. -/
module

public import proofs.«01_k».proof.Proof.Setup
public import proofs.«01_k».proof.Proof.Gen.Pre_words_in_range
public import Idealize.ShloMosaic.Lib.StableHlo.ReadAt
public import Idealize.ShloMosaic.Lib.StableHlo.Predicate
public import Idealize.ShloMosaic.Lib.SortFacts
public import Idealize.ShloMosaic.Lib.ValueIdxCore

@[expose] public section

set_option maxRecDepth 4000

noncomputable section

namespace Cert.KernelIdeal.Rounds

open Idealize.ShloMosaic Idealize.ShloMosaic.TcCoe Idealize.SL.Sem
open Cert.KernelIdeal Cert.KernelIdeal.Gen Cert.KernelIdeal.Facts₀

variable {F : FTy → Type} [FloatOps F]
variable (m : (ℓ : Loc nD τ sig) → Buf (Elt F) ℓ)

/-- The position whose step is the `k`-th smallest, ties in order. -/
def perm (T : IVec S1024 32) (k : Fin 1024) : Fin 1024 :=
  sortedFrom (fun k k' => IntOp.cmpi .slt (T (Shape.Idx.ofFin k)) (T (Shape.Idx.ofFin k')) == 1#1) k

theorem perm_injective (T : IVec S1024 32) : Function.Injective (perm T) := sortedFrom_injective _
theorem perm_surjective (T : IVec S1024 32) : Function.Surjective (perm T) := sortedFrom_surjective _

/-- The positions, sorted by step, as words. -/
def order (T : IVec S1024 32) : IVec S1024 32 := (Host.sort2 S1024 0 comparator_i32_i32_d0 T (iotaInDim S1024 32 0)).2

theorem order_apply (T : IVec S1024 32) (y : S1024.Idx) : order T y = BitVec.ofNat 32 (perm T (y 0)).val := by
  unfold order Host.sort2
  simp [S1024, iotaInDim, comparator_i32_i32_d0, perm]

theorem order_toNat (T : IVec S1024 32) (y : S1024.Idx) : (order T y).toNat = (perm T (y 0)).val := by
  rw [order_apply, BitVec.toNat_ofNat]
  exact Nat.mod_eq_of_lt (lt_trans (perm T (y 0)).isLt (by norm_num))

/-- Negative positions count from the end: none is. -/
def wrapped (o : IVec S1024 32) : IVec S1024 32 :=
  select (cmpi .slt o (broadcastInDim S1024 ![] Gen.bcast_S_S1024 (constantI S_ 32 0#32)))
    (addi o (broadcastInDim S1024 ![] Gen.bcast_S_S1024 (constantI S_ 32 1024#32))) o

theorem toInt_small (w : BitVec 32) (h : w.toNat < 1024) : w.toInt = (w.toNat : ℤ) := by
  rw [BitVec.toInt_eq_toNat_cond, if_pos (by omega)]

theorem not_negative (w : BitVec 32) (h : w.toNat < 1024) : IntOp.cmpi .slt w 0#32 ≠ 1#1 := by
  intro hc
  have hlt := (StableHlo.Predicate.slt_iff_toNat (by omega) (by decide)).mp hc
  exact absurd hlt (Nat.not_lt_zero _)

theorem order_lt (T : IVec S1024 32) (y : S1024.Idx) : (order T y).toNat < 1024 := by
  rw [order_toNat]; exact (perm T (y 0)).isLt

theorem wrapped_eq (o : IVec S1024 32) (h : ∀ y, (o y).toNat < 1024) : wrapped o = o := by
  funext y
  exact if_neg (not_negative _ (h y))

theorem clamp_small (w : BitVec 32) (k : Fin 1024) (h : w.toNat = k.val) : min w.toInt.toNat (1024 - 1) = k.val := by
  rw [toInt_small w (by omega)]
  simp only [Int.toNat_natCast]
  omega

theorem take_small (T o : IVec S1024 32) (h : ∀ y, (o y).toNat < 1024) (p : Fin 1024) :
    Host.gather gather_S1024_S1024x1_S1024_n_0_n_n_0_1_1 T (broadcastInDim S1024x1 ![0] Gen.bcast_S1024_S1024x1_0 o)
      (Shape.Idx.ofFin p) = T (Shape.Idx.ofFin ⟨(o (Shape.Idx.ofFin p)).toNat, h _⟩) := by
  refine (StableHlo.Predicate.gather_take _ rfl rfl rfl rfl T _ p (by norm_num)).trans ?_
  have e : broadcastInDim S1024x1 ![0] Gen.bcast_S1024_S1024x1_0 o (StableHlo.Predicate.ixP p) = o (Shape.Idx.ofFin p) := by
    unfold broadcastInDim
    refine congrArg o (funext fun k => ?_)
    match k with
    | ⟨0, _⟩ => rfl
  refine congrArg (fun k => T (Shape.Idx.ofFin k)) (Fin.ext ?_)
  show min (broadcastInDim S1024x1 ![0] Gen.bcast_S1024_S1024x1_0 o (StableHlo.Predicate.ixP p)).toInt.toNat (1024 - 1) = _
  rw [e]
  exact clamp_small (o (Shape.Idx.ofFin p)) ⟨_, h _⟩ rfl

/-- The steps, sorted. -/
def sorted (T : IVec S1024 32) : IVec S1024 32 :=
  Host.gather gather_S1024_S1024x1_S1024_n_0_n_n_0_1_1 T (broadcastInDim S1024x1 ![0] Gen.bcast_S1024_S1024x1_0 (wrapped (order T)))

theorem sorted_apply (T : IVec S1024 32) (p : Fin 1024) : sorted T (Shape.Idx.ofFin p) = T (Shape.Idx.ofFin (perm T p)) := by
  unfold sorted
  rw [wrapped_eq _ (order_lt T), take_small T _ (order_lt T) p]
  exact congrArg (fun k => T (Shape.Idx.ofFin k)) (Fin.ext (order_toNat T (Shape.Idx.ofFin p)))

theorem V5_arg0 (c : Dev nD) : V5 m c (Proc.devRef .tc main_arg0) = m (c, Proc.devRef .tc main_arg0) := by
  after_reads_simp

theorem V5_arg1 (c : Dev nD) : V5 m c (Proc.devRef .tc main_arg1) = m (c, Proc.devRef .tc main_arg1) := by
  after_reads_simp

theorem V5_arg2 (c : Dev nD) : V5 m c (Proc.devRef .tc main_arg2) = m (c, Proc.devRef .tc main_arg2) := by
  after_reads_simp

theorem V5_arg3 (c : Dev nD) : V5 m c (Proc.devRef .tc main_arg3) = m (c, Proc.devRef .tc main_arg3) := by
  after_reads_simp

theorem V5_v181 (c : Dev nD) : V5 m c (Proc.devRef .tc main_v181) = order (m (c, Proc.devRef .tc main_arg2)) := by
  after_reads_simp
  rfl

theorem V5_v188 (c : Dev nD) : V5 m c (Proc.devRef .tc main_v188) = sorted (m (c, Proc.devRef .tc main_arg2)) := by
  after_reads_simp
  rfl

theorem V5_v190 (c : Dev nD) : V5 m c (Proc.devRef .tc main_v190) =
    (fun y => IntOp.subi 101#32 (sorted (m (c, Proc.devRef .tc main_arg2)) y) : IVec S1024 32) := by
  after_reads_simp
  rfl

theorem V5_v192 (c : Dev nD) : V5 m c (Proc.devRef .tc main_v192) = order (m (c, Proc.devRef .tc main_arg2)) := by
  after_reads_simp
  funext y
  exact BitVec.add_zero _

theorem V5_v193 (c : Dev nD) : V5 m c (Proc.devRef .tc main_v193) =
    (shapeCast S1024x1x200 (m (c, Proc.devRef .tc main_arg0) : IVec S1024x200 32) Gen.shapeCasts_S1024x200_S1024x1x200 : IVec S1024x1x200 32) := by
  after_reads_simp
  rfl

theorem V5_v194 (c : Dev nD) : V5 m c (Proc.devRef .tc main_v194) =
    (shapeCast S1024x1x200 (m (c, Proc.devRef .tc main_arg1) : IVec S1024x200 32) Gen.shapeCasts_S1024x200_S1024x1x200 : IVec S1024x1x200 32) := by
  after_reads_simp
  rfl

/-- Tokens below 512, steps below 102. -/
structure InRange (X Y : IVec S1024x200 32) (T : IVec S1024 32) : Prop where
  start : ∀ i, (X i).toNat < 512
  stop : ∀ i, (Y i).toNat < 512
  step : ∀ i, (T i).toNat < 102

theorem range_word {w : BitVec 32} {n : ℕ} (hn : n < 2 ^ 31)
    (h0 : IntOp.cmpi .sge w 0#32 = 1#1) (h1 : IntOp.cmpi .slt w (BitVec.ofNat 32 n) = 1#1) : w.toNat < n := by
  have h0' : (0 : ℤ) ≤ w.toInt := by
    have := (StableHlo.Predicate.ofBool_eq_one_iff _).mp h0
    simpa [BitVec.sle] using this
  have h1' : w.toInt < (BitVec.ofNat 32 n).toInt := by
    have := (StableHlo.Predicate.ofBool_eq_one_iff _).mp h1
    simpa [BitVec.slt] using this
  rw [StableHlo.Predicate.toInt_ofNat_small n hn] at h1'
  rw [BitVec.toInt_eq_toNat_cond] at h0' h1'
  have := w.isLt
  split at h0' <;> omega

theorem words_in_range (X Y : IVec S1024x200 32) (T : IVec S1024 32) (A : FVec F S102x512x512 .f32)
    (h : (letI := Cert.Pre_words_in_range.Gen.facts; Cert.Pre_words_in_range.fn (F := F) X Y T A) = fun _ => 1#1) :
    InRange X Y T := by
  have key : ∀ (a : Fin 1024) (b : Fin 200), (IntOp.andi (IntOp.andi (IntOp.andi (IntOp.andi (IntOp.cmpi .sge (X (ix2 a b)) 0#32)
      (IntOp.cmpi .slt (X (ix2 a b)) 512#32)) (IntOp.cmpi .sge (Y (ix2 a b)) 0#32)) (IntOp.cmpi .slt (Y (ix2 a b)) 512#32))
      (IntOp.andi (IntOp.cmpi .sge (T (Shape.Idx.ofFin a)) 0#32) (IntOp.cmpi .slt (T (Shape.Idx.ofFin a)) 102#32))) = 1#1 := by
    intro a b
    have := congrFun h (ix2 a b)
    have e : (fun k : Fin 1 => (⟨a.val, by have : k = 0 := Subsingleton.elim _ _; subst this; exact a.isLt⟩ : Fin (S1024.size k))) = Shape.Idx.ofFin a := rfl
    refine Eq.trans ?_ this
    unfold Cert.Pre_words_in_range.fn Cert.Pre_words_in_range.fn_part1
    dsimp only
    unfold andi cmpi broadcastInDim constantI
    dsimp only
    refine congrArg (fun j : S1024.Idx => IntOp.andi _ (IntOp.andi (IntOp.cmpi .sge (T j) 0#32) (IntOp.cmpi .slt (T j) 102#32))) ?_
    funext k
    match k with
    | ⟨0, _⟩ => rfl
  have key' := fun a b => (by
    have := key a b
    simp only [IntOp.andi_eq_one] at this
    exact this : (((IntOp.cmpi .sge (X (ix2 a b)) 0#32 = 1#1 ∧ IntOp.cmpi .slt (X (ix2 a b)) 512#32 = 1#1) ∧
      IntOp.cmpi .sge (Y (ix2 a b)) 0#32 = 1#1) ∧ IntOp.cmpi .slt (Y (ix2 a b)) 512#32 = 1#1) ∧
      IntOp.cmpi .sge (T (Shape.Idx.ofFin a)) 0#32 = 1#1 ∧ IntOp.cmpi .slt (T (Shape.Idx.ofFin a)) 102#32 = 1#1)
  refine ⟨fun i => ?_, fun i => ?_, fun i => ?_⟩
  · rw [eq_ix2 i]
    exact range_word (by norm_num) (key' _ _).1.1.1.1 (key' _ _).1.1.1.2
  · rw [eq_ix2 i]
    exact range_word (by norm_num) (key' _ _).1.1.2 (key' _ _).1.2
  · rw [Shape.Idx.eq_ofFin i]
    exact range_word (by norm_num) (key' _ 0).2.1 (key' _ 0).2.2

end Cert.KernelIdeal.Rounds

end
-- ==== Proof.Admit.lean ====
/- The tables at the region's entry are admissible, and the index words its blocks hold are classes. -/
module

public import proofs.«01_k».proof.Proof.Launch
public import proofs.«01_k».proof.Proof.Tables

@[expose] public section

set_option maxRecDepth 4000

noncomputable section

namespace Cert.KernelIdeal.Rounds

open Idealize.ShloMosaic Idealize.ShloMosaic.TcCoe Idealize.ShloMosaic.ValueIdx Idealize.SL.Sem
open Cert.KernelIdeal Cert.KernelIdeal.Gen

variable {F : FTy → Type} [FloatOps F]

/-- Table `k` at a position. -/
abbrev entry (pf : pre0.Contents (Elt F)) : Fin 4 → Fin 1024 → BitVec 32
  | 0, p => (pf 0 : IVec S1024 32) (Shape.Idx.ofFin p)
  | 1, p => (pf 1 : IVec S1024 32) (Shape.Idx.ofFin p)
  | 2, p => (pf 2 : IVec S1024 32) (Shape.Idx.ofFin p)
  | 3, p => (pf 3 : IVec S1024 32) (Shape.Idx.ofFin p)
  | ⟨_ + 4, h⟩, _ => absurd h (Nat.not_lt.2 (Nat.le_add_left _ _))

/-- The one entry a grid point's index maps read. -/
theorem read_entry (v : IVec S1024 32) (i : grid0.Coords) (h : S1.numel = 1) (hin : ∀ a, (k0_off1 i) a + S1.size a ≤ S1024.size a) :
    v ((Rect.unit (s := S1024) ![(Scalar.indexCast (BitVec.ofNat 32 (i 0).val)).toNat] S1.size hin).emb (Shape.Idx.first (h.symm ▸ Nat.one_pos)))
      = v (Shape.Idx.ofFin (i 0)) := by
  refine congrArg v (funext fun a => ?_)
  have : a = 0 := Subsingleton.elim _ _
  subst this
  apply Fin.ext
  have hi : (i 0).val < 1024 := (i 0).isLt
  show (BitVec.ofNat 32 (i 0).val).toNat + 1 * 0 = (i 0).val
  rw [BitVec.toNat_ofNat, Nat.mod_eq_of_lt (by omega)]
  omega

variable (pf : pre0.Contents (Elt F)) (i : grid0.Coords)

theorem tile_0 : ix0 pf 0 i = ![(entry pf 0 (i 0)).toNat, 0, 0] :=
  congrArg (fun w : BitVec 32 => (![w.toNat, 0, 0] : Fin 3 → Nat)) (read_entry (pf 0) i numel1_S1 (k0_off1_inb i))
theorem tile_1 : ix0 pf 1 i = ![(entry pf 1 (i 0)).toNat, 0, 0] :=
  congrArg (fun w : BitVec 32 => (![w.toNat, 0, 0] : Fin 3 → Nat)) (read_entry (pf 1) i numel1_S1 (k0_off1_inb i))
theorem tile_2 : ix0 pf 2 i = ![(entry pf 2 (i 0)).toNat, 0, 0] :=
  congrArg (fun w : BitVec 32 => (![w.toNat, 0, 0] : Fin 3 → Nat)) (read_entry (pf 2) i numel1_S1 (k0_off1_inb i))
theorem tile_3 : ix0 pf 3 i = ![(entry pf 2 (i 0)).toNat, 0, 0] :=
  congrArg (fun w : BitVec 32 => (![w.toNat, 0, 0] : Fin 3 → Nat)) (read_entry (pf 2) i numel1_S1 (k0_off1_inb i))
theorem tile_4 : ix0 pf 4 i = ![(entry pf 3 (i 0)).toNat, 0, 0] :=
  congrArg (fun w : BitVec 32 => (![w.toNat, 0, 0] : Fin 3 → Nat)) (read_entry (pf 3) i numel1_S1 (k0_off1_inb i))
theorem tile_5 : ix0 pf 5 i = ![(entry pf 2 (i 0)).toNat, 0, 0] :=
  congrArg (fun w : BitVec 32 => (![w.toNat, 0, 0] : Fin 3 → Nat)) (read_entry (pf 2) i numel1_S1 (k0_off1_inb i))

/-- A leading tile index inside the leading axis is inside the array. -/
theorem inside (n b c : ℕ) (k : ℕ) (hk : k < n) :
    ∀ a, ((![k, 0, 0] : Fin 3 → Nat) a + 1) * (⟨3, ![1, b, c]⟩ : Shape).size a ≤ (⟨3, ![n, b, c]⟩ : Shape).size a
  | 0 => by show (k + 1) * 1 ≤ n; omega
  | 1 => by show (0 + 1) * b ≤ b; omega
  | 2 => by show (0 + 1) * c ≤ c; omega

/-- Tables whose entries name rows of the arrays are admissible. -/
theorem ok_of_rows (h0 : ∀ p, (entry pf 0 p).toNat < 102) (h1 : ∀ p, (entry pf 1 p).toNat < 102)
    (h2 : ∀ p, (entry pf 2 p).toNat < 1024) (h3 : ∀ p, (entry pf 3 p).toNat < 1024) : ok0 pf := by
  refine ⟨fun i => ⟨?_, Or.inl rfl⟩, fun i => ⟨?_, Or.inl rfl⟩, fun i => ⟨?_, Or.inl rfl⟩, fun i => ⟨?_, Or.inl rfl⟩,
    fun i => ⟨?_, Or.inl rfl⟩, fun i => ⟨?_, Or.inl rfl⟩⟩
  · rw [show cc0_transform_0 k0_off1_inb numel1_S1 pf i = _ from tile_0 pf i]; exact inside _ _ _ _ (h0 _)
  · rw [show cc0_transform_1 k0_off1_inb numel1_S1 pf i = _ from tile_1 pf i]; exact inside _ _ _ _ (h1 _)
  · rw [show cc0_transform_2 k0_off1_inb numel1_S1 pf i = _ from tile_2 pf i]; exact inside _ _ _ _ (h2 _)
  · rw [show cc0_transform_3 k0_off1_inb numel1_S1 pf i = _ from tile_3 pf i]; exact inside _ _ _ _ (h2 _)
  · rw [show cc0_transform_4 k0_off1_inb numel1_S1 pf i = _ from tile_4 pf i]; exact inside _ _ _ _ (h3 _)
  · rw [show cc0_transform_5 k0_off1_inb numel1_S1 pf i = _ from tile_5 pf i]; exact inside _ _ _ _ (h2 _)

variable (m : (ℓ : Loc nD τ sig) → Buf (Elt F) ℓ)

/-- The arguments of a launch memory. -/
abbrev argX : IVec S1024x200 32 := m ((0 : Dev nD).tc.loc main_arg0)
abbrev argY : IVec S1024x200 32 := m ((0 : Dev nD).tc.loc main_arg1)
abbrev argT : IVec S1024 32 := m ((0 : Dev nD).tc.loc main_arg2)
abbrev argP : FVec F S102x512x512 .f32 := m ((0 : Dev nD).tc.loc main_arg3)

/-- The tables a launch memory leads to. -/
def tables : pre0.Contents (Elt F) := fun k => V5 m 0 (Proc.devRef .tc (pre0.ref k))

theorem tables_0 (p : Fin 1024) : entry (tables m) 0 p = argT m (Shape.Idx.ofFin (perm (argT m) p)) :=
  (congrFun (V5_v188 m 0) (Shape.Idx.ofFin p)).trans (sorted_apply _ p)
theorem tables_1 (p : Fin 1024) : entry (tables m) 1 p = IntOp.subi 101#32 (argT m (Shape.Idx.ofFin (perm (argT m) p))) :=
  (congrFun (V5_v190 m 0) (Shape.Idx.ofFin p)).trans (congrArg (IntOp.subi 101#32) (sorted_apply _ p))
theorem tables_2 (p : Fin 1024) : (entry (tables m) 2 p).toNat = (perm (argT m) p).val :=
  (congrArg BitVec.toNat (congrFun (V5_v181 m 0) (Shape.Idx.ofFin p))).trans (order_toNat _ _)
theorem tables_3 (p : Fin 1024) : (entry (tables m) 3 p).toNat = (perm (argT m) p).val :=
  (congrArg BitVec.toNat (congrFun (V5_v192 m 0) (Shape.Idx.ofFin p))).trans (order_toNat _ _)

theorem back_toNat (w : BitVec 32) (h : w.toNat < 102) : (IntOp.subi 101#32 w).toNat = 101 - w.toNat := by
  have : IntOp.subi 101#32 w = 101#32 - w := rfl
  rw [this, BitVec.toNat_sub]
  simp only [BitVec.toNat_ofNat]
  omega

/-- The tables of a launch memory whose words are in range, as admissible contents. -/
def adm (h : InRange (argX m) (argY m) (argT m)) : (p : Fin 1) → (pcfgs (F := F) p).Adm :=
  fun _ => ⟨tables m, ok_of_rows (tables m) (fun p => by rw [tables_0]; exact h.step _)
    (fun p => by rw [tables_1, back_toNat _ (h.step _)]; omega)
    (fun p => by rw [tables_2]; exact (perm _ p).isLt) (fun p => by rw [tables_3]; exact (perm _ p).isLt)⟩

theorem adm_tables (h : InRange (argX m) (argY m) (argT m)) (c : Dev nD) (k) :
    V5 m c (Proc.devRef .tc (pre0.ref k)) = (adm m h 0).1 k := by
  obtain rfl : c = 0 := Subsingleton.elim _ _
  rfl

theorem starts_lt (h : InRange (argX m) (argY m) (argT m)) (j : S1024x1x200.Idx) :
    ((V5 m 0 (Proc.devRef .tc main_v193) : IVec S1024x1x200 32) j).toNat < 512 := by
  rw [V5_v193]; exact h.start _
theorem stops_lt (h : InRange (argX m) (argY m) (argT m)) (j : S1024x1x200.Idx) :
    ((V5 m 0 (Proc.devRef .tc main_v194) : IVec S1024x1x200 32) j).toNat < 512 := by
  rw [V5_v194]; exact h.stop _

theorem class_words (h : InRange (argX m) (argY m) (argT m)) (c : Dev nD) : ClassWords (adm m h) (V5 m) 0 c := by
  obtain rfl : c = 0 := Subsingleton.elim _ _
  intro t n
  exact ⟨starts_lt m h _, stops_lt m h _⟩

/-- The run of the program where the words are in range. -/
theorem run_in_range (g : Dev nD → PrngReg) (h : InRange (argX m) (argY m) (argT m)) :
    θ_run defs (onTc (τ := τ) (main (F := F))) ⟨m, fun _ => 0, g⟩
      (fun r => Pipeline.FramePost (Pipeline.pin pcfgs (adm m h)) (dats (adm m h) (V5 m)) 0
        (Pipeline.afterTail pcfgs (adm m h) (dats (adm m h) (V5 m)) 0 (V5 m) tail) r ∧ r.2.sem = fun _ => 0) :=
  run_main (adm m h) m g (adm_tables m h) (class_words m h)

end Cert.KernelIdeal.Rounds

end
-- ==== Proof.Exit.lean ====
/- What the buffers hold at the end of the run. -/
module

public import proofs.«01_k».proof.Proof.Admit

@[expose] public section

set_option maxRecDepth 4000

noncomputable section

namespace Cert.KernelIdeal.Rounds

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ) (h : InRange (argX m) (argY m) (argT m))

/-- Core 0's buffers when the region is left. -/
def exitV : Valuation τ sig (Elt F) :=
  Pipeline.withArrays spec0 (0 : Dev nD) (V5 m 0) fun w => (dats (adm m h) (V5 m) 0 0).arrAt w (cfg0 (adm m h 0)).N

theorem afterTail_eq (b : Ref sig .tc) : Pipeline.afterTail pcfgs (adm m h) (dats (adm m h) (V5 m)) 0 (V5 m) tail 0 b
    = StableHlo.after (hostOps1 ++ hostOps1_1) (exitV m h) (Proc.devRef .tc b) := rfl

theorem input_of_shared : ∀ w w' : Fin 6, w ≠ w' → Pipeline.arrRef spec0 w = Pipeline.arrRef spec0 w' → (spec0 w).isOut = false := by
  decide

theorem exit_out : exitV m h (Proc.devRef .tc main_v195) = (dats (adm m h) (V5 m) 0 0).arrAt (5 : Fin 6) (cfg0 (adm m h 0)).N :=
  Pipeline.withArrays_arr_shared spec0 (0 : Dev nD) (V5 m 0) _ (fun w w' hne e => by
    exact (dats (adm m h) (V5 m) 0 0).arrAt_in w (input_of_shared w w' hne e) _) (5 : Fin 6)

theorem exit_arg0 : exitV m h (Proc.devRef .tc main_arg0) = m ((0 : Dev nD).tc.loc main_arg0) :=
  (Pipeline.withArrays_of_ne spec0 (0 : Dev nD) (V5 m 0) _ main_arg0 (by decide)).trans (V5_arg0 m 0)
theorem exit_arg1 : exitV m h (Proc.devRef .tc main_arg1) = m ((0 : Dev nD).tc.loc main_arg1) :=
  (Pipeline.withArrays_of_ne spec0 (0 : Dev nD) (V5 m 0) _ main_arg1 (by decide)).trans (V5_arg1 m 0)
theorem exit_arg2 : exitV m h (Proc.devRef .tc main_arg2) = m ((0 : Dev nD).tc.loc main_arg2) :=
  (Pipeline.withArrays_of_ne spec0 (0 : Dev nD) (V5 m 0) _ main_arg2 (by decide)).trans (V5_arg2 m 0)

/-- What the region leaves in the output array. -/
def picks : IVec S1024x25x8 32 := (dats (adm m h) (V5 m) 0 0).arrAt (5 : Fin 6) (cfg0 (adm m h 0)).N

/-- The result: the picked classes, the end classes at the last step. -/
def result : IVec S1024x200 32 :=
  select (broadcastInDim S1024x200 ![0, 1] Gen.bcast_S1024x1_S1024x200_0_1 (broadcastInDim S1024x1 ![0] Gen.bcast_S1024_S1024x1_0
      (cmpi .eq (argT m) (broadcastInDim S1024 ![] Gen.bcast_S_S1024 (constantI S_ 32 101#32)))))
    (argY m) (shapeCast S1024x200 (picks m h) Gen.shapeCasts_S1024x25x8_S1024x200)

theorem after_arg0 : StableHlo.after (hostOps1 ++ hostOps1_1) (exitV m h) (Proc.devRef .tc main_arg0) = m ((0 : Dev nD).tc.loc main_arg0) := by
  after_reads_simp; exact exit_arg0 m h
theorem after_arg1 : StableHlo.after (hostOps1 ++ hostOps1_1) (exitV m h) (Proc.devRef .tc main_arg1) = m ((0 : Dev nD).tc.loc main_arg1) := by
  after_reads_simp; exact exit_arg1 m h
theorem after_arg2 : StableHlo.after (hostOps1 ++ hostOps1_1) (exitV m h) (Proc.devRef .tc main_arg2) = m ((0 : Dev nD).tc.loc main_arg2) := by
  after_reads_simp; exact exit_arg2 m h
theorem after_result_of (W : Valuation τ sig (Elt F)) : StableHlo.after (hostOps1 ++ hostOps1_1) W (Proc.devRef .tc main_v200) =
    (select (broadcastInDim S1024x200 ![0, 1] Gen.bcast_S1024x1_S1024x200_0_1 (broadcastInDim S1024x1 ![0] Gen.bcast_S1024_S1024x1_0
      (cmpi .eq (W (Proc.devRef .tc main_arg2) : IVec S1024 32) (broadcastInDim S1024 ![] Gen.bcast_S_S1024 (constantI S_ 32 101#32)))))
    (W (Proc.devRef .tc main_arg1) : IVec S1024x200 32)
    (shapeCast S1024x200 (W (Proc.devRef .tc main_v195) : IVec S1024x25x8 32) Gen.shapeCasts_S1024x25x8_S1024x200) : IVec S1024x200 32) := by
  after_reads_simp
  rfl

theorem after_result : StableHlo.after (hostOps1 ++ hostOps1_1) (exitV m h) (Proc.devRef .tc main_v200) = result m h := by
  rw [after_result_of, exit_out, exit_arg1, exit_arg2, result, picks]

/-- The run: every argument unchanged, the result computed, every semaphore at zero. -/
theorem run_result (g : Dev nD → PrngReg) :
    θ_run defs (onTc (τ := τ) (main (F := F))) ⟨m, fun _ => 0, g⟩
      (fun r => (∀ c : Dev nD, r.2.mem (c.tc.loc main_v200) = result m h
        ∧ r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3))
        ∧ r.2.sem = fun _ => 0) := by
  refine (θ_run defs _ _).mono (fun r hr => ⟨fun c => ?_, hr.2⟩) (run_in_range m g h)
  obtain rfl : c = 0 := Subsingleton.elim _ _
  obtain ⟨hw, hb⟩ := hr.1 0
  refine ⟨?_, ?_, ?_, ?_, ?_⟩
  · exact (hb main_v200 (Pipeline.mem_restRefs_of main_v200 (by decide) (by decide : ∀ w : Fin 6, Pipeline.arrRef spec0 w ≠ main_v200))).trans (after_result m h)
  · exact (hb main_arg0 (Pipeline.mem_restRefs_of main_arg0 (by decide) (by decide : ∀ w : Fin 6, Pipeline.arrRef spec0 w ≠ main_arg0))).trans (after_arg0 m h)
  · exact (hb main_arg1 (Pipeline.mem_restRefs_of main_arg1 (by decide) (by decide : ∀ w : Fin 6, Pipeline.arrRef spec0 w ≠ main_arg1))).trans (after_arg1 m h)
  · exact (hb main_arg2 (Pipeline.mem_restRefs_of main_arg2 (by decide) (by decide : ∀ w : Fin 6, Pipeline.arrRef spec0 w ≠ main_arg2))).trans (after_arg2 m h)
  · exact (hw (0 : Fin 6)).trans (((dats (adm m h) (V5 m) 0 0).arrAt_in (0 : Fin 6) rfl _).trans (V5_arg3 m 0))

end Cert.KernelIdeal.Rounds

end
-- ==== Proof.Symmetric.lean ====
/- What the precondition on the table says: words in range, the table's entries finite, not negative, and symmetric. -/
module

public import proofs.«01_k».proof.Proof.Tables
public import proofs.«01_k».proof.Proof.Gen.Pre_symmetric_table
public import Idealize.ShloMosaic.Lib.ReduceAll
public import Idealize.ShloMosaic.Lib.IdealHost
public import Idealize.ShloMosaic.Lib.Pointwise.Select
public import Idealize.ShloMosaic.Lib.ValueLayout

@[expose] public section

set_option maxRecDepth 4000

noncomputable section

namespace Cert.KernelIdeal.Rounds

open Idealize.ShloMosaic Idealize.ShloMosaic.TcCoe Idealize.SL.Sem
open Cert.KernelIdeal Cert.KernelIdeal.Gen Cert.KernelIdeal.Facts₀

/-- The table's entries are finite and not negative, and its matrices symmetric. -/
structure Symmetric (A : FVec Ideal S102x512x512 .f32) : Prop where
  nonneg : ∀ i, (0 : EReal) ≤ A i
  finite : ∀ i, A i < (⊤ : EReal)
  swap : ∀ t a b, A (ix3 t a b) = A (ix3 t b a)

theorem ofBits_inf : Ideal.ofBits .f32 0x7F800000#32 = ⊤ := by simp [Ideal.ofBits, Ideal.ieee]

theorem symmetric_table (X Y : IVec S1024x200 32) (T : IVec S1024 32) (A : FVec Ideal S102x512x512 .f32)
    (h : (letI := Cert.Pre_symmetric_table.Gen.facts; Cert.Pre_symmetric_table.fn (F := Ideal) X Y T A) = fun _ => 1#1) :
    InRange X Y T ∧ Symmetric A := by
  letI := Cert.Pre_symmetric_table.Gen.facts
  have key : ∀ (a : Fin 1024) (b : Fin 200), IntOp.andi (IntOp.andi (IntOp.andi (IntOp.andi (IntOp.andi (IntOp.cmpi .sge (X (ix2 a b)) 0#32)
      (IntOp.cmpi .slt (X (ix2 a b)) 512#32)) (IntOp.cmpi .sge (Y (ix2 a b)) 0#32)) (IntOp.cmpi .slt (Y (ix2 a b)) 512#32))
      (IntOp.andi (IntOp.cmpi .sge (T (Shape.Idx.ofFin a)) 0#32) (IntOp.cmpi .slt (T (Shape.Idx.ofFin a)) 102#32)))
      (Host.reduce IntOp.andi (andi (andi (cmpf .oge A (broadcastInDim S102x512x512 ![] Cert.Pre_symmetric_table.Facts.bcast_S_S102x512x512 (constant (F := Ideal) Cert.Pre_symmetric_table.S_ .f32 0x00000000#32)))
        (cmpf .olt A (broadcastInDim S102x512x512 ![] Cert.Pre_symmetric_table.Facts.bcast_S_S102x512x512 (constant (F := Ideal) Cert.Pre_symmetric_table.S_ .f32 0x7F800000#32))))
        (cmpf .oeq A (transpose S102x512x512 [0, 2, 1] A Cert.Pre_symmetric_table.Facts.transposes_S102x512x512_S102x512x512_0_2_1)))
        (constantI Cert.Pre_symmetric_table.S_ 1 1#1) Cert.Pre_symmetric_table.Facts.reducesTo_S102x512x512_S_d0_1_2 Cert.Pre_symmetric_table.Facts.h_S_ (fun k => k.elim0)) = 1#1 := by
    intro a b
    have := congrFun h (ix2 a b)
    refine Eq.trans ?_ this
    unfold Cert.Pre_symmetric_table.fn Cert.Pre_symmetric_table.fn_part1
    dsimp only
    generalize Host.reduce IntOp.andi _ _ _ _ = R
    unfold andi cmpi broadcastInDim constantI
    dsimp only
    refine congrArg₂ (fun (j : S1024.Idx) (k : Cert.Pre_symmetric_table.S_.Idx) => IntOp.andi (IntOp.andi _ (IntOp.andi (IntOp.cmpi .sge (T j) 0#32) (IntOp.cmpi .slt (T j) 102#32))) (R k)) ?_ ?_
    · funext k
      match k with
      | ⟨0, _⟩ => rfl
    · exact Subsingleton.elim _ _
  have key' := fun a b => (by
    have := key a b
    simp only [IntOp.andi_eq_one] at this
    exact this : ((((IntOp.cmpi .sge (X (ix2 a b)) 0#32 = 1#1 ∧ IntOp.cmpi .slt (X (ix2 a b)) 512#32 = 1#1) ∧
      IntOp.cmpi .sge (Y (ix2 a b)) 0#32 = 1#1) ∧ IntOp.cmpi .slt (Y (ix2 a b)) 512#32 = 1#1) ∧
      IntOp.cmpi .sge (T (Shape.Idx.ofFin a)) 0#32 = 1#1 ∧ IntOp.cmpi .slt (T (Shape.Idx.ofFin a)) 102#32 = 1#1) ∧ _)
  have all := fun i => Host.reduce_andi_all _ _ _ _ _ (key' 0 0).2 i
  have each : ∀ i, ((0 : EReal) ≤ A i ∧ A i < ⊤) ∧ A i = transpose S102x512x512 [0, 2, 1] A Cert.Pre_symmetric_table.Facts.transposes_S102x512x512_S102x512x512_0_2_1 i := by
    intro i
    have := all i
    unfold andi at this
    simp only [IntOp.andi_eq_one] at this
    refine ⟨⟨?_, ?_⟩, ?_⟩
    · have e := (Ideal.cmp_oge_eq_one _ _).mp this.1.1
      refine le_trans (le_of_eq ?_) e
      exact (Ideal.ofBits_zero_f32).symm
    · have e := (Ideal.cmp_olt_eq_one _ _).mp this.1.2
      exact lt_of_lt_of_eq e ofBits_inf
    · exact (Ideal.cmp_oeq_eq_one _ _).mp this.2
  refine ⟨⟨fun i => ?_, fun i => ?_, fun i => ?_⟩, ⟨fun i => (each i).1.1, fun i => (each i).1.2, fun t a b => ?_⟩⟩
  · rw [eq_ix2 i]
    exact range_word (by norm_num) (key' _ _).1.1.1.1.1 (key' _ _).1.1.1.1.2
  · rw [eq_ix2 i]
    exact range_word (by norm_num) (key' _ _).1.1.1.2 (key' _ _).1.1.2
  · rw [Shape.Idx.eq_ofFin i]
    exact range_word (by norm_num) (key' _ 0).1.2.1 (key' _ 0).1.2.2
  · refine ((each (ix3 t a b)).2).trans ?_
    exact Idealize.ShloMosaic.ValueIdx.transpose_ix3_021_apply A _ t a b

end Cert.KernelIdeal.Rounds

end
-- ==== Proof.RefOps.lean ====
/- The operations of the reference, in order, by what they compute. -/
module

public import proofs.«01_k».proof.ReferenceIdeal
public import proofs.«01_k».proof.Proof.Gen.ReferenceIdeal
public import Idealize.ShloMosaic.Lib.StableHlo.Run

@[expose] public section

set_option maxRecDepth 100000
set_option maxHeartbeats 40000000

noncomputable section

namespace Cert.ReferenceIdeal.Rounds

open Idealize.ShloMosaic Idealize.ShloMosaic.TcCoe Idealize.SL.Sem
open Cert.ReferenceIdeal Cert.ReferenceIdeal.Facts₀ Cert.ReferenceIdeal.Facts

variable {F : FTy → Type} [FloatOps F]

attribute [local instance] Cert.ReferenceIdeal.Gen.facts

/-- The two rows of each position. -/
def gathered : List (HloOp τ sig (Elt F)) :=
  [ StableHlo.unary main_arg2 main_v0 (broadcastInDim S1024x1 ![0] bcast_S1024_S1024x1_0 : (⟨S1024, .i32⟩ : BufTy).Contents (Elt F) → (⟨S1024x1, .i32⟩ : BufTy).Contents (Elt F)),
    StableHlo.nullary main_c (constantI S_ 32 0#32),
    StableHlo.unary main_c main_v1 (broadcastInDim S1024x1 ![] bcast_S_S1024x1 : (⟨S_, .i32⟩ : BufTy).Contents (Elt F) → (⟨S1024x1, .i32⟩ : BufTy).Contents (Elt F)),
    StableHlo.binary main_v0 main_v1 main_v2 (cmpi .slt : (⟨S1024x1, .i32⟩ : BufTy).Contents (Elt F) → (⟨S1024x1, .i32⟩ : BufTy).Contents (Elt F) → (⟨S1024x1, .i1⟩ : BufTy).Contents (Elt F)),
    StableHlo.nullary main_c_0 (constantI S_ 32 102#32),
    StableHlo.unary main_c_0 main_v3 (broadcastInDim S1024x1 ![] bcast_S_S1024x1 : (⟨S_, .i32⟩ : BufTy).Contents (Elt F) → (⟨S1024x1, .i32⟩ : BufTy).Contents (Elt F)),
    StableHlo.binary main_v0 main_v3 main_v4 (addi : (⟨S1024x1, .i32⟩ : BufTy).Contents (Elt F) → (⟨S1024x1, .i32⟩ : BufTy).Contents (Elt F) → (⟨S1024x1, .i32⟩ : BufTy).Contents (Elt F)),
    StableHlo.ternary main_v2 main_v4 main_v0 main_v5 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    StableHlo.nullary main_c_1 (constantI S_ 32 0#32),
    StableHlo.unary main_c_1 main_v6 (broadcastInDim S1024x200 ![] bcast_S_S1024x200 : (⟨S_, .i32⟩ : BufTy).Contents (Elt F) → (⟨S1024x200, .i32⟩ : BufTy).Contents (Elt F)),
    StableHlo.binary main_arg0 main_v6 main_v7 (cmpi .slt : (⟨S1024x200, .i32⟩ : BufTy).Contents (Elt F) → (⟨S1024x200, .i32⟩ : BufTy).Contents (Elt F) → (⟨S1024x200, .i1⟩ : BufTy).Contents (Elt F)),
    StableHlo.nullary main_c_2 (constantI S_ 32 512#32),
    StableHlo.unary main_c_2 main_v8 (broadcastInDim S1024x200 ![] bcast_S_S1024x200 : (⟨S_, .i32⟩ : BufTy).Contents (Elt F) → (⟨S1024x200, .i32⟩ : BufTy).Contents (Elt F)),
    StableHlo.binary main_arg0 main_v8 main_v9 (addi : (⟨S1024x200, .i32⟩ : BufTy).Contents (Elt F) → (⟨S1024x200, .i32⟩ : BufTy).Contents (Elt F) → (⟨S1024x200, .i32⟩ : BufTy).Contents (Elt F)),
    StableHlo.ternary main_v7 main_v9 main_arg0 main_v10 (select : (⟨S1024x200, .i1⟩ : BufTy).Contents (Elt F) → (⟨S1024x200, .i32⟩ : BufTy).Contents (Elt F) → (⟨S1024x200, .i32⟩ : BufTy).Contents (Elt F) → (⟨S1024x200, .i32⟩ : BufTy).Contents (Elt F)),
    StableHlo.unary main_v5 main_v11 (broadcastInDim S1024x200 ![0, 1] bcast_S1024x1_S1024x200_0_1 : (⟨S1024x1, .i32⟩ : BufTy).Contents (Elt F) → (⟨S1024x200, .i32⟩ : BufTy).Contents (Elt F)),
    StableHlo.unary main_v11 main_v12 (broadcastInDim S1024x200x1 ![0, 1] bcast_S1024x200_S1024x200x1_0_1 : (⟨S1024x200, .i32⟩ : BufTy).Contents (Elt F) → (⟨S1024x200x1, .i32⟩ : BufTy).Contents (Elt F)),
    StableHlo.unary main_v10 main_v13 (broadcastInDim S1024x200x1 ![0, 1] bcast_S1024x200_S1024x200x1_0_1 : (⟨S1024x200, .i32⟩ : BufTy).Contents (Elt F) → (⟨S1024x200x1, .i32⟩ : BufTy).Contents (Elt F)),
    StableHlo.binary main_v12 main_v13 main_v14 ((fun a b => concatenate S1024x200x2 2 [⟨S1024x200x1, a⟩, ⟨S1024x200x1, b⟩] concatenates_S1024x200x1_S1024x200x1_S1024x200x2_d2) : (⟨S1024x200x1, .i32⟩ : BufTy).Contents (Elt F) → (⟨S1024x200x1, .i32⟩ : BufTy).Contents (Elt F) → (⟨S1024x200x2, .i32⟩ : BufTy).Contents (Elt F)),
    StableHlo.binary main_arg3 main_v14 main_v15 ((fun x i => Host.gather gather_S102x512x512_S1024x200x2_S1024x200x512_2_01_n_n_01_2_11512 x i) : (⟨S102x512x512, .f32⟩ : BufTy).Contents (Elt F) → (⟨S1024x200x2, .i32⟩ : BufTy).Contents (Elt F) → (⟨S1024x200x512, .f32⟩ : BufTy).Contents (Elt F)),
    StableHlo.nullary main_c_3 (constantI S_ 32 101#32),
    StableHlo.unary main_c_3 main_v16 (broadcastInDim S1024 ![] bcast_S_S1024 : (⟨S_, .i32⟩ : BufTy).Contents (Elt F) → (⟨S1024, .i32⟩ : BufTy).Contents (Elt F)),
    StableHlo.binary main_v16 main_arg2 main_v17 (subi : (⟨S1024, .i32⟩ : BufTy).Contents (Elt F) → (⟨S1024, .i32⟩ : BufTy).Contents (Elt F) → (⟨S1024, .i32⟩ : BufTy).Contents (Elt F)),
    StableHlo.unary main_v17 main_v18 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 0#32),
    StableHlo.unary main_c_4 main_v19 (broadcastInDim S1024x1 ![] bcast_S_S1024x1 : (⟨S_, .i32⟩ : BufTy).Contents (Elt F) → (⟨S1024x1, .i32⟩ : BufTy).Contents (Elt F)),
    StableHlo.binary main_v18 main_v19 main_v20 (cmpi .slt : (⟨S1024x1, .i32⟩ : BufTy).Contents (Elt F) → (⟨S1024x1, .i32⟩ : BufTy).Contents (Elt F) → (⟨S1024x1, .i1⟩ : BufTy).Contents (Elt F)),
    StableHlo.nullary main_c_5 (constantI S_ 32 102#32),
    StableHlo.unary main_c_5 main_v21 (broadcastInDim S1024x1 ![] bcast_S_S1024x1 : (⟨S_, .i32⟩ : BufTy).Contents (Elt F) → (⟨S1024x1, .i32⟩ : BufTy).Contents (Elt F)),
    StableHlo.binary main_v18 main_v21 main_v22 (addi : (⟨S1024x1, .i32⟩ : BufTy).Contents (Elt F) → (⟨S1024x1, .i32⟩ : BufTy).Contents (Elt F) → (⟨S1024x1, .i32⟩ : BufTy).Contents (Elt F)),
    StableHlo.ternary main_v20 main_v22 main_v18 main_v23 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    StableHlo.nullary main_c_6 (constantI S_ 32 0#32),
    StableHlo.unary main_c_6 main_v24 (broadcastInDim S1024x200 ![] bcast_S_S1024x200 : (⟨S_, .i32⟩ : BufTy).Contents (Elt F) → (⟨S1024x200, .i32⟩ : BufTy).Contents (Elt F)),
    StableHlo.binary main_arg1 main_v24 main_v25 (cmpi .slt : (⟨S1024x200, .i32⟩ : BufTy).Contents (Elt F) → (⟨S1024x200, .i32⟩ : BufTy).Contents (Elt F) → (⟨S1024x200, .i1⟩ : BufTy).Contents (Elt F)),
    StableHlo.nullary main_c_7 (constantI S_ 32 512#32),
    StableHlo.unary main_c_7 main_v26 (broadcastInDim S1024x200 ![] bcast_S_S1024x200 : (⟨S_, .i32⟩ : BufTy).Contents (Elt F) → (⟨S1024x200, .i32⟩ : BufTy).Contents (Elt F)),
    StableHlo.binary main_arg1 main_v26 main_v27 (addi : (⟨S1024x200, .i32⟩ : BufTy).Contents (Elt F) → (⟨S1024x200, .i32⟩ : BufTy).Contents (Elt F) → (⟨S1024x200, .i32⟩ : BufTy).Contents (Elt F)),
    StableHlo.ternary main_v25 main_v27 main_arg1 main_v28 (select : (⟨S1024x200, .i1⟩ : BufTy).Contents (Elt F) → (⟨S1024x200, .i32⟩ : BufTy).Contents (Elt F) → (⟨S1024x200, .i32⟩ : BufTy).Contents (Elt F) → (⟨S1024x200, .i32⟩ : BufTy).Contents (Elt F)),
    StableHlo.unary main_v23 main_v29 (broadcastInDim S1024x200 ![0, 1] bcast_S1024x1_S1024x200_0_1 : (⟨S1024x1, .i32⟩ : BufTy).Contents (Elt F) → (⟨S1024x200, .i32⟩ : BufTy).Contents (Elt F)),
    StableHlo.unary main_v29 main_v30 (broadcastInDim S1024x200x1 ![0, 1] bcast_S1024x200_S1024x200x1_0_1 : (⟨S1024x200, .i32⟩ : BufTy).Contents (Elt F) → (⟨S1024x200x1, .i32⟩ : BufTy).Contents (Elt F)),
    StableHlo.unary main_v28 main_v31 (broadcastInDim S1024x200x1 ![0, 1] bcast_S1024x200_S1024x200x1_0_1 : (⟨S1024x200, .i32⟩ : BufTy).Contents (Elt F) → (⟨S1024x200x1, .i32⟩ : BufTy).Contents (Elt F)),
    StableHlo.binary main_v30 main_v31 main_v32 ((fun a b => concatenate S1024x200x2 2 [⟨S1024x200x1, a⟩, ⟨S1024x200x1, b⟩] concatenates_S1024x200x1_S1024x200x1_S1024x200x2_d2) : (⟨S1024x200x1, .i32⟩ : BufTy).Contents (Elt F) → (⟨S1024x200x1, .i32⟩ : BufTy).Contents (Elt F) → (⟨S1024x200x2, .i32⟩ : BufTy).Contents (Elt F)) ]

/-- The logarithm of the product of the two rows, less its logarithm of the sum of exponentials. -/
def logits : List (HloOp τ sig (Elt F)) :=
  [ StableHlo.binary main_arg3 main_v32 main_v33 ((fun x i => Host.gather gather_S102x512x512_S1024x200x2_S1024x200x512_2_02_n_n_02_2_15121 x i) : (⟨S102x512x512, .f32⟩ : BufTy).Contents (Elt F) → (⟨S1024x200x2, .i32⟩ : BufTy).Contents (Elt F) → (⟨S1024x200x512, .f32⟩ : BufTy).Contents (Elt F)),
    StableHlo.nullary main_cst (constant S_ .f32 0x1E3CE508#32),
    StableHlo.unary main_cst main_v34 (broadcastInDim S1024x200x512 ![] bcast_S_S1024x200x512 : (⟨S_, .f32⟩ : BufTy).Contents (Elt F) → (⟨S1024x200x512, .f32⟩ : BufTy).Contents (Elt F)),
    StableHlo.binary main_v15 main_v34 main_v35 (addf : (⟨S1024x200x512, .f32⟩ : BufTy).Contents (Elt F) → (⟨S1024x200x512, .f32⟩ : BufTy).Contents (Elt F) → (⟨S1024x200x512, .f32⟩ : BufTy).Contents (Elt F)),
    StableHlo.unary main_v35 main_v36 (Host.log : (⟨S1024x200x512, .f32⟩ : BufTy).Contents (Elt F) → (⟨S1024x200x512, .f32⟩ : BufTy).Contents (Elt F)),
    StableHlo.nullary main_cst_8 (constant S_ .f32 0x1E3CE508#32),
    StableHlo.unary main_cst_8 main_v37 (broadcastInDim S1024x200x512 ![] bcast_S_S1024x200x512 : (⟨S_, .f32⟩ : BufTy).Contents (Elt F) → (⟨S1024x200x512, .f32⟩ : BufTy).Contents (Elt F)),
    StableHlo.binary main_v33 main_v37 main_v38 (addf : (⟨S1024x200x512, .f32⟩ : BufTy).Contents (Elt F) → (⟨S1024x200x512, .f32⟩ : BufTy).Contents (Elt F) → (⟨S1024x200x512, .f32⟩ : BufTy).Contents (Elt F)),
    StableHlo.unary main_v38 main_v39 (Host.log : (⟨S1024x200x512, .f32⟩ : BufTy).Contents (Elt F) → (⟨S1024x200x512, .f32⟩ : BufTy).Contents (Elt F)),
    StableHlo.binary main_v36 main_v39 main_v40 (addf : (⟨S1024x200x512, .f32⟩ : BufTy).Contents (Elt F) → (⟨S1024x200x512, .f32⟩ : BufTy).Contents (Elt F) → (⟨S1024x200x512, .f32⟩ : BufTy).Contents (Elt F)),
    StableHlo.nullary main_cst_9 (constant S_ .f32 0xFF800000#32),
    StableHlo.binary main_v40 main_cst_9 main_v41 ((fun x v => Host.reduce FloatOps.maximumf x v reducesTo_S1024x200x512_S1024x200_d2 h_S_) : (⟨S1024x200x512, .f32⟩ : BufTy).Contents (Elt F) → (⟨S_, .f32⟩ : BufTy).Contents (Elt F) → (⟨S1024x200, .f32⟩ : BufTy).Contents (Elt F)),
    StableHlo.unary main_v41 main_v42 (broadcastInDim S1024x200x1 ![0, 1] bcast_S1024x200_S1024x200x1_0_1 : (⟨S1024x200, .f32⟩ : BufTy).Contents (Elt F) → (⟨S1024x200x1, .f32⟩ : BufTy).Contents (Elt F)),
    StableHlo.unary main_v42 main_v43 (broadcastInDim S1024x200x512 ![0, 1, 2] bcast_S1024x200x1_S1024x200x512_0_1_2 : (⟨S1024x200x1, .f32⟩ : BufTy).Contents (Elt F) → (⟨S1024x200x512, .f32⟩ : BufTy).Contents (Elt F)),
    StableHlo.binary main_v40 main_v43 main_v44 (subf : (⟨S1024x200x512, .f32⟩ : BufTy).Contents (Elt F) → (⟨S1024x200x512, .f32⟩ : BufTy).Contents (Elt F) → (⟨S1024x200x512, .f32⟩ : BufTy).Contents (Elt F)),
    StableHlo.unary main_v44 main_v45 (Host.exp : (⟨S1024x200x512, .f32⟩ : BufTy).Contents (Elt F) → (⟨S1024x200x512, .f32⟩ : BufTy).Contents (Elt F)),
    StableHlo.nullary main_cst_10 (constant S_ .f32 0x00000000#32),
    StableHlo.binary main_v45 main_cst_10 main_v46 ((fun x v => Host.reduceAdd x v reducesTo_S1024x200x512_S1024x200_d2 h_S_) : (⟨S1024x200x512, .f32⟩ : BufTy).Contents (Elt F) → (⟨S_, .f32⟩ : BufTy).Contents (Elt F) → (⟨S1024x200, .f32⟩ : BufTy).Contents (Elt F)),
    StableHlo.unary main_v46 main_v47 (broadcastInDim S1024x200x1 ![0, 1] bcast_S1024x200_S1024x200x1_0_1 : (⟨S1024x200, .f32⟩ : BufTy).Contents (Elt F) → (⟨S1024x200x1, .f32⟩ : BufTy).Contents (Elt F)),
    StableHlo.unary main_v47 main_v48 (Host.log : (⟨S1024x200x1, .f32⟩ : BufTy).Contents (Elt F) → (⟨S1024x200x1, .f32⟩ : BufTy).Contents (Elt F)),
    StableHlo.binary main_v48 main_v42 main_v49 (addf : (⟨S1024x200x1, .f32⟩ : BufTy).Contents (Elt F) → (⟨S1024x200x1, .f32⟩ : BufTy).Contents (Elt F) → (⟨S1024x200x1, .f32⟩ : BufTy).Contents (Elt F)),
    StableHlo.unary main_v49 main_v50 (broadcastInDim S1024x200x512 ![0, 1, 2] bcast_S1024x200x1_S1024x200x512_0_1_2 : (⟨S1024x200x1, .f32⟩ : BufTy).Contents (Elt F) → (⟨S1024x200x512, .f32⟩ : BufTy).Contents (Elt F)),
    StableHlo.binary main_v40 main_v50 main_v51 (subf : (⟨S1024x200x512, .f32⟩ : BufTy).Contents (Elt F) → (⟨S1024x200x512, .f32⟩ : BufTy).Contents (Elt F) → (⟨S1024x200x512, .f32⟩ : BufTy).Contents (Elt F)) ]

/-- The key and the counter of the noise. -/
def counter : List (HloOp τ sig (Elt F)) :=
  [ StableHlo.nullary main_c_11 (constantI S_ 32 1#32),
    StableHlo.nullary main_c_12 (constantI S_ 32 32#32),
    StableHlo.binary main_c_11 main_c_12 main_v52 (Host.shrui : (⟨S_, .i32⟩ : BufTy).Contents (Elt F) → (⟨S_, .i32⟩ : BufTy).Contents (Elt F) → (⟨S_, .i32⟩ : BufTy).Contents (Elt F)),
    StableHlo.unary main_v52 main_v53 (id : (⟨S_, .i32⟩ : BufTy).Contents (Elt F) → (⟨S_, .i32⟩ : BufTy).Contents (Elt F)),
    StableHlo.unary main_v53 main_v54 (broadcastInDim S1 ![] bcast_S_S1 : (⟨S_, .i32⟩ : BufTy).Contents (Elt F) → (⟨S1, .i32⟩ : BufTy).Contents (Elt F)),
    StableHlo.nullary main_c_13 (constantI S_ 32 4294967295#32),
    StableHlo.binary main_c_11 main_c_13 main_v55 (andi : (⟨S_, .i32⟩ : BufTy).Contents (Elt F) → (⟨S_, .i32⟩ : BufTy).Contents (Elt F) → (⟨S_, .i32⟩ : BufTy).Contents (Elt F)),
    StableHlo.unary main_v55 main_v56 (id : (⟨S_, .i32⟩ : BufTy).Contents (Elt F) → (⟨S_, .i32⟩ : BufTy).Contents (Elt F)),
    StableHlo.unary main_v56 main_v57 (broadcastInDim S1 ![] bcast_S_S1 : (⟨S_, .i32⟩ : BufTy).Contents (Elt F) → (⟨S1, .i32⟩ : BufTy).Contents (Elt F)),
    StableHlo.binary main_v54 main_v57 main_v58 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_14 (constant S_ .f32 0x00000000#32),
    StableHlo.nullary main_cst_15 (constant S_ .f32 0x3F800000#32),
    StableHlo.unary main_cst_14 main_call0_v0 (id : (⟨S_, .f32⟩ : BufTy).Contents (Elt F) → (⟨S_, .f32⟩ : BufTy).Contents (Elt F)),
    StableHlo.unary main_cst_15 main_call0_v1 (id : (⟨S_, .f32⟩ : BufTy).Contents (Elt F) → (⟨S_, .f32⟩ : BufTy).Contents (Elt F)),
    StableHlo.unary main_call0_v0 main_call0_v2 ((broadcastInDim S1x1x1 ![] bcast_S_S1x1x1) : (⟨S_, .f32⟩ : BufTy).Contents (Elt F) → (⟨S1x1x1, .f32⟩ : BufTy).Contents (Elt F)),
    StableHlo.unary main_call0_v1 main_call0_v3 ((broadcastInDim S1x1x1 ![] bcast_S_S1x1x1) : (⟨S_, .f32⟩ : BufTy).Contents (Elt F) → (⟨S1x1x1, .f32⟩ : BufTy).Contents (Elt F)),
    StableHlo.unary main_v58 main_call0_v4 ((extractStridedSlice S1 ![0] · slices_S2_S1_0) : (⟨S2, .i32⟩ : BufTy).Contents (Elt F) → (⟨S1, .i32⟩ : BufTy).Contents (Elt F)),
    StableHlo.reshape main_call0_v4 main_call0_v5 (rfl : (.i32 : EltTy) = .i32) shapeCasts_S1_S_,
    StableHlo.unary main_v58 main_call0_v6 ((extractStridedSlice S1 ![1] · slices_S2_S1_1) : (⟨S2, .i32⟩ : BufTy).Contents (Elt F) → (⟨S1, .i32⟩ : BufTy).Contents (Elt F)),
    StableHlo.reshape main_call0_v6 main_call0_v7 (rfl : (.i32 : EltTy) = .i32) shapeCasts_S1_S_,
    StableHlo.nullary main_call0_v8 (iotaInDim S1024x200x512 64 0),
    StableHlo.nullary main_call0_v9 (iotaInDim S1024x200x512 64 1),
    StableHlo.nullary main_call0_v10 (iotaInDim S1024x200x512 64 2),
    StableHlo.nullary main_call0_c (constantI S_ 64 102400#64),
    StableHlo.unary main_call0_c main_call0_v11 ((broadcastInDim S1024x200x512 ![] bcast_S_S1024x200x512) : (⟨S_, .i64⟩ : BufTy).Contents (Elt F) → (⟨S1024x200x512, .i64⟩ : BufTy).Contents (Elt F)),
    StableHlo.binary main_call0_v11 main_call0_v8 main_call0_v12 (muli : (⟨S1024x200x512, .i64⟩ : BufTy).Contents (Elt F) → (⟨S1024x200x512, .i64⟩ : BufTy).Contents (Elt F) → (⟨S1024x200x512, .i64⟩ : BufTy).Contents (Elt F)),
    StableHlo.nullary main_call0_c_0 (constantI S_ 64 512#64),
    StableHlo.unary main_call0_c_0 main_call0_v13 ((broadcastInDim S1024x200x512 ![] bcast_S_S1024x200x512) : (⟨S_, .i64⟩ : BufTy).Contents (Elt F) → (⟨S1024x200x512, .i64⟩ : BufTy).Contents (Elt F)),
    StableHlo.binary main_call0_v13 main_call0_v9 main_call0_v14 (muli : (⟨S1024x200x512, .i64⟩ : BufTy).Contents (Elt F) → (⟨S1024x200x512, .i64⟩ : BufTy).Contents (Elt F) → (⟨S1024x200x512, .i64⟩ : BufTy).Contents (Elt F)),
    StableHlo.nullary main_call0_c_1 (constantI S_ 64 1#64),
    StableHlo.unary main_call0_c_1 main_call0_v15 ((broadcastInDim S1024x200x512 ![] bcast_S_S1024x200x512) : (⟨S_, .i64⟩ : BufTy).Contents (Elt F) → (⟨S1024x200x512, .i64⟩ : BufTy).Contents (Elt F)),
    StableHlo.binary main_call0_v15 main_call0_v10 main_call0_v16 (muli : (⟨S1024x200x512, .i64⟩ : BufTy).Contents (Elt F) → (⟨S1024x200x512, .i64⟩ : BufTy).Contents (Elt F) → (⟨S1024x200x512, .i64⟩ : BufTy).Contents (Elt F)),
    StableHlo.binary main_call0_v12 main_call0_v14 main_call0_v17 (addi : (⟨S1024x200x512, .i64⟩ : BufTy).Contents (Elt F) → (⟨S1024x200x512, .i64⟩ : BufTy).Contents (Elt F) → (⟨S1024x200x512, .i64⟩ : BufTy).Contents (Elt F)),
    StableHlo.binary main_call0_v17 main_call0_v16 main_call0_v18 (addi : (⟨S1024x200x512, .i64⟩ : BufTy).Contents (Elt F) → (⟨S1024x200x512, .i64⟩ : BufTy).Contents (Elt F) → (⟨S1024x200x512, .i64⟩ : BufTy).Contents (Elt F)),
    StableHlo.nullary main_call0_c_2 (constantI S_ 64 32#64),
    StableHlo.unary main_call0_c_2 main_call0_v19 ((broadcastInDim S1024x200x512 ![] bcast_S_S1024x200x512) : (⟨S_, .i64⟩ : BufTy).Contents (Elt F) → (⟨S1024x200x512, .i64⟩ : BufTy).Contents (Elt F)),
    StableHlo.binary main_call0_v18 main_call0_v19 main_call0_v20 (Host.shrui : (⟨S1024x200x512, .i64⟩ : BufTy).Contents (Elt F) → (⟨S1024x200x512, .i64⟩ : BufTy).Contents (Elt F) → (⟨S1024x200x512, .i64⟩ : BufTy).Contents (Elt F)),
    StableHlo.unary main_call0_v18 main_call0_v21 ((trunci 32 · natLt_32_64) : (⟨S1024x200x512, .i64⟩ : BufTy).Contents (Elt F) → (⟨S1024x200x512, .i32⟩ : BufTy).Contents (Elt F)),
    StableHlo.unary main_call0_v20 main_call0_v22 ((trunci 32 · natLt_32_64) : (⟨S1024x200x512, .i64⟩ : BufTy).Contents (Elt F) → (⟨S1024x200x512, .i32⟩ : BufTy).Contents (Elt F)) ]

/-- The first key injection. -/
def mix0 : List (HloOp τ sig (Elt F)) :=
  [ StableHlo.binary main_call0_v5 main_call0_v7 main_call0_call0_v0 (xori : (⟨S_, .i32⟩ : BufTy).Contents (Elt F) → (⟨S_, .i32⟩ : BufTy).Contents (Elt F) → (⟨S_, .i32⟩ : BufTy).Contents (Elt F)),
    StableHlo.nullary main_call0_call0_c (constantI S_ 32 466688986#32),
    StableHlo.binary main_call0_call0_v0 main_call0_call0_c main_call0_call0_v1 (xori : (⟨S_, .i32⟩ : BufTy).Contents (Elt F) → (⟨S_, .i32⟩ : BufTy).Contents (Elt F) → (⟨S_, .i32⟩ : BufTy).Contents (Elt F)),
    StableHlo.unary main_call0_v5 main_call0_call0_v2 ((broadcastInDim S1024x200x512 ![] bcast_S_S1024x200x512) : (⟨S_, .i32⟩ : BufTy).Contents (Elt F) → (⟨S1024x200x512, .i32⟩ : BufTy).Contents (Elt F)),
    StableHlo.binary main_call0_v22 main_call0_call0_v2 main_call0_call0_v3 (addi : (⟨S1024x200x512, .i32⟩ : BufTy).Contents (Elt F) → (⟨S1024x200x512, .i32⟩ : BufTy).Contents (Elt F) → (⟨S1024x200x512, .i32⟩ : BufTy).Contents (Elt F)),
    StableHlo.unary main_call0_v7 main_call0_call0_v4 ((broadcastInDim S1024x200x512 ![] bcast_S_S1024x200x512) : (⟨S_, .i32⟩ : BufTy).Contents (Elt F) → (⟨S1024x200x512, .i32⟩ : BufTy).Contents (Elt F)),
    StableHlo.binary main_call0_v21 main_call0_call0_v4 main_call0_call0_v5 (addi : (⟨S1024x200x512, .i32⟩ : BufTy).Contents (Elt F) → (⟨S1024x200x512, .i32⟩ : BufTy).Contents (Elt F) → (⟨S1024x200x512, .i32⟩ : BufTy).Contents (Elt F)) ]

/-- Four rotations and a key injection. -/
def mix1 : List (HloOp τ sig (Elt F)) :=
  [ StableHlo.binary main_call0_call0_v3 main_call0_call0_v5 main_call0_call0_v6 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_0 (constantI S_ 32 13#32),
    StableHlo.unary main_call0_call0_c_0 main_call0_call0_v7 ((broadcastInDim S1024x200x512 ![] bcast_S_S1024x200x512) : (⟨S_, .i32⟩ : BufTy).Contents (Elt F) → (⟨S1024x200x512, .i32⟩ : BufTy).Contents (Elt F)),
    StableHlo.binary main_call0_call0_v5 main_call0_call0_v7 main_call0_call0_v8 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_1 (constantI S_ 32 19#32),
    StableHlo.unary main_call0_call0_c_1 main_call0_call0_v9 ((broadcastInDim S1024x200x512 ![] bcast_S_S1024x200x512) : (⟨S_, .i32⟩ : BufTy).Contents (Elt F) → (⟨S1024x200x512, .i32⟩ : BufTy).Contents (Elt F)),
    StableHlo.binary main_call0_call0_v5 main_call0_call0_v9 main_call0_call0_v10 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v8 main_call0_call0_v10 main_call0_call0_v11 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v6 main_call0_call0_v11 main_call0_call0_v12 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v6 main_call0_call0_v12 main_call0_call0_v13 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_2 (constantI S_ 32 15#32),
    StableHlo.unary main_call0_call0_c_2 main_call0_call0_v14 ((broadcastInDim S1024x200x512 ![] bcast_S_S1024x200x512) : (⟨S_, .i32⟩ : BufTy).Contents (Elt F) → (⟨S1024x200x512, .i32⟩ : BufTy).Contents (Elt F)),
    StableHlo.binary main_call0_call0_v12 main_call0_call0_v14 main_call0_call0_v15 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_3 (constantI S_ 32 17#32),
    StableHlo.unary main_call0_call0_c_3 main_call0_call0_v16 ((broadcastInDim S1024x200x512 ![] bcast_S_S1024x200x512) : (⟨S_, .i32⟩ : BufTy).Contents (Elt F) → (⟨S1024x200x512, .i32⟩ : BufTy).Contents (Elt F)),
    StableHlo.binary main_call0_call0_v12 main_call0_call0_v16 main_call0_call0_v17 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v15 main_call0_call0_v17 main_call0_call0_v18 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v13 main_call0_call0_v18 main_call0_call0_v19 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v13 main_call0_call0_v19 main_call0_call0_v20 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_4 (constantI S_ 32 26#32),
    StableHlo.unary main_call0_call0_c_4 main_call0_call0_v21 ((broadcastInDim S1024x200x512 ![] bcast_S_S1024x200x512) : (⟨S_, .i32⟩ : BufTy).Contents (Elt F) → (⟨S1024x200x512, .i32⟩ : BufTy).Contents (Elt F)),
    StableHlo.binary main_call0_call0_v19 main_call0_call0_v21 main_call0_call0_v22 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_5 (constantI S_ 32 6#32),
    StableHlo.unary main_call0_call0_c_5 main_call0_call0_v23 ((broadcastInDim S1024x200x512 ![] bcast_S_S1024x200x512) : (⟨S_, .i32⟩ : BufTy).Contents (Elt F) → (⟨S1024x200x512, .i32⟩ : BufTy).Contents (Elt F)),
    StableHlo.binary main_call0_call0_v19 main_call0_call0_v23 main_call0_call0_v24 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v22 main_call0_call0_v24 main_call0_call0_v25 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v20 main_call0_call0_v25 main_call0_call0_v26 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v20 main_call0_call0_v26 main_call0_call0_v27 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_6 (constantI S_ 32 6#32),
    StableHlo.unary main_call0_call0_c_6 main_call0_call0_v28 ((broadcastInDim S1024x200x512 ![] bcast_S_S1024x200x512) : (⟨S_, .i32⟩ : BufTy).Contents (Elt F) → (⟨S1024x200x512, .i32⟩ : BufTy).Contents (Elt F)),
    StableHlo.binary main_call0_call0_v26 main_call0_call0_v28 main_call0_call0_v29 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_7 (constantI S_ 32 26#32),
    StableHlo.unary main_call0_call0_c_7 main_call0_call0_v30 ((broadcastInDim S1024x200x512 ![] bcast_S_S1024x200x512) : (⟨S_, .i32⟩ : BufTy).Contents (Elt F) → (⟨S1024x200x512, .i32⟩ : BufTy).Contents (Elt F)),
    StableHlo.binary main_call0_call0_v26 main_call0_call0_v30 main_call0_call0_v31 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v29 main_call0_call0_v31 main_call0_call0_v32 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v27 main_call0_call0_v32 main_call0_call0_v33 (xori : (⟨S1024x200x512, .i32⟩ : BufTy).Contents (Elt F) → (⟨S1024x200x512, .i32⟩ : BufTy).Contents (Elt F) → (⟨S1024x200x512, .i32⟩ : BufTy).Contents (Elt F)),
    StableHlo.unary main_call0_v7 main_call0_call0_v34 ((broadcastInDim S1024x200x512 ![] bcast_S_S1024x200x512) : (⟨S_, .i32⟩ : BufTy).Contents (Elt F) → (⟨S1024x200x512, .i32⟩ : BufTy).Contents (Elt F)),
    StableHlo.binary main_call0_call0_v27 main_call0_call0_v34 main_call0_call0_v35 (addi : (⟨S1024x200x512, .i32⟩ : BufTy).Contents (Elt F) → (⟨S1024x200x512, .i32⟩ : BufTy).Contents (Elt F) → (⟨S1024x200x512, .i32⟩ : BufTy).Contents (Elt F)),
    StableHlo.unary main_call0_call0_v1 main_call0_call0_v36 ((broadcastInDim S1024x200x512 ![] bcast_S_S1024x200x512) : (⟨S_, .i32⟩ : BufTy).Contents (Elt F) → (⟨S1024x200x512, .i32⟩ : BufTy).Contents (Elt F)),
    StableHlo.binary main_call0_call0_v33 main_call0_call0_v36 main_call0_call0_v37 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_8 (constantI S_ 32 1#32),
    StableHlo.unary main_call0_call0_c_8 main_call0_call0_v38 ((broadcastInDim S1024x200x512 ![] bcast_S_S1024x200x512) : (⟨S_, .i32⟩ : BufTy).Contents (Elt F) → (⟨S1024x200x512, .i32⟩ : BufTy).Contents (Elt F)),
    StableHlo.binary main_call0_call0_v37 main_call0_call0_v38 main_call0_call0_v39 (addi : (⟨S1024x200x512, .i32⟩ : BufTy).Contents (Elt F) → (⟨S1024x200x512, .i32⟩ : BufTy).Contents (Elt F) → (⟨S1024x200x512, .i32⟩ : BufTy).Contents (Elt F)) ]

/-- Four rotations and a key injection. -/
def mix2 : List (HloOp τ sig (Elt F)) :=
  [ StableHlo.binary main_call0_call0_v35 main_call0_call0_v39 main_call0_call0_v40 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_9 (constantI S_ 32 17#32),
    StableHlo.unary main_call0_call0_c_9 main_call0_call0_v41 ((broadcastInDim S1024x200x512 ![] bcast_S_S1024x200x512) : (⟨S_, .i32⟩ : BufTy).Contents (Elt F) → (⟨S1024x200x512, .i32⟩ : BufTy).Contents (Elt F)),
    StableHlo.binary main_call0_call0_v39 main_call0_call0_v41 main_call0_call0_v42 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_10 (constantI S_ 32 15#32),
    StableHlo.unary main_call0_call0_c_10 main_call0_call0_v43 ((broadcastInDim S1024x200x512 ![] bcast_S_S1024x200x512) : (⟨S_, .i32⟩ : BufTy).Contents (Elt F) → (⟨S1024x200x512, .i32⟩ : BufTy).Contents (Elt F)),
    StableHlo.binary main_call0_call0_v39 main_call0_call0_v43 main_call0_call0_v44 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v42 main_call0_call0_v44 main_call0_call0_v45 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v40 main_call0_call0_v45 main_call0_call0_v46 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v40 main_call0_call0_v46 main_call0_call0_v47 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_11 (constantI S_ 32 29#32),
    StableHlo.unary main_call0_call0_c_11 main_call0_call0_v48 ((broadcastInDim S1024x200x512 ![] bcast_S_S1024x200x512) : (⟨S_, .i32⟩ : BufTy).Contents (Elt F) → (⟨S1024x200x512, .i32⟩ : BufTy).Contents (Elt F)),
    StableHlo.binary main_call0_call0_v46 main_call0_call0_v48 main_call0_call0_v49 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_12 (constantI S_ 32 3#32),
    StableHlo.unary main_call0_call0_c_12 main_call0_call0_v50 ((broadcastInDim S1024x200x512 ![] bcast_S_S1024x200x512) : (⟨S_, .i32⟩ : BufTy).Contents (Elt F) → (⟨S1024x200x512, .i32⟩ : BufTy).Contents (Elt F)),
    StableHlo.binary main_call0_call0_v46 main_call0_call0_v50 main_call0_call0_v51 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v49 main_call0_call0_v51 main_call0_call0_v52 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v47 main_call0_call0_v52 main_call0_call0_v53 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v47 main_call0_call0_v53 main_call0_call0_v54 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_13 (constantI S_ 32 16#32),
    StableHlo.unary main_call0_call0_c_13 main_call0_call0_v55 ((broadcastInDim S1024x200x512 ![] bcast_S_S1024x200x512) : (⟨S_, .i32⟩ : BufTy).Contents (Elt F) → (⟨S1024x200x512, .i32⟩ : BufTy).Contents (Elt F)),
    StableHlo.binary main_call0_call0_v53 main_call0_call0_v55 main_call0_call0_v56 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_14 (constantI S_ 32 16#32),
    StableHlo.unary main_call0_call0_c_14 main_call0_call0_v57 ((broadcastInDim S1024x200x512 ![] bcast_S_S1024x200x512) : (⟨S_, .i32⟩ : BufTy).Contents (Elt F) → (⟨S1024x200x512, .i32⟩ : BufTy).Contents (Elt F)),
    StableHlo.binary main_call0_call0_v53 main_call0_call0_v57 main_call0_call0_v58 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v56 main_call0_call0_v58 main_call0_call0_v59 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v54 main_call0_call0_v59 main_call0_call0_v60 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v54 main_call0_call0_v60 main_call0_call0_v61 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_15 (constantI S_ 32 24#32),
    StableHlo.unary main_call0_call0_c_15 main_call0_call0_v62 ((broadcastInDim S1024x200x512 ![] bcast_S_S1024x200x512) : (⟨S_, .i32⟩ : BufTy).Contents (Elt F) → (⟨S1024x200x512, .i32⟩ : BufTy).Contents (Elt F)),
    StableHlo.binary main_call0_call0_v60 main_call0_call0_v62 main_call0_call0_v63 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_16 (constantI S_ 32 8#32),
    StableHlo.unary main_call0_call0_c_16 main_call0_call0_v64 ((broadcastInDim S1024x200x512 ![] bcast_S_S1024x200x512) : (⟨S_, .i32⟩ : BufTy).Contents (Elt F) → (⟨S1024x200x512, .i32⟩ : BufTy).Contents (Elt F)),
    StableHlo.binary main_call0_call0_v60 main_call0_call0_v64 main_call0_call0_v65 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v63 main_call0_call0_v65 main_call0_call0_v66 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v61 main_call0_call0_v66 main_call0_call0_v67 (xori : (⟨S1024x200x512, .i32⟩ : BufTy).Contents (Elt F) → (⟨S1024x200x512, .i32⟩ : BufTy).Contents (Elt F) → (⟨S1024x200x512, .i32⟩ : BufTy).Contents (Elt F)),
    StableHlo.unary main_call0_call0_v1 main_call0_call0_v68 ((broadcastInDim S1024x200x512 ![] bcast_S_S1024x200x512) : (⟨S_, .i32⟩ : BufTy).Contents (Elt F) → (⟨S1024x200x512, .i32⟩ : BufTy).Contents (Elt F)),
    StableHlo.binary main_call0_call0_v61 main_call0_call0_v68 main_call0_call0_v69 (addi : (⟨S1024x200x512, .i32⟩ : BufTy).Contents (Elt F) → (⟨S1024x200x512, .i32⟩ : BufTy).Contents (Elt F) → (⟨S1024x200x512, .i32⟩ : BufTy).Contents (Elt F)),
    StableHlo.unary main_call0_v5 main_call0_call0_v70 ((broadcastInDim S1024x200x512 ![] bcast_S_S1024x200x512) : (⟨S_, .i32⟩ : BufTy).Contents (Elt F) → (⟨S1024x200x512, .i32⟩ : BufTy).Contents (Elt F)),
    StableHlo.binary main_call0_call0_v67 main_call0_call0_v70 main_call0_call0_v71 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_17 (constantI S_ 32 2#32),
    StableHlo.unary main_call0_call0_c_17 main_call0_call0_v72 ((broadcastInDim S1024x200x512 ![] bcast_S_S1024x200x512) : (⟨S_, .i32⟩ : BufTy).Contents (Elt F) → (⟨S1024x200x512, .i32⟩ : BufTy).Contents (Elt F)),
    StableHlo.binary main_call0_call0_v71 main_call0_call0_v72 main_call0_call0_v73 (addi : (⟨S1024x200x512, .i32⟩ : BufTy).Contents (Elt F) → (⟨S1024x200x512, .i32⟩ : BufTy).Contents (Elt F) → (⟨S1024x200x512, .i32⟩ : BufTy).Contents (Elt F)) ]

/-- Four rotations and a key injection. -/
def mix3 : List (HloOp τ sig (Elt F)) :=
  [ StableHlo.binary main_call0_call0_v69 main_call0_call0_v73 main_call0_call0_v74 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_18 (constantI S_ 32 13#32),
    StableHlo.unary main_call0_call0_c_18 main_call0_call0_v75 ((broadcastInDim S1024x200x512 ![] bcast_S_S1024x200x512) : (⟨S_, .i32⟩ : BufTy).Contents (Elt F) → (⟨S1024x200x512, .i32⟩ : BufTy).Contents (Elt F)),
    StableHlo.binary main_call0_call0_v73 main_call0_call0_v75 main_call0_call0_v76 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_19 (constantI S_ 32 19#32),
    StableHlo.unary main_call0_call0_c_19 main_call0_call0_v77 ((broadcastInDim S1024x200x512 ![] bcast_S_S1024x200x512) : (⟨S_, .i32⟩ : BufTy).Contents (Elt F) → (⟨S1024x200x512, .i32⟩ : BufTy).Contents (Elt F)),
    StableHlo.binary main_call0_call0_v73 main_call0_call0_v77 main_call0_call0_v78 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v76 main_call0_call0_v78 main_call0_call0_v79 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v74 main_call0_call0_v79 main_call0_call0_v80 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v74 main_call0_call0_v80 main_call0_call0_v81 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_20 (constantI S_ 32 15#32),
    StableHlo.unary main_call0_call0_c_20 main_call0_call0_v82 ((broadcastInDim S1024x200x512 ![] bcast_S_S1024x200x512) : (⟨S_, .i32⟩ : BufTy).Contents (Elt F) → (⟨S1024x200x512, .i32⟩ : BufTy).Contents (Elt F)),
    StableHlo.binary main_call0_call0_v80 main_call0_call0_v82 main_call0_call0_v83 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_21 (constantI S_ 32 17#32),
    StableHlo.unary main_call0_call0_c_21 main_call0_call0_v84 ((broadcastInDim S1024x200x512 ![] bcast_S_S1024x200x512) : (⟨S_, .i32⟩ : BufTy).Contents (Elt F) → (⟨S1024x200x512, .i32⟩ : BufTy).Contents (Elt F)),
    StableHlo.binary main_call0_call0_v80 main_call0_call0_v84 main_call0_call0_v85 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v83 main_call0_call0_v85 main_call0_call0_v86 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v81 main_call0_call0_v86 main_call0_call0_v87 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v81 main_call0_call0_v87 main_call0_call0_v88 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_22 (constantI S_ 32 26#32),
    StableHlo.unary main_call0_call0_c_22 main_call0_call0_v89 ((broadcastInDim S1024x200x512 ![] bcast_S_S1024x200x512) : (⟨S_, .i32⟩ : BufTy).Contents (Elt F) → (⟨S1024x200x512, .i32⟩ : BufTy).Contents (Elt F)),
    StableHlo.binary main_call0_call0_v87 main_call0_call0_v89 main_call0_call0_v90 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_23 (constantI S_ 32 6#32),
    StableHlo.unary main_call0_call0_c_23 main_call0_call0_v91 ((broadcastInDim S1024x200x512 ![] bcast_S_S1024x200x512) : (⟨S_, .i32⟩ : BufTy).Contents (Elt F) → (⟨S1024x200x512, .i32⟩ : BufTy).Contents (Elt F)),
    StableHlo.binary main_call0_call0_v87 main_call0_call0_v91 main_call0_call0_v92 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v90 main_call0_call0_v92 main_call0_call0_v93 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v88 main_call0_call0_v93 main_call0_call0_v94 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v88 main_call0_call0_v94 main_call0_call0_v95 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_24 (constantI S_ 32 6#32),
    StableHlo.unary main_call0_call0_c_24 main_call0_call0_v96 ((broadcastInDim S1024x200x512 ![] bcast_S_S1024x200x512) : (⟨S_, .i32⟩ : BufTy).Contents (Elt F) → (⟨S1024x200x512, .i32⟩ : BufTy).Contents (Elt F)),
    StableHlo.binary main_call0_call0_v94 main_call0_call0_v96 main_call0_call0_v97 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_25 (constantI S_ 32 26#32),
    StableHlo.unary main_call0_call0_c_25 main_call0_call0_v98 ((broadcastInDim S1024x200x512 ![] bcast_S_S1024x200x512) : (⟨S_, .i32⟩ : BufTy).Contents (Elt F) → (⟨S1024x200x512, .i32⟩ : BufTy).Contents (Elt F)),
    StableHlo.binary main_call0_call0_v94 main_call0_call0_v98 main_call0_call0_v99 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v97 main_call0_call0_v99 main_call0_call0_v100 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v95 main_call0_call0_v100 main_call0_call0_v101 (xori : (⟨S1024x200x512, .i32⟩ : BufTy).Contents (Elt F) → (⟨S1024x200x512, .i32⟩ : BufTy).Contents (Elt F) → (⟨S1024x200x512, .i32⟩ : BufTy).Contents (Elt F)),
    StableHlo.unary main_call0_v5 main_call0_call0_v102 ((broadcastInDim S1024x200x512 ![] bcast_S_S1024x200x512) : (⟨S_, .i32⟩ : BufTy).Contents (Elt F) → (⟨S1024x200x512, .i32⟩ : BufTy).Contents (Elt F)),
    StableHlo.binary main_call0_call0_v95 main_call0_call0_v102 main_call0_call0_v103 (addi : (⟨S1024x200x512, .i32⟩ : BufTy).Contents (Elt F) → (⟨S1024x200x512, .i32⟩ : BufTy).Contents (Elt F) → (⟨S1024x200x512, .i32⟩ : BufTy).Contents (Elt F)),
    StableHlo.unary main_call0_v7 main_call0_call0_v104 ((broadcastInDim S1024x200x512 ![] bcast_S_S1024x200x512) : (⟨S_, .i32⟩ : BufTy).Contents (Elt F) → (⟨S1024x200x512, .i32⟩ : BufTy).Contents (Elt F)),
    StableHlo.binary main_call0_call0_v101 main_call0_call0_v104 main_call0_call0_v105 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_26 (constantI S_ 32 3#32),
    StableHlo.unary main_call0_call0_c_26 main_call0_call0_v106 ((broadcastInDim S1024x200x512 ![] bcast_S_S1024x200x512) : (⟨S_, .i32⟩ : BufTy).Contents (Elt F) → (⟨S1024x200x512, .i32⟩ : BufTy).Contents (Elt F)),
    StableHlo.binary main_call0_call0_v105 main_call0_call0_v106 main_call0_call0_v107 (addi : (⟨S1024x200x512, .i32⟩ : BufTy).Contents (Elt F) → (⟨S1024x200x512, .i32⟩ : BufTy).Contents (Elt F) → (⟨S1024x200x512, .i32⟩ : BufTy).Contents (Elt F)) ]

/-- Four rotations and a key injection. -/
def mix4 : List (HloOp τ sig (Elt F)) :=
  [ StableHlo.binary main_call0_call0_v103 main_call0_call0_v107 main_call0_call0_v108 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_27 (constantI S_ 32 17#32),
    StableHlo.unary main_call0_call0_c_27 main_call0_call0_v109 ((broadcastInDim S1024x200x512 ![] bcast_S_S1024x200x512) : (⟨S_, .i32⟩ : BufTy).Contents (Elt F) → (⟨S1024x200x512, .i32⟩ : BufTy).Contents (Elt F)),
    StableHlo.binary main_call0_call0_v107 main_call0_call0_v109 main_call0_call0_v110 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_28 (constantI S_ 32 15#32),
    StableHlo.unary main_call0_call0_c_28 main_call0_call0_v111 ((broadcastInDim S1024x200x512 ![] bcast_S_S1024x200x512) : (⟨S_, .i32⟩ : BufTy).Contents (Elt F) → (⟨S1024x200x512, .i32⟩ : BufTy).Contents (Elt F)),
    StableHlo.binary main_call0_call0_v107 main_call0_call0_v111 main_call0_call0_v112 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v110 main_call0_call0_v112 main_call0_call0_v113 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v108 main_call0_call0_v113 main_call0_call0_v114 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v108 main_call0_call0_v114 main_call0_call0_v115 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_29 (constantI S_ 32 29#32),
    StableHlo.unary main_call0_call0_c_29 main_call0_call0_v116 ((broadcastInDim S1024x200x512 ![] bcast_S_S1024x200x512) : (⟨S_, .i32⟩ : BufTy).Contents (Elt F) → (⟨S1024x200x512, .i32⟩ : BufTy).Contents (Elt F)),
    StableHlo.binary main_call0_call0_v114 main_call0_call0_v116 main_call0_call0_v117 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_30 (constantI S_ 32 3#32),
    StableHlo.unary main_call0_call0_c_30 main_call0_call0_v118 ((broadcastInDim S1024x200x512 ![] bcast_S_S1024x200x512) : (⟨S_, .i32⟩ : BufTy).Contents (Elt F) → (⟨S1024x200x512, .i32⟩ : BufTy).Contents (Elt F)),
    StableHlo.binary main_call0_call0_v114 main_call0_call0_v118 main_call0_call0_v119 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v117 main_call0_call0_v119 main_call0_call0_v120 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v115 main_call0_call0_v120 main_call0_call0_v121 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v115 main_call0_call0_v121 main_call0_call0_v122 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_31 (constantI S_ 32 16#32),
    StableHlo.unary main_call0_call0_c_31 main_call0_call0_v123 ((broadcastInDim S1024x200x512 ![] bcast_S_S1024x200x512) : (⟨S_, .i32⟩ : BufTy).Contents (Elt F) → (⟨S1024x200x512, .i32⟩ : BufTy).Contents (Elt F)),
    StableHlo.binary main_call0_call0_v121 main_call0_call0_v123 main_call0_call0_v124 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_32 (constantI S_ 32 16#32),
    StableHlo.unary main_call0_call0_c_32 main_call0_call0_v125 ((broadcastInDim S1024x200x512 ![] bcast_S_S1024x200x512) : (⟨S_, .i32⟩ : BufTy).Contents (Elt F) → (⟨S1024x200x512, .i32⟩ : BufTy).Contents (Elt F)),
    StableHlo.binary main_call0_call0_v121 main_call0_call0_v125 main_call0_call0_v126 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v124 main_call0_call0_v126 main_call0_call0_v127 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v122 main_call0_call0_v127 main_call0_call0_v128 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v122 main_call0_call0_v128 main_call0_call0_v129 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_33 (constantI S_ 32 24#32),
    StableHlo.unary main_call0_call0_c_33 main_call0_call0_v130 ((broadcastInDim S1024x200x512 ![] bcast_S_S1024x200x512) : (⟨S_, .i32⟩ : BufTy).Contents (Elt F) → (⟨S1024x200x512, .i32⟩ : BufTy).Contents (Elt F)),
    StableHlo.binary main_call0_call0_v128 main_call0_call0_v130 main_call0_call0_v131 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_34 (constantI S_ 32 8#32),
    StableHlo.unary main_call0_call0_c_34 main_call0_call0_v132 ((broadcastInDim S1024x200x512 ![] bcast_S_S1024x200x512) : (⟨S_, .i32⟩ : BufTy).Contents (Elt F) → (⟨S1024x200x512, .i32⟩ : BufTy).Contents (Elt F)),
    StableHlo.binary main_call0_call0_v128 main_call0_call0_v132 main_call0_call0_v133 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v131 main_call0_call0_v133 main_call0_call0_v134 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v129 main_call0_call0_v134 main_call0_call0_v135 (xori : (⟨S1024x200x512, .i32⟩ : BufTy).Contents (Elt F) → (⟨S1024x200x512, .i32⟩ : BufTy).Contents (Elt F) → (⟨S1024x200x512, .i32⟩ : BufTy).Contents (Elt F)),
    StableHlo.unary main_call0_v7 main_call0_call0_v136 ((broadcastInDim S1024x200x512 ![] bcast_S_S1024x200x512) : (⟨S_, .i32⟩ : BufTy).Contents (Elt F) → (⟨S1024x200x512, .i32⟩ : BufTy).Contents (Elt F)),
    StableHlo.binary main_call0_call0_v129 main_call0_call0_v136 main_call0_call0_v137 (addi : (⟨S1024x200x512, .i32⟩ : BufTy).Contents (Elt F) → (⟨S1024x200x512, .i32⟩ : BufTy).Contents (Elt F) → (⟨S1024x200x512, .i32⟩ : BufTy).Contents (Elt F)),
    StableHlo.unary main_call0_call0_v1 main_call0_call0_v138 ((broadcastInDim S1024x200x512 ![] bcast_S_S1024x200x512) : (⟨S_, .i32⟩ : BufTy).Contents (Elt F) → (⟨S1024x200x512, .i32⟩ : BufTy).Contents (Elt F)),
    StableHlo.binary main_call0_call0_v135 main_call0_call0_v138 main_call0_call0_v139 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_35 (constantI S_ 32 4#32),
    StableHlo.unary main_call0_call0_c_35 main_call0_call0_v140 ((broadcastInDim S1024x200x512 ![] bcast_S_S1024x200x512) : (⟨S_, .i32⟩ : BufTy).Contents (Elt F) → (⟨S1024x200x512, .i32⟩ : BufTy).Contents (Elt F)),
    StableHlo.binary main_call0_call0_v139 main_call0_call0_v140 main_call0_call0_v141 (addi : (⟨S1024x200x512, .i32⟩ : BufTy).Contents (Elt F) → (⟨S1024x200x512, .i32⟩ : BufTy).Contents (Elt F) → (⟨S1024x200x512, .i32⟩ : BufTy).Contents (Elt F)) ]

/-- Four rotations and a key injection. -/
def mix5 : List (HloOp τ sig (Elt F)) :=
  [ StableHlo.binary main_call0_call0_v137 main_call0_call0_v141 main_call0_call0_v142 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_36 (constantI S_ 32 13#32),
    StableHlo.unary main_call0_call0_c_36 main_call0_call0_v143 ((broadcastInDim S1024x200x512 ![] bcast_S_S1024x200x512) : (⟨S_, .i32⟩ : BufTy).Contents (Elt F) → (⟨S1024x200x512, .i32⟩ : BufTy).Contents (Elt F)),
    StableHlo.binary main_call0_call0_v141 main_call0_call0_v143 main_call0_call0_v144 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_37 (constantI S_ 32 19#32),
    StableHlo.unary main_call0_call0_c_37 main_call0_call0_v145 ((broadcastInDim S1024x200x512 ![] bcast_S_S1024x200x512) : (⟨S_, .i32⟩ : BufTy).Contents (Elt F) → (⟨S1024x200x512, .i32⟩ : BufTy).Contents (Elt F)),
    StableHlo.binary main_call0_call0_v141 main_call0_call0_v145 main_call0_call0_v146 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v144 main_call0_call0_v146 main_call0_call0_v147 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v142 main_call0_call0_v147 main_call0_call0_v148 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v142 main_call0_call0_v148 main_call0_call0_v149 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_38 (constantI S_ 32 15#32),
    StableHlo.unary main_call0_call0_c_38 main_call0_call0_v150 ((broadcastInDim S1024x200x512 ![] bcast_S_S1024x200x512) : (⟨S_, .i32⟩ : BufTy).Contents (Elt F) → (⟨S1024x200x512, .i32⟩ : BufTy).Contents (Elt F)),
    StableHlo.binary main_call0_call0_v148 main_call0_call0_v150 main_call0_call0_v151 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_39 (constantI S_ 32 17#32),
    StableHlo.unary main_call0_call0_c_39 main_call0_call0_v152 ((broadcastInDim S1024x200x512 ![] bcast_S_S1024x200x512) : (⟨S_, .i32⟩ : BufTy).Contents (Elt F) → (⟨S1024x200x512, .i32⟩ : BufTy).Contents (Elt F)),
    StableHlo.binary main_call0_call0_v148 main_call0_call0_v152 main_call0_call0_v153 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v151 main_call0_call0_v153 main_call0_call0_v154 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v149 main_call0_call0_v154 main_call0_call0_v155 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v149 main_call0_call0_v155 main_call0_call0_v156 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_40 (constantI S_ 32 26#32),
    StableHlo.unary main_call0_call0_c_40 main_call0_call0_v157 ((broadcastInDim S1024x200x512 ![] bcast_S_S1024x200x512) : (⟨S_, .i32⟩ : BufTy).Contents (Elt F) → (⟨S1024x200x512, .i32⟩ : BufTy).Contents (Elt F)),
    StableHlo.binary main_call0_call0_v155 main_call0_call0_v157 main_call0_call0_v158 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_41 (constantI S_ 32 6#32),
    StableHlo.unary main_call0_call0_c_41 main_call0_call0_v159 ((broadcastInDim S1024x200x512 ![] bcast_S_S1024x200x512) : (⟨S_, .i32⟩ : BufTy).Contents (Elt F) → (⟨S1024x200x512, .i32⟩ : BufTy).Contents (Elt F)),
    StableHlo.binary main_call0_call0_v155 main_call0_call0_v159 main_call0_call0_v160 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v158 main_call0_call0_v160 main_call0_call0_v161 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v156 main_call0_call0_v161 main_call0_call0_v162 (xori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v156 main_call0_call0_v162 main_call0_call0_v163 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_42 (constantI S_ 32 6#32),
    StableHlo.unary main_call0_call0_c_42 main_call0_call0_v164 ((broadcastInDim S1024x200x512 ![] bcast_S_S1024x200x512) : (⟨S_, .i32⟩ : BufTy).Contents (Elt F) → (⟨S1024x200x512, .i32⟩ : BufTy).Contents (Elt F)),
    StableHlo.binary main_call0_call0_v162 main_call0_call0_v164 main_call0_call0_v165 (Host.shli : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_43 (constantI S_ 32 26#32),
    StableHlo.unary main_call0_call0_c_43 main_call0_call0_v166 ((broadcastInDim S1024x200x512 ![] bcast_S_S1024x200x512) : (⟨S_, .i32⟩ : BufTy).Contents (Elt F) → (⟨S1024x200x512, .i32⟩ : BufTy).Contents (Elt F)),
    StableHlo.binary main_call0_call0_v162 main_call0_call0_v166 main_call0_call0_v167 (Host.shrui : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v165 main_call0_call0_v167 main_call0_call0_v168 (ori : (⟨S1024x200x512, .i32⟩ : BufTy).Contents (Elt F) → (⟨S1024x200x512, .i32⟩ : BufTy).Contents (Elt F) → (⟨S1024x200x512, .i32⟩ : BufTy).Contents (Elt F)),
    StableHlo.binary main_call0_call0_v163 main_call0_call0_v168 main_call0_call0_v169 (xori : (⟨S1024x200x512, .i32⟩ : BufTy).Contents (Elt F) → (⟨S1024x200x512, .i32⟩ : BufTy).Contents (Elt F) → (⟨S1024x200x512, .i32⟩ : BufTy).Contents (Elt F)),
    StableHlo.unary main_call0_call0_v1 main_call0_call0_v170 ((broadcastInDim S1024x200x512 ![] bcast_S_S1024x200x512) : (⟨S_, .i32⟩ : BufTy).Contents (Elt F) → (⟨S1024x200x512, .i32⟩ : BufTy).Contents (Elt F)),
    StableHlo.binary main_call0_call0_v163 main_call0_call0_v170 main_call0_v23_0 (addi : (⟨S1024x200x512, .i32⟩ : BufTy).Contents (Elt F) → (⟨S1024x200x512, .i32⟩ : BufTy).Contents (Elt F) → (⟨S1024x200x512, .i32⟩ : BufTy).Contents (Elt F)),
    StableHlo.unary main_call0_v5 main_call0_call0_v172 ((broadcastInDim S1024x200x512 ![] bcast_S_S1024x200x512) : (⟨S_, .i32⟩ : BufTy).Contents (Elt F) → (⟨S1024x200x512, .i32⟩ : BufTy).Contents (Elt F)),
    StableHlo.binary main_call0_call0_v169 main_call0_call0_v172 main_call0_call0_v173 (addi : (⟨S1024x200x512, .i32⟩ : BufTy).Contents (Elt F) → (⟨S1024x200x512, .i32⟩ : BufTy).Contents (Elt F) → (⟨S1024x200x512, .i32⟩ : BufTy).Contents (Elt F)),
    StableHlo.nullary main_call0_call0_c_44 (constantI S_ 32 5#32),
    StableHlo.unary main_call0_call0_c_44 main_call0_call0_v174 ((broadcastInDim S1024x200x512 ![] bcast_S_S1024x200x512) : (⟨S_, .i32⟩ : BufTy).Contents (Elt F) → (⟨S1024x200x512, .i32⟩ : BufTy).Contents (Elt F)),
    StableHlo.binary main_call0_call0_v173 main_call0_call0_v174 main_call0_v23_1 (addi : (⟨S1024x200x512, .i32⟩ : BufTy).Contents (Elt F) → (⟨S1024x200x512, .i32⟩ : BufTy).Contents (Elt F) → (⟨S1024x200x512, .i32⟩ : BufTy).Contents (Elt F)) ]

/-- The mixed words as numbers in the unit interval. -/
def uniform : List (HloOp τ sig (Elt F)) :=
  [ StableHlo.binary main_call0_v23_0 main_call0_v23_1 main_call0_v24 (xori : (⟨S1024x200x512, .i32⟩ : BufTy).Contents (Elt F) → (⟨S1024x200x512, .i32⟩ : BufTy).Contents (Elt F) → (⟨S1024x200x512, .i32⟩ : BufTy).Contents (Elt F)),
    StableHlo.nullary main_call0_c_3 (constantI S_ 32 9#32),
    StableHlo.unary main_call0_c_3 main_call0_v25 ((broadcastInDim S1024x200x512 ![] bcast_S_S1024x200x512) : (⟨S_, .i32⟩ : BufTy).Contents (Elt F) → (⟨S1024x200x512, .i32⟩ : BufTy).Contents (Elt F)),
    StableHlo.binary main_call0_v24 main_call0_v25 main_call0_v26 (Host.shrui : (⟨S1024x200x512, .i32⟩ : BufTy).Contents (Elt F) → (⟨S1024x200x512, .i32⟩ : BufTy).Contents (Elt F) → (⟨S1024x200x512, .i32⟩ : BufTy).Contents (Elt F)),
    StableHlo.nullary main_call0_c_4 (constantI S_ 32 1065353216#32),
    StableHlo.unary main_call0_c_4 main_call0_v27 ((broadcastInDim S1024x200x512 ![] bcast_S_S1024x200x512) : (⟨S_, .i32⟩ : BufTy).Contents (Elt F) → (⟨S1024x200x512, .i32⟩ : BufTy).Contents (Elt F)),
    StableHlo.binary main_call0_v26 main_call0_v27 main_call0_v28 (ori : (⟨S1024x200x512, .i32⟩ : BufTy).Contents (Elt F) → (⟨S1024x200x512, .i32⟩ : BufTy).Contents (Elt F) → (⟨S1024x200x512, .i32⟩ : BufTy).Contents (Elt F)),
    StableHlo.unary main_call0_v28 main_call0_v29 ((bitcastToFloat .f32) : (⟨S1024x200x512, .i32⟩ : BufTy).Contents (Elt F) → (⟨S1024x200x512, .f32⟩ : BufTy).Contents (Elt F)),
    StableHlo.nullary main_call0_cst (constant S_ .f32 0x3F800000#32),
    StableHlo.unary main_call0_cst main_call0_v30 ((broadcastInDim S1024x200x512 ![] bcast_S_S1024x200x512) : (⟨S_, .f32⟩ : BufTy).Contents (Elt F) → (⟨S1024x200x512, .f32⟩ : BufTy).Contents (Elt F)),
    StableHlo.binary main_call0_v29 main_call0_v30 main_call0_v31 (subf : (⟨S1024x200x512, .f32⟩ : BufTy).Contents (Elt F) → (⟨S1024x200x512, .f32⟩ : BufTy).Contents (Elt F) → (⟨S1024x200x512, .f32⟩ : BufTy).Contents (Elt F)),
    StableHlo.binary main_call0_v3 main_call0_v2 main_call0_v32 (subf : (⟨S1x1x1, .f32⟩ : BufTy).Contents (Elt F) → (⟨S1x1x1, .f32⟩ : BufTy).Contents (Elt F) → (⟨S1x1x1, .f32⟩ : BufTy).Contents (Elt F)),
    StableHlo.unary main_call0_v32 main_call0_v33 ((broadcastInDim S1024x200x512 ![0, 1, 2] bcast_S1x1x1_S1024x200x512_0_1_2) : (⟨S1x1x1, .f32⟩ : BufTy).Contents (Elt F) → (⟨S1024x200x512, .f32⟩ : BufTy).Contents (Elt F)),
    StableHlo.binary main_call0_v31 main_call0_v33 main_call0_v34 (mulf : (⟨S1024x200x512, .f32⟩ : BufTy).Contents (Elt F) → (⟨S1024x200x512, .f32⟩ : BufTy).Contents (Elt F) → (⟨S1024x200x512, .f32⟩ : BufTy).Contents (Elt F)),
    StableHlo.unary main_call0_v2 main_call0_v35 ((broadcastInDim S1024x200x512 ![0, 1, 2] bcast_S1x1x1_S1024x200x512_0_1_2) : (⟨S1x1x1, .f32⟩ : BufTy).Contents (Elt F) → (⟨S1024x200x512, .f32⟩ : BufTy).Contents (Elt F)),
    StableHlo.binary main_call0_v34 main_call0_v35 main_call0_v36 (addf : (⟨S1024x200x512, .f32⟩ : BufTy).Contents (Elt F) → (⟨S1024x200x512, .f32⟩ : BufTy).Contents (Elt F) → (⟨S1024x200x512, .f32⟩ : BufTy).Contents (Elt F)),
    StableHlo.unary main_call0_v2 main_call0_v37 ((broadcastInDim S1024x200x512 ![0, 1, 2] bcast_S1x1x1_S1024x200x512_0_1_2) : (⟨S1x1x1, .f32⟩ : BufTy).Contents (Elt F) → (⟨S1024x200x512, .f32⟩ : BufTy).Contents (Elt F)),
    StableHlo.binary main_call0_v37 main_call0_v36 main_v59 (maximumf : (⟨S1024x200x512, .f32⟩ : BufTy).Contents (Elt F) → (⟨S1024x200x512, .f32⟩ : BufTy).Contents (Elt F) → (⟨S1024x200x512, .f32⟩ : BufTy).Contents (Elt F)),
    StableHlo.nullary main_cst_16 (constant S_ .f32 0x00800000#32),
    StableHlo.nullary main_cst_17 (constant S_ .f32 0x3F800000#32) ]

/-- The numbers kept positive. -/
def clipped : List (HloOp τ sig (Elt F)) :=
  [ StableHlo.unary main_cst_16 main_call1_v0 ((broadcastInDim S1024x200x512 ![] bcast_S_S1024x200x512) : (⟨S_, .f32⟩ : BufTy).Contents (Elt F) → (⟨S1024x200x512, .f32⟩ : BufTy).Contents (Elt F)),
    StableHlo.binary main_call1_v0 main_v59 main_call1_v1 (maximumf : (⟨S1024x200x512, .f32⟩ : BufTy).Contents (Elt F) → (⟨S1024x200x512, .f32⟩ : BufTy).Contents (Elt F) → (⟨S1024x200x512, .f32⟩ : BufTy).Contents (Elt F)),
    StableHlo.unary main_cst_17 main_call1_v2 (id : (⟨S_, .f32⟩ : BufTy).Contents (Elt F) → (⟨S_, .f32⟩ : BufTy).Contents (Elt F)),
    StableHlo.unary main_call1_v2 main_call1_v3 ((broadcastInDim S1024x200x512 ![] bcast_S_S1024x200x512) : (⟨S_, .f32⟩ : BufTy).Contents (Elt F) → (⟨S1024x200x512, .f32⟩ : BufTy).Contents (Elt F)),
    StableHlo.binary main_call1_v3 main_call1_v1 main_v60 (minimumf : (⟨S1024x200x512, .f32⟩ : BufTy).Contents (Elt F) → (⟨S1024x200x512, .f32⟩ : BufTy).Contents (Elt F) → (⟨S1024x200x512, .f32⟩ : BufTy).Contents (Elt F)) ]

/-- The noise, added to the logits. -/
def gumbel : List (HloOp τ sig (Elt F)) :=
  [ StableHlo.unary main_v60 main_v61 (Host.log : (⟨S1024x200x512, .f32⟩ : BufTy).Contents (Elt F) → (⟨S1024x200x512, .f32⟩ : BufTy).Contents (Elt F)),
    StableHlo.unary main_v61 main_v62 (Host.negf : (⟨S1024x200x512, .f32⟩ : BufTy).Contents (Elt F) → (⟨S1024x200x512, .f32⟩ : BufTy).Contents (Elt F)),
    StableHlo.unary main_v62 main_v63 (Host.log : (⟨S1024x200x512, .f32⟩ : BufTy).Contents (Elt F) → (⟨S1024x200x512, .f32⟩ : BufTy).Contents (Elt F)),
    StableHlo.unary main_v63 main_v64 (Host.negf : (⟨S1024x200x512, .f32⟩ : BufTy).Contents (Elt F) → (⟨S1024x200x512, .f32⟩ : BufTy).Contents (Elt F)),
    StableHlo.binary main_v51 main_v64 main_v65 (addf : (⟨S1024x200x512, .f32⟩ : BufTy).Contents (Elt F) → (⟨S1024x200x512, .f32⟩ : BufTy).Contents (Elt F) → (⟨S1024x200x512, .f32⟩ : BufTy).Contents (Elt F)) ]

/-- The position of the largest. -/
def winner : List (HloOp τ sig (Elt F)) :=
  [ StableHlo.nullary main_call2_v0 (iotaInDim S1024x200x512 32 2),
    StableHlo.nullary main_call2_cst (constant S_ .f32 0xFF800000#32),
    StableHlo.nullary main_call2_c (constantI S_ 32 0#32),
    StableHlo.quaternary main_v65 main_call2_v0 main_call2_cst main_call2_c main_call2_v1_0 ((fun x y u v j => (Host.argReduce reducer_argmax_f32_i32 x y u v reducesTo_S1024x200x512_S1024x200_d2 h_S_ j).1) : (⟨S1024x200x512, .f32⟩ : BufTy).Contents (Elt F) → (⟨S1024x200x512, .i32⟩ : BufTy).Contents (Elt F) → (⟨S_, .f32⟩ : BufTy).Contents (Elt F) → (⟨S_, .i32⟩ : BufTy).Contents (Elt F) → (⟨S1024x200, .f32⟩ : BufTy).Contents (Elt F)),
    StableHlo.quaternary main_v65 main_call2_v0 main_call2_cst main_call2_c main_v66 ((fun x y u v j => (Host.argReduce reducer_argmax_f32_i32 x y u v reducesTo_S1024x200x512_S1024x200_d2 h_S_ j).2) : (⟨S1024x200x512, .f32⟩ : BufTy).Contents (Elt F) → (⟨S1024x200x512, .i32⟩ : BufTy).Contents (Elt F) → (⟨S_, .f32⟩ : BufTy).Contents (Elt F) → (⟨S_, .i32⟩ : BufTy).Contents (Elt F) → (⟨S1024x200, .i32⟩ : BufTy).Contents (Elt F)) ]

/-- Whether the step is the last. -/
def last : List (HloOp τ sig (Elt F)) :=
  [ StableHlo.nullary main_c_18 (constantI S_ 32 101#32),
    StableHlo.unary main_c_18 main_v67 (broadcastInDim S1024x1 ![] bcast_S_S1024x1 : (⟨S_, .i32⟩ : BufTy).Contents (Elt F) → (⟨S1024x1, .i32⟩ : BufTy).Contents (Elt F)),
    StableHlo.binary main_v0 main_v67 main_v68 (cmpi .eq : (⟨S1024x1, .i32⟩ : BufTy).Contents (Elt F) → (⟨S1024x1, .i32⟩ : BufTy).Contents (Elt F) → (⟨S1024x1, .i1⟩ : BufTy).Contents (Elt F)) ]

/-- The end state at the last step. -/
def chosen : List (HloOp τ sig (Elt F)) :=
  [ StableHlo.unary main_v68 main_call3_v0 ((broadcastInDim S1024x200 ![0, 1] bcast_S1024x1_S1024x200_0_1) : (⟨S1024x1, .i1⟩ : BufTy).Contents (Elt F) → (⟨S1024x200, .i1⟩ : BufTy).Contents (Elt F)),
    StableHlo.ternary main_call3_v0 main_arg1 main_v66 main_v69 (select : (⟨S1024x200, .i1⟩ : BufTy).Contents (Elt F) → (⟨S1024x200, .i32⟩ : BufTy).Contents (Elt F) → (⟨S1024x200, .i32⟩ : BufTy).Contents (Elt F) → (⟨S1024x200, .i32⟩ : BufTy).Contents (Elt F)) ]

/-- All the operations. -/
def ops : List (HloOp τ sig (Elt F)) :=
  gathered ++ (logits ++ (counter ++ (mix0 ++ (mix1 ++ (mix2 ++ (mix3 ++ (mix4 ++ (mix5 ++ (uniform ++ (clipped ++ (gumbel ++ (winner ++ (last ++ chosen)))))))))))))

theorem main_ops (d : Dev nD) : main (F := F) d = StableHlo.seq (ops (F := F)) := by
  with_unfolding_all rfl

end Cert.ReferenceIdeal.Rounds

end
-- ==== Proof.RefRun.lean ====
/- The run of the reference: what every buffer ends with, the arguments unchanged, every semaphore at zero. -/
module

public import proofs.«01_k».proof.Proof.RefOps
public import Idealize.ShloMosaic.Lib.StableHlo.ReadAt
public import Idealize.ShloMosaic.Lib.StableHlo.RunHlo
public import Idealize.ShloMosaic.Lib.Quiescent

@[expose] public section

set_option maxRecDepth 100000
set_option maxHeartbeats 40000000

noncomputable section

namespace Cert.ReferenceIdeal.Rounds

open Idealize.ShloMosaic Idealize.ShloMosaic.TcCoe Idealize.SL.Sem
open Cert.ReferenceIdeal

attribute [local instance] Cert.ReferenceIdeal.Gen.facts

variable {F : FTy → Type} [FloatOps F]

theorem ops_fresh : ∀ op ∈ ops (F := F), op.fresh = ∅ := by
  intro _ h
  (repeat (cases h with | head => rfl | tail _ h => ?_))
  exact nomatch h

theorem ops_bufs : (ops (F := F)).Forall fun op => op.bufs ⊆ StableHlo.tcRefs τ sig := by
  simp [ops, gathered, logits, counter, mix0, mix1, mix2, mix3, mix4, mix5, uniform, clipped, gumbel, winner, last, chosen]

theorem run_all (m : (ℓ : Loc nD τ sig) → Buf (Elt F) ℓ) (g : Dev nD → PrngReg) :
    θ_run (defs (F := F)) (onTc (τ := τ) (main (F := F))) ⟨m, fun _ => 0, g⟩ fun r =>
      ∀ (d : Dev nD) (b : Ref sig .tc), r.2.mem ((d.tc : Thread nD τ).loc b) = StableHlo.after (ops (F := F)) (StableHlo.launchContents m d) (Proc.devRef .tc b) :=
  StableHlo.run_hlo _ _ main_ops (by decide) (by decide) ops_bufs ops_fresh m g

theorem kept (W : Valuation τ sig (Elt F)) :
    StableHlo.after (ops (F := F)) W (Proc.devRef .tc main_arg0) = W (Proc.devRef .tc main_arg0)
    ∧ StableHlo.after (ops (F := F)) W (Proc.devRef .tc main_arg1) = W (Proc.devRef .tc main_arg1)
    ∧ StableHlo.after (ops (F := F)) W (Proc.devRef .tc main_arg2) = W (Proc.devRef .tc main_arg2)
    ∧ StableHlo.after (ops (F := F)) W (Proc.devRef .tc main_arg3) = W (Proc.devRef .tc main_arg3) := by
  refine ⟨?_, ?_, ?_, ?_⟩ <;> after_reads_simp

theorem run_kept (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem (c.tc.loc main_v69) = StableHlo.after (ops (F := F)) (StableHlo.launchContents m c) (Proc.devRef .tc main_v69)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3))
      ∧ r.2.sem = fun _ => 0) :=
  (θ_run (defs (F := F)) _ _).mono (fun r hr =>
    ⟨fun c => ⟨hr c _, (hr c _).trans (kept _).1, (hr c _).trans (kept _).2.1, (hr c _).trans (kept _).2.2.1, (hr c _).trans (kept _).2.2.2⟩,
      sem_eq_zero_of_no_sems (by decide) _⟩) (run_all m g)

end Cert.ReferenceIdeal.Rounds

end
-- ==== Proof.Frames.lean ====
/- The three programs run: arguments unchanged, every semaphore at zero. -/
module

public import proofs.«01_k».proof.Defs
public import proofs.«01_k».proof.Proof.KernelExit
public import proofs.«01_k».proof.Proof.Exit
public import proofs.«01_k».proof.Proof.Symmetric
public import proofs.«01_k».proof.Proof.RefRun

@[expose] public section

noncomputable section

namespace Cert.Proof

open Idealize.ShloMosaic Idealize.SL.Sem

theorem frame_kernel : quiescent_Kernel (hKernel := Cert.Kernel.Gen.facts) (hPre_words_in_range := Cert.Pre_words_in_range.Gen.facts) := fun m g h =>
  (θ_run (Cert.Kernel.defs (F := Bits)) _ _).mono (fun _ hr => ⟨fun c => (hr.1 c).2, hr.2⟩)
    (Cert.Kernel.Rounds.run_result m (Cert.Kernel.Rounds.words_in_range _ _ _ _ (h 0)) g)

theorem frame_ideal : quiescent_KernelIdeal (hKernelIdeal := Cert.KernelIdeal.Gen.facts) (hPre_words_in_range := Cert.Pre_words_in_range.Gen.facts) := fun m g h =>
  (θ_run (Cert.KernelIdeal.defs (F := Ideal)) _ _).mono (fun _ hr => ⟨fun c => (hr.1 c).2, hr.2⟩)
    (Cert.KernelIdeal.Rounds.run_result m (Cert.KernelIdeal.Rounds.words_in_range _ _ _ _ (h 0)) g)

theorem frame_ideal_symmetric : quiescent_KernelIdeal_pre_symmetric_table (hKernelIdeal := Cert.KernelIdeal.Gen.facts)
    (hPre_symmetric_table := Cert.Pre_symmetric_table.Gen.facts) := fun m g h =>
  (θ_run (Cert.KernelIdeal.defs (F := Ideal)) _ _).mono (fun _ hr => ⟨fun c => (hr.1 c).2, hr.2⟩)
    (Cert.KernelIdeal.Rounds.run_result m (Cert.KernelIdeal.Rounds.symmetric_table _ _ _ _ (h 0)).1 g)

theorem frame_reference : quiescent_ReferenceIdeal (hReferenceIdeal := Cert.ReferenceIdeal.Gen.facts) := fun m g _ =>
  (θ_run (Cert.ReferenceIdeal.defs (F := Ideal)) _ _).mono (fun _ hr => ⟨fun c => (hr.1 c).2, hr.2⟩)
    (Cert.ReferenceIdeal.Rounds.run_kept m g)

theorem frame_reference_symmetric : quiescent_ReferenceIdeal_pre_symmetric_table (hReferenceIdeal := Cert.ReferenceIdeal.Gen.facts)
    (hPre_symmetric_table := Cert.Pre_symmetric_table.Gen.facts) := fun m g _ => frame_reference m g trivial

end Cert.Proof

end
-- ==== Proof.NoiseOps.lean ====
/- The kernel's noise: the table of uniform numbers as the program's own stages. -/
module

public import proofs.«01_k».proof.Proof.Setup

@[expose] public section

set_option maxRecDepth 100000
set_option maxHeartbeats 40000000

noncomputable section

namespace Cert.KernelIdeal.Noise

open Idealize.ShloMosaic Idealize.ShloMosaic.TcCoe Idealize.SL.Sem
open Cert.KernelIdeal Cert.KernelIdeal.Gen

variable {F : FTy → Type} [FloatOps F]

/-- The counter and the first key injection. -/
def start : List (HloOp τ sig (Elt F)) :=
  [ StableHlo.nullary main_c (constantI S_ 32 0#32),
    StableHlo.unary main_c main_v0 (broadcastInDim S104857600 ![] bcast_S_S104857600 : (⟨S_, .i32⟩ : BufTy).Contents (Elt F) → (⟨S104857600, .i32⟩ : BufTy).Contents (Elt F)),
    StableHlo.nullary main_v1 (iotaInDim S104857600 32 0),
    StableHlo.nullary main_c_0 (constantI S_ 32 0#32),
    StableHlo.unary main_c_0 main_v2 (broadcastInDim S104857600 ![] bcast_S_S104857600 : (⟨S_, .i32⟩ : BufTy).Contents (Elt F) → (⟨S104857600, .i32⟩ : BufTy).Contents (Elt F)),
    StableHlo.binary main_v0 main_v2 main_v3 (addi : (⟨S104857600, .i32⟩ : BufTy).Contents (Elt F) → (⟨S104857600, .i32⟩ : BufTy).Contents (Elt F) → (⟨S104857600, .i32⟩ : BufTy).Contents (Elt F)),
    StableHlo.nullary main_c_1 (constantI S_ 32 1#32),
    StableHlo.unary main_c_1 main_v4 (broadcastInDim S104857600 ![] bcast_S_S104857600 : (⟨S_, .i32⟩ : BufTy).Contents (Elt F) → (⟨S104857600, .i32⟩ : BufTy).Contents (Elt F)),
    StableHlo.binary main_v1 main_v4 main_v5 (addi : (⟨S104857600, .i32⟩ : BufTy).Contents (Elt F) → (⟨S104857600, .i32⟩ : BufTy).Contents (Elt F) → (⟨S104857600, .i32⟩ : BufTy).Contents (Elt F)) ]

/-- Four rotations and a key injection. -/
def mix1 : List (HloOp τ sig (Elt F)) :=
  [ StableHlo.binary main_v3 main_v5 main_v6 (addi : (⟨S104857600, .i32⟩ : BufTy).Contents (Elt F) → (⟨S104857600, .i32⟩ : BufTy).Contents (Elt F) → (⟨S104857600, .i32⟩ : BufTy).Contents (Elt F)),
    StableHlo.nullary main_c_2 (constantI S_ 32 13#32),
    StableHlo.unary main_c_2 main_v7 (broadcastInDim S104857600 ![] bcast_S_S104857600 : (⟨S_, .i32⟩ : BufTy).Contents (Elt F) → (⟨S104857600, .i32⟩ : BufTy).Contents (Elt F)),
    StableHlo.binary main_v5 main_v7 main_v8 (Host.shli : (⟨S104857600, .i32⟩ : BufTy).Contents (Elt F) → (⟨S104857600, .i32⟩ : BufTy).Contents (Elt F) → (⟨S104857600, .i32⟩ : BufTy).Contents (Elt F)),
    StableHlo.nullary main_c_3 (constantI S_ 32 19#32),
    StableHlo.unary main_c_3 main_v9 (broadcastInDim S104857600 ![] bcast_S_S104857600 : (⟨S_, .i32⟩ : BufTy).Contents (Elt F) → (⟨S104857600, .i32⟩ : BufTy).Contents (Elt F)),
    StableHlo.binary main_v5 main_v9 main_v10 (Host.shrui : (⟨S104857600, .i32⟩ : BufTy).Contents (Elt F) → (⟨S104857600, .i32⟩ : BufTy).Contents (Elt F) → (⟨S104857600, .i32⟩ : BufTy).Contents (Elt F)),
    StableHlo.binary main_v8 main_v10 main_v11 (ori : (⟨S104857600, .i32⟩ : BufTy).Contents (Elt F) → (⟨S104857600, .i32⟩ : BufTy).Contents (Elt F) → (⟨S104857600, .i32⟩ : BufTy).Contents (Elt F)),
    StableHlo.binary main_v11 main_v6 main_v12 (xori : (⟨S104857600, .i32⟩ : BufTy).Contents (Elt F) → (⟨S104857600, .i32⟩ : BufTy).Contents (Elt F) → (⟨S104857600, .i32⟩ : BufTy).Contents (Elt F)),
    StableHlo.binary main_v6 main_v12 main_v13 (addi : (⟨S104857600, .i32⟩ : BufTy).Contents (Elt F) → (⟨S104857600, .i32⟩ : BufTy).Contents (Elt F) → (⟨S104857600, .i32⟩ : BufTy).Contents (Elt F)),
    StableHlo.nullary main_c_4 (constantI S_ 32 15#32),
    StableHlo.unary main_c_4 main_v14 (broadcastInDim S104857600 ![] bcast_S_S104857600 : (⟨S_, .i32⟩ : BufTy).Contents (Elt F) → (⟨S104857600, .i32⟩ : BufTy).Contents (Elt F)),
    StableHlo.binary main_v12 main_v14 main_v15 (Host.shli : (⟨S104857600, .i32⟩ : BufTy).Contents (Elt F) → (⟨S104857600, .i32⟩ : BufTy).Contents (Elt F) → (⟨S104857600, .i32⟩ : BufTy).Contents (Elt F)),
    StableHlo.nullary main_c_5 (constantI S_ 32 17#32),
    StableHlo.unary main_c_5 main_v16 (broadcastInDim S104857600 ![] bcast_S_S104857600 : (⟨S_, .i32⟩ : BufTy).Contents (Elt F) → (⟨S104857600, .i32⟩ : BufTy).Contents (Elt F)),
    StableHlo.binary main_v12 main_v16 main_v17 (Host.shrui : (⟨S104857600, .i32⟩ : BufTy).Contents (Elt F) → (⟨S104857600, .i32⟩ : BufTy).Contents (Elt F) → (⟨S104857600, .i32⟩ : BufTy).Contents (Elt F)),
    StableHlo.binary main_v15 main_v17 main_v18 (ori : (⟨S104857600, .i32⟩ : BufTy).Contents (Elt F) → (⟨S104857600, .i32⟩ : BufTy).Contents (Elt F) → (⟨S104857600, .i32⟩ : BufTy).Contents (Elt F)),
    StableHlo.binary main_v18 main_v13 main_v19 (xori : (⟨S104857600, .i32⟩ : BufTy).Contents (Elt F) → (⟨S104857600, .i32⟩ : BufTy).Contents (Elt F) → (⟨S104857600, .i32⟩ : BufTy).Contents (Elt F)),
    StableHlo.binary main_v13 main_v19 main_v20 (addi : (⟨S104857600, .i32⟩ : BufTy).Contents (Elt F) → (⟨S104857600, .i32⟩ : BufTy).Contents (Elt F) → (⟨S104857600, .i32⟩ : BufTy).Contents (Elt F)),
    StableHlo.nullary main_c_6 (constantI S_ 32 26#32),
    StableHlo.unary main_c_6 main_v21 (broadcastInDim S104857600 ![] bcast_S_S104857600 : (⟨S_, .i32⟩ : BufTy).Contents (Elt F) → (⟨S104857600, .i32⟩ : BufTy).Contents (Elt F)),
    StableHlo.binary main_v19 main_v21 main_v22 (Host.shli : (⟨S104857600, .i32⟩ : BufTy).Contents (Elt F) → (⟨S104857600, .i32⟩ : BufTy).Contents (Elt F) → (⟨S104857600, .i32⟩ : BufTy).Contents (Elt F)),
    StableHlo.nullary main_c_7 (constantI S_ 32 6#32),
    StableHlo.unary main_c_7 main_v23 (broadcastInDim S104857600 ![] bcast_S_S104857600 : (⟨S_, .i32⟩ : BufTy).Contents (Elt F) → (⟨S104857600, .i32⟩ : BufTy).Contents (Elt F)),
    StableHlo.binary main_v19 main_v23 main_v24 (Host.shrui : (⟨S104857600, .i32⟩ : BufTy).Contents (Elt F) → (⟨S104857600, .i32⟩ : BufTy).Contents (Elt F) → (⟨S104857600, .i32⟩ : BufTy).Contents (Elt F)),
    StableHlo.binary main_v22 main_v24 main_v25 (ori : (⟨S104857600, .i32⟩ : BufTy).Contents (Elt F) → (⟨S104857600, .i32⟩ : BufTy).Contents (Elt F) → (⟨S104857600, .i32⟩ : BufTy).Contents (Elt F)),
    StableHlo.binary main_v25 main_v20 main_v26 (xori : (⟨S104857600, .i32⟩ : BufTy).Contents (Elt F) → (⟨S104857600, .i32⟩ : BufTy).Contents (Elt F) → (⟨S104857600, .i32⟩ : BufTy).Contents (Elt F)),
    StableHlo.binary main_v20 main_v26 main_v27 (addi : (⟨S104857600, .i32⟩ : BufTy).Contents (Elt F) → (⟨S104857600, .i32⟩ : BufTy).Contents (Elt F) → (⟨S104857600, .i32⟩ : BufTy).Contents (Elt F)),
    StableHlo.nullary main_c_8 (constantI S_ 32 6#32),
    StableHlo.unary main_c_8 main_v28 (broadcastInDim S104857600 ![] bcast_S_S104857600 : (⟨S_, .i32⟩ : BufTy).Contents (Elt F) → (⟨S104857600, .i32⟩ : BufTy).Contents (Elt F)),
    StableHlo.binary main_v26 main_v28 main_v29 (Host.shli : (⟨S104857600, .i32⟩ : BufTy).Contents (Elt F) → (⟨S104857600, .i32⟩ : BufTy).Contents (Elt F) → (⟨S104857600, .i32⟩ : BufTy).Contents (Elt F)),
    StableHlo.nullary main_c_9 (constantI S_ 32 26#32),
    StableHlo.unary main_c_9 main_v30 (broadcastInDim S104857600 ![] bcast_S_S104857600 : (⟨S_, .i32⟩ : BufTy).Contents (Elt F) → (⟨S104857600, .i32⟩ : BufTy).Contents (Elt F)),
    StableHlo.binary main_v26 main_v30 main_v31 (Host.shrui : (⟨S104857600, .i32⟩ : BufTy).Contents (Elt F) → (⟨S104857600, .i32⟩ : BufTy).Contents (Elt F) → (⟨S104857600, .i32⟩ : BufTy).Contents (Elt F)),
    StableHlo.binary main_v29 main_v31 main_v32 (ori : (⟨S104857600, .i32⟩ : BufTy).Contents (Elt F) → (⟨S104857600, .i32⟩ : BufTy).Contents (Elt F) → (⟨S104857600, .i32⟩ : BufTy).Contents (Elt F)),
    StableHlo.binary main_v32 main_v27 main_v33 (xori : (⟨S104857600, .i32⟩ : BufTy).Contents (Elt F) → (⟨S104857600, .i32⟩ : BufTy).Contents (Elt F) → (⟨S104857600, .i32⟩ : BufTy).Contents (Elt F)),
    StableHlo.nullary main_c_10 (constantI S_ 32 1#32),
    StableHlo.unary main_c_10 main_v34 (broadcastInDim S104857600 ![] bcast_S_S104857600 : (⟨S_, .i32⟩ : BufTy).Contents (Elt F) → (⟨S104857600, .i32⟩ : BufTy).Contents (Elt F)),
    StableHlo.binary main_v27 main_v34 main_v35 (addi : (⟨S104857600, .i32⟩ : BufTy).Contents (Elt F) → (⟨S104857600, .i32⟩ : BufTy).Contents (Elt F) → (⟨S104857600, .i32⟩ : BufTy).Contents (Elt F)),
    StableHlo.nullary main_c_11 (constantI S_ 32 466688988#32),
    StableHlo.unary main_c_11 main_v36 (broadcastInDim S104857600 ![] bcast_S_S104857600 : (⟨S_, .i32⟩ : BufTy).Contents (Elt F) → (⟨S104857600, .i32⟩ : BufTy).Contents (Elt F)),
    StableHlo.binary main_v33 main_v36 main_v37 (addi : (⟨S104857600, .i32⟩ : BufTy).Contents (Elt F) → (⟨S104857600, .i32⟩ : BufTy).Contents (Elt F) → (⟨S104857600, .i32⟩ : BufTy).Contents (Elt F)) ]

/-- Four rotations and a key injection. -/
def mix2 : List (HloOp τ sig (Elt F)) :=
  [ StableHlo.binary main_v35 main_v37 main_v38 (addi : (⟨S104857600, .i32⟩ : BufTy).Contents (Elt F) → (⟨S104857600, .i32⟩ : BufTy).Contents (Elt F) → (⟨S104857600, .i32⟩ : BufTy).Contents (Elt F)),
    StableHlo.nullary main_c_12 (constantI S_ 32 17#32),
    StableHlo.unary main_c_12 main_v39 (broadcastInDim S104857600 ![] bcast_S_S104857600 : (⟨S_, .i32⟩ : BufTy).Contents (Elt F) → (⟨S104857600, .i32⟩ : BufTy).Contents (Elt F)),
    StableHlo.binary main_v37 main_v39 main_v40 (Host.shli : (⟨S104857600, .i32⟩ : BufTy).Contents (Elt F) → (⟨S104857600, .i32⟩ : BufTy).Contents (Elt F) → (⟨S104857600, .i32⟩ : BufTy).Contents (Elt F)),
    StableHlo.nullary main_c_13 (constantI S_ 32 15#32),
    StableHlo.unary main_c_13 main_v41 (broadcastInDim S104857600 ![] bcast_S_S104857600 : (⟨S_, .i32⟩ : BufTy).Contents (Elt F) → (⟨S104857600, .i32⟩ : BufTy).Contents (Elt F)),
    StableHlo.binary main_v37 main_v41 main_v42 (Host.shrui : (⟨S104857600, .i32⟩ : BufTy).Contents (Elt F) → (⟨S104857600, .i32⟩ : BufTy).Contents (Elt F) → (⟨S104857600, .i32⟩ : BufTy).Contents (Elt F)),
    StableHlo.binary main_v40 main_v42 main_v43 (ori : (⟨S104857600, .i32⟩ : BufTy).Contents (Elt F) → (⟨S104857600, .i32⟩ : BufTy).Contents (Elt F) → (⟨S104857600, .i32⟩ : BufTy).Contents (Elt F)),
    StableHlo.binary main_v43 main_v38 main_v44 (xori : (⟨S104857600, .i32⟩ : BufTy).Contents (Elt F) → (⟨S104857600, .i32⟩ : BufTy).Contents (Elt F) → (⟨S104857600, .i32⟩ : BufTy).Contents (Elt F)),
    StableHlo.binary main_v38 main_v44 main_v45 (addi : (⟨S104857600, .i32⟩ : BufTy).Contents (Elt F) → (⟨S104857600, .i32⟩ : BufTy).Contents (Elt F) → (⟨S104857600, .i32⟩ : BufTy).Contents (Elt F)),
    StableHlo.nullary main_c_14 (constantI S_ 32 29#32),
    StableHlo.unary main_c_14 main_v46 (broadcastInDim S104857600 ![] bcast_S_S104857600 : (⟨S_, .i32⟩ : BufTy).Contents (Elt F) → (⟨S104857600, .i32⟩ : BufTy).Contents (Elt F)),
    StableHlo.binary main_v44 main_v46 main_v47 (Host.shli : (⟨S104857600, .i32⟩ : BufTy).Contents (Elt F) → (⟨S104857600, .i32⟩ : BufTy).Contents (Elt F) → (⟨S104857600, .i32⟩ : BufTy).Contents (Elt F)),
    StableHlo.nullary main_c_15 (constantI S_ 32 3#32),
    StableHlo.unary main_c_15 main_v48 (broadcastInDim S104857600 ![] bcast_S_S104857600 : (⟨S_, .i32⟩ : BufTy).Contents (Elt F) → (⟨S104857600, .i32⟩ : BufTy).Contents (Elt F)),
    StableHlo.binary main_v44 main_v48 main_v49 (Host.shrui : (⟨S104857600, .i32⟩ : BufTy).Contents (Elt F) → (⟨S104857600, .i32⟩ : BufTy).Contents (Elt F) → (⟨S104857600, .i32⟩ : BufTy).Contents (Elt F)),
    StableHlo.binary main_v47 main_v49 main_v50 (ori : (⟨S104857600, .i32⟩ : BufTy).Contents (Elt F) → (⟨S104857600, .i32⟩ : BufTy).Contents (Elt F) → (⟨S104857600, .i32⟩ : BufTy).Contents (Elt F)),
    StableHlo.binary main_v50 main_v45 main_v51 (xori : (⟨S104857600, .i32⟩ : BufTy).Contents (Elt F) → (⟨S104857600, .i32⟩ : BufTy).Contents (Elt F) → (⟨S104857600, .i32⟩ : BufTy).Contents (Elt F)),
    StableHlo.binary main_v45 main_v51 main_v52 (addi : (⟨S104857600, .i32⟩ : BufTy).Contents (Elt F) → (⟨S104857600, .i32⟩ : BufTy).Contents (Elt F) → (⟨S104857600, .i32⟩ : BufTy).Contents (Elt F)),
    StableHlo.nullary main_c_16 (constantI S_ 32 16#32),
    StableHlo.unary main_c_16 main_v53 (broadcastInDim S104857600 ![] bcast_S_S104857600 : (⟨S_, .i32⟩ : BufTy).Contents (Elt F) → (⟨S104857600, .i32⟩ : BufTy).Contents (Elt F)),
    StableHlo.binary main_v51 main_v53 main_v54 (Host.shli : (⟨S104857600, .i32⟩ : BufTy).Contents (Elt F) → (⟨S104857600, .i32⟩ : BufTy).Contents (Elt F) → (⟨S104857600, .i32⟩ : BufTy).Contents (Elt F)),
    StableHlo.nullary main_c_17 (constantI S_ 32 16#32),
    StableHlo.unary main_c_17 main_v55 (broadcastInDim S104857600 ![] bcast_S_S104857600 : (⟨S_, .i32⟩ : BufTy).Contents (Elt F) → (⟨S104857600, .i32⟩ : BufTy).Contents (Elt F)),
    StableHlo.binary main_v51 main_v55 main_v56 (Host.shrui : (⟨S104857600, .i32⟩ : BufTy).Contents (Elt F) → (⟨S104857600, .i32⟩ : BufTy).Contents (Elt F) → (⟨S104857600, .i32⟩ : BufTy).Contents (Elt F)),
    StableHlo.binary main_v54 main_v56 main_v57 (ori : (⟨S104857600, .i32⟩ : BufTy).Contents (Elt F) → (⟨S104857600, .i32⟩ : BufTy).Contents (Elt F) → (⟨S104857600, .i32⟩ : BufTy).Contents (Elt F)),
    StableHlo.binary main_v57 main_v52 main_v58 (xori : (⟨S104857600, .i32⟩ : BufTy).Contents (Elt F) → (⟨S104857600, .i32⟩ : BufTy).Contents (Elt F) → (⟨S104857600, .i32⟩ : BufTy).Contents (Elt F)),
    StableHlo.binary main_v52 main_v58 main_v59 (addi : (⟨S104857600, .i32⟩ : BufTy).Contents (Elt F) → (⟨S104857600, .i32⟩ : BufTy).Contents (Elt F) → (⟨S104857600, .i32⟩ : BufTy).Contents (Elt F)),
    StableHlo.nullary main_c_18 (constantI S_ 32 24#32),
    StableHlo.unary main_c_18 main_v60 (broadcastInDim S104857600 ![] bcast_S_S104857600 : (⟨S_, .i32⟩ : BufTy).Contents (Elt F) → (⟨S104857600, .i32⟩ : BufTy).Contents (Elt F)),
    StableHlo.binary main_v58 main_v60 main_v61 (Host.shli : (⟨S104857600, .i32⟩ : BufTy).Contents (Elt F) → (⟨S104857600, .i32⟩ : BufTy).Contents (Elt F) → (⟨S104857600, .i32⟩ : BufTy).Contents (Elt F)),
    StableHlo.nullary main_c_19 (constantI S_ 32 8#32),
    StableHlo.unary main_c_19 main_v62 (broadcastInDim S104857600 ![] bcast_S_S104857600 : (⟨S_, .i32⟩ : BufTy).Contents (Elt F) → (⟨S104857600, .i32⟩ : BufTy).Contents (Elt F)),
    StableHlo.binary main_v58 main_v62 main_v63 (Host.shrui : (⟨S104857600, .i32⟩ : BufTy).Contents (Elt F) → (⟨S104857600, .i32⟩ : BufTy).Contents (Elt F) → (⟨S104857600, .i32⟩ : BufTy).Contents (Elt F)),
    StableHlo.binary main_v61 main_v63 main_v64 (ori : (⟨S104857600, .i32⟩ : BufTy).Contents (Elt F) → (⟨S104857600, .i32⟩ : BufTy).Contents (Elt F) → (⟨S104857600, .i32⟩ : BufTy).Contents (Elt F)),
    StableHlo.binary main_v64 main_v59 main_v65 (xori : (⟨S104857600, .i32⟩ : BufTy).Contents (Elt F) → (⟨S104857600, .i32⟩ : BufTy).Contents (Elt F) → (⟨S104857600, .i32⟩ : BufTy).Contents (Elt F)),
    StableHlo.nullary main_c_20 (constantI S_ 32 466688987#32),
    StableHlo.unary main_c_20 main_v66 (broadcastInDim S104857600 ![] bcast_S_S104857600 : (⟨S_, .i32⟩ : BufTy).Contents (Elt F) → (⟨S104857600, .i32⟩ : BufTy).Contents (Elt F)),
    StableHlo.binary main_v59 main_v66 main_v67 (addi : (⟨S104857600, .i32⟩ : BufTy).Contents (Elt F) → (⟨S104857600, .i32⟩ : BufTy).Contents (Elt F) → (⟨S104857600, .i32⟩ : BufTy).Contents (Elt F)),
    StableHlo.nullary main_c_21 (constantI S_ 32 2#32),
    StableHlo.unary main_c_21 main_v68 (broadcastInDim S104857600 ![] bcast_S_S104857600 : (⟨S_, .i32⟩ : BufTy).Contents (Elt F) → (⟨S104857600, .i32⟩ : BufTy).Contents (Elt F)),
    StableHlo.binary main_v65 main_v68 main_v69 (addi : (⟨S104857600, .i32⟩ : BufTy).Contents (Elt F) → (⟨S104857600, .i32⟩ : BufTy).Contents (Elt F) → (⟨S104857600, .i32⟩ : BufTy).Contents (Elt F)) ]

/-- Four rotations and a key injection. -/
def mix3 : List (HloOp τ sig (Elt F)) :=
  [ StableHlo.binary main_v67 main_v69 main_v70 (addi : (⟨S104857600, .i32⟩ : BufTy).Contents (Elt F) → (⟨S104857600, .i32⟩ : BufTy).Contents (Elt F) → (⟨S104857600, .i32⟩ : BufTy).Contents (Elt F)),
    StableHlo.nullary main_c_22 (constantI S_ 32 13#32),
    StableHlo.unary main_c_22 main_v71 (broadcastInDim S104857600 ![] bcast_S_S104857600 : (⟨S_, .i32⟩ : BufTy).Contents (Elt F) → (⟨S104857600, .i32⟩ : BufTy).Contents (Elt F)),
    StableHlo.binary main_v69 main_v71 main_v72 (Host.shli : (⟨S104857600, .i32⟩ : BufTy).Contents (Elt F) → (⟨S104857600, .i32⟩ : BufTy).Contents (Elt F) → (⟨S104857600, .i32⟩ : BufTy).Contents (Elt F)),
    StableHlo.nullary main_c_23 (constantI S_ 32 19#32),
    StableHlo.unary main_c_23 main_v73 (broadcastInDim S104857600 ![] bcast_S_S104857600 : (⟨S_, .i32⟩ : BufTy).Contents (Elt F) → (⟨S104857600, .i32⟩ : BufTy).Contents (Elt F)),
    StableHlo.binary main_v69 main_v73 main_v74 (Host.shrui : (⟨S104857600, .i32⟩ : BufTy).Contents (Elt F) → (⟨S104857600, .i32⟩ : BufTy).Contents (Elt F) → (⟨S104857600, .i32⟩ : BufTy).Contents (Elt F)),
    StableHlo.binary main_v72 main_v74 main_v75 (ori : (⟨S104857600, .i32⟩ : BufTy).Contents (Elt F) → (⟨S104857600, .i32⟩ : BufTy).Contents (Elt F) → (⟨S104857600, .i32⟩ : BufTy).Contents (Elt F)),
    StableHlo.binary main_v75 main_v70 main_v76 (xori : (⟨S104857600, .i32⟩ : BufTy).Contents (Elt F) → (⟨S104857600, .i32⟩ : BufTy).Contents (Elt F) → (⟨S104857600, .i32⟩ : BufTy).Contents (Elt F)),
    StableHlo.binary main_v70 main_v76 main_v77 (addi : (⟨S104857600, .i32⟩ : BufTy).Contents (Elt F) → (⟨S104857600, .i32⟩ : BufTy).Contents (Elt F) → (⟨S104857600, .i32⟩ : BufTy).Contents (Elt F)),
    StableHlo.nullary main_c_24 (constantI S_ 32 15#32),
    StableHlo.unary main_c_24 main_v78 (broadcastInDim S104857600 ![] bcast_S_S104857600 : (⟨S_, .i32⟩ : BufTy).Contents (Elt F) → (⟨S104857600, .i32⟩ : BufTy).Contents (Elt F)),
    StableHlo.binary main_v76 main_v78 main_v79 (Host.shli : (⟨S104857600, .i32⟩ : BufTy).Contents (Elt F) → (⟨S104857600, .i32⟩ : BufTy).Contents (Elt F) → (⟨S104857600, .i32⟩ : BufTy).Contents (Elt F)),
    StableHlo.nullary main_c_25 (constantI S_ 32 17#32),
    StableHlo.unary main_c_25 main_v80 (broadcastInDim S104857600 ![] bcast_S_S104857600 : (⟨S_, .i32⟩ : BufTy).Contents (Elt F) → (⟨S104857600, .i32⟩ : BufTy).Contents (Elt F)),
    StableHlo.binary main_v76 main_v80 main_v81 (Host.shrui : (⟨S104857600, .i32⟩ : BufTy).Contents (Elt F) → (⟨S104857600, .i32⟩ : BufTy).Contents (Elt F) → (⟨S104857600, .i32⟩ : BufTy).Contents (Elt F)),
    StableHlo.binary main_v79 main_v81 main_v82 (ori : (⟨S104857600, .i32⟩ : BufTy).Contents (Elt F) → (⟨S104857600, .i32⟩ : BufTy).Contents (Elt F) → (⟨S104857600, .i32⟩ : BufTy).Contents (Elt F)),
    StableHlo.binary main_v82 main_v77 main_v83 (xori : (⟨S104857600, .i32⟩ : BufTy).Contents (Elt F) → (⟨S104857600, .i32⟩ : BufTy).Contents (Elt F) → (⟨S104857600, .i32⟩ : BufTy).Contents (Elt F)),
    StableHlo.binary main_v77 main_v83 main_v84 (addi : (⟨S104857600, .i32⟩ : BufTy).Contents (Elt F) → (⟨S104857600, .i32⟩ : BufTy).Contents (Elt F) → (⟨S104857600, .i32⟩ : BufTy).Contents (Elt F)),
    StableHlo.nullary main_c_26 (constantI S_ 32 26#32),
    StableHlo.unary main_c_26 main_v85 (broadcastInDim S104857600 ![] bcast_S_S104857600 : (⟨S_, .i32⟩ : BufTy).Contents (Elt F) → (⟨S104857600, .i32⟩ : BufTy).Contents (Elt F)),
    StableHlo.binary main_v83 main_v85 main_v86 (Host.shli : (⟨S104857600, .i32⟩ : BufTy).Contents (Elt F) → (⟨S104857600, .i32⟩ : BufTy).Contents (Elt F) → (⟨S104857600, .i32⟩ : BufTy).Contents (Elt F)),
    StableHlo.nullary main_c_27 (constantI S_ 32 6#32),
    StableHlo.unary main_c_27 main_v87 (broadcastInDim S104857600 ![] bcast_S_S104857600 : (⟨S_, .i32⟩ : BufTy).Contents (Elt F) → (⟨S104857600, .i32⟩ : BufTy).Contents (Elt F)),
    StableHlo.binary main_v83 main_v87 main_v88 (Host.shrui : (⟨S104857600, .i32⟩ : BufTy).Contents (Elt F) → (⟨S104857600, .i32⟩ : BufTy).Contents (Elt F) → (⟨S104857600, .i32⟩ : BufTy).Contents (Elt F)),
    StableHlo.binary main_v86 main_v88 main_v89 (ori : (⟨S104857600, .i32⟩ : BufTy).Contents (Elt F) → (⟨S104857600, .i32⟩ : BufTy).Contents (Elt F) → (⟨S104857600, .i32⟩ : BufTy).Contents (Elt F)),
    StableHlo.binary main_v89 main_v84 main_v90 (xori : (⟨S104857600, .i32⟩ : BufTy).Contents (Elt F) → (⟨S104857600, .i32⟩ : BufTy).Contents (Elt F) → (⟨S104857600, .i32⟩ : BufTy).Contents (Elt F)),
    StableHlo.binary main_v84 main_v90 main_v91 (addi : (⟨S104857600, .i32⟩ : BufTy).Contents (Elt F) → (⟨S104857600, .i32⟩ : BufTy).Contents (Elt F) → (⟨S104857600, .i32⟩ : BufTy).Contents (Elt F)),
    StableHlo.nullary main_c_28 (constantI S_ 32 6#32),
    StableHlo.unary main_c_28 main_v92 (broadcastInDim S104857600 ![] bcast_S_S104857600 : (⟨S_, .i32⟩ : BufTy).Contents (Elt F) → (⟨S104857600, .i32⟩ : BufTy).Contents (Elt F)),
    StableHlo.binary main_v90 main_v92 main_v93 (Host.shli : (⟨S104857600, .i32⟩ : BufTy).Contents (Elt F) → (⟨S104857600, .i32⟩ : BufTy).Contents (Elt F) → (⟨S104857600, .i32⟩ : BufTy).Contents (Elt F)),
    StableHlo.nullary main_c_29 (constantI S_ 32 26#32),
    StableHlo.unary main_c_29 main_v94 (broadcastInDim S104857600 ![] bcast_S_S104857600 : (⟨S_, .i32⟩ : BufTy).Contents (Elt F) → (⟨S104857600, .i32⟩ : BufTy).Contents (Elt F)),
    StableHlo.binary main_v90 main_v94 main_v95 (Host.shrui : (⟨S104857600, .i32⟩ : BufTy).Contents (Elt F) → (⟨S104857600, .i32⟩ : BufTy).Contents (Elt F) → (⟨S104857600, .i32⟩ : BufTy).Contents (Elt F)),
    StableHlo.binary main_v93 main_v95 main_v96 (ori : (⟨S104857600, .i32⟩ : BufTy).Contents (Elt F) → (⟨S104857600, .i32⟩ : BufTy).Contents (Elt F) → (⟨S104857600, .i32⟩ : BufTy).Contents (Elt F)),
    StableHlo.binary main_v96 main_v91 main_v97 (xori : (⟨S104857600, .i32⟩ : BufTy).Contents (Elt F) → (⟨S104857600, .i32⟩ : BufTy).Contents (Elt F) → (⟨S104857600, .i32⟩ : BufTy).Contents (Elt F)),
    StableHlo.nullary main_c_30 (constantI S_ 32 0#32),
    StableHlo.unary main_c_30 main_v98 (broadcastInDim S104857600 ![] bcast_S_S104857600 : (⟨S_, .i32⟩ : BufTy).Contents (Elt F) → (⟨S104857600, .i32⟩ : BufTy).Contents (Elt F)),
    StableHlo.binary main_v91 main_v98 main_v99 (addi : (⟨S104857600, .i32⟩ : BufTy).Contents (Elt F) → (⟨S104857600, .i32⟩ : BufTy).Contents (Elt F) → (⟨S104857600, .i32⟩ : BufTy).Contents (Elt F)),
    StableHlo.nullary main_c_31 (constantI S_ 32 4#32),
    StableHlo.unary main_c_31 main_v100 (broadcastInDim S104857600 ![] bcast_S_S104857600 : (⟨S_, .i32⟩ : BufTy).Contents (Elt F) → (⟨S104857600, .i32⟩ : BufTy).Contents (Elt F)),
    StableHlo.binary main_v97 main_v100 main_v101 (addi : (⟨S104857600, .i32⟩ : BufTy).Contents (Elt F) → (⟨S104857600, .i32⟩ : BufTy).Contents (Elt F) → (⟨S104857600, .i32⟩ : BufTy).Contents (Elt F)) ]

/-- Four rotations and a key injection. -/
def mix4 : List (HloOp τ sig (Elt F)) :=
  [ StableHlo.binary main_v99 main_v101 main_v102 (addi : (⟨S104857600, .i32⟩ : BufTy).Contents (Elt F) → (⟨S104857600, .i32⟩ : BufTy).Contents (Elt F) → (⟨S104857600, .i32⟩ : BufTy).Contents (Elt F)),
    StableHlo.nullary main_c_32 (constantI S_ 32 17#32),
    StableHlo.unary main_c_32 main_v103 (broadcastInDim S104857600 ![] bcast_S_S104857600 : (⟨S_, .i32⟩ : BufTy).Contents (Elt F) → (⟨S104857600, .i32⟩ : BufTy).Contents (Elt F)),
    StableHlo.binary main_v101 main_v103 main_v104 (Host.shli : (⟨S104857600, .i32⟩ : BufTy).Contents (Elt F) → (⟨S104857600, .i32⟩ : BufTy).Contents (Elt F) → (⟨S104857600, .i32⟩ : BufTy).Contents (Elt F)),
    StableHlo.nullary main_c_33 (constantI S_ 32 15#32),
    StableHlo.unary main_c_33 main_v105 (broadcastInDim S104857600 ![] bcast_S_S104857600 : (⟨S_, .i32⟩ : BufTy).Contents (Elt F) → (⟨S104857600, .i32⟩ : BufTy).Contents (Elt F)),
    StableHlo.binary main_v101 main_v105 main_v106 (Host.shrui : (⟨S104857600, .i32⟩ : BufTy).Contents (Elt F) → (⟨S104857600, .i32⟩ : BufTy).Contents (Elt F) → (⟨S104857600, .i32⟩ : BufTy).Contents (Elt F)),
    StableHlo.binary main_v104 main_v106 main_v107 (ori : (⟨S104857600, .i32⟩ : BufTy).Contents (Elt F) → (⟨S104857600, .i32⟩ : BufTy).Contents (Elt F) → (⟨S104857600, .i32⟩ : BufTy).Contents (Elt F)),
    StableHlo.binary main_v107 main_v102 main_v108 (xori : (⟨S104857600, .i32⟩ : BufTy).Contents (Elt F) → (⟨S104857600, .i32⟩ : BufTy).Contents (Elt F) → (⟨S104857600, .i32⟩ : BufTy).Contents (Elt F)),
    StableHlo.binary main_v102 main_v108 main_v109 (addi : (⟨S104857600, .i32⟩ : BufTy).Contents (Elt F) → (⟨S104857600, .i32⟩ : BufTy).Contents (Elt F) → (⟨S104857600, .i32⟩ : BufTy).Contents (Elt F)),
    StableHlo.nullary main_c_34 (constantI S_ 32 29#32),
    StableHlo.unary main_c_34 main_v110 (broadcastInDim S104857600 ![] bcast_S_S104857600 : (⟨S_, .i32⟩ : BufTy).Contents (Elt F) → (⟨S104857600, .i32⟩ : BufTy).Contents (Elt F)),
    StableHlo.binary main_v108 main_v110 main_v111 (Host.shli : (⟨S104857600, .i32⟩ : BufTy).Contents (Elt F) → (⟨S104857600, .i32⟩ : BufTy).Contents (Elt F) → (⟨S104857600, .i32⟩ : BufTy).Contents (Elt F)),
    StableHlo.nullary main_c_35 (constantI S_ 32 3#32),
    StableHlo.unary main_c_35 main_v112 (broadcastInDim S104857600 ![] bcast_S_S104857600 : (⟨S_, .i32⟩ : BufTy).Contents (Elt F) → (⟨S104857600, .i32⟩ : BufTy).Contents (Elt F)),
    StableHlo.binary main_v108 main_v112 main_v113 (Host.shrui : (⟨S104857600, .i32⟩ : BufTy).Contents (Elt F) → (⟨S104857600, .i32⟩ : BufTy).Contents (Elt F) → (⟨S104857600, .i32⟩ : BufTy).Contents (Elt F)),
    StableHlo.binary main_v111 main_v113 main_v114 (ori : (⟨S104857600, .i32⟩ : BufTy).Contents (Elt F) → (⟨S104857600, .i32⟩ : BufTy).Contents (Elt F) → (⟨S104857600, .i32⟩ : BufTy).Contents (Elt F)),
    StableHlo.binary main_v114 main_v109 main_v115 (xori : (⟨S104857600, .i32⟩ : BufTy).Contents (Elt F) → (⟨S104857600, .i32⟩ : BufTy).Contents (Elt F) → (⟨S104857600, .i32⟩ : BufTy).Contents (Elt F)),
    StableHlo.binary main_v109 main_v115 main_v116 (addi : (⟨S104857600, .i32⟩ : BufTy).Contents (Elt F) → (⟨S104857600, .i32⟩ : BufTy).Contents (Elt F) → (⟨S104857600, .i32⟩ : BufTy).Contents (Elt F)),
    StableHlo.nullary main_c_36 (constantI S_ 32 16#32),
    StableHlo.unary main_c_36 main_v117 (broadcastInDim S104857600 ![] bcast_S_S104857600 : (⟨S_, .i32⟩ : BufTy).Contents (Elt F) → (⟨S104857600, .i32⟩ : BufTy).Contents (Elt F)),
    StableHlo.binary main_v115 main_v117 main_v118 (Host.shli : (⟨S104857600, .i32⟩ : BufTy).Contents (Elt F) → (⟨S104857600, .i32⟩ : BufTy).Contents (Elt F) → (⟨S104857600, .i32⟩ : BufTy).Contents (Elt F)),
    StableHlo.nullary main_c_37 (constantI S_ 32 16#32),
    StableHlo.unary main_c_37 main_v119 (broadcastInDim S104857600 ![] bcast_S_S104857600 : (⟨S_, .i32⟩ : BufTy).Contents (Elt F) → (⟨S104857600, .i32⟩ : BufTy).Contents (Elt F)),
    StableHlo.binary main_v115 main_v119 main_v120 (Host.shrui : (⟨S104857600, .i32⟩ : BufTy).Contents (Elt F) → (⟨S104857600, .i32⟩ : BufTy).Contents (Elt F) → (⟨S104857600, .i32⟩ : BufTy).Contents (Elt F)),
    StableHlo.binary main_v118 main_v120 main_v121 (ori : (⟨S104857600, .i32⟩ : BufTy).Contents (Elt F) → (⟨S104857600, .i32⟩ : BufTy).Contents (Elt F) → (⟨S104857600, .i32⟩ : BufTy).Contents (Elt F)),
    StableHlo.binary main_v121 main_v116 main_v122 (xori : (⟨S104857600, .i32⟩ : BufTy).Contents (Elt F) → (⟨S104857600, .i32⟩ : BufTy).Contents (Elt F) → (⟨S104857600, .i32⟩ : BufTy).Contents (Elt F)),
    StableHlo.binary main_v116 main_v122 main_v123 (addi : (⟨S104857600, .i32⟩ : BufTy).Contents (Elt F) → (⟨S104857600, .i32⟩ : BufTy).Contents (Elt F) → (⟨S104857600, .i32⟩ : BufTy).Contents (Elt F)),
    StableHlo.nullary main_c_38 (constantI S_ 32 24#32),
    StableHlo.unary main_c_38 main_v124 (broadcastInDim S104857600 ![] bcast_S_S104857600 : (⟨S_, .i32⟩ : BufTy).Contents (Elt F) → (⟨S104857600, .i32⟩ : BufTy).Contents (Elt F)),
    StableHlo.binary main_v122 main_v124 main_v125 (Host.shli : (⟨S104857600, .i32⟩ : BufTy).Contents (Elt F) → (⟨S104857600, .i32⟩ : BufTy).Contents (Elt F) → (⟨S104857600, .i32⟩ : BufTy).Contents (Elt F)),
    StableHlo.nullary main_c_39 (constantI S_ 32 8#32),
    StableHlo.unary main_c_39 main_v126 (broadcastInDim S104857600 ![] bcast_S_S104857600 : (⟨S_, .i32⟩ : BufTy).Contents (Elt F) → (⟨S104857600, .i32⟩ : BufTy).Contents (Elt F)),
    StableHlo.binary main_v122 main_v126 main_v127 (Host.shrui : (⟨S104857600, .i32⟩ : BufTy).Contents (Elt F) → (⟨S104857600, .i32⟩ : BufTy).Contents (Elt F) → (⟨S104857600, .i32⟩ : BufTy).Contents (Elt F)),
    StableHlo.binary main_v125 main_v127 main_v128 (ori : (⟨S104857600, .i32⟩ : BufTy).Contents (Elt F) → (⟨S104857600, .i32⟩ : BufTy).Contents (Elt F) → (⟨S104857600, .i32⟩ : BufTy).Contents (Elt F)),
    StableHlo.binary main_v128 main_v123 main_v129 (xori : (⟨S104857600, .i32⟩ : BufTy).Contents (Elt F) → (⟨S104857600, .i32⟩ : BufTy).Contents (Elt F) → (⟨S104857600, .i32⟩ : BufTy).Contents (Elt F)),
    StableHlo.nullary main_c_40 (constantI S_ 32 1#32),
    StableHlo.unary main_c_40 main_v130 (broadcastInDim S104857600 ![] bcast_S_S104857600 : (⟨S_, .i32⟩ : BufTy).Contents (Elt F) → (⟨S104857600, .i32⟩ : BufTy).Contents (Elt F)),
    StableHlo.binary main_v123 main_v130 main_v131 (addi : (⟨S104857600, .i32⟩ : BufTy).Contents (Elt F) → (⟨S104857600, .i32⟩ : BufTy).Contents (Elt F) → (⟨S104857600, .i32⟩ : BufTy).Contents (Elt F)),
    StableHlo.nullary main_c_41 (constantI S_ 32 466688991#32),
    StableHlo.unary main_c_41 main_v132 (broadcastInDim S104857600 ![] bcast_S_S104857600 : (⟨S_, .i32⟩ : BufTy).Contents (Elt F) → (⟨S104857600, .i32⟩ : BufTy).Contents (Elt F)),
    StableHlo.binary main_v129 main_v132 main_v133 (addi : (⟨S104857600, .i32⟩ : BufTy).Contents (Elt F) → (⟨S104857600, .i32⟩ : BufTy).Contents (Elt F) → (⟨S104857600, .i32⟩ : BufTy).Contents (Elt F)) ]

/-- Four rotations and a key injection. -/
def mix5 : List (HloOp τ sig (Elt F)) :=
  [ StableHlo.binary main_v131 main_v133 main_v134 (addi : (⟨S104857600, .i32⟩ : BufTy).Contents (Elt F) → (⟨S104857600, .i32⟩ : BufTy).Contents (Elt F) → (⟨S104857600, .i32⟩ : BufTy).Contents (Elt F)),
    StableHlo.nullary main_c_42 (constantI S_ 32 13#32),
    StableHlo.unary main_c_42 main_v135 (broadcastInDim S104857600 ![] bcast_S_S104857600 : (⟨S_, .i32⟩ : BufTy).Contents (Elt F) → (⟨S104857600, .i32⟩ : BufTy).Contents (Elt F)),
    StableHlo.binary main_v133 main_v135 main_v136 (Host.shli : (⟨S104857600, .i32⟩ : BufTy).Contents (Elt F) → (⟨S104857600, .i32⟩ : BufTy).Contents (Elt F) → (⟨S104857600, .i32⟩ : BufTy).Contents (Elt F)),
    StableHlo.nullary main_c_43 (constantI S_ 32 19#32),
    StableHlo.unary main_c_43 main_v137 (broadcastInDim S104857600 ![] bcast_S_S104857600 : (⟨S_, .i32⟩ : BufTy).Contents (Elt F) → (⟨S104857600, .i32⟩ : BufTy).Contents (Elt F)),
    StableHlo.binary main_v133 main_v137 main_v138 (Host.shrui : (⟨S104857600, .i32⟩ : BufTy).Contents (Elt F) → (⟨S104857600, .i32⟩ : BufTy).Contents (Elt F) → (⟨S104857600, .i32⟩ : BufTy).Contents (Elt F)),
    StableHlo.binary main_v136 main_v138 main_v139 (ori : (⟨S104857600, .i32⟩ : BufTy).Contents (Elt F) → (⟨S104857600, .i32⟩ : BufTy).Contents (Elt F) → (⟨S104857600, .i32⟩ : BufTy).Contents (Elt F)),
    StableHlo.binary main_v139 main_v134 main_v140 (xori : (⟨S104857600, .i32⟩ : BufTy).Contents (Elt F) → (⟨S104857600, .i32⟩ : BufTy).Contents (Elt F) → (⟨S104857600, .i32⟩ : BufTy).Contents (Elt F)),
    StableHlo.binary main_v134 main_v140 main_v141 (addi : (⟨S104857600, .i32⟩ : BufTy).Contents (Elt F) → (⟨S104857600, .i32⟩ : BufTy).Contents (Elt F) → (⟨S104857600, .i32⟩ : BufTy).Contents (Elt F)),
    StableHlo.nullary main_c_44 (constantI S_ 32 15#32),
    StableHlo.unary main_c_44 main_v142 (broadcastInDim S104857600 ![] bcast_S_S104857600 : (⟨S_, .i32⟩ : BufTy).Contents (Elt F) → (⟨S104857600, .i32⟩ : BufTy).Contents (Elt F)),
    StableHlo.binary main_v140 main_v142 main_v143 (Host.shli : (⟨S104857600, .i32⟩ : BufTy).Contents (Elt F) → (⟨S104857600, .i32⟩ : BufTy).Contents (Elt F) → (⟨S104857600, .i32⟩ : BufTy).Contents (Elt F)),
    StableHlo.nullary main_c_45 (constantI S_ 32 17#32),
    StableHlo.unary main_c_45 main_v144 (broadcastInDim S104857600 ![] bcast_S_S104857600 : (⟨S_, .i32⟩ : BufTy).Contents (Elt F) → (⟨S104857600, .i32⟩ : BufTy).Contents (Elt F)),
    StableHlo.binary main_v140 main_v144 main_v145 (Host.shrui : (⟨S104857600, .i32⟩ : BufTy).Contents (Elt F) → (⟨S104857600, .i32⟩ : BufTy).Contents (Elt F) → (⟨S104857600, .i32⟩ : BufTy).Contents (Elt F)),
    StableHlo.binary main_v143 main_v145 main_v146 (ori : (⟨S104857600, .i32⟩ : BufTy).Contents (Elt F) → (⟨S104857600, .i32⟩ : BufTy).Contents (Elt F) → (⟨S104857600, .i32⟩ : BufTy).Contents (Elt F)),
    StableHlo.binary main_v146 main_v141 main_v147 (xori : (⟨S104857600, .i32⟩ : BufTy).Contents (Elt F) → (⟨S104857600, .i32⟩ : BufTy).Contents (Elt F) → (⟨S104857600, .i32⟩ : BufTy).Contents (Elt F)),
    StableHlo.binary main_v141 main_v147 main_v148 (addi : (⟨S104857600, .i32⟩ : BufTy).Contents (Elt F) → (⟨S104857600, .i32⟩ : BufTy).Contents (Elt F) → (⟨S104857600, .i32⟩ : BufTy).Contents (Elt F)),
    StableHlo.nullary main_c_46 (constantI S_ 32 26#32),
    StableHlo.unary main_c_46 main_v149 (broadcastInDim S104857600 ![] bcast_S_S104857600 : (⟨S_, .i32⟩ : BufTy).Contents (Elt F) → (⟨S104857600, .i32⟩ : BufTy).Contents (Elt F)),
    StableHlo.binary main_v147 main_v149 main_v150 (Host.shli : (⟨S104857600, .i32⟩ : BufTy).Contents (Elt F) → (⟨S104857600, .i32⟩ : BufTy).Contents (Elt F) → (⟨S104857600, .i32⟩ : BufTy).Contents (Elt F)),
    StableHlo.nullary main_c_47 (constantI S_ 32 6#32),
    StableHlo.unary main_c_47 main_v151 (broadcastInDim S104857600 ![] bcast_S_S104857600 : (⟨S_, .i32⟩ : BufTy).Contents (Elt F) → (⟨S104857600, .i32⟩ : BufTy).Contents (Elt F)),
    StableHlo.binary main_v147 main_v151 main_v152 (Host.shrui : (⟨S104857600, .i32⟩ : BufTy).Contents (Elt F) → (⟨S104857600, .i32⟩ : BufTy).Contents (Elt F) → (⟨S104857600, .i32⟩ : BufTy).Contents (Elt F)),
    StableHlo.binary main_v150 main_v152 main_v153 (ori : (⟨S104857600, .i32⟩ : BufTy).Contents (Elt F) → (⟨S104857600, .i32⟩ : BufTy).Contents (Elt F) → (⟨S104857600, .i32⟩ : BufTy).Contents (Elt F)),
    StableHlo.binary main_v153 main_v148 main_v154 (xori : (⟨S104857600, .i32⟩ : BufTy).Contents (Elt F) → (⟨S104857600, .i32⟩ : BufTy).Contents (Elt F) → (⟨S104857600, .i32⟩ : BufTy).Contents (Elt F)),
    StableHlo.binary main_v148 main_v154 main_v155 (addi : (⟨S104857600, .i32⟩ : BufTy).Contents (Elt F) → (⟨S104857600, .i32⟩ : BufTy).Contents (Elt F) → (⟨S104857600, .i32⟩ : BufTy).Contents (Elt F)),
    StableHlo.nullary main_c_48 (constantI S_ 32 6#32),
    StableHlo.unary main_c_48 main_v156 (broadcastInDim S104857600 ![] bcast_S_S104857600 : (⟨S_, .i32⟩ : BufTy).Contents (Elt F) → (⟨S104857600, .i32⟩ : BufTy).Contents (Elt F)),
    StableHlo.binary main_v154 main_v156 main_v157 (Host.shli : (⟨S104857600, .i32⟩ : BufTy).Contents (Elt F) → (⟨S104857600, .i32⟩ : BufTy).Contents (Elt F) → (⟨S104857600, .i32⟩ : BufTy).Contents (Elt F)),
    StableHlo.nullary main_c_49 (constantI S_ 32 26#32),
    StableHlo.unary main_c_49 main_v158 (broadcastInDim S104857600 ![] bcast_S_S104857600 : (⟨S_, .i32⟩ : BufTy).Contents (Elt F) → (⟨S104857600, .i32⟩ : BufTy).Contents (Elt F)),
    StableHlo.binary main_v154 main_v158 main_v159 (Host.shrui : (⟨S104857600, .i32⟩ : BufTy).Contents (Elt F) → (⟨S104857600, .i32⟩ : BufTy).Contents (Elt F) → (⟨S104857600, .i32⟩ : BufTy).Contents (Elt F)),
    StableHlo.binary main_v157 main_v159 main_v160 (ori : (⟨S104857600, .i32⟩ : BufTy).Contents (Elt F) → (⟨S104857600, .i32⟩ : BufTy).Contents (Elt F) → (⟨S104857600, .i32⟩ : BufTy).Contents (Elt F)),
    StableHlo.binary main_v160 main_v155 main_v161 (xori : (⟨S104857600, .i32⟩ : BufTy).Contents (Elt F) → (⟨S104857600, .i32⟩ : BufTy).Contents (Elt F) → (⟨S104857600, .i32⟩ : BufTy).Contents (Elt F)),
    StableHlo.nullary main_c_50 (constantI S_ 32 466688987#32),
    StableHlo.unary main_c_50 main_v162 (broadcastInDim S104857600 ![] bcast_S_S104857600 : (⟨S_, .i32⟩ : BufTy).Contents (Elt F) → (⟨S104857600, .i32⟩ : BufTy).Contents (Elt F)),
    StableHlo.binary main_v155 main_v162 main_v163 (addi : (⟨S104857600, .i32⟩ : BufTy).Contents (Elt F) → (⟨S104857600, .i32⟩ : BufTy).Contents (Elt F) → (⟨S104857600, .i32⟩ : BufTy).Contents (Elt F)),
    StableHlo.nullary main_c_51 (constantI S_ 32 5#32),
    StableHlo.unary main_c_51 main_v164 (broadcastInDim S104857600 ![] bcast_S_S104857600 : (⟨S_, .i32⟩ : BufTy).Contents (Elt F) → (⟨S104857600, .i32⟩ : BufTy).Contents (Elt F)),
    StableHlo.binary main_v161 main_v164 main_v165 (addi : (⟨S104857600, .i32⟩ : BufTy).Contents (Elt F) → (⟨S104857600, .i32⟩ : BufTy).Contents (Elt F) → (⟨S104857600, .i32⟩ : BufTy).Contents (Elt F)) ]

/-- The bits as a number in [0, 1). -/
def uniform : List (HloOp τ sig (Elt F)) :=
  [ StableHlo.binary main_v163 main_v165 main_v166 (xori : (⟨S104857600, .i32⟩ : BufTy).Contents (Elt F) → (⟨S104857600, .i32⟩ : BufTy).Contents (Elt F) → (⟨S104857600, .i32⟩ : BufTy).Contents (Elt F)),
    StableHlo.nullary main_c_52 (constantI S_ 32 9#32),
    StableHlo.unary main_c_52 main_v167 (broadcastInDim S104857600 ![] bcast_S_S104857600 : (⟨S_, .i32⟩ : BufTy).Contents (Elt F) → (⟨S104857600, .i32⟩ : BufTy).Contents (Elt F)),
    StableHlo.binary main_v166 main_v167 main_v168 (Host.shrui : (⟨S104857600, .i32⟩ : BufTy).Contents (Elt F) → (⟨S104857600, .i32⟩ : BufTy).Contents (Elt F) → (⟨S104857600, .i32⟩ : BufTy).Contents (Elt F)),
    StableHlo.nullary main_c_53 (constantI S_ 32 1065353216#32),
    StableHlo.unary main_c_53 main_v169 (broadcastInDim S104857600 ![] bcast_S_S104857600 : (⟨S_, .i32⟩ : BufTy).Contents (Elt F) → (⟨S104857600, .i32⟩ : BufTy).Contents (Elt F)),
    StableHlo.binary main_v168 main_v169 main_v170 (ori : (⟨S104857600, .i32⟩ : BufTy).Contents (Elt F) → (⟨S104857600, .i32⟩ : BufTy).Contents (Elt F) → (⟨S104857600, .i32⟩ : BufTy).Contents (Elt F)),
    StableHlo.unary main_v170 main_v171 (bitcastToFloat .f32 : (⟨S104857600, .i32⟩ : BufTy).Contents (Elt F) → (⟨S104857600, .f32⟩ : BufTy).Contents (Elt F)),
    StableHlo.nullary main_cst (constant S_ .f32 0x3F800000#32),
    StableHlo.unary main_cst main_v172 (broadcastInDim S104857600 ![] bcast_S_S104857600 : (⟨S_, .f32⟩ : BufTy).Contents (Elt F) → (⟨S104857600, .f32⟩ : BufTy).Contents (Elt F)),
    StableHlo.binary main_v171 main_v172 main_v173 (subf : (⟨S104857600, .f32⟩ : BufTy).Contents (Elt F) → (⟨S104857600, .f32⟩ : BufTy).Contents (Elt F) → (⟨S104857600, .f32⟩ : BufTy).Contents (Elt F)),
    StableHlo.nullary main_cst_54 (constant S_ .f32 0x00800000#32),
    StableHlo.nullary main_cst_55 (constant S_ .f32 0x3F800000#32) ]

theorem stages : (hostOps0 : List (HloOp τ sig (Elt F))) = start ++ (mix1 ++ (mix2 ++ (mix3 ++ (mix4 ++ (mix5 ++ uniform))))) := rfl

end Cert.KernelIdeal.Noise

end
-- ==== Proof.Mix.lean ====
/- The noise's word function: a counter's two words mixed by twenty rotations and five key injections. -/
module

public import Idealize.ShloMosaic.PureOps.Vector

@[expose] public section

namespace Cert.Noise

open Idealize.ShloMosaic

abbrev Word := BitVec 32

/-- Add the second word to the first, rotate the second and xor the first into it. -/
def turn (r s : Word) (p : Word × Word) : Word × Word :=
  (IntOp.addi p.1 p.2, IntOp.xori (IntOp.addi p.1 p.2) (IntOp.ori (IntOp.shli .host p.2 r) (IntOp.shrui .host p.2 s)))

/-- The same with the last operation's sides exchanged. -/
def turn' (r s : Word) (p : Word × Word) : Word × Word :=
  (IntOp.addi p.1 p.2, IntOp.xori (IntOp.ori (IntOp.shli .host p.2 r) (IntOp.shrui .host p.2 s)) (IntOp.addi p.1 p.2))

theorem turn_eq (r s : Word) (p : Word × Word) : turn' r s p = turn r s p :=
  Prod.ext rfl (BitVec.xor_comm _ _)

def fourA (p : Word × Word) : Word × Word := turn 6#32 26#32 (turn 26#32 6#32 (turn 15#32 17#32 (turn 13#32 19#32 p)))
def fourB (p : Word × Word) : Word × Word := turn 24#32 8#32 (turn 16#32 16#32 (turn 29#32 3#32 (turn 17#32 15#32 p)))
def fourA' (p : Word × Word) : Word × Word := turn' 6#32 26#32 (turn' 26#32 6#32 (turn' 15#32 17#32 (turn' 13#32 19#32 p)))
def fourB' (p : Word × Word) : Word × Word := turn' 24#32 8#32 (turn' 16#32 16#32 (turn' 29#32 3#32 (turn' 17#32 15#32 p)))

theorem fourA_eq (p : Word × Word) : fourA' p = fourA p := by unfold fourA' fourA; simp only [turn_eq]
theorem fourB_eq (p : Word × Word) : fourB' p = fourB p := by unfold fourB' fourB; simp only [turn_eq]

/-- Add a key word to each word. -/
def inject (k l : Word) (p : Word × Word) : Word × Word := (IntOp.addi p.1 k, IntOp.addi p.2 l)

/-- The noise's bits at a counter's low word. -/
def bits (n : Word) : Word :=
  let q := inject 466688987#32 5#32 (fourA (inject 1#32 466688991#32 (fourB (inject 0#32 4#32 (fourA (inject 466688987#32 2#32
    (fourB (inject 1#32 466688988#32 (fourA (0#32, IntOp.addi n 1#32))))))))))
  IntOp.xori q.1 q.2

end Cert.Noise
-- ==== Proof.NoiseMix.lean ====
/- The mixing stages at an index, by the word function. -/
module

public import proofs.«01_k».proof.Proof.NoiseOps
public import proofs.«01_k».proof.Proof.Mix
public import Idealize.ShloMosaic.Lib.StableHlo.ReadAt

@[expose] public section

set_option maxRecDepth 100000
set_option maxHeartbeats 40000000

noncomputable section

namespace Cert.KernelIdeal.Noise

open Idealize.ShloMosaic Idealize.ShloMosaic.TcCoe Idealize.SL.Sem
open Cert.KernelIdeal Cert.KernelIdeal.Gen Cert.Noise

variable {F : FTy → Type} [FloatOps F] (W : Valuation τ sig (Elt F))

theorem mix1_fst (i : S104857600.Idx) : (StableHlo.after (mix1 (F := F)) W (Proc.devRef .tc main_v35) : IVec S104857600 32) i
    = IntOp.addi (fourA' (W (Proc.devRef .tc main_v3) i, W (Proc.devRef .tc main_v5) i)).1 (1#32) := by
  unfold mix1
  after_reads_simp
  rfl

theorem mix1_snd (i : S104857600.Idx) : (StableHlo.after (mix1 (F := F)) W (Proc.devRef .tc main_v37) : IVec S104857600 32) i
    = IntOp.addi (fourA' (W (Proc.devRef .tc main_v3) i, W (Proc.devRef .tc main_v5) i)).2 466688988#32 := by
  unfold mix1
  after_reads_simp
  rfl

theorem mix2_fst (i : S104857600.Idx) : (StableHlo.after (mix2 (F := F)) W (Proc.devRef .tc main_v67) : IVec S104857600 32) i
    = IntOp.addi (fourB' (W (Proc.devRef .tc main_v35) i, W (Proc.devRef .tc main_v37) i)).1 (466688987#32) := by
  unfold mix2
  after_reads_simp
  rfl

theorem mix2_snd (i : S104857600.Idx) : (StableHlo.after (mix2 (F := F)) W (Proc.devRef .tc main_v69) : IVec S104857600 32) i
    = IntOp.addi (fourB' (W (Proc.devRef .tc main_v35) i, W (Proc.devRef .tc main_v37) i)).2 2#32 := by
  unfold mix2
  after_reads_simp
  rfl

theorem mix3_fst (i : S104857600.Idx) : (StableHlo.after (mix3 (F := F)) W (Proc.devRef .tc main_v99) : IVec S104857600 32) i
    = IntOp.addi (fourA' (W (Proc.devRef .tc main_v67) i, W (Proc.devRef .tc main_v69) i)).1 (0#32) := by
  unfold mix3
  after_reads_simp
  rfl

theorem mix3_snd (i : S104857600.Idx) : (StableHlo.after (mix3 (F := F)) W (Proc.devRef .tc main_v101) : IVec S104857600 32) i
    = IntOp.addi (fourA' (W (Proc.devRef .tc main_v67) i, W (Proc.devRef .tc main_v69) i)).2 4#32 := by
  unfold mix3
  after_reads_simp
  rfl

theorem mix4_fst (i : S104857600.Idx) : (StableHlo.after (mix4 (F := F)) W (Proc.devRef .tc main_v131) : IVec S104857600 32) i
    = IntOp.addi (fourB' (W (Proc.devRef .tc main_v99) i, W (Proc.devRef .tc main_v101) i)).1 (1#32) := by
  unfold mix4
  after_reads_simp
  rfl

theorem mix4_snd (i : S104857600.Idx) : (StableHlo.after (mix4 (F := F)) W (Proc.devRef .tc main_v133) : IVec S104857600 32) i
    = IntOp.addi (fourB' (W (Proc.devRef .tc main_v99) i, W (Proc.devRef .tc main_v101) i)).2 466688991#32 := by
  unfold mix4
  after_reads_simp
  rfl

theorem mix5_fst (i : S104857600.Idx) : (StableHlo.after (mix5 (F := F)) W (Proc.devRef .tc main_v163) : IVec S104857600 32) i
    = IntOp.addi (fourA' (W (Proc.devRef .tc main_v131) i, W (Proc.devRef .tc main_v133) i)).1 (466688987#32) := by
  unfold mix5
  after_reads_simp
  rfl

theorem mix5_snd (i : S104857600.Idx) : (StableHlo.after (mix5 (F := F)) W (Proc.devRef .tc main_v165) : IVec S104857600 32) i
    = IntOp.addi (fourA' (W (Proc.devRef .tc main_v131) i, W (Proc.devRef .tc main_v133) i)).2 5#32 := by
  unfold mix5
  after_reads_simp
  rfl

end Cert.KernelIdeal.Noise

end
-- ==== Proof.Unif.lean ====
/- The uniform numbers of the noise, at any meaning of the floats. -/
module

public import proofs.«01_k».proof.Proof.Mix
public import Idealize.ShloMosaic.Lib.StableHlo.ReadAt

@[expose] public section

noncomputable section

namespace Cert.Noise

open Idealize.ShloMosaic

variable {F : FTy → Type} [FloatOps F]

/-- The float in [1, 2) whose last 23 bits are a word's first 23, less one. -/
def view (b : Word) : F .f32 :=
  FloatOps.subf (FloatOps.ofBits .f32 (IntOp.ori (IntOp.shrui .host b 9#32) 1065353216#32)) (FloatOps.ofBits .f32 0x3F800000#32)

/-- The number in [0, 1) of a counter's low word. -/
def frac (n : Word) : F .f32 := view (bits n)

/-- The same, clipped from below. -/
def unif (n : Word) : F .f32 := FloatOps.minimumf (FloatOps.ofBits .f32 0x3F800000#32) (FloatOps.maximumf (FloatOps.ofBits .f32 0x00800000#32) (frac n))

/-- A number of the unit interval, scaled to the interval from zero to one and kept above zero. -/
def spanned (x : F .f32) : F .f32 :=
  FloatOps.maximumf (FloatOps.ofBits .f32 0x00000000#32)
    (FloatOps.addf (FloatOps.mulf x (FloatOps.subf (FloatOps.ofBits .f32 0x3F800000#32) (FloatOps.ofBits .f32 0x00000000#32))) (FloatOps.ofBits .f32 0x00000000#32))

/-- The number of a counter's low word, scaled and clipped. -/
def unifSpanned (n : Word) : F .f32 := FloatOps.minimumf (FloatOps.ofBits .f32 0x3F800000#32) (FloatOps.maximumf (FloatOps.ofBits .f32 0x00800000#32) (spanned (frac n)))

/-- The place of a class of a token of a sample in the flat table. -/
def place (i : Fin 1024) (n : Fin 200) (d : Fin 512) : Fin 104857600 := ⟨102400 * i.val + 512 * n.val + d.val, by omega⟩

end Cert.Noise

end
-- ==== Proof.Output.lean ====
/- The region's output, entry by entry: each grid point writes the block of one position, and every position has one. -/
module

public import proofs.«01_k».proof.Proof.Exit
public import Idealize.ShloMosaic.Lib.Pipeline.ValueKit.Geometry
public import Idealize.ShloMosaic.Lib.ValueLayout

@[expose] public section

set_option maxRecDepth 4000

noncomputable section

namespace Cert.KernelIdeal.Rounds

open Idealize.ShloMosaic Idealize.ShloMosaic.TcCoe Idealize.SL.Sem
open Cert.KernelIdeal Cert.KernelIdeal.Gen

variable {F : FTy → Type} [FloatOps F]

/-- A row of tokens. -/
def tokens (X : IVec S1024x200 32) (i : Fin 1024) : IVec S1x1x200 32 := fun y => X (ix2 i (y 2))
/-- A row of tokens, by the array the region is given. -/
def line (X : IVec S1024x1x200 32) (i : Fin 1024) : IVec S1x1x200 32 := fun y => X (ix3 i (y 1) (y 2))
/-- A matrix of the table. -/
def slab (A : FVec F S102x512x512 .f32) (t : Fin 102) : FVec F S1x512x512 .f32 := fun y => A (ix3 t (y 1) (y 2))
/-- A position's weights. -/
def plane (W : FVec F S1024x200x512 .f32) (i : Fin 1024) : FVec F S1x200x512 .f32 := fun y => W (ix3 i (y 1) (y 2))

/-- The step of a position. -/
def stepOf (T : IVec S1024 32) (i : Fin 1024) : Fin 102 := ⟨(T (Shape.Idx.ofFin i)).toNat % 102, Nat.mod_lt _ (by decide)⟩
/-- The step counted from the other end. -/
def backOf (T : IVec S1024 32) (i : Fin 1024) : Fin 102 := ⟨101 - (stepOf T i).val, by omega⟩

theorem cast_tokens (X : IVec S1024x200 32) (i : Fin 1024) (u : Fin 1) (n : Fin 200) :
    (shapeCast S1024x1x200 X Gen.shapeCasts_S1024x200_S1024x1x200 : IVec S1024x1x200 32) (ix3 i u n) = X (ix2 i n) :=
  shapeCast_apply X _ _ _ (by
    have hu : u.val = 0 := by omega
    rw [Shape.rowMajor_val_three, Shape.rowMajor_val_two]
    show i.val * 200 + n.val = (i.val * 1 + u.val) * 200 + n.val
    rw [hu]; omega)

theorem cast_picks (Z : IVec S1024x25x8 32) (i : Fin 1024) (k : Fin 25) (j : Fin 8) :
    (shapeCast S1024x200 Z Gen.shapeCasts_S1024x25x8_S1024x200 : IVec S1024x200 32) (ix2 i (tok k j)) = Z (ix3 i k j) :=
  shapeCast_apply Z _ _ _ (by
    rw [Shape.rowMajor_val_three, Shape.rowMajor_val_two]
    show (i.val * 25 + k.val) * 8 + j.val = i.val * 200 + (8 * k.val + j.val)
    omega)

/-- The tables' entries at every grid point: the steps, the steps from the other end, and the positions. -/
structure Steps (pf : pre0.Contents (Elt F)) (pos : Fin 1024 → Fin 1024) (s b : Fin 1024 → Fin 102) : Prop where
  onto : Function.Surjective pos
  inj : Function.Injective pos
  fwd : ∀ p, (entry pf 0 p).toNat = (s (pos p)).val
  bwd : ∀ p, (entry pf 1 p).toNat = (b (pos p)).val
  at2 : ∀ p, (entry pf 2 p).toNat = (pos p).val
  at3 : ∀ p, (entry pf 3 p).toNat = (pos p).val

section geometry

variable (a : (p : Fin 1) → (pcfgs (F := F) p).Adm) (V : Dev nD → Valuation τ sig (Elt F))
variable {pos : Fin 1024 → Fin 1024} {s b : Fin 1024 → Fin 102} (hs : Steps (a 0).1 pos s b)
variable (t : Fin (cfg0 (a 0)).N)

/-- The coordinate of a grid point. -/
abbrev at0 : Fin 1024 := (cfg0 (a 0)).grid.coords t 0

include hs

theorem index_0 : (win0 (a 0) 0).index t = ![(s (pos (at0 a t))).val, 0, 0] :=
  (tile_0 (a 0).1 _).trans (congrArg (fun n : ℕ => (![n, 0, 0] : Fin 3 → ℕ)) (hs.fwd _))
theorem index_1 : (win0 (a 0) 1).index t = ![(b (pos (at0 a t))).val, 0, 0] :=
  (tile_1 (a 0).1 _).trans (congrArg (fun n : ℕ => (![n, 0, 0] : Fin 3 → ℕ)) (hs.bwd _))
theorem index_2 : (win0 (a 0) 2).index t = ![(pos (at0 a t)).val, 0, 0] :=
  (tile_2 (a 0).1 _).trans (congrArg (fun n : ℕ => (![n, 0, 0] : Fin 3 → ℕ)) (hs.at2 _))
theorem index_3 : (win0 (a 0) 3).index t = ![(pos (at0 a t)).val, 0, 0] :=
  (tile_3 (a 0).1 _).trans (congrArg (fun n : ℕ => (![n, 0, 0] : Fin 3 → ℕ)) (hs.at2 _))
theorem index_4 : (win0 (a 0) 4).index t = ![(pos (at0 a t)).val, 0, 0] :=
  (tile_4 (a 0).1 _).trans (congrArg (fun n : ℕ => (![n, 0, 0] : Fin 3 → ℕ)) (hs.at3 _))
theorem index_5 : (win0 (a 0) 5).index t = ![(pos (at0 a t)).val, 0, 0] :=
  (tile_5 (a 0).1 _).trans (congrArg (fun n : ℕ => (![n, 0, 0] : Fin 3 → ℕ)) (hs.at2 _))

theorem emb_0 (y : S1x512x512.Idx) :
    ((win0 (a 0) 0).blk t).view.emb y = (ix3 (s (pos (at0 a t))) (y 1) (y 2) : S102x512x512.Idx) := by
  funext k
  apply Fin.ext
  refine ((win0 (a 0) 0).rect_emb_val t y k).trans ?_
  rw [index_0 a hs t]
  have hy : (y 0).val = 0 := by have := (y 0).isLt; change _ < 1 at this; omega
  match k with
  | ⟨0, _⟩ => show _ * 1 + (y 0).val = _; rw [hy]; exact Nat.mul_one _
  | ⟨1, _⟩ => show 0 * 512 + (y 1).val = _; rw [Nat.zero_mul, Nat.zero_add]; rfl
  | ⟨2, _⟩ => show 0 * 512 + (y 2).val = _; rw [Nat.zero_mul, Nat.zero_add]; rfl

theorem emb_1 (y : S1x512x512.Idx) :
    ((win0 (a 0) 1).blk t).view.emb y = (ix3 (b (pos (at0 a t))) (y 1) (y 2) : S102x512x512.Idx) := by
  funext k
  apply Fin.ext
  refine ((win0 (a 0) 1).rect_emb_val t y k).trans ?_
  rw [index_1 a hs t]
  have hy : (y 0).val = 0 := by have := (y 0).isLt; change _ < 1 at this; omega
  match k with
  | ⟨0, _⟩ => show _ * 1 + (y 0).val = _; rw [hy]; exact Nat.mul_one _
  | ⟨1, _⟩ => show 0 * 512 + (y 1).val = _; rw [Nat.zero_mul, Nat.zero_add]; rfl
  | ⟨2, _⟩ => show 0 * 512 + (y 2).val = _; rw [Nat.zero_mul, Nat.zero_add]; rfl

theorem emb_2 (y : S1x1x200.Idx) :
    ((win0 (a 0) 2).blk t).view.emb y = (ix3 (pos (at0 a t)) (y 1) (y 2) : S1024x1x200.Idx) := by
  funext k
  apply Fin.ext
  refine ((win0 (a 0) 2).rect_emb_val t y k).trans ?_
  rw [index_2 a hs t]
  have hy : (y 0).val = 0 := by have := (y 0).isLt; change _ < 1 at this; omega
  match k with
  | ⟨0, _⟩ => show _ * 1 + (y 0).val = _; rw [hy]; exact Nat.mul_one _
  | ⟨1, _⟩ => show 0 * 1 + (y 1).val = _; rw [Nat.zero_mul, Nat.zero_add]; rfl
  | ⟨2, _⟩ => show 0 * 200 + (y 2).val = _; rw [Nat.zero_mul, Nat.zero_add]; rfl

theorem emb_3 (y : S1x1x200.Idx) :
    ((win0 (a 0) 3).blk t).view.emb y = (ix3 (pos (at0 a t)) (y 1) (y 2) : S1024x1x200.Idx) := by
  funext k
  apply Fin.ext
  refine ((win0 (a 0) 3).rect_emb_val t y k).trans ?_
  rw [index_3 a hs t]
  have hy : (y 0).val = 0 := by have := (y 0).isLt; change _ < 1 at this; omega
  match k with
  | ⟨0, _⟩ => show _ * 1 + (y 0).val = _; rw [hy]; exact Nat.mul_one _
  | ⟨1, _⟩ => show 0 * 1 + (y 1).val = _; rw [Nat.zero_mul, Nat.zero_add]; rfl
  | ⟨2, _⟩ => show 0 * 200 + (y 2).val = _; rw [Nat.zero_mul, Nat.zero_add]; rfl

theorem emb_4 (y : S1x200x512.Idx) :
    ((win0 (a 0) 4).blk t).view.emb y = (ix3 (pos (at0 a t)) (y 1) (y 2) : S1024x200x512.Idx) := by
  funext k
  apply Fin.ext
  refine ((win0 (a 0) 4).rect_emb_val t y k).trans ?_
  rw [index_4 a hs t]
  have hy : (y 0).val = 0 := by have := (y 0).isLt; change _ < 1 at this; omega
  match k with
  | ⟨0, _⟩ => show _ * 1 + (y 0).val = _; rw [hy]; exact Nat.mul_one _
  | ⟨1, _⟩ => show 0 * 200 + (y 1).val = _; rw [Nat.zero_mul, Nat.zero_add]; rfl
  | ⟨2, _⟩ => show 0 * 512 + (y 2).val = _; rw [Nat.zero_mul, Nat.zero_add]; rfl

theorem emb_5 (y : S1x25x8.Idx) :
    ((win0 (a 0) 5).blk t).view.emb y = (ix3 (pos (at0 a t)) (y 1) (y 2) : S1024x25x8.Idx) := by
  funext k
  apply Fin.ext
  refine ((win0 (a 0) 5).rect_emb_val t y k).trans ?_
  rw [index_5 a hs t]
  have hy : (y 0).val = 0 := by have := (y 0).isLt; change _ < 1 at this; omega
  match k with
  | ⟨0, _⟩ => show _ * 1 + (y 0).val = _; rw [hy]; exact Nat.mul_one _
  | ⟨1, _⟩ => show 0 * 25 + (y 1).val = _; rw [Nat.zero_mul, Nat.zero_add]; rfl
  | ⟨2, _⟩ => show 0 * 8 + (y 2).val = _; rw [Nat.zero_mul, Nat.zero_add]; rfl

theorem block_0 : (blockAt a V 0 0 0 t : FVec F S1x512x512 .f32) = slab (V 0 (Proc.devRef .tc main_arg3)) (s (pos (at0 a t))) :=
  funext fun y => congrArg (V 0 (Proc.devRef .tc main_arg3)) (emb_0 a hs t y)

theorem block_1 : (blockAt a V 0 0 1 t : FVec F S1x512x512 .f32) = slab (V 0 (Proc.devRef .tc main_arg3)) (b (pos (at0 a t))) :=
  funext fun y => congrArg (V 0 (Proc.devRef .tc main_arg3)) (emb_1 a hs t y)

theorem block_2 : (blockAt a V 0 0 2 t : IVec S1x1x200 32) = line (V 0 (Proc.devRef .tc main_v193)) (pos (at0 a t)) :=
  funext fun y => congrArg (V 0 (Proc.devRef .tc main_v193)) (emb_2 a hs t y)

theorem block_3 : (blockAt a V 0 0 3 t : IVec S1x1x200 32) = line (V 0 (Proc.devRef .tc main_v194)) (pos (at0 a t)) :=
  funext fun y => congrArg (V 0 (Proc.devRef .tc main_v194)) (emb_3 a hs t y)

theorem block_4 : (blockAt a V 0 0 4 t : FVec F S1x200x512 .f32) = plane (V 0 (Proc.devRef .tc main_v179)) (pos (at0 a t)) :=
  funext fun y => congrArg (V 0 (Proc.devRef .tc main_v179)) (emb_4 a hs t y)

omit hs in
theorem coords_0 : (at0 a t).val = t.val := by
  have ht : t.val < 1024 := t.isLt
  refine (Pipeline.Grid.coords_val t 0 (S := 1) (B := 1024) (by rfl) (by rfl)).trans ?_
  omega

/-- Consecutive points write different blocks: each is written back. -/
theorem flush_5 : (win0 (a 0) 5).flush t = true := by
  rw [Pipeline.Window.flush_eq_flushOf]
  unfold Pipeline.Window.flushOf
  rw [Bool.and_eq_true]
  refine ⟨rfl, ?_⟩
  rw [Bool.or_eq_true]
  by_cases ht : t.val + 1 = (cfg0 (a 0)).N
  · exact Or.inl (decide_eq_true ht)
  · have hlt : t.val + 1 < (cfg0 (a 0)).N := Nat.lt_of_le_of_ne t.isLt ht
    refine Or.inr (decide_eq_true ⟨hlt, fun e => ?_⟩)
    have e' : (win0 (a 0) 5).index ⟨t.val + 1, hlt⟩ = (win0 (a 0) 5).index t := e
    rw [index_5 a hs, index_5 a hs] at e'
    have e0 : (pos (at0 a ⟨t.val + 1, hlt⟩)).val = (pos (at0 a t)).val := congrFun e' 0
    have e2 := congrArg Fin.val (hs.inj (Fin.ext e0))
    rw [coords_0, coords_0] at e2
    exact absurd e2 (Nat.succ_ne_self _)

/-- The output array over the arrays at the region's entry. -/
def expectedOf (P : FVec F S102x512x512 .f32) (X Y : IVec S1024x1x200 32) (W : FVec F S1024x200x512 .f32) (s b : Fin 1024 → Fin 102) :
    IVec S1024x25x8 32 := fun z =>
  block (line X (z 0)) (line Y (z 0)) (slab P (s (z 0))) (slab P (b (z 0))) (plane W (z 0)) (ix3 0 (z 1) (z 2))

omit hs in
set_option maxRecDepth 10000 in
theorem left_5 : (dats a V 0 0).after (5 : Fin 6) t =
    block (blockAt a V 0 0 2 t) (blockAt a V 0 0 3 t) (blockAt a V 0 0 0 t) (blockAt a V 0 0 1 t) (blockAt a V 0 0 4 t) := rfl

theorem output_eq : (dats a V 0 0).arrAt (5 : Fin 6) (cfg0 (a 0)).N =
    expectedOf (V 0 (Proc.devRef .tc main_arg3)) (V 0 (Proc.devRef .tc main_v193)) (V 0 (Proc.devRef .tc main_v194)) (V 0 (Proc.devRef .tc main_v179)) s b := by
  refine (dats a V 0 0).arrAt_eq_of_emb (5 : Fin 6) _ (fun t _ y => ?_) (fun z => ?_)
  · refine Eq.trans ?_ (congrArg (expectedOf (V 0 (Proc.devRef .tc main_arg3)) (V 0 (Proc.devRef .tc main_v193)) (V 0 (Proc.devRef .tc main_v194)) (V 0 (Proc.devRef .tc main_v179)) s b) (emb_5 a hs t y)).symm
    refine (cast_eq _ _).trans ((congrFun (left_5 a V t) y).trans ?_)
    rw [block_0 a V hs t, block_1 a V hs t, block_2 a V hs t, block_3 a V hs t, block_4 a V hs t]
    rfl
  · obtain ⟨p, hp⟩ := hs.onto (z 0)
    have hN : p.val < (cfg0 (a 0)).N := p.isLt
    refine ⟨⟨p.val, hN⟩, flush_5 a hs _, ?_⟩
    have ez : ((win0 (a 0) 5).blk ⟨p.val, hN⟩).view.emb (ix3 0 (z 1) (z 2) : S1x25x8.Idx) = z := by
      refine (emb_5 a hs ⟨p.val, hN⟩ (ix3 0 (z 1) (z 2))).trans ?_
      have e0 : at0 a ⟨p.val, hN⟩ = p := Fin.ext (coords_0 a _)
      rw [e0, hp]
      funext k
      match k with
      | ⟨0, _⟩ => rfl
      | ⟨1, _⟩ => rfl
      | ⟨2, _⟩ => rfl
    rw [← ez]
    exact View.emb_mem_set _ _

end geometry

variable (m : (ℓ : Loc nD τ sig) → Buf (Elt F) ℓ) (h : InRange (argX m) (argY m) (argT m))

/-- The weights at the region's entry. -/
def argW : FVec F S1024x200x512 .f32 := V5 m 0 (Proc.devRef .tc main_v179)

theorem stepOf_val (T : IVec S1024 32) (hT : ∀ i, (T i).toNat < 102) (i : Fin 1024) : (stepOf T i).val = (T (Shape.Idx.ofFin i)).toNat :=
  Nat.mod_eq_of_lt (hT _)

include h in
theorem steps : Steps (tables m) (perm (argT m)) (stepOf (argT m)) (backOf (argT m)) where
  onto := perm_surjective _
  inj := perm_injective _
  fwd p := (congrArg BitVec.toNat (tables_0 m p)).trans (stepOf_val _ h.step _).symm
  bwd p := (congrArg BitVec.toNat (tables_1 m p)).trans ((back_toNat _ (h.step _)).trans (congrArg (101 - ·) (stepOf_val _ h.step _).symm))
  at2 := tables_2 m
  at3 := tables_3 m

theorem picks_eq (i : Fin 1024) (k : Fin 25) (j : Fin 8) : picks m h (ix3 i k j) =
    picked (tokens (argX m) i) (tokens (argY m) i) (slab (argP m) (stepOf (argT m) i)) (slab (argP m) (backOf (argT m) i)) (plane (argW m) i) k (ix3 0 0 j) := by
  have e := output_eq (adm m h) (V5 m) (steps m h)
  unfold picks
  rw [e]
  unfold expectedOf argW
  rw [V5_v193, V5_v194, V5_arg3]
  have hX : line (shapeCast S1024x1x200 (argX m) Gen.shapeCasts_S1024x200_S1024x1x200) i = tokens (argX m) i :=
    funext fun y => cast_tokens _ i (y 1) (y 2)
  have hY : line (shapeCast S1024x1x200 (argY m) Gen.shapeCasts_S1024x200_S1024x1x200) i = tokens (argY m) i :=
    funext fun y => cast_tokens _ i (y 1) (y 2)
  rw [← hX, ← hY]
  rfl

end Cert.KernelIdeal.Rounds

end
-- ==== Proof.Weight.lean ====
/- The kernel's weights at an index, by the noise's word function. -/
module

public import proofs.«01_k».proof.Proof.NoiseMix
public import proofs.«01_k».proof.Proof.Unif
public import proofs.«01_k».proof.Proof.Output
public import Idealize.ShloMosaic.Lib.ValueIdxCore

@[expose] public section

set_option maxRecDepth 100000
set_option maxHeartbeats 4000000

noncomputable section

namespace Cert.KernelIdeal.Noise

open Idealize.ShloMosaic Idealize.ShloMosaic.TcCoe Idealize.SL.Sem
open Cert.KernelIdeal Cert.KernelIdeal.Gen Cert.Noise Cert.KernelIdeal.Rounds

variable {F : FTy → Type} [FloatOps F] (W : Valuation τ sig (Elt F))

theorem pair_0 (i : S104857600.Idx) :
    ((StableHlo.after (start (F := F)) W (Proc.devRef .tc main_v3) : IVec S104857600 32) i, (StableHlo.after (start (F := F)) W (Proc.devRef .tc main_v5) : IVec S104857600 32) i)
      = (0#32, IntOp.addi (BitVec.ofNat 32 (i 0).val) 1#32) := by
  refine Prod.ext ?_ ?_
  · unfold start
    after_reads_simp
    exact (by decide : IntOp.addi 0#32 0#32 = 0#32)
  · unfold start
    after_reads_simp
    rfl

theorem pair_1 (i : S104857600.Idx) :
    ((StableHlo.after (mix1 (F := F)) W (Proc.devRef .tc main_v35) : IVec S104857600 32) i, (StableHlo.after (mix1 (F := F)) W (Proc.devRef .tc main_v37) : IVec S104857600 32) i)
      = inject 1#32 466688988#32 (fourA ((W (Proc.devRef .tc main_v3) : IVec S104857600 32) i, (W (Proc.devRef .tc main_v5) : IVec S104857600 32) i)) := by
  rw [mix1_fst, mix1_snd, fourA_eq]; rfl

theorem pair_2 (i : S104857600.Idx) :
    ((StableHlo.after (mix2 (F := F)) W (Proc.devRef .tc main_v67) : IVec S104857600 32) i, (StableHlo.after (mix2 (F := F)) W (Proc.devRef .tc main_v69) : IVec S104857600 32) i)
      = inject 466688987#32 2#32 (fourB ((W (Proc.devRef .tc main_v35) : IVec S104857600 32) i, (W (Proc.devRef .tc main_v37) : IVec S104857600 32) i)) := by
  rw [mix2_fst, mix2_snd, fourB_eq]; rfl

theorem pair_3 (i : S104857600.Idx) :
    ((StableHlo.after (mix3 (F := F)) W (Proc.devRef .tc main_v99) : IVec S104857600 32) i, (StableHlo.after (mix3 (F := F)) W (Proc.devRef .tc main_v101) : IVec S104857600 32) i)
      = inject 0#32 4#32 (fourA ((W (Proc.devRef .tc main_v67) : IVec S104857600 32) i, (W (Proc.devRef .tc main_v69) : IVec S104857600 32) i)) := by
  rw [mix3_fst, mix3_snd, fourA_eq]; rfl

theorem pair_4 (i : S104857600.Idx) :
    ((StableHlo.after (mix4 (F := F)) W (Proc.devRef .tc main_v131) : IVec S104857600 32) i, (StableHlo.after (mix4 (F := F)) W (Proc.devRef .tc main_v133) : IVec S104857600 32) i)
      = inject 1#32 466688991#32 (fourB ((W (Proc.devRef .tc main_v99) : IVec S104857600 32) i, (W (Proc.devRef .tc main_v101) : IVec S104857600 32) i)) := by
  rw [mix4_fst, mix4_snd, fourB_eq]; rfl

theorem pair_5 (i : S104857600.Idx) :
    ((StableHlo.after (mix5 (F := F)) W (Proc.devRef .tc main_v163) : IVec S104857600 32) i, (StableHlo.after (mix5 (F := F)) W (Proc.devRef .tc main_v165) : IVec S104857600 32) i)
      = inject 466688987#32 5#32 (fourA ((W (Proc.devRef .tc main_v131) : IVec S104857600 32) i, (W (Proc.devRef .tc main_v133) : IVec S104857600 32) i)) := by
  rw [mix5_fst, mix5_snd, fourA_eq]; rfl

/-- The last stage, of a pair of words. -/
def close (p : Word × Word) : F .f32 := view (IntOp.xori p.1 p.2)

theorem uniform_at (i : S104857600.Idx) :
    (StableHlo.after (uniform (F := F)) W (Proc.devRef .tc main_v173) : FVec F S104857600 .f32) i
      = close ((W (Proc.devRef .tc main_v163) : IVec S104857600 32) i, (W (Proc.devRef .tc main_v165) : IVec S104857600 32) i) := by
  unfold uniform
  after_reads_simp
  rfl

theorem frac_at (i : S104857600.Idx) :
    (StableHlo.after (hostOps0 : List (HloOp τ sig (Elt F))) W (Proc.devRef .tc main_v173) : FVec F S104857600 .f32) i = frac (BitVec.ofNat 32 (i 0).val) := by
  rw [stages]
  simp only [after_two]
  refine (uniform_at _ i).trans ?_
  refine (congrArg close ((pair_5 _ i).trans (congrArg (fun p => inject 466688987#32 5#32 (fourA p)) ((pair_4 _ i).trans (congrArg (fun p => inject 1#32 466688991#32 (fourB p))
    ((pair_3 _ i).trans (congrArg (fun p => inject 0#32 4#32 (fourA p)) ((pair_2 _ i).trans (congrArg (fun p => inject 466688987#32 2#32 (fourB p))
    ((pair_1 _ i).trans (congrArg (fun p => inject 1#32 466688988#32 (fourA p)) (pair_0 _ i)))))))))))).trans ?_
  rfl

theorem low_at : StableHlo.after (hostOps0 : List (HloOp τ sig (Elt F))) W (Proc.devRef .tc main_cst_54) = constant S_ .f32 0x00800000#32 := by
  rw [stages]
  simp only [after_two]
  generalize StableHlo.after (mix5 (F := F)) _ = V
  unfold uniform
  after_reads_simp

theorem high_at : StableHlo.after (hostOps0 : List (HloOp τ sig (Elt F))) W (Proc.devRef .tc main_cst_55) = constant S_ .f32 0x3F800000#32 := by
  rw [stages]
  simp only [after_two]
  generalize StableHlo.after (mix5 (F := F)) _ = V
  unfold uniform
  after_reads_simp

/-- The weights, of the uniform numbers. -/
theorem weights_eq : StableHlo.after hostOps0_4 (StableHlo.after hostOps0_3 (StableHlo.after hostOps0_2 (StableHlo.after hostOps0_1 W))) (Proc.devRef .tc main_v179)
    = shapeCast S1024x200x512 (Host.divf (broadcastInDim S104857600 ![] bcast_S_S104857600 (constant S_ .f32 0x3F800000#32))
        (Host.negf (Host.log (minimumf (broadcastInDim S104857600 ![] bcast_S_S104857600 (W (Proc.devRef .tc main_cst_55) : FVec F S_ .f32))
          (maximumf (broadcastInDim S104857600 ![] bcast_S_S104857600 (W (Proc.devRef .tc main_cst_54) : FVec F S_ .f32)) (W (Proc.devRef .tc main_v173) : FVec F S104857600 .f32))))))
        shapeCasts_S104857600_S1024x200x512 := by
  after_reads_simp
  rfl

end Cert.KernelIdeal.Noise

namespace Cert.KernelIdeal.Rounds

open Idealize.ShloMosaic Idealize.ShloMosaic.TcCoe Idealize.SL.Sem
open Cert.KernelIdeal Cert.KernelIdeal.Gen Cert.Noise Cert.KernelIdeal.Noise

variable {F : FTy → Type} [FloatOps F]

theorem weight_at (m : (ℓ : Loc nD τ sig) → Buf (Elt F) ℓ) (i : Fin 1024) (n : Fin 200) (d : Fin 512) :
    argW m (ix3 i n d) = FloatOps.hostDivf (FloatOps.ofBits .f32 0x3F800000#32)
      (FloatOps.hostNegf (FloatOps.hostUnary .log (unif (F := F) (BitVec.ofNat 32 (place i n d).val)))) := by
  unfold argW
  rw [show V5 m 0 (Proc.devRef .tc main_v179) = _ from weights_eq _, show V1 m 0 (Proc.devRef .tc main_cst_54) = _ from low_at _, show V1 m 0 (Proc.devRef .tc main_cst_55) = _ from high_at _]
  refine (shapeCast_apply _ _ _ (Shape.Idx.ofFin (place i n d)) ?_).trans ?_
  · rw [Shape.rowMajor_val_three]
    show (Shape.rowMajor (⟨1, ![104857600]⟩ : Shape) (Shape.Idx.ofFin (place i n d))).val = (i.val * 200 + n.val) * 512 + d.val
    rw [Shape.rowMajor_val_one]
    show 102400 * i.val + 512 * n.val + d.val = _
    omega
  · show FloatOps.hostDivf _ (FloatOps.hostNegf (FloatOps.hostUnary .log (FloatOps.minimumf _ (FloatOps.maximumf _ ((StableHlo.after (hostOps0 : List (HloOp τ sig (Elt F))) _ (Proc.devRef .tc main_v173) : FVec F S104857600 .f32) _))))) = _
    exact congrArg (fun x => FloatOps.hostDivf (FloatOps.ofBits .f32 0x3F800000#32) (FloatOps.hostNegf (FloatOps.hostUnary .log (FloatOps.minimumf (FloatOps.ofBits .f32 0x3F800000#32) (FloatOps.maximumf (FloatOps.ofBits .f32 0x00800000#32) x))))) (frac_at _ _)

end Cert.KernelIdeal.Rounds

end
-- ==== Proof.RefMix.lean ====
/- The mixing stages at an index, by the word function. -/
module

public import proofs.«01_k».proof.Proof.RefOps
public import proofs.«01_k».proof.Proof.Mix
public import Idealize.ShloMosaic.Lib.StableHlo.ReadAt

@[expose] public section

set_option maxRecDepth 100000
set_option maxHeartbeats 40000000

noncomputable section

namespace Cert.ReferenceIdeal.Rounds

open Idealize.ShloMosaic Idealize.ShloMosaic.TcCoe Idealize.SL.Sem
open Cert.ReferenceIdeal Cert.Noise

attribute [local instance] Cert.ReferenceIdeal.Gen.facts

/-- A word spread over the positions. -/
def spread (x : IVec S_ 32) : IVec S1024x200x512 32 := broadcastInDim S1024x200x512 ![] Facts₀.bcast_S_S1024x200x512 x

theorem spread_at (x : IVec S_ 32) (i : S1024x200x512.Idx) : spread x i = x (fun k => k.elim0) :=
  congrArg x (funext fun k => k.elim0)

variable {F : FTy → Type} [FloatOps F] (W : Valuation τ sig (Elt F))

theorem mix1_fst (i : S1024x200x512.Idx) : (StableHlo.after (mix1 (F := F)) W (Proc.devRef .tc main_call0_call0_v35) : IVec S1024x200x512 32) i
    = IntOp.addi (fourA (W (Proc.devRef .tc main_call0_call0_v3) i, W (Proc.devRef .tc main_call0_call0_v5) i)).1 (spread (W (Proc.devRef .tc main_call0_v7)) i) := by
  unfold mix1
  after_reads_simp
  rfl

theorem mix1_snd (i : S1024x200x512.Idx) : (StableHlo.after (mix1 (F := F)) W (Proc.devRef .tc main_call0_call0_v39) : IVec S1024x200x512 32) i
    = IntOp.addi (IntOp.addi (fourA (W (Proc.devRef .tc main_call0_call0_v3) i, W (Proc.devRef .tc main_call0_call0_v5) i)).2 (spread (W (Proc.devRef .tc main_call0_call0_v1)) i)) 1#32 := by
  unfold mix1
  after_reads_simp
  rfl

theorem mix1_main_call0_v5 : StableHlo.after (mix1 (F := F)) W (Proc.devRef .tc main_call0_v5) = W (Proc.devRef .tc main_call0_v5) := by
  unfold mix1
  after_reads_simp

theorem mix1_main_call0_v7 : StableHlo.after (mix1 (F := F)) W (Proc.devRef .tc main_call0_v7) = W (Proc.devRef .tc main_call0_v7) := by
  unfold mix1
  after_reads_simp

theorem mix1_main_call0_call0_v1 : StableHlo.after (mix1 (F := F)) W (Proc.devRef .tc main_call0_call0_v1) = W (Proc.devRef .tc main_call0_call0_v1) := by
  unfold mix1
  after_reads_simp

theorem mix1_main_v51 : StableHlo.after (mix1 (F := F)) W (Proc.devRef .tc main_v51) = W (Proc.devRef .tc main_v51) := by
  unfold mix1
  after_reads_simp

theorem mix1_main_arg1 : StableHlo.after (mix1 (F := F)) W (Proc.devRef .tc main_arg1) = W (Proc.devRef .tc main_arg1) := by
  unfold mix1
  after_reads_simp

theorem mix1_main_v0 : StableHlo.after (mix1 (F := F)) W (Proc.devRef .tc main_v0) = W (Proc.devRef .tc main_v0) := by
  unfold mix1
  after_reads_simp

theorem mix1_main_call0_v2 : StableHlo.after (mix1 (F := F)) W (Proc.devRef .tc main_call0_v2) = W (Proc.devRef .tc main_call0_v2) := by
  unfold mix1
  after_reads_simp

theorem mix1_main_call0_v3 : StableHlo.after (mix1 (F := F)) W (Proc.devRef .tc main_call0_v3) = W (Proc.devRef .tc main_call0_v3) := by
  unfold mix1
  after_reads_simp

theorem mix2_fst (i : S1024x200x512.Idx) : (StableHlo.after (mix2 (F := F)) W (Proc.devRef .tc main_call0_call0_v69) : IVec S1024x200x512 32) i
    = IntOp.addi (fourB (W (Proc.devRef .tc main_call0_call0_v35) i, W (Proc.devRef .tc main_call0_call0_v39) i)).1 (spread (W (Proc.devRef .tc main_call0_call0_v1)) i) := by
  unfold mix2
  after_reads_simp
  rfl

theorem mix2_snd (i : S1024x200x512.Idx) : (StableHlo.after (mix2 (F := F)) W (Proc.devRef .tc main_call0_call0_v73) : IVec S1024x200x512 32) i
    = IntOp.addi (IntOp.addi (fourB (W (Proc.devRef .tc main_call0_call0_v35) i, W (Proc.devRef .tc main_call0_call0_v39) i)).2 (spread (W (Proc.devRef .tc main_call0_v5)) i)) 2#32 := by
  unfold mix2
  after_reads_simp
  rfl

theorem mix2_main_call0_v5 : StableHlo.after (mix2 (F := F)) W (Proc.devRef .tc main_call0_v5) = W (Proc.devRef .tc main_call0_v5) := by
  unfold mix2
  after_reads_simp

theorem mix2_main_call0_v7 : StableHlo.after (mix2 (F := F)) W (Proc.devRef .tc main_call0_v7) = W (Proc.devRef .tc main_call0_v7) := by
  unfold mix2
  after_reads_simp

theorem mix2_main_call0_call0_v1 : StableHlo.after (mix2 (F := F)) W (Proc.devRef .tc main_call0_call0_v1) = W (Proc.devRef .tc main_call0_call0_v1) := by
  unfold mix2
  after_reads_simp

theorem mix2_main_v51 : StableHlo.after (mix2 (F := F)) W (Proc.devRef .tc main_v51) = W (Proc.devRef .tc main_v51) := by
  unfold mix2
  after_reads_simp

theorem mix2_main_arg1 : StableHlo.after (mix2 (F := F)) W (Proc.devRef .tc main_arg1) = W (Proc.devRef .tc main_arg1) := by
  unfold mix2
  after_reads_simp

theorem mix2_main_v0 : StableHlo.after (mix2 (F := F)) W (Proc.devRef .tc main_v0) = W (Proc.devRef .tc main_v0) := by
  unfold mix2
  after_reads_simp

theorem mix2_main_call0_v2 : StableHlo.after (mix2 (F := F)) W (Proc.devRef .tc main_call0_v2) = W (Proc.devRef .tc main_call0_v2) := by
  unfold mix2
  after_reads_simp

theorem mix2_main_call0_v3 : StableHlo.after (mix2 (F := F)) W (Proc.devRef .tc main_call0_v3) = W (Proc.devRef .tc main_call0_v3) := by
  unfold mix2
  after_reads_simp

theorem mix3_fst (i : S1024x200x512.Idx) : (StableHlo.after (mix3 (F := F)) W (Proc.devRef .tc main_call0_call0_v103) : IVec S1024x200x512 32) i
    = IntOp.addi (fourA (W (Proc.devRef .tc main_call0_call0_v69) i, W (Proc.devRef .tc main_call0_call0_v73) i)).1 (spread (W (Proc.devRef .tc main_call0_v5)) i) := by
  unfold mix3
  after_reads_simp
  rfl

theorem mix3_snd (i : S1024x200x512.Idx) : (StableHlo.after (mix3 (F := F)) W (Proc.devRef .tc main_call0_call0_v107) : IVec S1024x200x512 32) i
    = IntOp.addi (IntOp.addi (fourA (W (Proc.devRef .tc main_call0_call0_v69) i, W (Proc.devRef .tc main_call0_call0_v73) i)).2 (spread (W (Proc.devRef .tc main_call0_v7)) i)) 3#32 := by
  unfold mix3
  after_reads_simp
  rfl

theorem mix3_main_call0_v5 : StableHlo.after (mix3 (F := F)) W (Proc.devRef .tc main_call0_v5) = W (Proc.devRef .tc main_call0_v5) := by
  unfold mix3
  after_reads_simp

theorem mix3_main_call0_v7 : StableHlo.after (mix3 (F := F)) W (Proc.devRef .tc main_call0_v7) = W (Proc.devRef .tc main_call0_v7) := by
  unfold mix3
  after_reads_simp

theorem mix3_main_call0_call0_v1 : StableHlo.after (mix3 (F := F)) W (Proc.devRef .tc main_call0_call0_v1) = W (Proc.devRef .tc main_call0_call0_v1) := by
  unfold mix3
  after_reads_simp

theorem mix3_main_v51 : StableHlo.after (mix3 (F := F)) W (Proc.devRef .tc main_v51) = W (Proc.devRef .tc main_v51) := by
  unfold mix3
  after_reads_simp

theorem mix3_main_arg1 : StableHlo.after (mix3 (F := F)) W (Proc.devRef .tc main_arg1) = W (Proc.devRef .tc main_arg1) := by
  unfold mix3
  after_reads_simp

theorem mix3_main_v0 : StableHlo.after (mix3 (F := F)) W (Proc.devRef .tc main_v0) = W (Proc.devRef .tc main_v0) := by
  unfold mix3
  after_reads_simp

theorem mix3_main_call0_v2 : StableHlo.after (mix3 (F := F)) W (Proc.devRef .tc main_call0_v2) = W (Proc.devRef .tc main_call0_v2) := by
  unfold mix3
  after_reads_simp

theorem mix3_main_call0_v3 : StableHlo.after (mix3 (F := F)) W (Proc.devRef .tc main_call0_v3) = W (Proc.devRef .tc main_call0_v3) := by
  unfold mix3
  after_reads_simp

theorem mix4_fst (i : S1024x200x512.Idx) : (StableHlo.after (mix4 (F := F)) W (Proc.devRef .tc main_call0_call0_v137) : IVec S1024x200x512 32) i
    = IntOp.addi (fourB (W (Proc.devRef .tc main_call0_call0_v103) i, W (Proc.devRef .tc main_call0_call0_v107) i)).1 (spread (W (Proc.devRef .tc main_call0_v7)) i) := by
  unfold mix4
  after_reads_simp
  rfl

theorem mix4_snd (i : S1024x200x512.Idx) : (StableHlo.after (mix4 (F := F)) W (Proc.devRef .tc main_call0_call0_v141) : IVec S1024x200x512 32) i
    = IntOp.addi (IntOp.addi (fourB (W (Proc.devRef .tc main_call0_call0_v103) i, W (Proc.devRef .tc main_call0_call0_v107) i)).2 (spread (W (Proc.devRef .tc main_call0_call0_v1)) i)) 4#32 := by
  unfold mix4
  after_reads_simp
  rfl

theorem mix4_main_call0_v5 : StableHlo.after (mix4 (F := F)) W (Proc.devRef .tc main_call0_v5) = W (Proc.devRef .tc main_call0_v5) := by
  unfold mix4
  after_reads_simp

theorem mix4_main_call0_v7 : StableHlo.after (mix4 (F := F)) W (Proc.devRef .tc main_call0_v7) = W (Proc.devRef .tc main_call0_v7) := by
  unfold mix4
  after_reads_simp

theorem mix4_main_call0_call0_v1 : StableHlo.after (mix4 (F := F)) W (Proc.devRef .tc main_call0_call0_v1) = W (Proc.devRef .tc main_call0_call0_v1) := by
  unfold mix4
  after_reads_simp

theorem mix4_main_v51 : StableHlo.after (mix4 (F := F)) W (Proc.devRef .tc main_v51) = W (Proc.devRef .tc main_v51) := by
  unfold mix4
  after_reads_simp

theorem mix4_main_arg1 : StableHlo.after (mix4 (F := F)) W (Proc.devRef .tc main_arg1) = W (Proc.devRef .tc main_arg1) := by
  unfold mix4
  after_reads_simp

theorem mix4_main_v0 : StableHlo.after (mix4 (F := F)) W (Proc.devRef .tc main_v0) = W (Proc.devRef .tc main_v0) := by
  unfold mix4
  after_reads_simp

theorem mix4_main_call0_v2 : StableHlo.after (mix4 (F := F)) W (Proc.devRef .tc main_call0_v2) = W (Proc.devRef .tc main_call0_v2) := by
  unfold mix4
  after_reads_simp

theorem mix4_main_call0_v3 : StableHlo.after (mix4 (F := F)) W (Proc.devRef .tc main_call0_v3) = W (Proc.devRef .tc main_call0_v3) := by
  unfold mix4
  after_reads_simp

theorem mix5_fst (i : S1024x200x512.Idx) : (StableHlo.after (mix5 (F := F)) W (Proc.devRef .tc main_call0_v23_0) : IVec S1024x200x512 32) i
    = IntOp.addi (fourA (W (Proc.devRef .tc main_call0_call0_v137) i, W (Proc.devRef .tc main_call0_call0_v141) i)).1 (spread (W (Proc.devRef .tc main_call0_call0_v1)) i) := by
  unfold mix5
  after_reads_simp
  rfl

theorem mix5_snd (i : S1024x200x512.Idx) : (StableHlo.after (mix5 (F := F)) W (Proc.devRef .tc main_call0_v23_1) : IVec S1024x200x512 32) i
    = IntOp.addi (IntOp.addi (fourA (W (Proc.devRef .tc main_call0_call0_v137) i, W (Proc.devRef .tc main_call0_call0_v141) i)).2 (spread (W (Proc.devRef .tc main_call0_v5)) i)) 5#32 := by
  unfold mix5
  after_reads_simp
  rfl

theorem mix5_main_call0_v5 : StableHlo.after (mix5 (F := F)) W (Proc.devRef .tc main_call0_v5) = W (Proc.devRef .tc main_call0_v5) := by
  unfold mix5
  after_reads_simp

theorem mix5_main_call0_v7 : StableHlo.after (mix5 (F := F)) W (Proc.devRef .tc main_call0_v7) = W (Proc.devRef .tc main_call0_v7) := by
  unfold mix5
  after_reads_simp

theorem mix5_main_call0_call0_v1 : StableHlo.after (mix5 (F := F)) W (Proc.devRef .tc main_call0_call0_v1) = W (Proc.devRef .tc main_call0_call0_v1) := by
  unfold mix5
  after_reads_simp

theorem mix5_main_v51 : StableHlo.after (mix5 (F := F)) W (Proc.devRef .tc main_v51) = W (Proc.devRef .tc main_v51) := by
  unfold mix5
  after_reads_simp

theorem mix5_main_arg1 : StableHlo.after (mix5 (F := F)) W (Proc.devRef .tc main_arg1) = W (Proc.devRef .tc main_arg1) := by
  unfold mix5
  after_reads_simp

theorem mix5_main_v0 : StableHlo.after (mix5 (F := F)) W (Proc.devRef .tc main_v0) = W (Proc.devRef .tc main_v0) := by
  unfold mix5
  after_reads_simp

theorem mix5_main_call0_v2 : StableHlo.after (mix5 (F := F)) W (Proc.devRef .tc main_call0_v2) = W (Proc.devRef .tc main_call0_v2) := by
  unfold mix5
  after_reads_simp

theorem mix5_main_call0_v3 : StableHlo.after (mix5 (F := F)) W (Proc.devRef .tc main_call0_v3) = W (Proc.devRef .tc main_call0_v3) := by
  unfold mix5
  after_reads_simp

end Cert.ReferenceIdeal.Rounds

end
-- ==== Proof.RefNoise.lean ====
/- The reference's noise at an index, and what the later operations keep. -/
module

public import proofs.«01_k».proof.Proof.RefMix
public import proofs.«01_k».proof.Proof.RefRun
public import proofs.«01_k».proof.Proof.Unif
public import Idealize.ShloMosaic.Lib.ValueIdx
public import Idealize.ShloMosaic.Lib.SortFacts

@[expose] public section

set_option maxRecDepth 100000
set_option maxHeartbeats 4000000

noncomputable section

namespace Cert.ReferenceIdeal.Rounds

open Idealize.ShloMosaic Idealize.ShloMosaic.TcCoe Idealize.SL.Sem
open Cert.ReferenceIdeal Cert.Noise

attribute [local instance] Cert.ReferenceIdeal.Gen.facts

variable {F : FTy → Type} [FloatOps F] (W : Valuation τ sig (Elt F))

theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons o l ih => exact ih _

theorem counter_main_v51 : StableHlo.after (counter (F := F)) W (Proc.devRef .tc main_v51) = W (Proc.devRef .tc main_v51) := by
  unfold counter
  after_reads_simp

theorem counter_main_arg1 : StableHlo.after (counter (F := F)) W (Proc.devRef .tc main_arg1) = W (Proc.devRef .tc main_arg1) := by
  unfold counter
  after_reads_simp

theorem counter_main_v0 : StableHlo.after (counter (F := F)) W (Proc.devRef .tc main_v0) = W (Proc.devRef .tc main_v0) := by
  unfold counter
  after_reads_simp

theorem mix0_main_v51 : StableHlo.after (mix0 (F := F)) W (Proc.devRef .tc main_v51) = W (Proc.devRef .tc main_v51) := by
  unfold mix0
  after_reads_simp

theorem mix0_main_arg1 : StableHlo.after (mix0 (F := F)) W (Proc.devRef .tc main_arg1) = W (Proc.devRef .tc main_arg1) := by
  unfold mix0
  after_reads_simp

theorem mix0_main_v0 : StableHlo.after (mix0 (F := F)) W (Proc.devRef .tc main_v0) = W (Proc.devRef .tc main_v0) := by
  unfold mix0
  after_reads_simp

theorem mix0_main_call0_v5 : StableHlo.after (mix0 (F := F)) W (Proc.devRef .tc main_call0_v5) = W (Proc.devRef .tc main_call0_v5) := by
  unfold mix0
  after_reads_simp

theorem mix0_main_call0_v7 : StableHlo.after (mix0 (F := F)) W (Proc.devRef .tc main_call0_v7) = W (Proc.devRef .tc main_call0_v7) := by
  unfold mix0
  after_reads_simp

theorem mix0_main_call0_v2 : StableHlo.after (mix0 (F := F)) W (Proc.devRef .tc main_call0_v2) = W (Proc.devRef .tc main_call0_v2) := by
  unfold mix0
  after_reads_simp

theorem mix0_main_call0_v3 : StableHlo.after (mix0 (F := F)) W (Proc.devRef .tc main_call0_v3) = W (Proc.devRef .tc main_call0_v3) := by
  unfold mix0
  after_reads_simp

theorem uniform_main_v51 : StableHlo.after (uniform (F := F)) W (Proc.devRef .tc main_v51) = W (Proc.devRef .tc main_v51) := by
  unfold uniform
  after_reads_simp

theorem uniform_main_arg1 : StableHlo.after (uniform (F := F)) W (Proc.devRef .tc main_arg1) = W (Proc.devRef .tc main_arg1) := by
  unfold uniform
  after_reads_simp

theorem uniform_main_v0 : StableHlo.after (uniform (F := F)) W (Proc.devRef .tc main_v0) = W (Proc.devRef .tc main_v0) := by
  unfold uniform
  after_reads_simp

theorem clipped_main_v51 : StableHlo.after (clipped (F := F)) W (Proc.devRef .tc main_v51) = W (Proc.devRef .tc main_v51) := by
  unfold clipped
  after_reads_simp

theorem clipped_main_arg1 : StableHlo.after (clipped (F := F)) W (Proc.devRef .tc main_arg1) = W (Proc.devRef .tc main_arg1) := by
  unfold clipped
  after_reads_simp

theorem clipped_main_v0 : StableHlo.after (clipped (F := F)) W (Proc.devRef .tc main_v0) = W (Proc.devRef .tc main_v0) := by
  unfold clipped
  after_reads_simp

theorem gumbel_main_arg1 : StableHlo.after (gumbel (F := F)) W (Proc.devRef .tc main_arg1) = W (Proc.devRef .tc main_arg1) := by
  unfold gumbel
  after_reads_simp

theorem gumbel_main_v0 : StableHlo.after (gumbel (F := F)) W (Proc.devRef .tc main_v0) = W (Proc.devRef .tc main_v0) := by
  unfold gumbel
  after_reads_simp

theorem winner_main_arg1 : StableHlo.after (winner (F := F)) W (Proc.devRef .tc main_arg1) = W (Proc.devRef .tc main_arg1) := by
  unfold winner
  after_reads_simp

theorem winner_main_v0 : StableHlo.after (winner (F := F)) W (Proc.devRef .tc main_v0) = W (Proc.devRef .tc main_v0) := by
  unfold winner
  after_reads_simp

theorem last_main_arg1 : StableHlo.after (last (F := F)) W (Proc.devRef .tc main_arg1) = W (Proc.devRef .tc main_arg1) := by
  unfold last
  after_reads_simp

theorem last_main_v66 : StableHlo.after (last (F := F)) W (Proc.devRef .tc main_v66) = W (Proc.devRef .tc main_v66) := by
  unfold last
  after_reads_simp

theorem gathered_main_arg1 : StableHlo.after (gathered (F := F)) W (Proc.devRef .tc main_arg1) = W (Proc.devRef .tc main_arg1) := by
  unfold gathered
  after_reads_simp

theorem logits_main_arg1 : StableHlo.after (logits (F := F)) W (Proc.devRef .tc main_arg1) = W (Proc.devRef .tc main_arg1) := by
  unfold logits
  after_reads_simp

theorem logits_main_v0 : StableHlo.after (logits (F := F)) W (Proc.devRef .tc main_v0) = W (Proc.devRef .tc main_v0) := by
  unfold logits
  after_reads_simp

/-- A number as a table of one. -/
def single (x : FVec F S_ .f32) : FVec F S1x1x1 .f32 := broadcastInDim S1x1x1 ![] Facts₀.bcast_S_S1x1x1 x

theorem counter_zero : StableHlo.after (counter (F := F)) W (Proc.devRef .tc main_call0_v2) = single (constant S_ .f32 0x00000000#32) := by
  unfold counter
  after_reads_simp
  rfl

theorem counter_one : StableHlo.after (counter (F := F)) W (Proc.devRef .tc main_call0_v3) = single (constant S_ .f32 0x3F800000#32) := by
  unfold counter
  after_reads_simp
  rfl

/-- The scalar index. -/
abbrev nil0 : S_.Idx := fun k => k.elim0

/-- Two words, one after the other. -/
def joined (a b : IVec S1 32) : IVec S2 32 := concatenate S2 0 [⟨S1, a⟩, ⟨S1, b⟩] Facts₀.concatenates_S1_S1_S2_d0

theorem counter_first : StableHlo.after ((counter (F := F)).take 9) W (Proc.devRef .tc main_v54) = (fun _ => 0#32 : IVec S1 32) := by
  simp only [counter, List.take_succ_cons, List.take_zero]
  after_reads_simp
  exact funext fun _ => (by decide : IntOp.shrui .host 1#32 32#32 = 0#32)

theorem counter_second : StableHlo.after ((counter (F := F)).take 9) W (Proc.devRef .tc main_v57) = (fun _ => 1#32 : IVec S1 32) := by
  simp only [counter, List.take_succ_cons, List.take_zero]
  after_reads_simp
  exact funext fun _ => (by decide : IntOp.andi 1#32 4294967295#32 = 1#32)

theorem counter_halves : counter (F := F) = (counter (F := F)).take 9 ++ (counter (F := F)).drop 9 := (List.take_append_drop 9 _).symm

theorem counter_key0 : (StableHlo.after (counter (F := F)) W (Proc.devRef .tc main_call0_v5) : IVec S_ 32) nil0 = 0#32 := by
  rw [counter_halves, after_two]
  have e : ∀ V : Valuation τ sig (Elt F), StableHlo.after ((counter (F := F)).drop 9) V (Proc.devRef .tc main_call0_v5)
      = shapeCast S_ (extractStridedSlice S1 ![0] (joined (V (Proc.devRef .tc main_v54)) (V (Proc.devRef .tc main_v57))) Facts₀.slices_S2_S1_0) Facts₀.shapeCasts_S1_S_ := by
    intro V
    simp only [counter, List.drop_succ_cons, List.drop_zero]
    after_reads_simp
    rfl
  rw [e, counter_first, counter_second]
  refine (shapeCast_apply _ _ _ (Shape.Idx.ofFin 0) ?_).trans ?_
  · exact (Nat.lt_one_iff.mp (Fin.isLt (n := 1) _)).trans (Nat.lt_one_iff.mp (Fin.isLt (n := 1) _)).symm
  · rfl

theorem counter_key1 : (StableHlo.after (counter (F := F)) W (Proc.devRef .tc main_call0_v7) : IVec S_ 32) nil0 = 1#32 := by
  rw [counter_halves, after_two]
  have e : ∀ V : Valuation τ sig (Elt F), StableHlo.after ((counter (F := F)).drop 9) V (Proc.devRef .tc main_call0_v7)
      = shapeCast S_ (extractStridedSlice S1 ![1] (joined (V (Proc.devRef .tc main_v54)) (V (Proc.devRef .tc main_v57))) Facts₀.slices_S2_S1_1) Facts₀.shapeCasts_S1_S_ := by
    intro V
    simp only [counter, List.drop_succ_cons, List.drop_zero]
    after_reads_simp
    rfl
  rw [e, counter_first, counter_second]
  refine (shapeCast_apply _ _ _ (Shape.Idx.ofFin 0) ?_).trans ?_
  · exact (Nat.lt_one_iff.mp (Fin.isLt (n := 1) _)).trans (Nat.lt_one_iff.mp (Fin.isLt (n := 1) _)).symm
  · rfl

/-- The 64-bit counter of a place. -/
theorem count_word (i : Fin 1024) (n : Fin 200) (d : Fin 512) :
    IntOp.addi (IntOp.addi (IntOp.muli 102400#64 (BitVec.ofNat 64 i.val)) (IntOp.muli 512#64 (BitVec.ofNat 64 n.val))) (IntOp.muli 1#64 (BitVec.ofNat 64 d.val))
      = BitVec.ofNat 64 (place i n d).val := by
  apply BitVec.eq_of_toNat_eq
  have hi := i.isLt; have hn := n.isLt; have hd := d.isLt
  simp only [IntOp.addi, IntOp.muli, BitVec.toNat_add, BitVec.toNat_mul, BitVec.toNat_ofNat, place]
  omega

theorem counter_low (i : Fin 1024) (n : Fin 200) (d : Fin 512) :
    (StableHlo.after (counter (F := F)) W (Proc.devRef .tc main_call0_v21) : IVec S1024x200x512 32) (ix3 i n d) = BitVec.ofNat 32 (place i n d).val := by
  unfold counter
  after_reads_simp
  show (IntOp.addi (IntOp.addi (IntOp.muli 102400#64 (BitVec.ofNat 64 i.val)) (IntOp.muli 512#64 (BitVec.ofNat 64 n.val))) (IntOp.muli 1#64 (BitVec.ofNat 64 d.val))).setWidth 32 = _
  rw [count_word]
  apply BitVec.eq_of_toNat_eq
  simp only [BitVec.toNat_setWidth, BitVec.toNat_ofNat]
  omega

theorem counter_high (i : Fin 1024) (n : Fin 200) (d : Fin 512) :
    (StableHlo.after (counter (F := F)) W (Proc.devRef .tc main_call0_v22) : IVec S1024x200x512 32) (ix3 i n d) = 0#32 := by
  unfold counter
  after_reads_simp
  show (IntOp.shrui .host (IntOp.addi (IntOp.addi (IntOp.muli 102400#64 (BitVec.ofNat 64 i.val)) (IntOp.muli 512#64 (BitVec.ofNat 64 n.val))) (IntOp.muli 1#64 (BitVec.ofNat 64 d.val))) 32#64).setWidth 32 = _
  rw [count_word]
  have hp := (place i n d).isLt
  apply BitVec.eq_of_toNat_eq
  unfold IntOp.shrui
  rw [if_pos (by decide)]
  simp only [BitVec.toNat_setWidth, BitVec.ushiftRight_eq', BitVec.toNat_ushiftRight, BitVec.toNat_ofNat, Nat.shiftRight_eq_div_pow]
  rw [show (32 % 2 ^ 64 : ℕ) = 32 by norm_num]
  omega

/-- The three key words. -/
structure Keys (W : Valuation τ sig (Elt F)) : Prop where
  k0 : (W (Proc.devRef .tc main_call0_v5) : IVec S_ 32) nil0 = 0#32
  k1 : (W (Proc.devRef .tc main_call0_v7) : IVec S_ 32) nil0 = 1#32
  k2 : (W (Proc.devRef .tc main_call0_call0_v1) : IVec S_ 32) nil0 = 466688987#32

theorem keys_0 (h0 : (W (Proc.devRef .tc main_call0_v5) : IVec S_ 32) nil0 = 0#32) (h1 : (W (Proc.devRef .tc main_call0_v7) : IVec S_ 32) nil0 = 1#32) :
    Keys (StableHlo.after (mix0 (F := F)) W) := by
  refine ⟨?_, ?_, ?_⟩
  · rw [mix0_main_call0_v5]; exact h0
  · rw [mix0_main_call0_v7]; exact h1
  · unfold mix0
    after_reads_simp
    show IntOp.xori (IntOp.xori ((W (Proc.devRef .tc main_call0_v5) : IVec S_ 32) nil0) ((W (Proc.devRef .tc main_call0_v7) : IVec S_ 32) nil0)) 466688986#32 = _
    rw [h0, h1]
    decide

theorem pair_0 (i : S1024x200x512.Idx) (h0 : (W (Proc.devRef .tc main_call0_v5) : IVec S_ 32) nil0 = 0#32) (h1 : (W (Proc.devRef .tc main_call0_v7) : IVec S_ 32) nil0 = 1#32) :
    ((StableHlo.after (mix0 (F := F)) W (Proc.devRef .tc main_call0_call0_v3) : IVec S1024x200x512 32) i, (StableHlo.after (mix0 (F := F)) W (Proc.devRef .tc main_call0_call0_v5) : IVec S1024x200x512 32) i)
      = (IntOp.addi ((W (Proc.devRef .tc main_call0_v22) : IVec S1024x200x512 32) i) 0#32, IntOp.addi ((W (Proc.devRef .tc main_call0_v21) : IVec S1024x200x512 32) i) 1#32) := by
  refine Prod.ext ?_ ?_
  · unfold mix0
    after_reads_simp
    refine congrArg (IntOp.addi _) ((spread_at _ i).trans h0)
  · unfold mix0
    after_reads_simp
    refine congrArg (IntOp.addi _) ((spread_at _ i).trans h1)

theorem twice (x k g : Word) : IntOp.addi (IntOp.addi x k) g = IntOp.addi x (k + g) := BitVec.add_assoc x k g

theorem keys_1 (h : Keys W) : Keys (StableHlo.after (mix1 (F := F)) W) :=
  ⟨by rw [mix1_main_call0_v5]; exact h.k0, by rw [mix1_main_call0_v7]; exact h.k1, by rw [mix1_main_call0_call0_v1]; exact h.k2⟩

theorem pair_1 (i : S1024x200x512.Idx) (h : Keys W) :
    ((StableHlo.after (mix1 (F := F)) W (Proc.devRef .tc main_call0_call0_v35) : IVec S1024x200x512 32) i, (StableHlo.after (mix1 (F := F)) W (Proc.devRef .tc main_call0_call0_v39) : IVec S1024x200x512 32) i)
      = inject 1#32 466688988#32 (fourA ((W (Proc.devRef .tc main_call0_call0_v3) : IVec S1024x200x512 32) i, (W (Proc.devRef .tc main_call0_call0_v5) : IVec S1024x200x512 32) i)) := by
  rw [mix1_fst, mix1_snd, spread_at, spread_at, h.k1, h.k2, twice]; rfl

theorem keys_2 (h : Keys W) : Keys (StableHlo.after (mix2 (F := F)) W) :=
  ⟨by rw [mix2_main_call0_v5]; exact h.k0, by rw [mix2_main_call0_v7]; exact h.k1, by rw [mix2_main_call0_call0_v1]; exact h.k2⟩

theorem pair_2 (i : S1024x200x512.Idx) (h : Keys W) :
    ((StableHlo.after (mix2 (F := F)) W (Proc.devRef .tc main_call0_call0_v69) : IVec S1024x200x512 32) i, (StableHlo.after (mix2 (F := F)) W (Proc.devRef .tc main_call0_call0_v73) : IVec S1024x200x512 32) i)
      = inject 466688987#32 2#32 (fourB ((W (Proc.devRef .tc main_call0_call0_v35) : IVec S1024x200x512 32) i, (W (Proc.devRef .tc main_call0_call0_v39) : IVec S1024x200x512 32) i)) := by
  rw [mix2_fst, mix2_snd, spread_at, spread_at, h.k2, h.k0, twice]; rfl

theorem keys_3 (h : Keys W) : Keys (StableHlo.after (mix3 (F := F)) W) :=
  ⟨by rw [mix3_main_call0_v5]; exact h.k0, by rw [mix3_main_call0_v7]; exact h.k1, by rw [mix3_main_call0_call0_v1]; exact h.k2⟩

theorem pair_3 (i : S1024x200x512.Idx) (h : Keys W) :
    ((StableHlo.after (mix3 (F := F)) W (Proc.devRef .tc main_call0_call0_v103) : IVec S1024x200x512 32) i, (StableHlo.after (mix3 (F := F)) W (Proc.devRef .tc main_call0_call0_v107) : IVec S1024x200x512 32) i)
      = inject 0#32 4#32 (fourA ((W (Proc.devRef .tc main_call0_call0_v69) : IVec S1024x200x512 32) i, (W (Proc.devRef .tc main_call0_call0_v73) : IVec S1024x200x512 32) i)) := by
  rw [mix3_fst, mix3_snd, spread_at, spread_at, h.k0, h.k1, twice]; rfl

theorem keys_4 (h : Keys W) : Keys (StableHlo.after (mix4 (F := F)) W) :=
  ⟨by rw [mix4_main_call0_v5]; exact h.k0, by rw [mix4_main_call0_v7]; exact h.k1, by rw [mix4_main_call0_call0_v1]; exact h.k2⟩

theorem pair_4 (i : S1024x200x512.Idx) (h : Keys W) :
    ((StableHlo.after (mix4 (F := F)) W (Proc.devRef .tc main_call0_call0_v137) : IVec S1024x200x512 32) i, (StableHlo.after (mix4 (F := F)) W (Proc.devRef .tc main_call0_call0_v141) : IVec S1024x200x512 32) i)
      = inject 1#32 466688991#32 (fourB ((W (Proc.devRef .tc main_call0_call0_v103) : IVec S1024x200x512 32) i, (W (Proc.devRef .tc main_call0_call0_v107) : IVec S1024x200x512 32) i)) := by
  rw [mix4_fst, mix4_snd, spread_at, spread_at, h.k1, h.k2, twice]; rfl

theorem keys_5 (h : Keys W) : Keys (StableHlo.after (mix5 (F := F)) W) :=
  ⟨by rw [mix5_main_call0_v5]; exact h.k0, by rw [mix5_main_call0_v7]; exact h.k1, by rw [mix5_main_call0_call0_v1]; exact h.k2⟩

theorem pair_5 (i : S1024x200x512.Idx) (h : Keys W) :
    ((StableHlo.after (mix5 (F := F)) W (Proc.devRef .tc main_call0_v23_0) : IVec S1024x200x512 32) i, (StableHlo.after (mix5 (F := F)) W (Proc.devRef .tc main_call0_v23_1) : IVec S1024x200x512 32) i)
      = inject 466688987#32 5#32 (fourA ((W (Proc.devRef .tc main_call0_call0_v137) : IVec S1024x200x512 32) i, (W (Proc.devRef .tc main_call0_call0_v141) : IVec S1024x200x512 32) i)) := by
  rw [mix5_fst, mix5_snd, spread_at, spread_at, h.k2, h.k0, twice]; rfl

/-- The last stage, of a pair of words. -/
def close (p : Word × Word) : F .f32 := view (IntOp.xori p.1 p.2)

theorem uniform_at (i : S1024x200x512.Idx) (h0 : W (Proc.devRef .tc main_call0_v2) = single (F := F) (constant S_ .f32 0x00000000#32))
    (h1 : W (Proc.devRef .tc main_call0_v3) = single (F := F) (constant S_ .f32 0x3F800000#32)) :
    (StableHlo.after (uniform (F := F)) W (Proc.devRef .tc main_v59) : FVec F S1024x200x512 .f32) i
      = spanned (close ((W (Proc.devRef .tc main_call0_v23_0) : IVec S1024x200x512 32) i, (W (Proc.devRef .tc main_call0_v23_1) : IVec S1024x200x512 32) i)) := by
  unfold uniform
  after_reads_simp
  rw [h0, h1]
  rfl

theorem uniform_low : StableHlo.after (uniform (F := F)) W (Proc.devRef .tc main_cst_16) = constant S_ .f32 0x00800000#32 := by
  unfold uniform
  after_reads_simp

theorem uniform_high : StableHlo.after (uniform (F := F)) W (Proc.devRef .tc main_cst_17) = constant S_ .f32 0x3F800000#32 := by
  unfold uniform
  after_reads_simp

theorem clipped_eq : StableHlo.after (clipped (F := F)) W (Proc.devRef .tc main_v60)
    = minimumf (broadcastInDim S1024x200x512 ![] Facts₀.bcast_S_S1024x200x512 (W (Proc.devRef .tc main_cst_17) : FVec F S_ .f32))
        (maximumf (broadcastInDim S1024x200x512 ![] Facts₀.bcast_S_S1024x200x512 (W (Proc.devRef .tc main_cst_16) : FVec F S_ .f32)) (W (Proc.devRef .tc main_v59) : FVec F S1024x200x512 .f32)) := by
  unfold clipped
  after_reads_simp
  rfl

theorem gumbel_at (i : S1024x200x512.Idx) :
    (StableHlo.after (gumbel (F := F)) W (Proc.devRef .tc main_v65) : FVec F S1024x200x512 .f32) i
      = FloatOps.addf ((W (Proc.devRef .tc main_v51) : FVec F S1024x200x512 .f32) i)
          (FloatOps.hostNegf (FloatOps.hostUnary .log (FloatOps.hostNegf (FloatOps.hostUnary .log ((W (Proc.devRef .tc main_v60) : FVec F S1024x200x512 .f32) i))))) := by
  unfold gumbel
  after_reads_simp
  rfl

/-- The contents after the noise's words. -/
def mixed : Valuation τ sig (Elt F) :=
  StableHlo.after mix5 (StableHlo.after mix4 (StableHlo.after mix3 (StableHlo.after mix2 (StableHlo.after mix1 (StableHlo.after mix0 (StableHlo.after counter W))))))

/-- The contents after the noise. -/
def noised : Valuation τ sig (Elt F) := StableHlo.after gumbel (StableHlo.after clipped (StableHlo.after uniform (mixed W)))

theorem mixed_pair (i : Fin 1024) (n : Fin 200) (d : Fin 512) :
    close (F := F) ((mixed W (Proc.devRef .tc main_call0_v23_0) : IVec S1024x200x512 32) (ix3 i n d), (mixed W (Proc.devRef .tc main_call0_v23_1) : IVec S1024x200x512 32) (ix3 i n d))
      = frac (BitVec.ofNat 32 (place i n d).val) := by
  have h0 := counter_key0 W
  have h1 := counter_key1 W
  have K0 := keys_0 _ h0 h1
  have K1 := keys_1 _ K0
  have K2 := keys_2 _ K1
  have K3 := keys_3 _ K2
  have K4 := keys_4 _ K3
  refine (congrArg close ((pair_5 _ (ix3 i n d) K4).trans (congrArg (fun p => inject 466688987#32 5#32 (fourA p)) ((pair_4 _ (ix3 i n d) K3).trans (congrArg (fun p => inject 1#32 466688991#32 (fourB p))
    ((pair_3 _ (ix3 i n d) K2).trans (congrArg (fun p => inject 0#32 4#32 (fourA p)) ((pair_2 _ (ix3 i n d) K1).trans (congrArg (fun p => inject 466688987#32 2#32 (fourB p))
    ((pair_1 _ (ix3 i n d) K0).trans (congrArg (fun p => inject 1#32 466688988#32 (fourA p)) (pair_0 _ (ix3 i n d) h0 h1)))))))))))).trans ?_
  rw [counter_low, counter_high, show IntOp.addi 0#32 0#32 = 0#32 by decide]
  rfl

theorem mixed_zero : mixed W (Proc.devRef .tc main_call0_v2) = single (F := F) (constant S_ .f32 0x00000000#32) := by
  unfold mixed
  rw [mix5_main_call0_v2, mix4_main_call0_v2, mix3_main_call0_v2, mix2_main_call0_v2, mix1_main_call0_v2, mix0_main_call0_v2, counter_zero]

theorem mixed_one : mixed W (Proc.devRef .tc main_call0_v3) = single (F := F) (constant S_ .f32 0x3F800000#32) := by
  unfold mixed
  rw [mix5_main_call0_v3, mix4_main_call0_v3, mix3_main_call0_v3, mix2_main_call0_v3, mix1_main_call0_v3, mix0_main_call0_v3, counter_one]

theorem noised_at (i : Fin 1024) (n : Fin 200) (d : Fin 512) :
    (noised W (Proc.devRef .tc main_v65) : FVec F S1024x200x512 .f32) (ix3 i n d)
      = FloatOps.addf ((W (Proc.devRef .tc main_v51) : FVec F S1024x200x512 .f32) (ix3 i n d))
          (FloatOps.hostNegf (FloatOps.hostUnary .log (FloatOps.hostNegf (FloatOps.hostUnary .log (unifSpanned (F := F) (BitVec.ofNat 32 (place i n d).val)))))) := by
  unfold noised
  rw [gumbel_at, clipped_eq, clipped_main_v51, uniform_main_v51, uniform_low, uniform_high]
  have e : mixed W (Proc.devRef .tc main_v51) = W (Proc.devRef .tc main_v51) := by
    unfold mixed
    rw [mix5_main_v51, mix4_main_v51, mix3_main_v51, mix2_main_v51, mix1_main_v51, mix0_main_v51, counter_main_v51]
  rw [e]
  refine congrArg (fun x => FloatOps.addf _ (FloatOps.hostNegf (FloatOps.hostUnary .log (FloatOps.hostNegf (FloatOps.hostUnary .log
    (FloatOps.minimumf (FloatOps.ofBits .f32 0x3F800000#32) (FloatOps.maximumf (FloatOps.ofBits .f32 0x00800000#32) x))))))) ?_
  exact (uniform_at _ _ (mixed_zero W) (mixed_one W)).trans (congrArg spanned (mixed_pair W i n d))

theorem noised_arg1 : noised W (Proc.devRef .tc main_arg1) = W (Proc.devRef .tc main_arg1) := by
  unfold noised mixed
  rw [gumbel_main_arg1, clipped_main_arg1, uniform_main_arg1, mix5_main_arg1, mix4_main_arg1, mix3_main_arg1, mix2_main_arg1, mix1_main_arg1, mix0_main_arg1, counter_main_arg1]

theorem noised_v0 : noised W (Proc.devRef .tc main_v0) = W (Proc.devRef .tc main_v0) := by
  unfold noised mixed
  rw [gumbel_main_v0, clipped_main_v0, uniform_main_v0, mix5_main_v0, mix4_main_v0, mix3_main_v0, mix2_main_v0, mix1_main_v0, mix0_main_v0, counter_main_v0]

end Cert.ReferenceIdeal.Rounds

end
-- ==== Proof.RefTables.lean ====
/- The reference's two reads of the table at an index. -/
module

public import proofs.«01_k».proof.Proof.RefNoise
public import Idealize.ShloMosaic.Lib.Pipeline.Value
public import Idealize.ShloMosaic.Lib.StableHlo.Predicate

@[expose] public section

set_option maxRecDepth 100000
set_option maxHeartbeats 4000000

noncomputable section

namespace Cert.ReferenceIdeal.Rounds

open Idealize.ShloMosaic Idealize.ShloMosaic.TcCoe Idealize.SL.Sem
open Cert.ReferenceIdeal Cert.Noise

attribute [local instance] Cert.ReferenceIdeal.Gen.facts

/-- A row of the table, read along its last axis. -/
theorem gather_rows {α : Type} (x : S102x512x512.Idx → α) (idx : IVec S1024x200x2 32) (i : Fin 1024) (n : Fin 200) (d : Fin 512) :
    Host.gather gather_S102x512x512_S1024x200x2_S1024x200x512_2_01_n_n_01_2_11512 x idx (ix3 i n d)
      = x (ix3 ⟨min (idx (ix3 i n 0)).toInt.toNat 101, by omega⟩ ⟨min (idx (ix3 i n 1)).toInt.toNat 511, by omega⟩ d) := by
  unfold Host.gather
  congr 1
  funext a
  refine Fin.ext ?_
  show GatherDims.start _ (ix3 i n d) idx a + GatherDims.batchCoord _ (ix3 i n d) a + GatherDims.offCoord _ (ix3 i n d) a = _
  rw [GatherDims.batchCoord_eq_zero _ _ _ List.not_mem_nil, Nat.add_zero]
  obtain rfl | rfl | rfl : a = 0 ∨ a = 1 ∨ a = 2 := by
    match a with
    | ⟨0, _⟩ => exact Or.inl rfl
    | ⟨1, _⟩ => exact Or.inr (Or.inl rfl)
    | ⟨2, _⟩ => exact Or.inr (Or.inr rfl)
  · rw [GatherDims.offCoord_eq_zero _ _ _ (by decide), Nat.add_zero]
    unfold GatherDims.start
    rw [dif_pos (by decide)]
    refine congrArg (fun w => min (idx w).toInt.toNat 101) (funext fun b => ?_)
    refine Fin.ext ?_
    match b with
    | ⟨0, _⟩ => rfl
    | ⟨1, _⟩ => rfl
    | ⟨2, _⟩ => rfl
  · rw [GatherDims.offCoord_eq_zero _ _ _ (by decide), Nat.add_zero]
    unfold GatherDims.start
    rw [dif_pos (by decide)]
    refine congrArg (fun w => min (idx w).toInt.toNat 511) (funext fun b => ?_)
    refine Fin.ext ?_
    match b with
    | ⟨0, _⟩ => rfl
    | ⟨1, _⟩ => rfl
    | ⟨2, _⟩ => rfl
  · unfold GatherDims.start GatherDims.offCoord
    rw [dif_neg (by decide), dif_pos (by decide), Nat.zero_add]
    rfl

/-- A row of the table, read along its middle axis. -/
theorem gather_columns {α : Type} (x : S102x512x512.Idx → α) (idx : IVec S1024x200x2 32) (i : Fin 1024) (n : Fin 200) (d : Fin 512) :
    Host.gather gather_S102x512x512_S1024x200x2_S1024x200x512_2_02_n_n_02_2_15121 x idx (ix3 i n d)
      = x (ix3 ⟨min (idx (ix3 i n 0)).toInt.toNat 101, by omega⟩ d ⟨min (idx (ix3 i n 1)).toInt.toNat 511, by omega⟩) := by
  unfold Host.gather
  congr 1
  funext a
  refine Fin.ext ?_
  show GatherDims.start _ (ix3 i n d) idx a + GatherDims.batchCoord _ (ix3 i n d) a + GatherDims.offCoord _ (ix3 i n d) a = _
  rw [GatherDims.batchCoord_eq_zero _ _ _ List.not_mem_nil, Nat.add_zero]
  obtain rfl | rfl | rfl : a = 0 ∨ a = 1 ∨ a = 2 := by
    match a with
    | ⟨0, _⟩ => exact Or.inl rfl
    | ⟨1, _⟩ => exact Or.inr (Or.inl rfl)
    | ⟨2, _⟩ => exact Or.inr (Or.inr rfl)
  · rw [GatherDims.offCoord_eq_zero _ _ _ (by decide), Nat.add_zero]
    unfold GatherDims.start
    rw [dif_pos (by decide)]
    refine congrArg (fun w => min (idx w).toInt.toNat 101) (funext fun b => ?_)
    refine Fin.ext ?_
    match b with
    | ⟨0, _⟩ => rfl
    | ⟨1, _⟩ => rfl
    | ⟨2, _⟩ => rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine congrArg (fun w => min (idx w).toInt.toNat 511) (funext fun b => ?_)
    refine Fin.ext ?_
    match b with
    | ⟨0, _⟩ => rfl
    | ⟨1, _⟩ => rfl
    | ⟨2, _⟩ => rfl

/-- A word wrapped once where it is negative. -/
def wrapped (w n : BitVec 32) : BitVec 32 := Scalar.select (IntOp.cmpi .slt w 0#32) (IntOp.addi w n) w

theorem wrapped_nat (w n : BitVec 32) (h : w.toNat < 2 ^ 31) : (wrapped w n).toInt.toNat = w.toNat := by
  have e : w.toInt = w.toNat := by rw [BitVec.toInt_eq_toNat_cond]; split <;> omega
  have : wrapped w n = w := by
    unfold wrapped Scalar.select
    refine if_neg fun hc => ?_
    have := (StableHlo.Predicate.ofBool_eq_one_iff _).mp hc
    simp only [BitVec.slt, decide_eq_true_eq] at this
    rw [e] at this
    simp at this
    omega
  rw [this, e]
  rfl

/-- Two index words, side by side. -/
def sided (a b : IVec S1024x200x1 32) : IVec S1024x200x2 32 :=
  concatenate S1024x200x2 2 [⟨S1024x200x1, a⟩, ⟨S1024x200x1, b⟩] Facts₀.concatenates_S1024x200x1_S1024x200x1_S1024x200x2_d2

theorem sided_0 (a b : IVec S1024x200x1 32) (i : Fin 1024) (n : Fin 200) : sided a b (ix3 i n 0) = a (ix3 i n 0) := by
  refine concatenate_pair_apply_left (t := S1024x200x2) 2 a b _ (ix3 i n 0) rfl (ix3 i n 0) (fun k => ?_)
  match k with
  | ⟨0, _⟩ => rfl
  | ⟨1, _⟩ => rfl
  | ⟨2, _⟩ => rfl

theorem sided_1 (a b : IVec S1024x200x1 32) (i : Fin 1024) (n : Fin 200) : sided a b (ix3 i n 1) = b (ix3 i n 0) := by
  refine concatenate_pair_apply_right (t := S1024x200x2) 2 a b _ (ix3 i n 1) rfl rfl (ix3 i n 0) (fun k hk => ?_) rfl
  match k with
  | ⟨0, _⟩ => rfl
  | ⟨1, _⟩ => rfl
  | ⟨2, _⟩ => exact absurd rfl hk

variable {F : FTy → Type} [FloatOps F] (W : Valuation τ sig (Elt F))

theorem gathered_arg3 : StableHlo.after (gathered (F := F)) W (Proc.devRef .tc main_arg3) = W (Proc.devRef .tc main_arg3) := by
  unfold gathered
  after_reads_simp

theorem gathered_v0 : StableHlo.after (gathered (F := F)) W (Proc.devRef .tc main_v0)
    = broadcastInDim S1024x1 ![0] Facts₀.bcast_S1024_S1024x1_0 (W (Proc.devRef .tc main_arg2) : IVec S1024 32) := by
  unfold gathered
  after_reads_simp

theorem first_step (i : Fin 1024) (n : Fin 200) :
    (StableHlo.after ((gathered (F := F)).take 18) W (Proc.devRef .tc main_v12) : IVec S1024x200x1 32) (ix3 i n 0)
      = wrapped ((W (Proc.devRef .tc main_arg2) : IVec S1024 32) (Shape.Idx.ofFin i)) 102#32 := by
  simp only [gathered, List.take_succ_cons, List.take_zero]
  after_reads_simp
  refine congrArg (fun j => wrapped ((W (Proc.devRef .tc main_arg2) : IVec S1024 32) j) 102#32) (funext fun k => ?_)
  match k with
  | ⟨0, _⟩ => rfl

theorem first_class (i : Fin 1024) (n : Fin 200) :
    (StableHlo.after ((gathered (F := F)).take 18) W (Proc.devRef .tc main_v13) : IVec S1024x200x1 32) (ix3 i n 0)
      = wrapped ((W (Proc.devRef .tc main_arg0) : IVec S1024x200 32) (ix2 i n)) 512#32 := by
  simp only [gathered, List.take_succ_cons, List.take_zero]
  after_reads_simp
  refine congrArg (fun j => wrapped ((W (Proc.devRef .tc main_arg0) : IVec S1024x200 32) j) 512#32) (funext fun k => ?_)
  match k with
  | ⟨0, _⟩ => rfl
  | ⟨1, _⟩ => rfl

theorem second_step (i : Fin 1024) (n : Fin 200) :
    (StableHlo.after ((gathered (F := F)).take 41) W (Proc.devRef .tc main_v30) : IVec S1024x200x1 32) (ix3 i n 0)
      = wrapped (IntOp.subi 101#32 ((W (Proc.devRef .tc main_arg2) : IVec S1024 32) (Shape.Idx.ofFin i))) 102#32 := by
  simp only [gathered, List.take_succ_cons, List.take_zero]
  after_reads_simp
  refine congrArg (fun j => wrapped (IntOp.subi 101#32 ((W (Proc.devRef .tc main_arg2) : IVec S1024 32) j)) 102#32) (funext fun k => ?_)
  match k with
  | ⟨0, _⟩ => rfl

theorem second_class (i : Fin 1024) (n : Fin 200) :
    (StableHlo.after ((gathered (F := F)).take 41) W (Proc.devRef .tc main_v31) : IVec S1024x200x1 32) (ix3 i n 0)
      = wrapped ((W (Proc.devRef .tc main_arg1) : IVec S1024x200 32) (ix2 i n)) 512#32 := by
  simp only [gathered, List.take_succ_cons, List.take_zero]
  after_reads_simp
  refine congrArg (fun j => wrapped ((W (Proc.devRef .tc main_arg1) : IVec S1024x200 32) j) 512#32) (funext fun k => ?_)
  match k with
  | ⟨0, _⟩ => rfl
  | ⟨1, _⟩ => rfl

theorem first_arg3 : StableHlo.after ((gathered (F := F)).take 18) W (Proc.devRef .tc main_arg3) = W (Proc.devRef .tc main_arg3) := by
  simp only [gathered, List.take_succ_cons, List.take_zero]
  after_reads_simp

theorem gathered_v15 : StableHlo.after (gathered (F := F)) W (Proc.devRef .tc main_v15)
    = Host.gather gather_S102x512x512_S1024x200x2_S1024x200x512_2_01_n_n_01_2_11512 (W (Proc.devRef .tc main_arg3) : FVec F S102x512x512 .f32)
        (sided (StableHlo.after ((gathered (F := F)).take 18) W (Proc.devRef .tc main_v12)) (StableHlo.after ((gathered (F := F)).take 18) W (Proc.devRef .tc main_v13))) := by
  conv_lhs => rw [← List.take_append_drop 18 (gathered (F := F)), after_two]
  rw [← first_arg3 W]
  generalize StableHlo.after ((gathered (F := F)).take 18) W = V
  simp only [gathered, List.drop_succ_cons, List.drop_zero]
  after_reads_simp
  rfl

theorem gathered_v32 : StableHlo.after (gathered (F := F)) W (Proc.devRef .tc main_v32)
    = sided (StableHlo.after ((gathered (F := F)).take 41) W (Proc.devRef .tc main_v30)) (StableHlo.after ((gathered (F := F)).take 41) W (Proc.devRef .tc main_v31)) := by
  conv_lhs => rw [← List.take_append_drop 41 (gathered (F := F)), after_two]
  generalize StableHlo.after ((gathered (F := F)).take 41) W = V
  simp only [gathered, List.drop_succ_cons, List.drop_zero]
  after_reads_simp
  rfl

/-- The table read forward, with words in range. -/
theorem forward_at (i : Fin 1024) (n : Fin 200) (d : Fin 512) (t : Fin 102) (c : Fin 512)
    (ht : ((W (Proc.devRef .tc main_arg2) : IVec S1024 32) (Shape.Idx.ofFin i)).toNat = t.val)
    (hc : ((W (Proc.devRef .tc main_arg0) : IVec S1024x200 32) (ix2 i n)).toNat = c.val) :
    (StableHlo.after (gathered (F := F)) W (Proc.devRef .tc main_v15) : FVec F S1024x200x512 .f32) (ix3 i n d)
      = (W (Proc.devRef .tc main_arg3) : FVec F S102x512x512 .f32) (ix3 t c d) := by
  rw [gathered_v15, gather_rows]
  refine congrArg₂ (fun a b => (W (Proc.devRef .tc main_arg3) : FVec F S102x512x512 .f32) (ix3 a b d)) (Fin.ext ?_) (Fin.ext ?_)
  · show min _ 101 = _
    rw [sided_0, first_step, wrapped_nat _ _ (by omega), ht]
    omega
  · show min _ 511 = _
    rw [sided_1, first_class, wrapped_nat _ _ (by omega), hc]
    omega

/-- The table read backward, with words in range. -/
theorem backward_at (i : Fin 1024) (n : Fin 200) (d : Fin 512) (t : Fin 102) (c : Fin 512)
    (ht : ((W (Proc.devRef .tc main_arg2) : IVec S1024 32) (Shape.Idx.ofFin i)).toNat + t.val = 101)
    (hc : ((W (Proc.devRef .tc main_arg1) : IVec S1024x200 32) (ix2 i n)).toNat = c.val) :
    Host.gather gather_S102x512x512_S1024x200x2_S1024x200x512_2_02_n_n_02_2_15121 (W (Proc.devRef .tc main_arg3) : FVec F S102x512x512 .f32)
        (StableHlo.after (gathered (F := F)) W (Proc.devRef .tc main_v32) : IVec S1024x200x2 32) (ix3 i n d)
      = (W (Proc.devRef .tc main_arg3) : FVec F S102x512x512 .f32) (ix3 t d c) := by
  have hs : (IntOp.subi 101#32 ((W (Proc.devRef .tc main_arg2) : IVec S1024 32) (Shape.Idx.ofFin i))).toNat = t.val := by
    unfold IntOp.subi
    rw [BitVec.toNat_sub]
    simp only [BitVec.toNat_ofNat]
    omega
  rw [gathered_v32, gather_columns]
  refine congrArg₂ (fun a b => (W (Proc.devRef .tc main_arg3) : FVec F S102x512x512 .f32) (ix3 a d b)) (Fin.ext ?_) (Fin.ext ?_)
  · show min _ 101 = _
    rw [sided_0, second_step, wrapped_nat _ _ (by omega), hs]
    omega
  · show min _ 511 = _
    rw [sided_1, second_class, wrapped_nat _ _ (by omega), hc]
    omega

end Cert.ReferenceIdeal.Rounds

end
-- ==== Proof.RefRow.lean ====
/- A row of the reference's logits on the reals: the sum of two logarithms less one real number. -/
module

public import proofs.«01_k».proof.Proof.RefTables
public import Idealize.ShloMosaic.PureOps.Ideal.Laws
public import Idealize.ShloMosaic.Lib.IdealHost

@[expose] public section

set_option maxRecDepth 100000
set_option maxHeartbeats 4000000

noncomputable section

namespace Cert.ReferenceIdeal.Rounds

open Idealize.ShloMosaic Idealize.ShloMosaic.TcCoe Idealize.SL.Sem
open Cert.ReferenceIdeal Cert.Noise

attribute [local instance] Cert.ReferenceIdeal.Gen.facts

theorem drops : S1024x200x512.Reduces [2] S1024x200 := by decide

theorem lift_at (i : Fin 1024) (n : Fin 200) (k : Fin 512) : drops.lift (ix2 i n) k = ix3 i n k := by
  funext a
  match a with
  | ⟨0, _⟩ => rfl
  | ⟨1, _⟩ => rfl
  | ⟨2, _⟩ => rfl

section Vectors

variable {F : FTy → Type} [FloatOps F] (x : FVec F S1024x200x512 .f32)

/-- The rows' maxima. -/
def tops : FVec F S1024x200 .f32 := Host.reduce FloatOps.maximumf x (constant S_ .f32 0xFF800000#32) Facts₀.reducesTo_S1024x200x512_S1024x200_d2 Facts₀.h_S_

/-- A number of each row, spread over the row. -/
def rows (y : FVec F S1024x200x1 .f32) : FVec F S1024x200x512 .f32 := broadcastInDim S1024x200x512 ![0, 1, 2] Facts₀.bcast_S1024x200x1_S1024x200x512_0_1_2 y

/-- A number of each row, with a unit axis. -/
def unit (y : FVec F S1024x200 .f32) : FVec F S1024x200x1 .f32 := broadcastInDim S1024x200x1 ![0, 1] Facts₀.bcast_S1024x200_S1024x200x1_0_1 y

/-- The rows' sums of exponentials. -/
def sums : FVec F S1024x200 .f32 :=
  Host.reduceAdd (Host.exp (subf x (rows (unit (tops x))))) (constant S_ .f32 0x00000000#32) Facts₀.reducesTo_S1024x200x512_S1024x200_d2 Facts₀.h_S_

/-- The rows, each less the logarithm of its sum of exponentials. -/
def soft : FVec F S1024x200x512 .f32 := subf x (rows (addf (Host.log (unit (sums x))) (unit (tops x))))

/-- The sum of the two logarithms. -/
def both (a b : FVec F S1024x200x512 .f32) : FVec F S1024x200x512 .f32 :=
  addf (Host.log (addf a (broadcastInDim S1024x200x512 ![] Facts₀.bcast_S_S1024x200x512 (constant S_ .f32 0x1E3CE508#32))))
    (Host.log (addf b (broadcastInDim S1024x200x512 ![] Facts₀.bcast_S_S1024x200x512 (constant S_ .f32 0x1E3CE508#32))))

theorem logits_eq (W : Valuation τ sig (Elt F)) : StableHlo.after (logits (F := F)) W (Proc.devRef .tc main_v51)
    = soft (both (W (Proc.devRef .tc main_v15) : FVec F S1024x200x512 .f32)
        (Host.gather gather_S102x512x512_S1024x200x2_S1024x200x512_2_02_n_n_02_2_15121 (W (Proc.devRef .tc main_arg3) : FVec F S102x512x512 .f32) (W (Proc.devRef .tc main_v32) : IVec S1024x200x2 32))) := by
  unfold logits
  after_reads_simp
  rfl

theorem rows_at (y : FVec F S1024x200x1 .f32) (i : Fin 1024) (n : Fin 200) (d : Fin 512) : rows y (ix3 i n d) = y (ix3 i n 0) := by
  refine congrArg y (funext fun a => ?_)
  match a with
  | ⟨0, _⟩ => rfl
  | ⟨1, _⟩ => rfl
  | ⟨2, _⟩ => rfl

theorem unit_at (y : FVec F S1024x200 .f32) (i : Fin 1024) (n : Fin 200) : unit y (ix3 i n 0) = y (ix2 i n) := by
  refine congrArg y (funext fun a => ?_)
  match a with
  | ⟨0, _⟩ => rfl
  | ⟨1, _⟩ => rfl

end Vectors

theorem real_of_between {x : EReal} (h0 : ⊥ < x) (h1 : x < ⊤) : ∃ r : ℝ, x = r := ⟨x.toReal, (EReal.coe_toReal h1.ne h0.ne').symm⟩

theorem coe_sum_real {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem ofBits_bot : Ideal.ofBits .f32 0xFF800000#32 = ⊥ := by simp [Ideal.ofBits, Ideal.ieee]

variable (x : FVec Ideal S1024x200x512 .f32)

theorem tops_real (i : Fin 1024) (n : Fin 200) (hx : ∀ d, ∃ r : ℝ, x (ix3 i n d) = r) : ∃ r : ℝ, tops x (ix2 i n) = r := by
  have e : tops x (ix2 i n) = (Finset.univ : Finset (Fin 512)).fold (max : EReal → EReal → EReal) ⊥ (fun d => x (ix3 i n d)) := by
    unfold tops
    refine (Host.reduce_eq_fold_single (max : EReal → EReal → EReal) x _ _ drops _ (ix2 i n)).trans ?_
    refine congrArg₂ (fun b g => (Finset.univ : Finset (Fin 512)).fold (max : EReal → EReal → EReal) b g) ofBits_bot (funext fun k => ?_)
    exact congrArg x (lift_at i n k)
  rw [e]
  refine real_of_between ?_ ?_
  · obtain ⟨r, hr⟩ := hx 0
    refine lt_of_lt_of_le (EReal.bot_lt_coe r) ?_
    exact (Finset.le_fold_max _).mpr (Or.inr ⟨0, Finset.mem_univ _, hr.ge⟩)
  · refine (Finset.fold_max_lt _).mpr ⟨bot_lt_top, fun d _ => ?_⟩
    obtain ⟨r, hr⟩ := hx d
    rw [hr]; exact EReal.coe_lt_top r

theorem sums_real (i : Fin 1024) (n : Fin 200) (hx : ∀ d, ∃ r : ℝ, x (ix3 i n d) = r) : ∃ r : ℝ, 0 < r ∧ sums x (ix2 i n) = r := by
  obtain ⟨t, ht⟩ := tops_real x i n hx
  choose f hf using hx
  refine ⟨∑ d, Real.exp (f d - t), Finset.sum_pos (fun d _ => Real.exp_pos _) ⟨0, Finset.mem_univ _⟩, ?_⟩
  unfold sums
  refine (Ideal.hostReduceAdd_single _ drops _ _ (ix2 i n)).trans ?_
  rw [show ((constant (F := Ideal) S_ .f32 0x00000000#32) (Shape.Idx.first Facts₀.h_S_) : EReal) = 0 from Ideal.ofBits_zero_f32, zero_add, ← coe_sum_real]
  refine Finset.sum_congr rfl fun (k : Fin 512) _ => ?_
  refine (congrArg (Host.exp (subf x (rows (unit (tops x))))) (lift_at i n k)).trans ?_
  show Ideal.exp (x (ix3 i n k) - rows (unit (tops x)) (ix3 i n k)) = _
  rw [rows_at, unit_at, ht, hf, ← EReal.coe_sub]
  rfl

/-- A row of reals less a real. -/
theorem soft_at (i : Fin 1024) (n : Fin 200) (hx : ∀ d, ∃ r : ℝ, x (ix3 i n d) = r) : ∃ L : ℝ, ∀ d, soft x (ix3 i n d) = x (ix3 i n d) - (L : EReal) := by
  obtain ⟨t, ht⟩ := tops_real x i n hx
  obtain ⟨s, hs0, hs⟩ := sums_real x i n hx
  refine ⟨Real.log s + t, fun d => ?_⟩
  show x (ix3 i n d) - rows (addf (Host.log (unit (sums x))) (unit (tops x))) (ix3 i n d) = _
  rw [rows_at]
  show x (ix3 i n d) - (Ideal.log (unit (sums x) (ix3 i n 0)) + unit (tops x) (ix3 i n 0)) = _
  rw [unit_at, unit_at, hs, ht, Ideal.log_coe, if_neg (not_le.mpr hs0), EReal.coe_add]

end Cert.ReferenceIdeal.Rounds

end
-- ==== Proof.Best.lean ====
/- The best class of a row of scores, and the kernel's pick as the best class. -/
module

public import proofs.«01_k».proof.Proof.Output
public import Idealize.ShloMosaic.PureOps.Ideal.Laws
public import Idealize.ShloMosaic.Lib.Pointwise
public import Idealize.ShloMosaic.Lib.IdealHost

@[expose] public section

set_option maxRecDepth 4000

noncomputable section

namespace Cert.KernelIdeal.Rounds

open Idealize.ShloMosaic Idealize.ShloMosaic.TcCoe
open Cert.KernelIdeal Cert.KernelIdeal.Facts₀

attribute [local instance] Cert.KernelIdeal.Gen.facts

/-- Class `c` has the greatest score, and is the first that has it. -/
def Best (f : Fin 512 → EReal) (c : Fin 512) : Prop := (∀ d, f d ≤ f c) ∧ ∀ d, f d = f c → c ≤ d

theorem Best.unique {f : Fin 512 → EReal} {c d : Fin 512} (hc : Best f c) (hd : Best f d) : c = d :=
  le_antisymm (hc.2 d (le_antisymm (hc.1 d) (hd.1 c))) (hd.2 c (le_antisymm (hd.1 c) (hc.1 d)))

theorem Best.exists (f : Fin 512 → EReal) : ∃ c, Best f c := by
  obtain ⟨x, hx⟩ := Finite.exists_max f
  have hne : (Finset.univ.filter fun d => f d = f x).Nonempty := ⟨x, by simp⟩
  refine ⟨(Finset.univ.filter fun d => f d = f x).min' hne, ?_, ?_⟩
  · have := Finset.min'_mem _ hne
    rw [Finset.mem_filter] at this
    rw [this.2]; exact hx
  · intro d hd
    have := Finset.min'_mem _ hne
    rw [Finset.mem_filter] at this
    exact Finset.min'_le _ _ (by rw [Finset.mem_filter]; exact ⟨Finset.mem_univ _, hd.trans this.2⟩)

/-- Two rows of scores in one order have one best class. -/
theorem Best.of_order {f g : Fin 512 → EReal} (h : ∀ d e, f d ≤ f e ↔ g d ≤ g e) {c : Fin 512} (hc : Best f c) : Best g c :=
  ⟨fun d => (h d c).mp (hc.1 d), fun d hd => hc.2 d (le_antisymm ((h d c).mpr hd.le) ((h c d).mpr hd.ge))⟩

/-- The maximum of a row, spread over the row. -/
theorem rowMax_at (s : FVec Ideal S8x512 .f32) (j : Fin 8) (d : Fin 512) :
    broadcastTo S8x512 (shapeCast S8x1 (multiReduction .maximumf [1] S8 s 0xFF800000#32 reduces_S8x512_S8 (.inl rfl) rfl) shapeCasts_S8_S8x1) broadcasts_S8x1_S8x512 (ix2 j d)
      = (Finset.univ : Finset (Fin 512)).fold max (FloatOps.ofBits (F := Ideal) .f32 0xFF800000#32) (fun e => s (ix2 j e)) := by
  have e1 : broadcastTo S8x512 (shapeCast S8x1 (multiReduction .maximumf [1] S8 s 0xFF800000#32 reduces_S8x512_S8 (.inl rfl) rfl) shapeCasts_S8_S8x1) broadcasts_S8x1_S8x512 (ix2 j d)
      = multiReduction .maximumf [1] S8 s 0xFF800000#32 reduces_S8x512_S8 (.inl rfl) rfl (ix1 j) := by
    pointwise
  refine e1.trans ((Ideal.multiReduction_maximumf_single s _ _ _ _ _).trans ?_)
  refine congrArg (fun g : Fin 512 → EReal => (Finset.univ : Finset (Fin 512)).fold max (FloatOps.ofBits (F := Ideal) .f32 0xFF800000#32) g)
    (funext fun e => congrArg s (funext fun a => ?_))
  match a with
  | ⟨0, _⟩ => rfl
  | ⟨1, _⟩ => rfl

theorem minsi_le (x y z : BitVec 32) : x.toInt ≤ (IntOp.minsi y z).toInt ↔ x.toInt ≤ y.toInt ∧ x.toInt ≤ z.toInt := by
  unfold IntOp.minsi
  split <;> rename_i hc <;> simp only [BitVec.slt, decide_eq_true_eq] at hc <;> omega

/-- What the kernel picks for token `j` of eight is the best class of the row of scores. -/
theorem pick_at (s : FVec Ideal S8x512 .f32) (j : Fin 8) (c : Fin 512) (hc : Best (fun d => s (ix2 j d)) c) :
    pick s (ix3 0 0 j) = BitVec.ofNat 32 c.val := by
  have e1 (X : IVec S8 32) : shapeCast S1x1x8 X shapeCasts_S8_S1x1x8 (ix3 0 0 j) = X (ix1 j) := by pointwise
  set sel := select (cmpf .oeq s (broadcastTo S8x512 (shapeCast S8x1 (multiReduction .maximumf [1] S8 s 0xFF800000#32 reduces_S8x512_S8 (.inl rfl) rfl) shapeCasts_S8_S8x1) broadcasts_S8x1_S8x512))
        (iota .tc S8x512 32 [1] iota_S8x512_d1_w32) (broadcast S8x512 512#32) with hsel
  have e0 : pick s (ix3 0 0 j) = multiReductionI .minsi [1] S8 sel 2147483647#32 reduces_S8x512_S8 rfl (ix1 j) := e1 _
  refine e0.trans ((multiReductionI_eq_fold _ _ _ _ _ _).trans ?_)
  have hrow : ∀ d, sel (ix2 j d) = if (∀ e, s (ix2 j e) ≤ s (ix2 j d)) then BitVec.ofNat 32 d.val else 512#32 := by
    intro d
    have e2 : sel (ix2 j d) = Scalar.select (Ideal.cmp .oeq (s (ix2 j d)) ((Finset.univ : Finset (Fin 512)).fold max (FloatOps.ofBits (F := Ideal) .f32 0xFF800000#32) (fun e => s (ix2 j e)))) (BitVec.ofNat 32 d.val) 512#32 := by
      have hi : iota .tc S8x512 32 [1] iota_S8x512_d1_w32 (ix2 j d) = BitVec.ofNat 32 d.val := by pointwise
      rw [← rowMax_at s j d, ← hi]; rfl
    rw [e2]
    have hiff : Ideal.cmp .oeq (s (ix2 j d)) ((Finset.univ : Finset (Fin 512)).fold max (FloatOps.ofBits (F := Ideal) .f32 0xFF800000#32) (fun e => s (ix2 j e))) = 1#1 ↔ ∀ e, s (ix2 j e) ≤ s (ix2 j d) := by
      refine (Ideal.cmp_oeq_eq_one _ _).trans ?_
      constructor
      · intro h e
        rw [h]
        exact (Finset.le_fold_max _).mpr (Or.inr ⟨e, Finset.mem_univ _, le_rfl⟩)
      · intro h
        refine le_antisymm ((Finset.le_fold_max _).mpr (Or.inr ⟨d, Finset.mem_univ _, le_rfl⟩)) ((Finset.fold_max_le _).mpr ⟨?_, fun e _ => h e⟩)
        have : (FloatOps.ofBits (F := Ideal) .f32 0xFF800000#32 : EReal) = ⊥ := by
          show Ideal.ofBits .f32 0xFF800000#32 = ⊥
          simp [Ideal.ofBits, Ideal.ieee]
        rw [this]; exact bot_le
    by_cases h : ∀ e, s (ix2 j e) ≤ s (ix2 j d)
    · rw [if_pos h, hiff.mpr h]; rfl
    · rw [if_neg h]
      unfold Scalar.select
      exact if_neg (fun hh => h (hiff.mp hh))
  have hint : ∀ d : Fin 512, (BitVec.ofNat 32 d.val).toInt = (d.val : ℤ) := by
    intro d
    have := d.isLt
    rw [BitVec.toInt_eq_toNat_of_lt (by rw [BitVec.toNat_ofNat]; omega), BitVec.toNat_ofNat]
    omega
  apply BitVec.eq_of_toInt_eq
  have key := fun x : BitVec 32 => Finset.fold_op_rel_iff_and (op := IKind.minsi.op) (r := fun x y : BitVec 32 => x.toInt ≤ y.toInt) (fun {x y z} => minsi_le x y z)
    (s := Finset.univ.filter fun i => Shape.Reduces.drop reduces_S8x512_S8 i = ix1 j) (b := 2147483647#32) (f := sel) (c := x)
  have hmem : ∀ i : S8x512.Idx, Shape.Reduces.drop reduces_S8x512_S8 i = ix1 j ↔ i = ix2 j (i 1) := by
    intro i
    constructor
    · intro h
      have h0 := congrArg (fun z : S8.Idx => (z 0).val) h
      funext a
      match a with
      | ⟨0, _⟩ => exact Fin.ext h0
      | ⟨1, _⟩ => rfl
    · intro h
      funext a
      match a with
      | ⟨0, _⟩ => exact congrFun h 0
  apply le_antisymm
  · have h1 := ((key _).mp le_rfl).2 (ix2 j c) (by rw [Finset.mem_filter]; exact ⟨Finset.mem_univ _, (hmem _).mpr rfl⟩)
    rw [hrow c, if_pos hc.1] at h1
    exact h1
  · refine (key _).mpr ⟨?_, fun i hi => ?_⟩
    · rw [hint]; have := c.isLt; have h7 : (2147483647#32).toInt = 2147483647 := by decide
      rw [h7]; omega
    · rw [Finset.mem_filter] at hi
      have hn : ∃ n : Fin 512, i = ix2 j n := ⟨i 1, (hmem i).mp hi.2⟩
      obtain ⟨n, rfl⟩ := hn
      rw [hrow n, hint]
      split
      · rename_i hb
        rw [hint]
        have := hc.2 n (le_antisymm (hc.1 _) (hb c))
        exact_mod_cast this
      · have := c.isLt
        have h5 : (512#32).toInt = 512 := by decide
        rw [h5]; omega

/-- Eight stacked rows, at an entry. -/
theorem stack_at (r : Fin 8 → FVec Ideal S1x1x512 .f32) (j : Fin 8) (d : Fin 512) : stack r (ix2 j d) = r j (ix3 0 0 d) := by
  unfold stack
  have e := concatenate_ofFn_apply (t := S8x512) (s₁ := S1x512) 0 (fun n : Fin 8 => shapeCast S1x512 (r n) shapeCasts_S1x1x512_S1x512)
    concatenates_S1x512_S1x512_S1x512_S1x512_S1x512_S1x512_S1x512_S1x512_S8x512_d0 rfl 1 rfl (ix2 j d) j (Nat.div_one _) (ix2 0 d)
    (by show 0 = _ % 1; omega) (by intro b hb; match b with
      | ⟨0, _⟩ => exact absurd rfl hb
      | ⟨1, _⟩ => rfl)
  refine Eq.trans e ?_
  pointwise

/-- The scores, at an entry. -/
theorem score_at (a b : FVec Ideal S8x512 .f32) (w : FVec Ideal S1x8x512 .f32) (j : Fin 8) (d : Fin 512) :
    score a b w (ix2 j d) = (a (ix2 j d) + Ideal.ofBits .f32 0x1E3CE508#32) * (b (ix2 j d) + Ideal.ofBits .f32 0x1E3CE508#32) * w (ix3 0 j d) := by
  unfold score
  pointwise

/-- A class named by a word. -/
def classOf (w : BitVec 32) : Fin 512 := ⟨w.toNat % 512, Nat.mod_lt _ (by decide)⟩

/-- The scores of token `n` of sample `i`. -/
def scores (X Y : IVec S1024x200 32) (T : IVec S1024 32) (A : FVec Ideal S102x512x512 .f32) (W : FVec Ideal S1024x200x512 .f32)
    (i : Fin 1024) (n : Fin 200) (d : Fin 512) : EReal :=
  (A (ix3 (stepOf T i) (classOf (X (ix2 i n))) d) + Ideal.ofBits .f32 0x1E3CE508#32)
    * (A (ix3 (backOf T i) (classOf (Y (ix2 i n))) d) + Ideal.ofBits .f32 0x1E3CE508#32) * W (ix3 i n d)

variable (m : (ℓ : Loc nD τ sig) → Buf (Elt Ideal) ℓ) (h : InRange (argX m) (argY m) (argT m))

/-- The kernel's pick for a token is the best class of its scores. -/
theorem picks_at (i : Fin 1024) (k : Fin 25) (j : Fin 8) (c : Fin 512)
    (hc : Best (scores (argX m) (argY m) (argT m) (argP m) (argW m) i (tok k j)) c) : picks m h (ix3 i k j) = BitVec.ofNat 32 c.val := by
  rw [picks_eq]
  unfold picked
  refine pick_at _ j c ?_
  have e : (fun d => score (stack fun j => rowAt (tokens (argX m) i) (slab (argP m) (stepOf (argT m) i)) (tok k j))
      (stack fun j => rowAt (tokens (argY m) i) (slab (argP m) (backOf (argT m) i)) (tok k j)) (tileAt (plane (argW m) i) k) (ix2 j d))
      = scores (argX m) (argY m) (argT m) (argP m) (argW m) i (tok k j) := by
    funext d
    rw [score_at, stack_at, stack_at]
    rfl
  rw [e]
  exact hc

/-- Token `n` of a sample in its group. -/
theorem result_at (i : Fin 1024) (n : Fin 200) (c : Fin 512)
    (hc : Best (scores (argX m) (argY m) (argT m) (argP m) (argW m) i n) c) :
    result m h (ix2 i n) = if argT m (Shape.Idx.ofFin i) = 101#32 then argY m (ix2 i n) else BitVec.ofNat 32 c.val := by
  have hn : n = tok ⟨n.val / 8, by omega⟩ ⟨n.val % 8, by omega⟩ := Fin.ext (by show n.val = 8 * (n.val / 8) + n.val % 8; omega)
  have e1 : ∀ h', shapeCast S1024x200 (picks m h) h' (ix2 i n) = BitVec.ofNat 32 c.val := by
    intro h'
    rw [hn, cast_picks]
    refine picks_at m h i _ _ c ?_
    rw [← hn]
    exact hc
  unfold result
  show Scalar.select _ _ _ = _
  rw [e1]
  unfold Scalar.select
  refine if_congr ?_ rfl rfl
  refine Iff.trans ?_ (StableHlo.Predicate.ofBool_eq_one_iff _ |>.trans beq_iff_eq)
  have e2 : broadcastInDim S1024x200 ![0, 1] Gen.bcast_S1024x1_S1024x200_0_1 (broadcastInDim S1024x1 ![0] Gen.bcast_S1024_S1024x1_0
      (cmpi .eq (argT m) (broadcastInDim S1024 ![] Gen.bcast_S_S1024 (constantI S_ 32 101#32)))) (ix2 i n)
      = IntOp.cmpi .eq (argT m (Shape.Idx.ofFin i)) 101#32 :=
    congrArg (fun z => IntOp.cmpi .eq (argT m z) 101#32) (funext fun a => match a with | ⟨0, _⟩ => rfl)
  rw [e2]
  exact Iff.rfl

end Cert.KernelIdeal.Rounds

end
-- ==== Proof.RefArg.lean ====
/- The reference's arg-max as the best class of its row. -/
module

public import proofs.«01_k».proof.Proof.RefRow
public import proofs.«01_k».proof.Proof.Best

@[expose] public section

set_option maxRecDepth 100000
set_option maxHeartbeats 4000000

noncomputable section

namespace Cert.ReferenceIdeal.Rounds

open Idealize.ShloMosaic Idealize.ShloMosaic.TcCoe Idealize.SL.Sem
open Cert.ReferenceIdeal Cert.Noise
open Cert.KernelIdeal.Rounds (Best)

attribute [local instance] Cert.ReferenceIdeal.Gen.facts

/-- The comparison's body keeps the first pair where it is the greater, or equal and earlier. -/
theorem reducer_eq (a b : EReal × BitVec 32) :
    reducer_argmax_f32_i32 (F := Ideal) a b = if b.1 < a.1 ∨ (a.1 = b.1 ∧ a.2.toInt < b.2.toInt) then a else b := by
  obtain ⟨x, u⟩ := a
  obtain ⟨y, v⟩ := b
  have hg : (FloatOps.cmpf (F := Ideal) (φ := .f32) .ogt x y) = if y < x then 1#1 else 0#1 := by
    by_cases h : y < x
    · rw [if_pos h]; exact (Ideal.cmp_ogt_eq_one _ _).mpr h
    · rw [if_neg h]; exact (BitVec.eq_zero_or_eq_one _).resolve_right (fun e => h ((Ideal.cmp_ogt_eq_one _ _).mp e))
  have he : (FloatOps.cmpf (F := Ideal) (φ := .f32) .oeq x y) = if x = y then 1#1 else 0#1 := by
    by_cases h : x = y
    · rw [if_pos h]; exact (Ideal.cmp_oeq_eq_one _ _).mpr h
    · rw [if_neg h]; exact (BitVec.eq_zero_or_eq_one _).resolve_right (fun e => h ((Ideal.cmp_oeq_eq_one _ _).mp e))
  have hn : (FloatOps.cmpf (F := Ideal) (φ := .f32) .une x x) = 0#1 := by simp [FloatOps.cmpf, Ideal.cmp]
  have hl : IntOp.cmpi .slt u v = if u.toInt < v.toInt then 1#1 else 0#1 := by
    show BitVec.ofBool (u.slt v) = _
    rw [BitVec.slt]
    by_cases h : u.toInt < v.toInt <;> simp [h]
  unfold reducer_argmax_f32_i32
  dsimp only
  rw [hg, he, hn, hl]
  rcases lt_trichotomy x y with h | h | h
  · simp [h.not_gt, h.ne, Scalar.select, IntOp.ori, IntOp.andi]
  · subst h
    by_cases hu : u.toInt < v.toInt <;> simp [hu, Scalar.select, IntOp.ori, IntOp.andi]
  · simp [h, h.ne', Scalar.select, IntOp.ori, IntOp.andi]

/-- A pair at least as good as another. -/
def Beats (r p : EReal × BitVec 32) : Prop := p.1 ≤ r.1 ∧ (p.1 = r.1 → r.2.toInt ≤ p.2.toInt)

theorem Beats.refl (r : EReal × BitVec 32) : Beats r r := ⟨le_rfl, fun _ => le_rfl⟩

theorem Beats.trans {r p q : EReal × BitVec 32} (h : Beats r p) (k : Beats p q) : Beats r q :=
  ⟨k.1.trans h.1, fun e => by
    have e1 : q.1 = p.1 := le_antisymm k.1 (e ▸ h.1)
    exact (h.2 (e1 ▸ e)).trans (k.2 e1)⟩

theorem reducer_spec (a b : EReal × BitVec 32) :
    (reducer_argmax_f32_i32 (F := Ideal) a b = a ∨ reducer_argmax_f32_i32 (F := Ideal) a b = b) ∧ Beats (reducer_argmax_f32_i32 (F := Ideal) a b) a
      ∧ Beats (reducer_argmax_f32_i32 (F := Ideal) a b) b := by
  rw [reducer_eq]
  split
  · next h =>
    refine ⟨Or.inl rfl, Beats.refl _, ?_⟩
    rcases h with h | h
    · exact ⟨h.le, fun e => absurd e h.ne⟩
    · exact ⟨h.1.ge, fun _ => h.2.le⟩
  · next h =>
    rw [not_or, not_and, not_lt, not_lt] at h
    exact ⟨Or.inr rfl, ⟨h.1, fun e => h.2 e⟩, Beats.refl _⟩

theorem fold_spec (L : List (EReal × BitVec 32)) (z : EReal × BitVec 32) :
    (L.foldl (reducer_argmax_f32_i32 (F := Ideal)) z = z ∨ L.foldl (reducer_argmax_f32_i32 (F := Ideal)) z ∈ L)
      ∧ Beats (L.foldl (reducer_argmax_f32_i32 (F := Ideal)) z) z ∧ ∀ p ∈ L, Beats (L.foldl (reducer_argmax_f32_i32 (F := Ideal)) z) p := by
  induction L generalizing z with
  | nil => exact ⟨Or.inl rfl, Beats.refl _, fun p hp => by simp at hp⟩
  | cons a L ih =>
    rw [List.foldl_cons]
    obtain ⟨h1, h2, h3⟩ := ih (reducer_argmax_f32_i32 (F := Ideal) z a)
    obtain ⟨k1, k2, k3⟩ := reducer_spec z a
    refine ⟨?_, h2.trans k2, fun p hp => ?_⟩
    · rcases h1 with h1 | h1
      · rw [h1]
        rcases k1 with k1 | k1
        · exact Or.inl k1
        · exact Or.inr (List.mem_cons.mpr (Or.inl k1))
      · exact Or.inr (List.mem_cons_of_mem _ h1)
    · rcases List.mem_cons.mp hp with rfl | hp
      · exact h2.trans k3
      · exact h3 p hp

theorem class_toInt (d : Fin 512) : (BitVec.ofNat 32 d.val).toInt = d.val := by
  rw [BitVec.toInt_eq_toNat_cond, BitVec.toNat_ofNat]
  have := d.isLt
  rw [Nat.mod_eq_of_lt (by omega)]
  split <;> omega

/-- The arg-max of rows above the least value. -/
theorem argmax_at (x : FVec Ideal S1024x200x512 .f32) (i : Fin 1024) (n : Fin 200) (hx : ∀ d, ⊥ < x (ix3 i n d)) (c : Fin 512)
    (hc : Best (fun d => x (ix3 i n d)) c) :
    (Host.argReduce (F := Ideal) reducer_argmax_f32_i32 x (iotaInDim S1024x200x512 32 2) (constant S_ .f32 0xFF800000#32) (constantI S_ 32 0#32)
      Facts₀.reducesTo_S1024x200x512_S1024x200_d2 Facts₀.h_S_ (ix2 i n)).2 = BitVec.ofNat 32 c.val := by
  rw [Ideal.argReduce_eq_reduce2, Host.reduce2_eq_foldl_fiber]
  have mem : ∀ p, p ∈ Host.argReduceFiber x (iotaInDim S1024x200x512 32 2) Facts₀.reducesTo_S1024x200x512_S1024x200_d2 (ix2 i n)
      ↔ ∃ d : Fin 512, p = (x (ix3 i n d), BitVec.ofNat 32 d.val) := by
    intro p
    unfold Host.argReduceFiber
    rw [List.mem_map]
    constructor
    · rintro ⟨k, hk, rfl⟩
      rw [List.mem_filter] at hk
      have hd := of_decide_eq_true hk.2
      rw [Shape.ReducesTo.drop_eq_drop _ drops] at hd
      have e := drops.lift_drop (S1024x200x512.rowMajor.symm k)
      rw [hd] at e
      refine ⟨(S1024x200x512.rowMajor.symm k) 2, ?_⟩
      rw [← e]
      exact Prod.ext (congrArg x (lift_at i n _)) rfl
    · rintro ⟨d, rfl⟩
      refine ⟨S1024x200x512.rowMajor (ix3 i n d), List.mem_filter.mpr ⟨List.mem_finRange _, decide_eq_true ?_⟩, ?_⟩
      · rw [Equiv.symm_apply_apply, Shape.ReducesTo.drop_eq_drop _ drops, ← lift_at]; exact drops.drop_lift _ _
      · rw [Equiv.symm_apply_apply]; rfl
  generalize Host.argReduceFiber x (iotaInDim S1024x200x512 32 2) Facts₀.reducesTo_S1024x200x512_S1024x200_d2 (ix2 i n) = L at mem
  obtain ⟨h1, h2, h3⟩ := fold_spec L ((constant (F := Ideal) S_ .f32 0xFF800000#32) (Shape.Idx.first Facts₀.h_S_), (constantI S_ 32 0#32) (Shape.Idx.first Facts₀.h_S_))
  generalize List.foldl _ _ L = r at h1 h2 h3 ⊢
  have hr : r ∈ L := by
    refine h1.resolve_left fun e => ?_
    have := (h3 _ ((mem _).mpr ⟨0, rfl⟩)).1
    rw [e] at this
    exact absurd (lt_of_lt_of_le (hx 0) this) (by rw [show ((constant (F := Ideal) S_ .f32 0xFF800000#32) (Shape.Idx.first Facts₀.h_S_) : EReal) = ⊥ from ofBits_bot]; exact lt_irrefl _)
  obtain ⟨e, rfl⟩ := (mem r).mp hr
  have he : Best (fun d => x (ix3 i n d)) e := by
    refine ⟨fun d => (h3 _ ((mem _).mpr ⟨d, rfl⟩)).1, fun d hd => ?_⟩
    have := (h3 _ ((mem _).mpr ⟨d, rfl⟩)).2 hd
    rw [class_toInt, class_toInt] at this
    exact Fin.le_def.mpr (by omega)
  rw [Best.unique he hc]

variable {F : FTy → Type} [FloatOps F] (W : Valuation τ sig (Elt F))

theorem winner_eq : StableHlo.after (winner (F := F)) W (Proc.devRef .tc main_v66)
    = fun j => (Host.argReduce reducer_argmax_f32_i32 (W (Proc.devRef .tc main_v65) : FVec F S1024x200x512 .f32) (iotaInDim S1024x200x512 32 2) (constant S_ .f32 0xFF800000#32) (constantI S_ 32 0#32)
        Facts₀.reducesTo_S1024x200x512_S1024x200_d2 Facts₀.h_S_ j).2 := by
  unfold winner
  after_reads_simp

theorem chosen_eq : StableHlo.after (chosen (F := F)) (StableHlo.after (last (F := F)) W) (Proc.devRef .tc main_v69)
    = select (broadcastInDim S1024x200 ![0, 1] Facts₀.bcast_S1024x1_S1024x200_0_1 (cmpi .eq (W (Proc.devRef .tc main_v0) : IVec S1024x1 32) (broadcastInDim S1024x1 ![] Facts₀.bcast_S_S1024x1 (constantI S_ 32 101#32))))
        (W (Proc.devRef .tc main_arg1) : IVec S1024x200 32) (W (Proc.devRef .tc main_v66) : IVec S1024x200 32) := by
  unfold chosen last
  after_reads_simp

theorem ops_eq : StableHlo.after (ops (F := F)) W = StableHlo.after chosen (StableHlo.after last (StableHlo.after winner (noised (StableHlo.after logits (StableHlo.after gathered W))))) := by
  unfold ops noised mixed
  simp only [after_two]

/-- The reference's result at an index. -/
theorem answer_at (T : IVec S1024 32) (hT : W (Proc.devRef .tc main_arg2) = T) (i : Fin 1024) (n : Fin 200) :
    (StableHlo.after (ops (F := F)) W (Proc.devRef .tc main_v69) : IVec S1024x200 32) (ix2 i n)
      = if T (Shape.Idx.ofFin i) = 101#32 then (W (Proc.devRef .tc main_arg1) : IVec S1024x200 32) (ix2 i n)
        else (Host.argReduce reducer_argmax_f32_i32 (noised (StableHlo.after logits (StableHlo.after gathered W)) (Proc.devRef .tc main_v65) : FVec F S1024x200x512 .f32)
          (iotaInDim S1024x200x512 32 2) (constant S_ .f32 0xFF800000#32) (constantI S_ 32 0#32) Facts₀.reducesTo_S1024x200x512_S1024x200_d2 Facts₀.h_S_ (ix2 i n)).2 := by
  rw [ops_eq, chosen_eq, winner_main_arg1, winner_main_v0, winner_eq, noised_arg1, noised_v0, logits_main_arg1, logits_main_v0, gathered_main_arg1, gathered_v0, hT]
  generalize noised (StableHlo.after logits (StableHlo.after gathered W)) (Proc.devRef .tc main_v65) = x
  have e : (broadcastInDim S1024x200 ![0, 1] Facts₀.bcast_S1024x1_S1024x200_0_1 (cmpi .eq (broadcastInDim S1024x1 ![0] Facts₀.bcast_S1024_S1024x1_0 T)
      (broadcastInDim S1024x1 ![] Facts₀.bcast_S_S1024x1 (constantI S_ 32 101#32)))) (ix2 i n)
      = IntOp.cmpi .eq (T (Shape.Idx.ofFin i)) 101#32 := by
    refine congrArg (fun j => IntOp.cmpi .eq (T j) 101#32) (funext fun k => ?_)
    match k with
    | ⟨0, _⟩ => rfl
  show Scalar.select _ _ _ = _
  rw [e]
  have hb : IntOp.cmpi .eq (T (Shape.Idx.ofFin i)) 101#32 = BitVec.ofBool (T (Shape.Idx.ofFin i) == 101#32) := rfl
  unfold Scalar.select
  rw [hb]
  by_cases h : T (Shape.Idx.ofFin i) = 101#32
  · rw [if_pos h, h]; exact if_pos rfl
  · rw [if_neg h]
    refine if_neg fun hc => h ?_
    exact eq_of_beq ((StableHlo.Predicate.ofBool_eq_one_iff _).mp hc)

end Cert.ReferenceIdeal.Rounds

end
-- ==== Proof.Order.lean ====
/- The two scores of a class, on the reals: one is the logarithm of the other, up to a number of the row. -/
module

public import proofs.«01_k».proof.Proof.Unif
public import Idealize.ShloMosaic.PureOps.Ideal.Laws
public import Idealize.ShloMosaic.Lib.IdealHost

@[expose] public section

set_option maxRecDepth 4000

noncomputable section

namespace Cert.Noise

open Idealize.ShloMosaic

theorem ofBits_tiny : Ideal.ofBits .f32 0x00800000#32 = (((2 : ℝ) ^ 126)⁻¹ : ℝ) := by
  simp [Ideal.ofBits, Ideal.ieee]
  norm_num
  exact (EReal.coe_mul _ _).symm.trans (congrArg _ (by norm_num))

/-- The small constant under the logarithms is a positive real. -/
theorem eps_real : ∃ e : ℝ, 0 < e ∧ Ideal.ofBits .f32 0x1E3CE508#32 = e := by
  refine ⟨_, ?_, by simp only [Ideal.ofBits, Ideal.ieee]; simp; rfl⟩
  positivity

theorem shift_range (w : BitVec 32) : (IntOp.shrui .host w 9#32).toNat < 2 ^ 23 := by
  unfold IntOp.shrui
  rw [if_pos (by decide)]
  simp only [BitVec.ushiftRight_eq', BitVec.toNat_ushiftRight, BitVec.toNat_ofNat, Nat.shiftRight_eq_div_pow]
  have := w.isLt
  rw [show (9 % 2 ^ 32 : ℕ) = 9 by norm_num]
  omega

/-- The exponent bits of one, over a word of 23 bits, are the word above them. -/
theorem or_one (k : BitVec 32) (h : k.toNat < 2 ^ 23) : (k ||| 1065353216#32).toNat = 127 * 2 ^ 23 + k.toNat := by
  rw [BitVec.toNat_or, Nat.or_comm]
  exact (Nat.two_pow_add_eq_or_of_lt h 127).symm.trans (by rw [Nat.mul_comm])

/-- A word of 23 bits as the last bits of a float from one to two. -/
theorem ofBits_or_one (k : BitVec 32) (h : k.toNat < 2 ^ 23) :
    Ideal.ofBits .f32 (k ||| 1065353216#32) = ((1 + k.toNat * ((2 : ℝ) ^ 23)⁻¹ : ℝ) : EReal) := by
  have e := or_one k h
  have hn : ((k ||| 1065353216#32).extractLsb' 31 1 == 1#1) = false := by
    rw [beq_eq_false_iff_ne]
    intro hc
    have := congrArg BitVec.toNat hc
    rw [BitVec.extractLsb'_toNat, Nat.shiftRight_eq_div_pow, e] at this
    simp at this
    omega
  have hx : ((k ||| 1065353216#32).extractLsb' 23 8).toNat = 127 := by
    rw [BitVec.extractLsb'_toNat, Nat.shiftRight_eq_div_pow, e]
    omega
  have hf : ((k ||| 1065353216#32).extractLsb' 0 23).toNat = k.toNat := by
    rw [BitVec.extractLsb'_toNat, Nat.shiftRight_zero, e]
    omega
  show Ideal.ieee 8 23 (k ||| 1065353216#32) = _
  unfold Ideal.ieee
  dsimp only
  rw [hx, hf, if_neg (by decide), if_neg (by decide), show (8 + 23 : ℕ) = 31 from rfl, hn]
  refine congrArg (fun r : ℝ => (r : EReal)) ?_
  rw [if_neg (by decide), show ((127 : ℕ) : ℤ) - (2 ^ (8 - 1) - 1) - (23 : ℕ) = -23 by norm_num, zpow_neg]
  push_cast
  norm_num
  ring

/-- The numbers of the unit interval are reals from zero to below one. -/
theorem frac_real (n : Word) : ∃ u : ℝ, 0 ≤ u ∧ u < 1 ∧ frac (F := Ideal) n = ((u : ℝ) : EReal) := by
  have h := shift_range (bits n)
  have h' : ((IntOp.shrui .host (bits n) 9#32).toNat : ℝ) < 2 ^ 23 := by exact_mod_cast h
  refine ⟨(IntOp.shrui .host (bits n) 9#32).toNat * ((2 : ℝ) ^ 23)⁻¹, by positivity, ?_, ?_⟩
  · rw [← div_eq_mul_inv, div_lt_one (by positivity)]; exact h'
  · show Ideal.ofBits .f32 (IntOp.shrui .host (bits n) 9#32 ||| 1065353216#32) - Ideal.ofBits .f32 0x3F800000#32 = _
    rw [ofBits_or_one _ h, Ideal.ofBits_one_f32, ← EReal.coe_one, ← EReal.coe_sub, add_sub_cancel_left]

/-- The uniform numbers are above zero and below one. -/
theorem unif_real (n : Word) : ∃ u : ℝ, 0 < u ∧ u < 1 ∧ unif (F := Ideal) n = ((u : ℝ) : EReal) := by
  obtain ⟨u, h0, h1, hf⟩ := frac_real n
  have ht : ((2 : ℝ) ^ 126)⁻¹ < 1 := inv_lt_one_of_one_lt₀ (one_lt_pow₀ (by norm_num) (by norm_num))
  refine ⟨max (((2 : ℝ) ^ 126)⁻¹) u, lt_max_of_lt_left (by positivity), max_lt ht h1, ?_⟩
  show min (Ideal.ofBits .f32 0x3F800000#32) (max (Ideal.ofBits .f32 0x00800000#32) (frac (F := Ideal) n)) = _
  rw [hf, ofBits_tiny, Ideal.ofBits_one_f32, EReal.coe_strictMono.monotone.map_max]
  refine min_eq_right ?_
  rw [← EReal.coe_strictMono.monotone.map_max]
  exact_mod_cast (max_lt ht h1).le

/-- Scaling to the interval from zero to one changes nothing. -/
theorem unifSpanned_eq (n : Word) : unifSpanned (F := Ideal) n = unif n := by
  obtain ⟨u, h0, h1, hf⟩ := frac_real n
  have e : spanned (F := Ideal) (frac n) = frac n := by
    show max (Ideal.ofBits .f32 0x00000000#32) (frac (F := Ideal) n * (Ideal.ofBits .f32 0x3F800000#32 - Ideal.ofBits .f32 0x00000000#32) + Ideal.ofBits .f32 0x00000000#32) = _
    rw [Ideal.ofBits_zero_f32, Ideal.ofBits_one_f32, sub_zero, mul_one, add_zero, hf]
    exact max_eq_right (by exact_mod_cast h0)
  unfold unifSpanned unif
  rw [e]

/-- The exponential number of a place. -/
theorem rate_real (n : Word) : ∃ r : ℝ, 0 < r ∧ FloatOps.hostNegf (F := Ideal) (φ := .f32) (FloatOps.hostUnary (F := Ideal) .log (unif (F := Ideal) n)) = ((r : ℝ) : EReal) := by
  obtain ⟨u, h0, h1, hu⟩ := unif_real n
  refine ⟨-Real.log u, neg_pos.mpr (Real.log_neg h0 h1), ?_⟩
  show -(Ideal.log (unif (F := Ideal) n)) = _
  rw [hu, Ideal.log_coe, if_neg (not_le.mpr h0), EReal.coe_neg]

theorem log_real {r : ℝ} (h : 0 < r) : Ideal.log (r : EReal) = ((Real.log r : ℝ) : EReal) := by
  rw [Ideal.log_coe, if_neg (not_le.mpr h)]

/-- The product of the two numbers over the rate, and the logarithm of it less a number of the row, are in one order. -/
theorem order_of_logs (L : ℝ) (a b r : Fin 512 → ℝ) (ha : ∀ d, 0 < a d) (hb : ∀ d, 0 < b d) (hr : ∀ d, 0 < r d) (d e : Fin 512) :
    ((a d : EReal) * (b d : EReal)) * Ideal.div 1 (r d : EReal) ≤ ((a e : EReal) * (b e : EReal)) * Ideal.div 1 (r e : EReal)
      ↔ ((Ideal.log (a d : EReal) + Ideal.log (b d : EReal)) - (L : EReal)) + -(Ideal.log (r d : EReal))
        ≤ ((Ideal.log (a e : EReal) + Ideal.log (b e : EReal)) - (L : EReal)) + -(Ideal.log (r e : EReal)) := by
  have hk : ∀ d, ((a d : EReal) * (b d : EReal)) * Ideal.div 1 (r d : EReal) = ((a d * b d * (r d)⁻¹ : ℝ) : EReal) := by
    intro d
    have : Ideal.div 1 (r d : EReal) = (((r d)⁻¹ : ℝ) : EReal) := by
      unfold Ideal.div
      rw [if_neg (by exact_mod_cast (hr d).ne'), one_mul, EReal.coe_inv]
    rw [this, EReal.coe_mul, EReal.coe_mul]
  have hl : ∀ d, ((Ideal.log (a d : EReal) + Ideal.log (b d : EReal)) - (L : EReal)) + -(Ideal.log (r d : EReal)) = ((Real.log (a d * b d * (r d)⁻¹) - L : ℝ) : EReal) := by
    intro d
    rw [log_real (ha d), log_real (hb d), log_real (hr d), ← EReal.coe_add, ← EReal.coe_sub, ← EReal.coe_neg, ← EReal.coe_add,
      Real.log_mul (mul_pos (ha d) (hb d)).ne' (inv_pos.mpr (hr d)).ne', Real.log_mul (ha d).ne' (hb d).ne', Real.log_inv]
    congr 1
    ring
  rw [hk, hk, hl, hl, EReal.coe_le_coe_iff, EReal.coe_le_coe_iff, sub_le_sub_iff_right]
  exact (Real.log_le_log_iff (mul_pos (mul_pos (ha d) (hb d)) (inv_pos.mpr (hr d))) (mul_pos (mul_pos (ha e) (hb e)) (inv_pos.mpr (hr e)))).symm

end Cert.Noise

end
-- ==== Proof.Agree.lean ====
/- The two programs' results are equal, from memories that agree on the arguments. -/
module

public import proofs.«01_k».proof.Proof.Frames
public import proofs.«01_k».proof.Proof.Weight
public import proofs.«01_k».proof.Proof.RefArg
public import proofs.«01_k».proof.Proof.Order

@[expose] public section

set_option maxRecDepth 100000
set_option maxHeartbeats 4000000

noncomputable section

namespace Cert.ReferenceIdeal.Rounds

open Idealize.ShloMosaic Idealize.ShloMosaic.TcCoe Idealize.SL.Sem
open Cert.ReferenceIdeal Cert.Noise
open Cert.KernelIdeal.Rounds (Best InRange Symmetric stepOf backOf classOf scores)

attribute [local instance] Cert.ReferenceIdeal.Gen.facts

variable (W : Valuation τ sig (Elt Ideal)) (X Y : IVec S1024x200 32) (T : IVec S1024 32) (A : FVec Ideal S102x512x512 .f32)
  (hX : W (Proc.devRef .tc main_arg0) = X) (hY : W (Proc.devRef .tc main_arg1) = Y) (hT : W (Proc.devRef .tc main_arg2) = T) (hA : W (Proc.devRef .tc main_arg3) = A)
  (hr : InRange X Y T) (hs : Symmetric A)

/-- The forward and the backward number of a class. -/
def fore (X : IVec S1024x200 32) (T : IVec S1024 32) (A : FVec Ideal S102x512x512 .f32) (i : Fin 1024) (n : Fin 200) (d : Fin 512) : EReal :=
  A (ix3 (stepOf T i) (classOf (X (ix2 i n))) d) + Ideal.ofBits .f32 0x1E3CE508#32

def back (Y : IVec S1024x200 32) (T : IVec S1024 32) (A : FVec Ideal S102x512x512 .f32) (i : Fin 1024) (n : Fin 200) (d : Fin 512) : EReal :=
  A (ix3 (backOf T i) (classOf (Y (ix2 i n))) d) + Ideal.ofBits .f32 0x1E3CE508#32

theorem shifted_real (A : FVec Ideal S102x512x512 .f32) (hs : Symmetric A) (j : S102x512x512.Idx) : ∃ r : ℝ, 0 < r ∧ A j + Ideal.ofBits .f32 0x1E3CE508#32 = (r : EReal) := by
  obtain ⟨e, he, hE⟩ := eps_real
  obtain ⟨a, ha⟩ := real_of_between (lt_of_lt_of_le EReal.bot_lt_zero (hs.nonneg j)) (hs.finite j)
  have h0 : (0 : ℝ) ≤ a := by have := hs.nonneg j; rw [ha] at this; exact_mod_cast this
  exact ⟨a + e, by linarith, by rw [ha, hE, EReal.coe_add]⟩

include hX hY hT hA hr hs in
theorem both_at (i : Fin 1024) (n : Fin 200) (d : Fin 512) :
    (both (F := Ideal) (StableHlo.after gathered W (Proc.devRef .tc main_v15) : FVec Ideal S1024x200x512 .f32)
        (Host.gather gather_S102x512x512_S1024x200x2_S1024x200x512_2_02_n_n_02_2_15121 (StableHlo.after gathered W (Proc.devRef .tc main_arg3) : FVec Ideal S102x512x512 .f32)
          (StableHlo.after gathered W (Proc.devRef .tc main_v32) : IVec S1024x200x2 32)) (ix3 i n d) : EReal)
      = Ideal.log (fore X T A i n d) + Ideal.log (back Y T A i n d) := by
  have e1 := forward_at W i n d (stepOf T i) (classOf (X (ix2 i n)))
    (by rw [hT]; exact (Cert.KernelIdeal.Rounds.stepOf_val T hr.step i).symm) (by rw [hX]; exact (Nat.mod_eq_of_lt (hr.start _)).symm)
  have e2 := backward_at W i n d (backOf T i) (classOf (Y (ix2 i n)))
    (by rw [hT]
        have := Cert.KernelIdeal.Rounds.stepOf_val T hr.step i
        have h2 := hr.step (Shape.Idx.ofFin i)
        show (T (Shape.Idx.ofFin i)).toNat + (101 - (stepOf T i).val) = 101
        rw [this]; omega) (by rw [hY]; exact (Nat.mod_eq_of_lt (hr.stop _)).symm)
  rw [hA] at e1 e2
  rw [gathered_arg3, hA]
  refine congrArg₂ (fun a b : EReal => Ideal.log (a + Ideal.ofBits .f32 0x1E3CE508#32) + Ideal.log (b + Ideal.ofBits .f32 0x1E3CE508#32)) e1 ?_
  exact e2.trans (hs.swap _ _ _)

include hX hY hT hA hr hs in
/-- The reference's noisy logits, at an index. -/
theorem noisy_at (i : Fin 1024) (n : Fin 200) : ∃ L : ℝ, ∀ d,
    (noised (StableHlo.after logits (StableHlo.after gathered W)) (Proc.devRef .tc main_v65) : FVec Ideal S1024x200x512 .f32) (ix3 i n d)
      = ((Ideal.log (fore X T A i n d) + Ideal.log (back Y T A i n d)) - (L : EReal))
        + -(Ideal.log (FloatOps.hostNegf (F := Ideal) (φ := .f32) (FloatOps.hostUnary (F := Ideal) .log (unif (F := Ideal) (BitVec.ofNat 32 (place i n d).val))))) := by
  obtain ⟨L, hL⟩ := soft_at _ i n (fun d => by
    obtain ⟨a, ha, hae⟩ := shifted_real A hs (ix3 (stepOf T i) (classOf (X (ix2 i n))) d)
    obtain ⟨b, hb, hbe⟩ := shifted_real A hs (ix3 (backOf T i) (classOf (Y (ix2 i n))) d)
    refine ⟨Real.log a + Real.log b, (both_at W X Y T A hX hY hT hA hr hs i n d).trans ?_⟩
    unfold fore back
    rw [hae, hbe, log_real ha, log_real hb, EReal.coe_add])
  refine ⟨L, fun d => ?_⟩
  rw [noised_at, logits_eq, hL, both_at W X Y T A hX hY hT hA hr hs, unifSpanned_eq]
  rfl

include hX hY hT hA hr hs in
/-- A best class of the products over the rates is the reference's arg-max. -/
theorem arg_at (B : FVec Ideal S1024x200x512 .f32)
    (hB : ∀ i n d, B (ix3 i n d) = FloatOps.hostDivf (F := Ideal) (φ := .f32) (FloatOps.ofBits .f32 0x3F800000#32)
      (FloatOps.hostNegf (FloatOps.hostUnary .log (unif (F := Ideal) (BitVec.ofNat 32 (place i n d).val)))))
    (i : Fin 1024) (n : Fin 200) (c : Fin 512) (hc : Best (scores X Y T A B i n) c) :
    (StableHlo.after (ops (F := Ideal)) W (Proc.devRef .tc main_v69) : IVec S1024x200 32) (ix2 i n)
      = if T (Shape.Idx.ofFin i) = 101#32 then Y (ix2 i n) else BitVec.ofNat 32 c.val := by
  rw [answer_at W T hT, hY]
  refine if_congr Iff.rfl rfl ?_
  obtain ⟨L, hL⟩ := noisy_at W X Y T A hX hY hT hA hr hs i n
  choose a ha hae using fun d => shifted_real A hs (ix3 (stepOf T i) (classOf (X (ix2 i n))) d)
  choose b hb hbe using fun d => shifted_real A hs (ix3 (backOf T i) (classOf (Y (ix2 i n))) d)
  choose r hr0 hre using fun d => rate_real (BitVec.ofNat 32 (place i n d).val)
  have hL' : ∀ d, (noised (StableHlo.after logits (StableHlo.after gathered W)) (Proc.devRef .tc main_v65) : FVec Ideal S1024x200x512 .f32) (ix3 i n d)
      = ((Ideal.log (a d : EReal) + Ideal.log (b d : EReal)) - (L : EReal)) + -(Ideal.log (r d : EReal)) := by
    intro d
    rw [hL d, hre d]
    unfold fore back
    rw [hae d, hbe d]
  have hk : ∀ d, scores X Y T A B i n d = ((a d : EReal) * (b d : EReal)) * Ideal.div 1 (r d : EReal) := by
    intro d
    unfold scores
    rw [hae d, hbe d, hB, hre d]
    show _ * Ideal.div (Ideal.ofBits .f32 0x3F800000#32) _ = _
    rw [Ideal.ofBits_one_f32]
  refine argmax_at _ i n (fun d => ?_) c (hc.of_order fun d e => ?_)
  · rw [hL' d, log_real (ha d), log_real (hb d), log_real (hr0 d), ← EReal.coe_add, ← EReal.coe_sub, ← EReal.coe_neg, ← EReal.coe_add]
    exact EReal.bot_lt_coe _
  · rw [hk, hk]
    refine (order_of_logs L a b r ha hb hr0 d e).trans ?_
    rw [← hL' d, ← hL' e]

end Cert.ReferenceIdeal.Rounds

namespace Cert.Proof

open Idealize.ShloMosaic Idealize.ShloMosaic.TcCoe Idealize.SL.Sem

theorem algebraic : algebraic_KernelIdeal_ReferenceIdeal_pre_symmetric_table (hKernelIdeal := Cert.KernelIdeal.Gen.facts)
    (hReferenceIdeal := Cert.ReferenceIdeal.Gen.facts) (hPre_symmetric_table := Cert.Pre_symmetric_table.Gen.facts) := by
  intro m g m' g' hpre hm
  obtain ⟨hr, hs⟩ := Cert.KernelIdeal.Rounds.symmetric_table _ _ _ _ (hpre 0)
  refine ⟨fun _ => Cert.KernelIdeal.Rounds.result m hr,
    (θ_run (Cert.KernelIdeal.defs (F := Ideal)) _ _).mono (fun _ h => h.1) (Cert.KernelIdeal.Rounds.run_result m hr g),
    (θ_run (Cert.ReferenceIdeal.defs (F := Ideal)) _ _).mono (fun r h c => ⟨(h.1 c).1.trans ?_, (h.1 c).2⟩) (Cert.ReferenceIdeal.Rounds.run_kept m' g')⟩
  obtain rfl : c = 0 := Subsingleton.elim _ _
  obtain ⟨h0, h1, h2, h3⟩ := hm 0
  show (_ : IVec Cert.ReferenceIdeal.S1024x200 32) = _
  funext j
  obtain ⟨i, n, rfl⟩ : ∃ (i : Fin 1024) (n : Fin 200), j = ix2 i n := ⟨_, _, eq_ix2 j⟩
  obtain ⟨b, hb⟩ := Cert.KernelIdeal.Rounds.Best.exists (Cert.KernelIdeal.Rounds.scores (Cert.KernelIdeal.Rounds.argX m) (Cert.KernelIdeal.Rounds.argY m)
    (Cert.KernelIdeal.Rounds.argT m) (Cert.KernelIdeal.Rounds.argP m) (Cert.KernelIdeal.Rounds.argW m) i n)
  refine Eq.trans ?_ (Cert.KernelIdeal.Rounds.result_at m hr i n b hb).symm
  exact Cert.ReferenceIdeal.Rounds.arg_at _ _ _ _ _ h0 h1 h2 h3 hr hs _ (fun i n d => Cert.KernelIdeal.Rounds.weight_at m i n d) i n b hb

end Cert.Proof

end
-- ==== Proof.lean ====
module

public import proofs.«01_k».proof.Defs
public import proofs.«01_k».proof.Proof.Frames
public import proofs.«01_k».proof.Proof.Agree

@[expose] public section

noncomputable section

namespace Cert.Proof

theorem claim : Cert.Claim := ⟨Cert.Kernel.Gen.facts, Cert.KernelIdeal.Gen.facts, Cert.ReferenceIdeal.Gen.facts, Cert.Pre_words_in_range.Gen.facts,
  Cert.Pre_symmetric_table.Gen.facts, frame_kernel, frame_ideal, frame_ideal_symmetric, frame_reference, frame_reference_symmetric, trivial, algebraic⟩

end Cert.Proof

end
